-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_step_is_positive [hPre_step_is_positive : Cert.Pre_step_is_positive.Facts] (m : (ℓ : Loc Cert.KernelIdeal.nD Cert.KernelIdeal.τ Cert.KernelIdeal.sig) → Buf (Elt Ideal) ℓ) : Prop :=
  ∀ c : Dev Cert.KernelIdeal.nD,
    (Cert.Pre_step_is_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_step_is_positive [hPre_step_is_positive : Cert.Pre_step_is_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_step_is_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_step_is_positive [hKernelIdeal : Cert.KernelIdeal.Facts] [hPre_step_is_positive : Cert.Pre_step_is_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_step_is_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_step_is_positive [hReferenceIdeal : Cert.ReferenceIdeal.Facts] [hPre_step_is_positive : Cert.Pre_step_is_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_step_is_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "b1_over_c1" .f32 0x41100000#32 ((9 : ℝ) : EReal)
  ∧ IdealRules.named_const.Statement Cert.KernelIdeal.κ "sqrt_b2_over_c2" .f32 0x41FCDB0F#32 ((Real.sqrt 999 : ℝ) : EReal)
  ∧ IdealRules.named_const.Statement Cert.KernelIdeal.κ "c2" .f32 0x3A83126F#32 ((1 / 1000 : ℝ) : EReal)
  ∧ IdealRules.named_const.Statement Cert.KernelIdeal.κ "minus_lr_c1" .f32 0xB8D1B717#32 ((-1 / 10000 : ℝ) : EReal)
  ∧ IdealRules.named_const.Statement Cert.KernelIdeal.κ "c1" .f32 0x3DCCCCCD#32 ((1 / 10 : ℝ) : EReal)
  ∧ IdealRules.named_const.Statement Cert.KernelIdeal.κ "sqrt_c2" .f32 0x3D0186E2#32 ((Real.sqrt (1 / 1000) : ℝ) : EReal)

def algebraic_KernelIdeal_ReferenceIdeal_pre_step_is_positive [hKernelIdeal : Cert.KernelIdeal.Facts] [hReferenceIdeal : Cert.ReferenceIdeal.Facts] [hPre_step_is_positive : Cert.Pre_step_is_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_step_is_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)) (v5 : (c : Dev Cert.KernelIdeal.nD) → Buf (Elt Ideal) ((c.tc : Thread Cert.KernelIdeal.nD Cert.KernelIdeal.τ).loc Cert.KernelIdeal.main_v15_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v8_3) = v3 c
          ∧ r.2.mem ((c.tc : Thread Cert.ReferenceIdeal.nD Cert.ReferenceIdeal.τ).loc Cert.ReferenceIdeal.main_v8_4) = v4 c
          ∧ r.2.mem ((c.tc : Thread Cert.ReferenceIdeal.nD Cert.ReferenceIdeal.τ).loc Cert.ReferenceIdeal.main_v8_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_step_is_positive : Cert.Pre_step_is_positive.Facts),
    quiescent_Kernel (hKernel := hKernel)
    ∧ quiescent_KernelIdeal (hKernelIdeal := hKernelIdeal)
    ∧ quiescent_KernelIdeal_pre_step_is_positive (hKernelIdeal := hKernelIdeal) (hPre_step_is_positive := hPre_step_is_positive)
    ∧ quiescent_ReferenceIdeal (hReferenceIdeal := hReferenceIdeal)
    ∧ quiescent_ReferenceIdeal_pre_step_is_positive (hReferenceIdeal := hReferenceIdeal) (hPre_step_is_positive := hPre_step_is_positive)
    ∧ preserves_Kernel_KernelIdeal
    ∧ algebraic_KernelIdeal_ReferenceIdeal_pre_step_is_positive (hKernelIdeal := hKernelIdeal) (hReferenceIdeal := hReferenceIdeal) (hPre_step_is_positive := hPre_step_is_positive)
-- ==== Pre_step_is_positive.lean ====
abbrev S6x256x3584 : Shape := ⟨3, ![6, 256, 3584]⟩
abbrev S6x256 : Shape := ⟨2, ![6, 256]⟩
abbrev S6x256x18944 : Shape := ⟨3, ![6, 256, 18944]⟩
abbrev S3584x18944 : Shape := ⟨2, ![3584, 18944]⟩
abbrev S3584x148 : Shape := ⟨2, ![3584, 148]⟩
abbrev S_ : Shape := ⟨0, ![]⟩

class Facts : Prop where

variable [Facts]

def fn {F : FTy → Type} [FloatOps F] (main_arg0 : FVec F S6x256x3584 .fp8e4m3) (main_arg1 : FVec F S6x256 .f32) (main_arg2 : FVec F S6x256x18944 .fp8e5m2) (main_arg3 : FVec F S6x256 .f32) (main_arg4 : FVec F S3584x18944 .bf16) (main_arg5 : IVec S3584x18944 8) (main_arg6 : FVec F S3584x148 .f32) (main_arg7 : IVec S3584x18944 8) (main_arg8 : FVec F S3584x148 .f32) (main_arg9 : IVec S_ 32) : IVec S_ 1 :=
  let main_c : IVec S_ 32 := constantI S_ 32 1#32
  let main_v0 : IVec S_ 1 := cmpi .sge main_arg9 main_c
  main_v0
-- ==== Kernel.lean ====
abbrev S6x256x3584 : Shape := ⟨3, ![6, 256, 3584]⟩
abbrev S6x256 : Shape := ⟨2, ![6, 256]⟩
abbrev S6x256x18944 : Shape := ⟨3, ![6, 256, 18944]⟩
abbrev S3584x18944 : Shape := ⟨2, ![3584, 18944]⟩
abbrev S3584x148 : Shape := ⟨2, ![3584, 148]⟩
abbrev S_ : Shape := ⟨0, ![]⟩
abbrev S1536x3584 : Shape := ⟨2, ![1536, 3584]⟩
abbrev S1x1536 : Shape := ⟨2, ![1, 1536]⟩
abbrev S3584x1536 : Shape := ⟨2, ![3584, 1536]⟩
abbrev S1536x512 : Shape := ⟨2, ![1536, 512]⟩
abbrev S512x1536 : Shape := ⟨2, ![512, 1536]⟩
abbrev S1 : Shape := ⟨1, ![1]⟩
abbrev S2 : Shape := ⟨1, ![2]⟩
abbrev S1536x18944 : Shape := ⟨2, ![1536, 18944]⟩
abbrev S512x512 : Shape := ⟨2, ![512, 512]⟩
abbrev S512x148 : Shape := ⟨2, ![512, 148]⟩
abbrev S512x256 : Shape := ⟨2, ![512, 256]⟩
abbrev S512x128 : Shape := ⟨2, ![512, 128]⟩
abbrev S512x20 : Shape := ⟨2, ![512, 20]⟩
abbrev S32x128 : Shape := ⟨2, ![32, 128]⟩
abbrev S32x1 : Shape := ⟨2, ![32, 1]⟩
abbrev S32 : Shape := ⟨1, ![32]⟩

abbrev nBuf : Space → Nat
  | .hbm => 35
  | .vmem => 36
  | .smem => 1
  | _ => 0

abbrev bufTy : (tb : Table) → Fin (tcTables nBuf tb) → BufTy
  | .hbm, ⟨0, _⟩ => ⟨S6x256x3584, .fp8e4m3⟩
  | .hbm, ⟨1, _⟩ => ⟨S6x256, .f32⟩
  | .hbm, ⟨2, _⟩ => ⟨S6x256x18944, .fp8e5m2⟩
  | .hbm, ⟨3, _⟩ => ⟨S6x256, .f32⟩
  | .hbm, ⟨4, _⟩ => ⟨S3584x18944, .bf16⟩
  | .hbm, ⟨5, _⟩ => ⟨S3584x18944, .i8⟩
  | .hbm, ⟨6, _⟩ => ⟨S3584x148, .f32⟩
  | .hbm, ⟨7, _⟩ => ⟨S3584x18944, .i8⟩
  | .hbm, ⟨8, _⟩ => ⟨S3584x148, .f32⟩
  | .hbm, ⟨9, _⟩ => ⟨S_, .i32⟩
  | .hbm, ⟨10, _⟩ => ⟨S1536x3584, .fp8e4m3⟩
  | .hbm, ⟨11, _⟩ => ⟨S6x256, .bf16⟩
  | .hbm, ⟨12, _⟩ => ⟨S1x1536, .bf16⟩
  | .hbm, ⟨13, _⟩ => ⟨S6x256, .bf16⟩
  | .hbm, ⟨14, _⟩ => ⟨S1x1536, .bf16⟩
  | .hbm, ⟨15, _⟩ => ⟨S3584x1536, .bf16⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S2, .f32⟩
  | .hbm, ⟨28, _⟩ => ⟨S1536x18944, .fp8e5m2⟩
  | .hbm, ⟨29, _⟩ => ⟨S3584x18944, .bf16⟩
  | .hbm, ⟨30, _⟩ => ⟨S3584x18944, .f32⟩
  | .hbm, ⟨31, _⟩ => ⟨S3584x18944, .i8⟩
  | .hbm, ⟨32, _⟩ => ⟨S3584x148, .f32⟩
  | .hbm, ⟨33, _⟩ => ⟨S3584x18944, .i8⟩
  | .hbm, ⟨34, _⟩ => ⟨S3584x148, .f32⟩
  | .local _ .vmem, ⟨0, _⟩ => ⟨S1536x512, .fp8e4m3⟩
  | .local _ .vmem, ⟨1, _⟩ => ⟨S1536x512, .fp8e4m3⟩
  | .local _ .vmem, ⟨2, _⟩ => ⟨S1x1536, .bf16⟩
  | .local _ .vmem, ⟨3, _⟩ => ⟨S1x1536, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .bf16⟩
  | .local _ .vmem, ⟨7, _⟩ => ⟨S512x1536, .bf16⟩
  | .local _ .vmem, ⟨8, _⟩ => ⟨S1536x18944, .fp8e5m2⟩
  | .local _ .vmem, ⟨9, _⟩ => ⟨S512x512, .bf16⟩
  | .local _ .vmem, ⟨10, _⟩ => ⟨S512x512, .bf16⟩
  | .local _ .vmem, ⟨11, _⟩ => ⟨S512x512, .i8⟩
  | .local _ .vmem, ⟨12, _⟩ => ⟨S512x512, .i8⟩
  | .local _ .vmem, ⟨13, _⟩ => ⟨S512x148, .f32⟩
  | .local _ .vmem, ⟨14, _⟩ => ⟨S512x148, .f32⟩
  | .local _ .vmem, ⟨15, _⟩ => ⟨S512x512, .i8⟩
  | .local _ .vmem, ⟨16, _⟩ => ⟨S512x512, .i8⟩
  | .local _ .vmem, ⟨17, _⟩ => ⟨S512x148, .f32⟩
  | .local _ .vmem, ⟨18, _⟩ => ⟨S512x148, .f32⟩
  | .local _ .vmem, ⟨19, _⟩ => ⟨S512x512, .bf16⟩
  | .local _ .vmem, ⟨20, _⟩ => ⟨S512x512, .bf16⟩
  | .local _ .vmem, ⟨21, _⟩ => ⟨S512x512, .f32⟩
  | .local _ .vmem, ⟨22, _⟩ => ⟨S512x512, .f32⟩
  | .local _ .vmem, ⟨23, _⟩ => ⟨S512x512, .i8⟩
  | .local _ .vmem, ⟨24, _⟩ => ⟨S512x512, .i8⟩
  | .local _ .vmem, ⟨25, _⟩ => ⟨S512x148, .f32⟩
  | .local _ .vmem, ⟨26, _⟩ => ⟨S512x148, .f32⟩
  | .local _ .vmem, ⟨27, _⟩ => ⟨S512x512, .i8⟩
  | .local _ .vmem, ⟨28, _⟩ => ⟨S512x512, .i8⟩
  | .local _ .vmem, ⟨29, _⟩ => ⟨S512x148, .f32⟩
  | .local _ .vmem, ⟨30, _⟩ => ⟨S512x148, .f32⟩
  | .local _ .vmem, ⟨31, _⟩ => ⟨S512x512, .f32⟩
  | .local _ .vmem, ⟨32, _⟩ => ⟨S512x256, .f32⟩
  | .local _ .vmem, ⟨33, _⟩ => ⟨S512x256, .f32⟩
  | .local _ .vmem, ⟨34, _⟩ => ⟨S512x256, .f32⟩
  | .local _ .vmem, ⟨35, _⟩ => ⟨S512x256, .f32⟩
  | .local _ .smem, ⟨0, _⟩ => ⟨S2, .f32⟩
  | _, _ => ⟨S6x256x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev main_v15_4 : Ref sig .tc := ⟨.hbm, 33, rfl⟩
abbrev main_v15_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_stg11_0 : Ref sig .tc := ⟨.vmem, 25, rfl⟩
abbrev cc1_stg11_1 : Ref sig .tc := ⟨.vmem, 26, rfl⟩
abbrev cc1_stg12_0 : Ref sig .tc := ⟨.vmem, 27, rfl⟩
abbrev cc1_stg12_1 : Ref sig .tc := ⟨.vmem, 28, rfl⟩
abbrev cc1_stg13_0 : Ref sig .tc := ⟨.vmem, 29, rfl⟩
abbrev cc1_stg13_1 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc1_scratch3 : Ref sig .tc := ⟨.vmem, 34, rfl⟩
abbrev cc1_scratch4 : Ref sig .tc := ⟨.vmem, 35, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc1_sem11_1 : DmaSem sig := 27
abbrev cc1_sem12_0 : DmaSem sig := 28
abbrev cc1_sem12_1 : DmaSem sig := 29
abbrev cc1_sem13_0 : DmaSem sig := 30
abbrev cc1_sem13_1 : DmaSem sig := 31

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![7, 37], ![false, false]⟩

def k1_mult1 (i : grid1.Coords) : BitVec 32 :=
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  v49
def k1_mult2 (i : grid1.Coords) : BitVec 32 :=
  let arg1 : BitVec 32 := BitVec.ofNat 32 (i 1).val
  let c512_i32 : BitVec 32 := 512#32
  let v54 : BitVec 32 := Scalar.muli arg1 c512_i32
  v54
def k1_off1 (i : grid1.Coords) : Fin 2 → Nat :=
  let c0_23 : Index := 0#32
  let arg1 : BitVec 32 := BitVec.ofNat 32 (i 1).val
  let c512_i32 : BitVec 32 := 512#32
  let v54 : BitVec 32 := Scalar.muli arg1 c512_i32
  let v55 : BitVec 32 := v54
  let v56 : Index := Scalar.indexCast v55
  ![0, v56.toNat]
def k1_off2 (i : grid1.Coords) : Fin 2 → Nat :=
  let c0_27 : Index := 0#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v63 : Index := Scalar.indexCast v50
  ![0, v63.toNat]
def k1_off3 (i : grid1.Coords) : Fin 2 → Nat :=
  let c32 : Index := 32#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v409 : Index := Scalar.indexCast v50
  ![32, v409.toNat]
def k1_off4 (i : grid1.Coords) : Fin 2 → Nat :=
  let c64 : Index := 64#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v755 : Index := Scalar.indexCast v50
  ![64, v755.toNat]
def k1_off5 (i : grid1.Coords) : Fin 2 → Nat :=
  let c96 : Index := 96#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v1101 : Index := Scalar.indexCast v50
  ![96, v1101.toNat]
def k1_off6 (i : grid1.Coords) : Fin 2 → Nat :=
  let c128_555 : Index := 128#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v1447 : Index := Scalar.indexCast v50
  ![128, v1447.toNat]
def k1_off7 (i : grid1.Coords) : Fin 2 → Nat :=
  let c160 : Index := 160#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v1793 : Index := Scalar.indexCast v50
  ![160, v1793.toNat]
def k1_off8 (i : grid1.Coords) : Fin 2 → Nat :=
  let c192 : Index := 192#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v2139 : Index := Scalar.indexCast v50
  ![192, v2139.toNat]
def k1_off9 (i : grid1.Coords) : Fin 2 → Nat :=
  let c224 : Index := 224#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v2485 : Index := Scalar.indexCast v50
  ![224, v2485.toNat]
def k1_off10 (i : grid1.Coords) : Fin 2 → Nat :=
  let c256_1088 : Index := 256#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v2831 : Index := Scalar.indexCast v50
  ![256, v2831.toNat]
def k1_off11 (i : grid1.Coords) : Fin 2 → Nat :=
  let c288 : Index := 288#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v3177 : Index := Scalar.indexCast v50
  ![288, v3177.toNat]
def k1_off12 (i : grid1.Coords) : Fin 2 → Nat :=
  let c320 : Index := 320#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v3523 : Index := Scalar.indexCast v50
  ![320, v3523.toNat]
def k1_off13 (i : grid1.Coords) : Fin 2 → Nat :=
  let c352 : Index := 352#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v3869 : Index := Scalar.indexCast v50
  ![352, v3869.toNat]
def k1_off14 (i : grid1.Coords) : Fin 2 → Nat :=
  let c384_1621 : Index := 384#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v4215 : Index := Scalar.indexCast v50
  ![384, v4215.toNat]
def k1_off15 (i : grid1.Coords) : Fin 2 → Nat :=
  let c416 : Index := 416#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v4561 : Index := Scalar.indexCast v50
  ![416, v4561.toNat]
def k1_off16 (i : grid1.Coords) : Fin 2 → Nat :=
  let c448 : Index := 448#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v4907 : Index := Scalar.indexCast v50
  ![448, v4907.toNat]
def k1_off17 (i : grid1.Coords) : Fin 2 → Nat :=
  let c480 : Index := 480#32
  let arg1 : BitVec 32 := BitVec.ofNat 32 (i 1).val
  let c0_i32_14 : BitVec 32 := 0#32
  let v33 : BitVec 1 := Scalar.cmpi .sgt arg1 c0_i32_14
  let v34 : BitVec 32 := Scalar.extui v33
  let c0_i32_15 : BitVec 32 := 0#32
  let v35 : BitVec 1 := Scalar.cmpi .slt arg1 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi arg1 c32_i32_13
  let c0_i32_18 : BitVec 32 := 0#32
  let v45 : BitVec 1 := Scalar.cmpi .ne v44 c0_i32_18
  let v46 : BitVec 1 := Scalar.andi v43 v45
  let v32 : BitVec 32 := Scalar.divsi arg1 c32_i32_13
  let c1_i32_19 : BitVec 32 := 1#32
  let v47 : BitVec 32 := Scalar.subi v32 c1_i32_19
  let v48 : BitVec 32 := Scalar.select v46 v47 v32
  let c128_i32_20 : BitVec 32 := 128#32
  let v49 : BitVec 32 := Scalar.muli v48 c128_i32_20
  let v50 : BitVec 32 := v49
  let v5253 : Index := Scalar.indexCast v50
  ![480, v5253.toNat]
def k1_cond2 (i : grid1.Coords) : BitVec 1 :=
  let arg1 : BitVec 32 := BitVec.ofNat 32 (i 1).val
  let c36_i32 : BitVec 32 := 36#32
  let v5599 : BitVec 1 := Scalar.cmpi .eq arg1 c36_i32
  let v5600 : BitVec 32 := Scalar.extui v5599
  let c0_i32_2154 : BitVec 32 := 0#32
  let v5601 : BitVec 1 := Scalar.cmpi .ne v5600 c0_i32_2154
  v5601

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1536x18944 .fp8e5m2 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x512 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x148 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x512 .i8 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x148 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S512x512 .i8 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x148 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S512x512 .i8 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S512x148 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]
-- ==== KernelIdeal.lean ====
variable {F : FTy → Type} [FloatOps F] [Named F]
def κ : String → Option EReal := fun
  | "b1_over_c1" => some ((9 : ℝ) : EReal)
  | "c1" => some ((1 / 10 : ℝ) : EReal)
  | "c2" => some ((1 / 1000 : ℝ) : EReal)
  | "minus_lr_c1" => some ((-1 / 10000 : ℝ) : EReal)
  | "sqrt_b2_over_c2" => some ((Real.sqrt 999 : ℝ) : EReal)
  | "sqrt_c2" => some ((Real.sqrt (1 / 1000) : ℝ) : EReal)
  | _ => none
-- ==== ReferenceIdeal.lean ====
abbrev S6x256x3584 : Shape := ⟨3, ![6, 256, 3584]⟩
abbrev S6x256 : Shape := ⟨2, ![6, 256]⟩
abbrev S6x256x18944 : Shape := ⟨3, ![6, 256, 18944]⟩
abbrev S3584x18944 : Shape := ⟨2, ![3584, 18944]⟩
abbrev S3584x148 : Shape := ⟨2, ![3584, 148]⟩
abbrev S_ : Shape := ⟨0, ![]⟩
abbrev S1 : Shape := ⟨1, ![1]⟩
abbrev S2 : Shape := ⟨1, ![2]⟩
abbrev S6x256x1 : Shape := ⟨3, ![6, 256, 1]⟩
abbrev S1536x3584 : Shape := ⟨2, ![1536, 3584]⟩
abbrev S1536x18944 : Shape := ⟨2, ![1536, 18944]⟩
abbrev S3584x148x128 : Shape := ⟨3, ![3584, 148, 128]⟩
abbrev S3584x148x1 : Shape := ⟨3, ![3584, 148, 1]⟩

abbrev nBuf : Space → Nat
  | .hbm => 28
  | .vmem => 15
  | .smem => 1
  | _ => 0

abbrev bufTy : (tb : Table) → Fin (tcTables nBuf tb) → BufTy
  | .hbm, ⟨0, _⟩ => ⟨S6x256x3584, .fp8e4m3⟩
  | .hbm, ⟨1, _⟩ => ⟨S6x256, .f32⟩
  | .hbm, ⟨2, _⟩ => ⟨S6x256x18944, .fp8e5m2⟩
  | .hbm, ⟨3, _⟩ => ⟨S6x256, .f32⟩
  | .hbm, ⟨4, _⟩ => ⟨S3584x18944, .bf16⟩
  | .hbm, ⟨5, _⟩ => ⟨S3584x18944, .i8⟩
  | .hbm, ⟨6, _⟩ => ⟨S3584x148, .f32⟩
  | .hbm, ⟨7, _⟩ => ⟨S3584x18944, .i8⟩
  | .hbm, ⟨8, _⟩ => ⟨S3584x148, .f32⟩
  | .hbm, ⟨9, _⟩ => ⟨S_, .i32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S2, .f32⟩
  | .hbm, ⟨22, _⟩ => ⟨S3584x18944, .bf16⟩
  | .hbm, ⟨23, _⟩ => ⟨S3584x18944, .f32⟩
  | .hbm, ⟨24, _⟩ => ⟨S3584x18944, .i8⟩
  | .hbm, ⟨25, _⟩ => ⟨S3584x148, .f32⟩
  | .hbm, ⟨26, _⟩ => ⟨S3584x18944, .i8⟩
  | .hbm, ⟨27, _⟩ => ⟨S3584x148, .f32⟩
  | .local _ .vmem, ⟨0, _⟩ => ⟨S6x256x3584, .fp8e4m3⟩
  | .local _ .vmem, ⟨1, _⟩ => ⟨S6x256, .f32⟩
  | .local _ .vmem, ⟨2, _⟩ => ⟨S6x256x18944, .fp8e5m2⟩
  | .local _ .vmem, ⟨3, _⟩ => ⟨S6x256, .f32⟩
  | .local _ .vmem, ⟨4, _⟩ => ⟨S3584x18944, .bf16⟩
  | .local _ .vmem, ⟨5, _⟩ => ⟨S3584x18944, .i8⟩
  | .local _ .vmem, ⟨6, _⟩ => ⟨S3584x148, .f32⟩
  | .local _ .vmem, ⟨7, _⟩ => ⟨S3584x18944, .i8⟩
  | .local _ .vmem, ⟨8, _⟩ => ⟨S3584x148, .f32⟩
  | .local _ .vmem, ⟨9, _⟩ => ⟨S3584x18944, .bf16⟩
  | .local _ .vmem, ⟨10, _⟩ => ⟨S3584x18944, .f32⟩
  | .local _ .vmem, ⟨11, _⟩ => ⟨S3584x18944, .i8⟩
  | .local _ .vmem, ⟨12, _⟩ => ⟨S3584x148, .f32⟩
  | .local _ .vmem, ⟨13, _⟩ => ⟨S3584x18944, .i8⟩
  | .local _ .vmem, ⟨14, _⟩ => ⟨S3584x148, .f32⟩
  | .local _ .smem, ⟨0, _⟩ => ⟨S2, .f32⟩
  | _, _ => ⟨S6x256x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev main_v8_5 : Ref sig .tc := ⟨.hbm, 27, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F] [Named F]

def κ : String → Option EReal := fun
  | "b1" => some ((9 / 10 : ℝ) : EReal)
  | "b2" => some ((999 / 1000 : ℝ) : EReal)
  | "c1" => some ((1 / 10 : ℝ) : EReal)
  | "c2" => some ((1 / 1000 : ℝ) : EReal)
  | "minus_lr" => some ((-1 / 1000 : ℝ) : EReal)
  | _ => none

abbrev grid0 : Pipeline.Grid := .none

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x18944 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x18944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584x18944 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3584x148 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3584x18944 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3584x148 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3584x18944 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3584x18944 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3584x18944 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3584x148 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3584x18944 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3584x148 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.BitsBody.lean ====
/-
  The body of the update kernel, written once per block of 32 rows by 128 columns instead of sixty-four times: the printed
  body is this program (`body_eq`), so that one statement about a block serves all sixty-four.
-/
module

public import proofs.«01_k».proof.Proof.Gen.Kernel.Launch

@[expose] public section

set_option maxRecDepth 16384

noncomputable section

namespace Cert.Kernel.Body

open Cert.Kernel Cert.Kernel.Gen
open Idealize.ShloMosaic Idealize.ShloMosaic.TcCoe
open Idealize.SL.Sem

variable {F : FTy → Type} [FloatOps F]

/-- The kernel's nineteen operands: fourteen staged windows and five scratch buffers, each a whole buffer. -/
structure Refs where
  a2 : Memref sig .tc .smem S2 .f32
  h2 : a2.IsWhole
  a3 : Memref sig .tc .vmem S512x1536 .bf16
  h3 : a3.IsWhole
  a4 : Memref sig .tc .vmem S1536x18944 .fp8e5m2
  h4 : a4.IsWhole
  a5 : Memref sig .tc .vmem S512x512 .bf16
  h5 : a5.IsWhole
  a6 : Memref sig .tc .vmem S512x512 .i8
  h6 : a6.IsWhole
  a7 : Memref sig .tc .vmem S512x148 .f32
  h7 : a7.IsWhole
  a8 : Memref sig .tc .vmem S512x512 .i8
  h8 : a8.IsWhole
  a9 : Memref sig .tc .vmem S512x148 .f32
  h9 : a9.IsWhole
  a10 : Memref sig .tc .vmem S512x512 .bf16
  h10 : a10.IsWhole
  a11 : Memref sig .tc .vmem S512x512 .f32
  h11 : a11.IsWhole
  a12 : Memref sig .tc .vmem S512x512 .i8
  h12 : a12.IsWhole
  a13 : Memref sig .tc .vmem S512x148 .f32
  h13 : a13.IsWhole
  a14 : Memref sig .tc .vmem S512x512 .i8
  h14 : a14.IsWhole
  a15 : Memref sig .tc .vmem S512x148 .f32
  h15 : a15.IsWhole
  a16 : Memref sig .tc .vmem S512x512 .f32
  h16 : a16.IsWhole
  a17 : Memref sig .tc .vmem S512x256 .f32
  h17 : a17.IsWhole
  a18 : Memref sig .tc .vmem S512x256 .f32
  h18 : a18.IsWhole
  a19 : Memref sig .tc .vmem S512x256 .f32
  h19 : a19.IsWhole
  a20 : Memref sig .tc .vmem S512x256 .f32
  h20 : a20.IsWhole

/-! ## Where a block lies -/

/-- The corner of block `(r, b)` of a tile: row `32 r`, column `128 b`. -/
abbrev bo (r : Fin 16) (b : Fin 4) : Fin 2 → ℕ := ![32 * r.val, 128 * b.val]

theorem bo_inb (r : Fin 16) (b : Fin 4) : ∀ a, bo r b a + S32x128.size a ≤ S512x512.size a := by
  revert r b; decide

theorem bo_bf16 (r : Fin 16) (b : Fin 4) :
    (Rect.unit (s := S512x512) (bo r b) S32x128.size (bo_inb r b)).PackedRows (EltTy.packing .bf16) := by
  revert r b; decide

theorem bo_i8 (r : Fin 16) (b : Fin 4) :
    (Rect.unit (s := S512x512) (bo r b) S32x128.size (bo_inb r b)).PackedRows (EltTy.packing .i8) := by
  revert r b; decide

/-- The corner of the slice of a scale scratch that the row chunk `r` works on at point `i`, as printed. -/
def koff (r : Fin 16) (i : grid1.Coords) : Fin 2 → ℕ :=
  (![k1_off2, k1_off3, k1_off4, k1_off5, k1_off6, k1_off7, k1_off8, k1_off9, k1_off10, k1_off11, k1_off12, k1_off13, k1_off14, k1_off15, k1_off16, k1_off17] : Fin 16 → grid1.Coords → Fin 2 → ℕ) r i

theorem koff_inb (r : Fin 16) (i : grid1.Coords) : ∀ a, koff r i a + S32x128.size a ≤ S512x256.size a := by
  fin_cases r
  · exact k1_off2_inb i
  · exact k1_off3_inb i
  · exact k1_off4_inb i
  · exact k1_off5_inb i
  · exact k1_off6_inb i
  · exact k1_off7_inb i
  · exact k1_off8_inb i
  · exact k1_off9_inb i
  · exact k1_off10_inb i
  · exact k1_off11_inb i
  · exact k1_off12_inb i
  · exact k1_off13_inb i
  · exact k1_off14_inb i
  · exact k1_off15_inb i
  · exact k1_off16_inb i
  · exact k1_off17_inb i

/-- Where the scale of block `b` lies in a rotated slice. -/
abbrev so (b : Fin 4) : Fin 2 → ℕ := ![0, b.val]

theorem so_slices (b : Fin 4) : S32x128.Slices (so b) S32x1 := by
  revert b; decide

/-! ## The scalars -/

/-- Whether point `i` is the first of its tile row. -/
def isFirst (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

/-- The lane of a scale slice at which point `i`'s scales begin. -/
def laneOf (i : grid1.Coords) : BitVec 32 :=
  let arg1 : BitVec 32 := BitVec.ofNat 32 (i 1).val
  let c32_i32 : BitVec 32 := 32#32
  let c0_i32_3 : BitVec 32 := 0#32
  let v10 : BitVec 1 := Scalar.cmpi .eq c32_i32 c0_i32_3
  let c1_i32 : BitVec 32 := 1#32
  let v11 : BitVec 32 := Scalar.select v10 c1_i32 c32_i32
  let v12 : BitVec 32 := Scalar.remsi arg1 v11
  let c0_i32_4 : BitVec 32 := 0#32
  let v13 : BitVec 1 := Scalar.cmpi .ne v12 c0_i32_4
  let c0_i32_5 : BitVec 32 := 0#32
  let v14 : BitVec 1 := Scalar.cmpi .slt v12 c0_i32_5
  let c0_i32_6 : BitVec 32 := 0#32
  let v15 : BitVec 1 := Scalar.cmpi .slt v11 c0_i32_6
  let v16 : BitVec 1 := Scalar.xori v14 v15
  let v17 : BitVec 1 := Scalar.andi v16 v13
  let v18 : BitVec 32 := Scalar.addi v12 v11
  let v19 : BitVec 32 := Scalar.select v17 v18 v12
  let c4_i32 : BitVec 32 := 4#32
  let v20 : BitVec 32 := Scalar.muli c4_i32 v19
  v20

/-- The rotation that brings that lane to lane 0. -/
def shiftOf (i : grid1.Coords) : BitVec 32 :=
  let v20 : BitVec 32 := laneOf i
  let c128_i32 : BitVec 32 := 128#32
  let v21 : BitVec 32 := Scalar.subi c128_i32 v20
  let c128_i32_7 : BitVec 32 := 128#32
  let c0_i32_8 : BitVec 32 := 0#32
  let v22 : BitVec 1 := Scalar.cmpi .eq c128_i32_7 c0_i32_8
  let c1_i32_9 : BitVec 32 := 1#32
  let v23 : BitVec 32 := Scalar.select v22 c1_i32_9 c128_i32_7
  let v24 : BitVec 32 := Scalar.remsi v21 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  v31

/-- The factor of the first moment in the update, of the two bias corrections. -/
def cuOf (v3 v4 : Elt F .f32) : F .f32 :=
  let cst : F .f32 := Scalar.ofBits .f32 0x3A83126F#32
  let v5 : F .f32 := Scalar.divf v4 cst
  let v6 : F .f32 := Scalar.sqrt v5
  let cst_1 : F .f32 := Scalar.ofBits .f32 0xB8D1B717#32
  let v7 : F .f32 := Scalar.divf cst_1 v3
  let v8 : F .f32 := Scalar.mulf v7 v6
  v8

/-- What is added to the root of the second moment, of the second bias correction. -/
def epOf (v4 : Elt F .f32) : F .f32 :=
  let cst : F .f32 := Scalar.ofBits .f32 0x3A83126F#32
  let v5 : F .f32 := Scalar.divf v4 cst
  let v6 : F .f32 := Scalar.sqrt v5
  let cst_2 : F .f32 := Scalar.ofBits .f32 0x322BCC77#32
  let v9 : F .f32 := Scalar.mulf cst_2 v6
  v9

/-! ## The body -/

/-- At a tile row's first point: both scale columns, scaled, into the scratch. -/
def initU (R : Refs) : Prog (TpuEff nD τ sig (Elt F) Λ₀ .tc) PUnit := do
  let v5602 : Vec F S512x128 .f32 ← Prog.lift (.load R.a7 (Rect.unit (s := S512x148) ![0, 0] S512x128.size inb_S512x148_S512x128_0_0).toLoadRect (View.loadsAt_vmem h_S512x128))
  have cst_2157 : F .f32 := Scalar.ofBits .f32 0x41100000#32
  have v5603 : FVec F S512x128 .f32 := broadcast S512x128 cst_2157
  have v5604 : FVec F S512x128 .f32 := mulf v5602 v5603
  let v5605 : Vec F S512x128 .f32 ← Prog.lift (.load R.a17 (Rect.unit (s := S512x256) ![0, 0] S512x128.size inb_S512x256_S512x128_0_0).toLoadRect (View.loadsAt_vmem h_S512x128))
  have v5606 : FVec F S512x128 .f32 := shapeCast S512x128 v5605 shapeCasts_S512x128_S512x128
  have v5607 : FVec F S512x128 .f32 := shapeCast S512x128 v5604 shapeCasts_S512x128_S512x128
  Prog.lift (.store R.a17 (Rect.unit (s := S512x256) ![0, 0] S512x128.size inb_S512x256_S512x128_0_0) v5607 Finset.univ (View.stores_vmem_bits_univ h_S512x128 rfl) (.inl rfl))
  let v5608 : Vec F S512x20 .f32 ← Prog.lift (.load R.a7 (Rect.unit (s := S512x148) ![0, 128] S512x20.size inb_S512x148_S512x20_0_128).toLoadRect (View.loadsAt_vmem h_S512x20))
  have cst_2162 : F .f32 := Scalar.ofBits .f32 0x41100000#32
  have v5609 : FVec F S512x20 .f32 := broadcast S512x20 cst_2162
  have v5610 : FVec F S512x20 .f32 := mulf v5608 v5609
  let v5611 : Vec F S512x20 .f32 ← Prog.lift (.load R.a17 (Rect.unit (s := S512x256) ![0, 128] S512x20.size inb_S512x256_S512x20_0_128).toLoadRect (View.loadsAt_vmem h_S512x20))
  have v5612 : FVec F S512x20 .f32 := shapeCast S512x20 v5611 shapeCasts_S512x20_S512x20
  have v5613 : FVec F S512x20 .f32 := shapeCast S512x20 v5610 shapeCasts_S512x20_S512x20
  Prog.lift (.store R.a17 (Rect.unit (s := S512x256) ![0, 128] S512x20.size inb_S512x256_S512x20_0_128) v5613 Finset.univ (View.stores_vmem_bits_univ h_S512x20 rfl) (.inl rfl))
  let v5614 : Vec F S512x128 .f32 ← Prog.lift (.load R.a9 (Rect.unit (s := S512x148) ![0, 0] S512x128.size inb_S512x148_S512x128_0_0).toLoadRect (View.loadsAt_vmem h_S512x128))
  have cst_2167 : F .f32 := Scalar.ofBits .f32 0x41FCDB0F#32
  have v5615 : FVec F S512x128 .f32 := broadcast S512x128 cst_2167
  have v5616 : FVec F S512x128 .f32 := mulf v5614 v5615
  let v5617 : Vec F S512x128 .f32 ← Prog.lift (.load R.a18 (Rect.unit (s := S512x256) ![0, 0] S512x128.size inb_S512x256_S512x128_0_0).toLoadRect (View.loadsAt_vmem h_S512x128))
  have v5618 : FVec F S512x128 .f32 := shapeCast S512x128 v5617 shapeCasts_S512x128_S512x128
  have v5619 : FVec F S512x128 .f32 := shapeCast S512x128 v5616 shapeCasts_S512x128_S512x128
  Prog.lift (.store R.a18 (Rect.unit (s := S512x256) ![0, 0] S512x128.size inb_S512x256_S512x128_0_0) v5619 Finset.univ (View.stores_vmem_bits_univ h_S512x128 rfl) (.inl rfl))
  let v5620 : Vec F S512x20 .f32 ← Prog.lift (.load R.a9 (Rect.unit (s := S512x148) ![0, 128] S512x20.size inb_S512x148_S512x20_0_128).toLoadRect (View.loadsAt_vmem h_S512x20))
  have cst_2172 : F .f32 := Scalar.ofBits .f32 0x41FCDB0F#32
  have v5621 : FVec F S512x20 .f32 := broadcast S512x20 cst_2172
  have v5622 : FVec F S512x20 .f32 := mulf v5620 v5621
  let v5623 : Vec F S512x20 .f32 ← Prog.lift (.load R.a18 (Rect.unit (s := S512x256) ![0, 128] S512x20.size inb_S512x256_S512x20_0_128).toLoadRect (View.loadsAt_vmem h_S512x20))
  have v5624 : FVec F S512x20 .f32 := shapeCast S512x20 v5623 shapeCasts_S512x20_S512x20
  have v5625 : FVec F S512x20 .f32 := shapeCast S512x20 v5622 shapeCasts_S512x20_S512x20
  Prog.lift (.store R.a18 (Rect.unit (s := S512x256) ![0, 128] S512x20.size inb_S512x256_S512x20_0_128) v5625 Finset.univ (View.stores_vmem_bits_univ h_S512x20 rfl) (.inl rfl))

/-- The gradient tile: a product of two matrices, into the scratch. -/
def mmU (R : Refs) (i : grid1.Coords) : Prog (TpuEff nD τ sig (Elt F) Λ₀ .tc) PUnit := do
  let arg1 : BitVec 32 := BitVec.ofNat 32 (i 1).val
  let v52 : Vec F S512x1536 .bf16 ← Prog.lift (.load R.a3 (Rect.unit (s := S512x1536) ![0, 0] S512x1536.size inb_S512x1536_S512x1536_0_0).toLoadRect (View.loadsAt_vmem h_S512x1536))
  have v53 : FVec F S512x1536 .bf16 := shapeCast S512x1536 v52 shapeCasts_S512x1536_S512x1536
  let c512_i32 : BitVec 32 := 512#32
  let v54 : BitVec 32 := Scalar.muli arg1 c512_i32
  let v55 : BitVec 32 := v54
  let v57 : Vec F S1536x512 .fp8e5m2 ← Prog.lift (.load R.a4 (Rect.unit (s := S1536x18944) (k1_off1 i) S1536x512.size (k1_off1_inb i)).toLoadRect (View.loadsAt_vmem h_S1536x512))
  have v58 : FVec F S1536x512 .fp8e5m2 := shapeCast S1536x512 v57 shapeCasts_S1536x512_S1536x512
  have cst_24 : FVec F S512x512 .f32 := constant S512x512 .f32 0x00000000#32
  have v59 : FVec F S512x512 .f32 := matmul dot_S512x1536_S1536x512_S512x512_1_0_0_1_n_n none v53 v58 cst_24
  let v60 : Vec F S512x512 .f32 ← Prog.lift (.load R.a16 (Rect.unit (s := S512x512) ![0, 0] S512x512.size inb_S512x512_S512x512_0_0).toLoadRect (View.loadsAt_vmem h_S512x512))
  have v61 : FVec F S512x512 .f32 := shapeCast S512x512 v60 shapeCasts_S512x512_S512x512
  have v62 : FVec F S512x512 .f32 := shapeCast S512x512 v59 shapeCasts_S512x512_S512x512
  Prog.lift (.store R.a16 (Rect.unit (s := S512x512) ![0, 0] S512x512.size inb_S512x512_S512x512_0_0) v62 Finset.univ (View.stores_vmem_bits_univ h_S512x512 rfl) (.inl rfl))

/-- Block `(r, b)`: the optimiser's step on it. -/
def blkU (R : Refs) (i : grid1.Coords) (v20 : BitVec 32) (v51 : IVec S32x128 32) (v8 v9 : F .f32) (v65 v68 : FVec F S32x128 .f32)
    (r : Fin 16) (b : Fin 4) : Prog (TpuEff nD τ sig (Elt F) Λ₀ .tc) PUnit := do
  let v69 : Vec F S32x128 .f32 ← Prog.lift (.load R.a16 (Rect.unit (s := S512x512) (bo r b) S32x128.size (bo_inb r b)).toLoadRect (View.loadsAt_vmem h_S32x128))
  let v70 : Vec F S32x128 .i8 ← Prog.lift (.load R.a6 (Rect.unit (s := S512x512) (bo r b) S32x128.size (bo_inb r b)).toLoadRect (View.loadsAt_vmem h_S32x128))
  have v71 : FVec F S32x128 .bf16 := sitofp .bf16 v70
  have v72 : FVec F S32x128 .f32 := extf .f32 v71 bitsLt_bf16_f32
  let v73 : Vec F S32x128 .i8 ← Prog.lift (.load R.a8 (Rect.unit (s := S512x512) (bo r b) S32x128.size (bo_inb r b)).toLoadRect (View.loadsAt_vmem h_S32x128))
  have v74 : FVec F S32x128 .bf16 := sitofp .bf16 v73
  have v75 : FVec F S32x128 .f32 := extf .f32 v74 bitsLt_bf16_f32
  have v76 : FVec F S32x1 .f32 := extractStridedSlice S32x1 (so b) v65 (so_slices b)
  have v77 : FVec F S32x128 .f32 := broadcastTo S32x128 v76 broadcasts_S32x1_S32x128
  have v78 : FVec F S32x128 .f32 := mulf v72 v77
  have v79 : FVec F S32x128 .f32 := addf v78 v69
  have v80 : FVec F S32x1 .f32 := extractStridedSlice S32x1 (so b) v68 (so_slices b)
  have v81 : FVec F S32x128 .f32 := broadcastTo S32x128 v80 broadcasts_S32x1_S32x128
  have v82 : FVec F S32x128 .f32 := mulf v75 v81
  have v83 : FVec F S32x128 .f32 := mulf v82 v82
  have v84 : FVec F S32x128 .f32 := mulf v69 v69
  have v85 : FVec F S32x128 .f32 := addf v83 v84
  have v86 : FVec F S32x128 .f32 := rsqrt v85
  have cst_35 : F .f32 := Scalar.ofBits .f32 0x3F800000#32
  have v87 : FVec F S32x128 .f32 := broadcast S32x128 cst_35
  have v88 : FVec F S32x128 .f32 := divf v87 v86
  have v89 : FVec F S32x128 .f32 := broadcast S32x128 v8
  have v90 : FVec F S32x128 .f32 := mulf v79 v89
  have v91 : FVec F S32x128 .f32 := broadcast S32x128 v9
  have v92 : FVec F S32x128 .f32 := addf v88 v91
  have cst_36 : F .f32 := Scalar.ofBits .f32 0x3F800000#32
  have v93 : FVec F S32x128 .f32 := broadcast S32x128 cst_36
  have v94 : FVec F S32x128 .f32 := divf v93 v92
  have v95 : FVec F S32x128 .f32 := mulf v90 v94
  let v96 : Vec F S32x128 .f32 ← Prog.lift (.load R.a11 (Rect.unit (s := S512x512) (bo r b) S32x128.size (bo_inb r b)).toLoadRect (View.loadsAt_vmem h_S32x128))
  Prog.lift (.store R.a11 (Rect.unit (s := S512x512) (bo r b) S32x128.size (bo_inb r b)) v95 Finset.univ (View.stores_vmem_bits_univ h_S32x128 rfl) (.inl rfl))
  let v97 : Vec F S32x128 .bf16 ← Prog.lift (.load R.a5 (Rect.unit (s := S512x512) (bo r b) S32x128.size (bo_inb r b)).toLoadRect (View.loadsAt_vmem h_S32x128))
  have v98 : FVec F S32x128 .f32 := extf .f32 v97 bitsLt_bf16_f32
  have v99 : FVec F S32x128 .f32 := addf v98 v95
  have v100 : FVec F S32x128 .bf16 := truncf .bf16 v99 bitsLt_bf16_f32
  let v101 : Vec F S32x128 .bf16 ← Prog.lift (.load R.a10 (Rect.unit (s := S512x512) (bo r b) S32x128.size (bo_inb r b)).toLoadRect (View.loadsAt_vmem h_S32x128))
  Prog.lift (.store R.a10 (Rect.unit (s := S512x512) (bo r b) S32x128.size (bo_inb r b)) v100 Finset.univ (View.stores_vmem h_S32x128 (R.h10.storeExact_slice rfl _ (bo_bf16 r b)) (fun _ => rfl)) (.inl rfl))
  have v102 : FVec F S32x128 .f32 := absf v79
  have cst_43 : FVec F S32 .f32 := constant S32 .f32 0xFF800000#32
  have v103 : FVec F S32 .f32 := multiReduction .maximumf [1] S32 v102 0xFF800000#32 reduces_S32x128_S32 (.inl rfl) rfl
  have v104 : FVec F S32x1 .f32 := shapeCast S32x1 v103 shapeCasts_S32_S32x1
  have cst_44 : FVec F S32 .f32 := constant S32 .f32 0x7F800000#32
  have v105 : FVec F S32 .f32 := multiReduction .minimumf [1] S32 v86 0x7F800000#32 reduces_S32x128_S32 (.inl rfl) rfl
  have v106 : FVec F S32x1 .f32 := shapeCast S32x1 v105 shapeCasts_S32_S32x1
  have cst_45 : F .f32 := Scalar.ofBits .f32 0x00000000#32
  have v107 : FVec F S32x1 .f32 := broadcast S32x1 cst_45
  have v108 : IVec S32x1 1 := cmpf .oeq v104 v107
  have cst_46 : F .f32 := Scalar.ofBits .f32 0x42FE0000#32
  have v109 : FVec F S32x1 .f32 := broadcast S32x1 cst_46
  have v110 : FVec F S32x1 .f32 := divf v109 v104
  have cst_47 : F .f32 := Scalar.ofBits .f32 0x00000000#32
  have v111 : FVec F S32x1 .f32 := broadcast S32x1 cst_47
  have v112 : FVec F S32x1 .f32 := select v108 v111 v110
  have cst_48 : F .f32 := Scalar.ofBits .f32 0x7F800000#32
  have v113 : FVec F S32x1 .f32 := broadcast S32x1 cst_48
  have v114 : IVec S32x1 1 := cmpf .oeq v106 v113
  have cst_49 : F .f32 := Scalar.ofBits .f32 0x42FE0000#32
  have v115 : FVec F S32x1 .f32 := broadcast S32x1 cst_49
  have v116 : FVec F S32x1 .f32 := mulf v115 v106
  have cst_50 : F .f32 := Scalar.ofBits .f32 0x00000000#32
  have v117 : FVec F S32x1 .f32 := broadcast S32x1 cst_50
  have v118 : FVec F S32x1 .f32 := select v114 v117 v116
  have v119 : FVec F S32x128 .f32 := broadcastTo S32x128 v112 broadcasts_S32x1_S32x128
  have v120 : FVec F S32x128 .f32 := mulf v79 v119
  have v121 : FVec F S32x128 .f32 := roundeven v120
  have cst_51 : F .f32 := Scalar.ofBits .f32 0xC2FE0000#32
  have cst_52 : F .f32 := Scalar.ofBits .f32 0x42FE0000#32
  have v122 : FVec F S32x128 .f32 := broadcast S32x128 cst_51
  have v123 : FVec F S32x128 .f32 := maximumf v122 v121
  have v124 : FVec F S32x128 .f32 := broadcast S32x128 cst_52
  have v125 : FVec F S32x128 .f32 := minimumf v124 v123
  have v126 : IVec S32x128 8 := fptosi 8 v125
  let v127 : Vec F S32x128 .i8 ← Prog.lift (.load R.a12 (Rect.unit (s := S512x512) (bo r b) S32x128.size (bo_inb r b)).toLoadRect (View.loadsAt_vmem h_S32x128))
  Prog.lift (.store R.a12 (Rect.unit (s := S512x512) (bo r b) S32x128.size (bo_inb r b)) v126 Finset.univ (View.stores_vmem h_S32x128 (R.h12.storeExact_slice rfl _ (bo_i8 r b)) (fun _ => rfl)) (.inl rfl))
  have v128 : FVec F S32x128 .f32 := broadcastTo S32x128 v118 broadcasts_S32x1_S32x128
  have v129 : FVec F S32x128 .f32 := mulf v88 v128
  have v130 : FVec F S32x128 .f32 := roundeven v129
  have cst_55 : F .f32 := Scalar.ofBits .f32 0xC2FE0000#32
  have cst_56 : F .f32 := Scalar.ofBits .f32 0x42FE0000#32
  have v131 : FVec F S32x128 .f32 := broadcast S32x128 cst_55
  have v132 : FVec F S32x128 .f32 := maximumf v131 v130
  have v133 : FVec F S32x128 .f32 := broadcast S32x128 cst_56
  have v134 : FVec F S32x128 .f32 := minimumf v133 v132
  have v135 : IVec S32x128 8 := fptosi 8 v134
  let v136 : Vec F S32x128 .i8 ← Prog.lift (.load R.a14 (Rect.unit (s := S512x512) (bo r b) S32x128.size (bo_inb r b)).toLoadRect (View.loadsAt_vmem h_S32x128))
  Prog.lift (.store R.a14 (Rect.unit (s := S512x512) (bo r b) S32x128.size (bo_inb r b)) v135 Finset.univ (View.stores_vmem h_S32x128 (R.h14.storeExact_slice rfl _ (bo_i8 r b)) (fun _ => rfl)) (.inl rfl))
  let c0_i32_59 : BitVec 32 := BitVec.ofNat 32 b.val
  let v137 : BitVec 32 := Scalar.addi v20 c0_i32_59
  have v138 : IVec S32x128 32 := broadcast S32x128 v137
  have v139 : IVec S32x128 1 := cmpi .eq v51 v138
  have v140 : FVec F S32x1 .f32 := shapeCast S32x1 v104 shapeCasts_S32x1_S32x1
  have v141 : FVec F S32x128 .f32 := broadcastTo S32x128 v140 broadcasts_S32x1_S32x128
  let v143 : Vec F S32x128 .f32 ← Prog.lift (.load R.a19 (Rect.unit (s := S512x256) (koff r i) S32x128.size (koff_inb r i)).toLoadRect (View.loadsAt_vmem h_S32x128))
  have v144 : FVec F S32x128 .f32 := shapeCast S32x128 v143 shapeCasts_S32x128_S32x128
  have v145 : FVec F S32x128 .f32 := shapeCast S32x128 v141 shapeCasts_S32x128_S32x128
  have v146 : IVec S32x128 1 := shapeCast S32x128 v139 shapeCasts_S32x128_S32x128
  Prog.lift (.store R.a19 (Rect.unit (s := S512x256) (koff r i) S32x128.size (koff_inb r i)) v145 (IVec.on v146) (View.stores_vmem_bits h_S32x128 rfl (fun h => nomatch h)) (.inr (fun _ => rfl)))
  have v147 : FVec F S32x1 .f32 := shapeCast S32x1 v106 shapeCasts_S32x1_S32x1
  have v148 : FVec F S32x128 .f32 := broadcastTo S32x128 v147 broadcasts_S32x1_S32x128
  let v150 : Vec F S32x128 .f32 ← Prog.lift (.load R.a20 (Rect.unit (s := S512x256) (koff r i) S32x128.size (koff_inb r i)).toLoadRect (View.loadsAt_vmem h_S32x128))
  have v151 : FVec F S32x128 .f32 := shapeCast S32x128 v150 shapeCasts_S32x128_S32x128
  have v152 : FVec F S32x128 .f32 := shapeCast S32x128 v148 shapeCasts_S32x128_S32x128
  have v153 : IVec S32x128 1 := shapeCast S32x128 v139 shapeCasts_S32x128_S32x128
  Prog.lift (.store R.a20 (Rect.unit (s := S512x256) (koff r i) S32x128.size (koff_inb r i)) v152 (IVec.on v153) (View.stores_vmem_bits h_S32x128 rfl (fun h => nomatch h)) (.inr (fun _ => rfl)))

/-- Row chunk `r`: its scales read and rotated, then its four blocks. -/
def rowU (R : Refs) (i : grid1.Coords) (v20 v31 : BitVec 32) (v51 : IVec S32x128 32) (v8 v9 : F .f32)
    (r : Fin 16) : Prog (TpuEff nD τ sig (Elt F) Λ₀ .tc) PUnit := do
  let v64 : Vec F S32x128 .f32 ← Prog.lift (.load R.a17 (Rect.unit (s := S512x256) (koff r i) S32x128.size (koff_inb r i)).toLoadRect (View.loadsAt_vmem h_S32x128))
  have v65 : FVec F S32x128 .f32 := dynamicRotate 1 v31 none v64 rotates_S32x128_d1
  let v67 : Vec F S32x128 .f32 ← Prog.lift (.load R.a18 (Rect.unit (s := S512x256) (koff r i) S32x128.size (koff_inb r i)).toLoadRect (View.loadsAt_vmem h_S32x128))
  have v68 : FVec F S32x128 .f32 := dynamicRotate 1 v31 none v67 rotates_S32x128_d1
  blkU R i v20 v51 v8 v9 v65 v68 r 0
  blkU R i v20 v51 v8 v9 v65 v68 r 1
  blkU R i v20 v51 v8 v9 v65 v68 r 2
  blkU R i v20 v51 v8 v9 v65 v68 r 3

/-- The row chunks of a list, in order. -/
def rowsU (R : Refs) (i : grid1.Coords) (v20 v31 : BitVec 32) (v51 : IVec S32x128 32) (v8 v9 : F .f32) :
    List (Fin 16) → Prog (TpuEff nD τ sig (Elt F) Λ₀ .tc) PUnit
  | [] => pure ⟨⟩
  | r :: l => do
    rowU R i v20 v31 v51 v8 v9 r
    rowsU R i v20 v31 v51 v8 v9 l

/-- At a tile row's last point: the scales of the tile row, from the maxima and minima gathered. -/
def epiU (R : Refs) : Prog (TpuEff nD τ sig (Elt F) Λ₀ .tc) PUnit := do
  let v5602 : Vec F S512x128 .f32 ← Prog.lift (.load R.a19 (Rect.unit (s := S512x256) ![0, 0] S512x128.size inb_S512x256_S512x128_0_0).toLoadRect (View.loadsAt_vmem h_S512x128))
  have cst_2157 : F .f32 := Scalar.ofBits .f32 0x3DCCCCCD#32
  have v5603 : FVec F S512x128 .f32 := broadcast S512x128 cst_2157
  have v5604 : FVec F S512x128 .f32 := mulf v5602 v5603
  have cst_2158 : F .f32 := Scalar.ofBits .f32 0x00000000#32
  have v5605 : FVec F S512x128 .f32 := broadcast S512x128 cst_2158
  have v5606 : IVec S512x128 1 := cmpf .oeq v5604 v5605
  have cst_2159 : F .f32 := Scalar.ofBits .f32 0x42FE0000#32
  have v5607 : FVec F S512x128 .f32 := broadcast S512x128 cst_2159
  have v5608 : FVec F S512x128 .f32 := divf v5604 v5607
  have cst_2160 : F .f32 := Scalar.ofBits .f32 0x3F800000#32
  have v5609 : FVec F S512x128 .f32 := broadcast S512x128 cst_2160
  have v5610 : FVec F S512x128 .f32 := select v5606 v5609 v5608
  let v5611 : Vec F S512x128 .f32 ← Prog.lift (.load R.a13 (Rect.unit (s := S512x148) ![0, 0] S512x128.size inb_S512x148_S512x128_0_0).toLoadRect (View.loadsAt_vmem h_S512x128))
  Prog.lift (.store R.a13 (Rect.unit (s := S512x148) ![0, 0] S512x128.size inb_S512x148_S512x128_0_0) v5610 Finset.univ (View.stores_vmem_bits_univ h_S512x128 rfl) (.inl rfl))
  let v5612 : Vec F S512x128 .f32 ← Prog.lift (.load R.a20 (Rect.unit (s := S512x256) ![0, 0] S512x128.size inb_S512x256_S512x128_0_0).toLoadRect (View.loadsAt_vmem h_S512x128))
  have cst_2165 : F .f32 := Scalar.ofBits .f32 0x3D0186E2#32
  have v5613 : FVec F S512x128 .f32 := broadcast S512x128 cst_2165
  have v5614 : FVec F S512x128 .f32 := divf v5613 v5612
  have cst_2166 : F .f32 := Scalar.ofBits .f32 0x00000000#32
  have v5615 : FVec F S512x128 .f32 := broadcast S512x128 cst_2166
  have v5616 : IVec S512x128 1 := cmpf .oeq v5614 v5615
  have cst_2167 : F .f32 := Scalar.ofBits .f32 0x42FE0000#32
  have v5617 : FVec F S512x128 .f32 := broadcast S512x128 cst_2167
  have v5618 : FVec F S512x128 .f32 := divf v5614 v5617
  have cst_2168 : F .f32 := Scalar.ofBits .f32 0x3F800000#32
  have v5619 : FVec F S512x128 .f32 := broadcast S512x128 cst_2168
  have v5620 : FVec F S512x128 .f32 := select v5616 v5619 v5618
  let v5621 : Vec F S512x128 .f32 ← Prog.lift (.load R.a15 (Rect.unit (s := S512x148) ![0, 0] S512x128.size inb_S512x148_S512x128_0_0).toLoadRect (View.loadsAt_vmem h_S512x128))
  Prog.lift (.store R.a15 (Rect.unit (s := S512x148) ![0, 0] S512x128.size inb_S512x148_S512x128_0_0) v5620 Finset.univ (View.stores_vmem_bits_univ h_S512x128 rfl) (.inl rfl))
  let v5622 : Vec F S512x20 .f32 ← Prog.lift (.load R.a19 (Rect.unit (s := S512x256) ![0, 128] S512x20.size inb_S512x256_S512x20_0_128).toLoadRect (View.loadsAt_vmem h_S512x20))
  have cst_2173 : F .f32 := Scalar.ofBits .f32 0x3DCCCCCD#32
  have v5623 : FVec F S512x20 .f32 := broadcast S512x20 cst_2173
  have v5624 : FVec F S512x20 .f32 := mulf v5622 v5623
  have cst_2174 : F .f32 := Scalar.ofBits .f32 0x00000000#32
  have v5625 : FVec F S512x20 .f32 := broadcast S512x20 cst_2174
  have v5626 : IVec S512x20 1 := cmpf .oeq v5624 v5625
  have cst_2175 : F .f32 := Scalar.ofBits .f32 0x42FE0000#32
  have v5627 : FVec F S512x20 .f32 := broadcast S512x20 cst_2175
  have v5628 : FVec F S512x20 .f32 := divf v5624 v5627
  have cst_2176 : F .f32 := Scalar.ofBits .f32 0x3F800000#32
  have v5629 : FVec F S512x20 .f32 := broadcast S512x20 cst_2176
  have v5630 : FVec F S512x20 .f32 := select v5626 v5629 v5628
  let v5631 : Vec F S512x20 .f32 ← Prog.lift (.load R.a13 (Rect.unit (s := S512x148) ![0, 128] S512x20.size inb_S512x148_S512x20_0_128).toLoadRect (View.loadsAt_vmem h_S512x20))
  Prog.lift (.store R.a13 (Rect.unit (s := S512x148) ![0, 128] S512x20.size inb_S512x148_S512x20_0_128) v5630 Finset.univ (View.stores_vmem_bits_univ h_S512x20 rfl) (.inl rfl))
  let v5632 : Vec F S512x20 .f32 ← Prog.lift (.load R.a20 (Rect.unit (s := S512x256) ![0, 128] S512x20.size inb_S512x256_S512x20_0_128).toLoadRect (View.loadsAt_vmem h_S512x20))
  have cst_2181 : F .f32 := Scalar.ofBits .f32 0x3D0186E2#32
  have v5633 : FVec F S512x20 .f32 := broadcast S512x20 cst_2181
  have v5634 : FVec F S512x20 .f32 := divf v5633 v5632
  have cst_2182 : F .f32 := Scalar.ofBits .f32 0x00000000#32
  have v5635 : FVec F S512x20 .f32 := broadcast S512x20 cst_2182
  have v5636 : IVec S512x20 1 := cmpf .oeq v5634 v5635
  have cst_2183 : F .f32 := Scalar.ofBits .f32 0x42FE0000#32
  have v5637 : FVec F S512x20 .f32 := broadcast S512x20 cst_2183
  have v5638 : FVec F S512x20 .f32 := divf v5634 v5637
  have cst_2184 : F .f32 := Scalar.ofBits .f32 0x3F800000#32
  have v5639 : FVec F S512x20 .f32 := broadcast S512x20 cst_2184
  have v5640 : FVec F S512x20 .f32 := select v5636 v5639 v5638
  let v5641 : Vec F S512x20 .f32 ← Prog.lift (.load R.a15 (Rect.unit (s := S512x148) ![0, 128] S512x20.size inb_S512x148_S512x20_0_128).toLoadRect (View.loadsAt_vmem h_S512x20))
  Prog.lift (.store R.a15 (Rect.unit (s := S512x148) ![0, 128] S512x20.size inb_S512x148_S512x20_0_128) v5640 Finset.univ (View.stores_vmem_bits_univ h_S512x20 rfl) (.inl rfl))

/-- The whole body. -/
def bodyU (R : Refs) (i : grid1.Coords) : Prog (TpuEff nD τ sig (Elt F) Λ₀ .tc) PUnit :=
  Prog.bind (if k1_h1 : isFirst i = 1#1 then initU R else pure ⟨⟩) fun _ => do
  let v3 : Elt F .f32 ← smemLoad R.a2 (Rect.unit (s := S2) ![0] S1.size inb_S2_S1_0) numel1_S1 rfl
  let v4 : Elt F .f32 ← smemLoad R.a2 (Rect.unit (s := S2) ![1] S1.size inb_S2_S1_1) numel1_S1 rfl
  mmU R i
  rowsU R i (laneOf i) (shiftOf i) (iota .tc S32x128 32 [1] iota_S32x128_d1_w32) (cuOf v3 v4) (epOf v4)
    [0, 1, 2, 3, 4, 5, 6, 7, 8, 9, 10, 11, 12, 13, 14, 15]
  if k1_h2 : k1_cond2 i = 1#1 then epiU R else pure ⟨⟩
  pure ⟨⟩

end Cert.Kernel.Body

end
-- ==== Proof.BitsBlock.lean ====
/-
  What one block of 32 rows by 128 columns of a tile does: the values it computes, as functions of vectors, and the step it takes
  from the tile's contents before it to those after it.
-/
module

public import proofs.«01_k».proof.Proof.BitsBody
public import proofs.«01_k».proof.Proof.Gen.Kernel.Regions
public import Idealize.ShloMosaic.Lib.Pipeline.Frame
public import Idealize.ShloMosaic.Lib.Tactic
public import Idealize.ShloMosaic.Lib.Transfers
public import Idealize.ShloMosaic.Lib.WholeRead
public import Idealize.ShloMosaic.Lib.WritesUnit

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The values of a block -/

/-- The first moment: the codes times their scales, plus the gradient. -/
def mV (g : FVec F S32x128 .f32) (mq : IVec S32x128 8) (cm : FVec F S32x1 .f32) : FVec F S32x128 .f32 :=
  addf (mulf (extf .f32 (sitofp .bf16 mq) bitsLt_bf16_f32) (broadcastTo S32x128 cm broadcasts_S32x1_S32x128)) g

/-- The reciprocal root of the second moment. -/
def rsV (g : FVec F S32x128 .f32) (sq : IVec S32x128 8) (cs : FVec F S32x1 .f32) : FVec F S32x128 .f32 :=
  let t := mulf (extf .f32 (sitofp .bf16 sq) bitsLt_bf16_f32) (broadcastTo S32x128 cs broadcasts_S32x1_S32x128)
  rsqrt (addf (mulf t t) (mulf g g))

/-- One over each entry. -/
def invV (x : FVec F S32x128 .f32) : FVec F S32x128 .f32 :=
  divf (broadcast S32x128 (Scalar.ofBits (F := F) .f32 0x3F800000#32)) x

/-- The update, of the first moment and the root of the second. -/
def updV (cu ep : F .f32) (m s : FVec F S32x128 .f32) : FVec F S32x128 .f32 :=
  mulf (mulf m (broadcast S32x128 cu)) (invV (addf s (broadcast S32x128 ep)))

/-- The new weights. -/
def wnV (w : FVec F S32x128 .bf16) (u : FVec F S32x128 .f32) : FVec F S32x128 .bf16 :=
  truncf .bf16 (addf (extf .f32 w bitsLt_bf16_f32) u) bitsLt_bf16_f32

/-- Each row's largest magnitude. -/
def amaxV (m : FVec F S32x128 .f32) : FVec F S32x1 .f32 :=
  shapeCast S32x1 (multiReduction .maximumf [1] S32 (absf m) 0xFF800000#32 reduces_S32x128_S32 (.inl rfl) rfl) shapeCasts_S32_S32x1

/-- Each row's least entry. -/
def rminV (x : FVec F S32x128 .f32) : FVec F S32x1 .f32 :=
  shapeCast S32x1 (multiReduction .minimumf [1] S32 x 0x7F800000#32 reduces_S32x128_S32 (.inl rfl) rfl) shapeCasts_S32_S32x1

/-- Rounded, clipped to ±127 and made bytes. -/
def codeV (x : FVec F S32x128 .f32) : IVec S32x128 8 :=
  fptosi 8 (minimumf (broadcast S32x128 (Scalar.ofBits (F := F) .f32 0x42FE0000#32))
    (maximumf (broadcast S32x128 (Scalar.ofBits (F := F) .f32 0xC2FE0000#32)) (roundeven x)))

/-- The codes of the first moment. -/
def mcV (m : FVec F S32x128 .f32) : IVec S32x128 8 :=
  codeV (mulf m (broadcastTo S32x128 (select (cmpf .oeq (amaxV m) (broadcast S32x1 (Scalar.ofBits (F := F) .f32 0x00000000#32)))
    (broadcast S32x1 (Scalar.ofBits (F := F) .f32 0x00000000#32))
    (divf (broadcast S32x1 (Scalar.ofBits (F := F) .f32 0x42FE0000#32)) (amaxV m))) broadcasts_S32x1_S32x128))

/-- The codes of the second moment's root, of the reciprocal root. -/
def scV (x : FVec F S32x128 .f32) : IVec S32x128 8 :=
  codeV (mulf (invV x) (broadcastTo S32x128 (select (cmpf .oeq (rminV x) (broadcast S32x1 (Scalar.ofBits (F := F) .f32 0x7F800000#32)))
    (broadcast S32x1 (Scalar.ofBits (F := F) .f32 0x00000000#32))
    (mulf (broadcast S32x1 (Scalar.ofBits (F := F) .f32 0x42FE0000#32)) (rminV x))) broadcasts_S32x1_S32x128))

/-- A column spread over the lanes. -/
def laneV (a : FVec F S32x1 .f32) : FVec F S32x128 .f32 :=
  shapeCast S32x128 (broadcastTo S32x128 (shapeCast S32x1 a shapeCasts_S32x1_S32x1) broadcasts_S32x1_S32x128) shapeCasts_S32x128_S32x128

/-- The lanes that equal `l`. -/
def maskV (v51 : IVec S32x128 32) (l : BitVec 32) : IVec S32x128 1 :=
  shapeCast S32x128 (cmpi .eq v51 (broadcast S32x128 l)) shapeCasts_S32x128_S32x128

/-! ## Reading and replacing a part of an array -/

/-- The part of `d` at the box of 32 by 128 with corner `off`. -/
def subA {s : Shape} {α : Type} (off size : Fin s.rank → ℕ) (inb : ∀ a, off a + size a ≤ s.size a) (d : s.Idx → α) :
    (Rect.unit off size inb).shape.Idx → α := fun x => d ((Rect.unit off size inb).emb x)

/-- `d` with the box at `off` replaced by `w`. -/
def putA {s : Shape} {α : Type} (off size : Fin s.rank → ℕ) (inb : ∀ a, off a + size a ≤ s.size a)
    (w : (Rect.unit off size inb).shape.Idx → α) (d : s.Idx → α) : s.Idx → α := fun y =>
  if h : ∀ a, off a ≤ (y a).val ∧ (y a).val < off a + size a then w (Rect.unitLocal (s := s) y h) else d y

/-- `d` with the entries of the box at `off` that `p` marks replaced by those of `w`. -/
def putM {s : Shape} {α : Type} (off size : Fin s.rank → ℕ) (inb : ∀ a, off a + size a ≤ s.size a)
    (p : (Rect.unit off size inb).shape.Idx → BitVec 1) (w : (Rect.unit off size inb).shape.Idx → α) (d : s.Idx → α) : s.Idx → α := fun y =>
  if h : ∀ a, off a ≤ (y a).val ∧ (y a).val < off a + size a then
    (if p (Rect.unitLocal (s := s) y h) = 1#1 then w (Rect.unitLocal (s := s) y h) else d y) else d y

/-! ## The step of a block -/

/-- The contents of the four tiles written, and of the two scratch buffers that gather maxima and minima. -/
structure TS (F : FTy → Type) where
  u : Vec F S512x512 .f32
  wn : Vec F S512x512 .bf16
  mc : Vec F S512x512 .i8
  sc : Vec F S512x512 .i8
  ma : Vec F S512x256 .f32
  sr : Vec F S512x256 .f32

/-- The contents of the tiles read: the gradient, the two arrays of codes and the weights. -/
structure TI (F : FTy → Type) where
  g : Vec F S512x512 .f32
  mq : Vec F S512x512 .i8
  sq : Vec F S512x512 .i8
  w : Vec F S512x512 .bf16

/-- Block `(r, b)` of a tile. -/
abbrev blkA {e : EltTy} (r : Fin 16) (b : Fin 4) (d : Vec F S512x512 e) : Vec F S32x128 e :=
  subA (s := S512x512) (bo r b) S32x128.size (bo_inb r b) d

/-- The scale of block `b` in a rotated slice. -/
abbrev colV (b : Fin 4) (v : FVec F S32x128 .f32) : FVec F S32x1 .f32 := extractStridedSlice S32x1 (so b) v (so_slices b)

/-- The first moment of block `(r, b)`. -/
abbrev mB (v65 : FVec F S32x128 .f32) (T : TI F) (r : Fin 16) (b : Fin 4) : FVec F S32x128 .f32 :=
  mV (blkA r b T.g) (blkA r b T.mq) (colV b v65)
/-- The reciprocal root of block `(r, b)`. -/
abbrev rB (v68 : FVec F S32x128 .f32) (T : TI F) (r : Fin 16) (b : Fin 4) : FVec F S32x128 .f32 :=
  rsV (blkA r b T.g) (blkA r b T.sq) (colV b v68)
/-- The update of block `(r, b)`. -/
abbrev uB (cu ep : F .f32) (v65 v68 : FVec F S32x128 .f32) (T : TI F) (r : Fin 16) (b : Fin 4) : FVec F S32x128 .f32 :=
  updV cu ep (mB v65 T r b) (invV (rB v68 T r b))

/-- What block `(r, b)` makes of the contents. -/
def blkStep (i : grid1.Coords) (v20 : BitVec 32) (v51 : IVec S32x128 32) (cu ep : F .f32) (v65 v68 : FVec F S32x128 .f32) (T : TI F)
    (r : Fin 16) (b : Fin 4) (s : TS F) : TS F where
  u := putA (s := S512x512) (bo r b) S32x128.size (bo_inb r b) (uB cu ep v65 v68 T r b) s.u
  wn := putA (s := S512x512) (bo r b) S32x128.size (bo_inb r b) (wnV (blkA r b T.w) (uB cu ep v65 v68 T r b)) s.wn
  mc := putA (s := S512x512) (bo r b) S32x128.size (bo_inb r b) (mcV (mB v65 T r b)) s.mc
  sc := putA (s := S512x512) (bo r b) S32x128.size (bo_inb r b) (scV (rB v68 T r b)) s.sc
  ma := putM (s := S512x256) (koff r i) S32x128.size (koff_inb r i) (maskV v51 (Scalar.addi v20 (BitVec.ofNat 32 b.val)))
    (laneV (amaxV (mB v65 T r b))) s.ma
  sr := putM (s := S512x256) (koff r i) S32x128.size (koff_inb r i) (maskV v51 (Scalar.addi v20 (BitVec.ofNat 32 b.val)))
    (laneV (rminV (rB v68 T r b))) s.sr

/-- The buffers that a block reads, at their contents. -/
def inSt (c : Dev nD) (R : Refs) (T : TI F) : sProp 𝕄 :=
  iprop(owns (c : Thread nD τ) R.a16 fullShare T.g ∗ owns (c : Thread nD τ) R.a6 fullShare T.mq
    ∗ owns (c : Thread nD τ) R.a8 fullShare T.sq ∗ owns (c : Thread nD τ) R.a5 fullShare T.w)

/-- The buffers that a block writes, at their contents. -/
def outSt (c : Dev nD) (R : Refs) (s : TS F) : sProp 𝕄 :=
  iprop(owns (c : Thread nD τ) R.a11 fullShare s.u ∗ owns (c : Thread nD τ) R.a10 fullShare s.wn
    ∗ owns (c : Thread nD τ) R.a12 fullShare s.mc ∗ owns (c : Thread nD τ) R.a14 fullShare s.sc
    ∗ owns (c : Thread nD τ) R.a19 fullShare s.ma ∗ owns (c : Thread nD τ) R.a20 fullShare s.sr)

/-- A whole buffer after a store into a box reads its contents with the box replaced. -/
theorem read_put {sp : Space} {s : Shape} {e : EltTy} (M : Memref sig .tc sp s e) (h : M.IsWhole) (off size : Fin s.rank → ℕ)
    (inb : ∀ a, off a + size a ≤ s.size a) (w : (Rect.unit off size inb).shape.Idx → Elt F e) (d : s.Idx → Elt F e) :
    M.view.read (Elt F) (M.view.writes (Elt F) (h.unread d) [⟨Rect.unit off size inb, w⟩]) = putA off size inb w d := by
  funext y
  rw [View.read_writes_cons_unit M.view (h.unread d) inb w [] y rfl]
  unfold putA
  split
  · rfl
  · show M.view.read (Elt F) (h.unread d) y = d y
    rw [h.read_unread]

/-- A whole buffer after a masked store into a box reads its contents with the marked entries of the box replaced. -/
theorem read_putM {sp : Space} {s : Shape} {e : EltTy} (M : Memref sig .tc sp s e) (h : M.IsWhole) (off size : Fin s.rank → ℕ)
    (inb : ∀ a, off a + size a ≤ s.size a) (p : IVec (Rect.unit off size inb).shape 1) (w : (Rect.unit off size inb).shape.Idx → Elt F e)
    (d : s.Idx → Elt F e) :
    M.view.read (Elt F) (View.write (Elt F) (M.access (Rect.unit off size inb)) (h.unread d) w (IVec.on p)) = putM off size inb p w d := by
  funext y
  unfold putM
  have hd : M.view.read (Elt F) (h.unread d) y = d y := by rw [h.read_unread]
  by_cases hy : ∀ a, off a ≤ (y a).val ∧ (y a).val < off a + size a
  · rw [dif_pos hy]
    have he : (Rect.unit off size inb).emb (Rect.unitLocal (s := s) y hy) = y := funext fun a => Fin.ext (by
      show off a + 1 * ((y a).val - off a) = (y a).val
      have := hy a; omega)
    by_cases hp : p (Rect.unitLocal (s := s) y hy) = 1#1
    · rw [if_pos hp]
      refine (congrArg _ he.symm).trans ?_
      exact View.read_slice_write_emb (v := M.view) (Rect.unit off size inb) (h.unread d) w (by simp only [IVec.on, Finset.mem_filter, Finset.mem_univ, true_and]; exact hp)
    · rw [if_neg hp, ← hd]
      refine View.read_slice_write_of_not_mem (v := M.view) (Rect.unit off size inb) (h.unread d) w (IVec.on p) ?_
      intro hm
      obtain ⟨x', hx', he'⟩ := Finset.mem_map.mp hm
      have hx : x' = Rect.unitLocal (s := s) y hy := (Rect.unit off size inb).emb.injective (he'.trans he.symm)
      subst hx
      simp only [IVec.on, Finset.mem_filter, Finset.mem_univ, true_and] at hx'
      exact hp hx'
  · rw [dif_neg hy, ← hd]
    refine View.read_slice_write_of_not_mem (v := M.view) (Rect.unit off size inb) (h.unread d) w (IVec.on p) ?_
    intro hm
    obtain ⟨x', -, he'⟩ := Finset.mem_map.mp hm
    apply hy
    intro a
    have := congrArg (fun z => (z a).val) he'
    have h2 : off a + 1 * (x' a).val = (y a).val := this
    have h3 : (x' a).val < size a := (x' a).isLt
    omega

set_option maxHeartbeats 2000000 in
/-- The step of a block, as a run of its program. -/
theorem blk_run (c : Dev nD) (𝒱₀ : Variants) (i : grid1.Coords) (R : Refs) (v20 : BitVec 32) (v51 : IVec S32x128 32) (v8 v9 : F .f32)
    (v65 v68 : FVec F S32x128 .f32) (r : Fin 16) (b : Fin 4) (T : TI F) (s : TS F) (K : PUnit → sProp 𝕄) :
    iprop(inSt c R T ∗ outSt c R s
        ∗ (iprop(inSt c R T ∗ outSt c R (blkStep i v20 v51 v8 v9 v65 v68 T r b s)) -∗ K ⟨⟩))
      ⊢ wp frame (wpE (defs₀ (F := F)) 𝒱₀ c none) Set.univ (blkU R i v20 v51 v8 v9 v65 v68 r b) K := by
  unfold inSt outSt owns
  iintro ⟨⟨⟨%f16, %h16, H16⟩, ⟨%f6, %h6, H6⟩, ⟨%f8, %h8, H8⟩, ⟨%f5, %h5, H5⟩⟩, ⟨⟨%f11, %h11, H11⟩, ⟨%f10, %h10, H10⟩, ⟨%f12, %h12, H12⟩, ⟨%f14, %h14, H14⟩, ⟨%f19, %h19, H19⟩, ⟨%f20, %h20, H20⟩⟩, Hk⟩
  obtain rfl := R.h16.eq_unread h16
  obtain rfl := R.h6.eq_unread h6
  obtain rfl := R.h8.eq_unread h8
  obtain rfl := R.h5.eq_unread h5
  obtain rfl := R.h11.eq_unread h11
  obtain rfl := R.h10.eq_unread h10
  obtain rfl := R.h12.eq_unread h12
  obtain rfl := R.h14.eq_unread h14
  obtain rfl := R.h19.eq_unread h19
  obtain rfl := R.h20.eq_unread h20
  sl_unfold [blkU]
  sl_exec
  sl_step
  iapply Hk
  isplitl [H16 H6 H8 H5]
  · isplitl [H16]; · iexists _; isplitr; swap; · iexact H16
                     ipureintro; exact R.h16.read_unread _
    isplitl [H6]; · iexists _; isplitr; swap; · iexact H6
                    ipureintro; exact R.h6.read_unread _
    isplitl [H8]; · iexists _; isplitr; swap; · iexact H8
                    ipureintro; exact R.h8.read_unread _
    iexists _; isplitr; swap; · iexact H5
    ipureintro; exact R.h5.read_unread _

  have e16 : View.readAt (Elt F) R.a16.view (Rect.unit (s := S512x512) (bo r b) S32x128.size (bo_inb r b)).toLoadRect (R.h16.unread T.g) = blkA r b T.g :=
    funext fun x => R.h16.readAt_unread _ _ x
  have e6 : View.readAt (Elt F) R.a6.view (Rect.unit (s := S512x512) (bo r b) S32x128.size (bo_inb r b)).toLoadRect (R.h6.unread T.mq) = blkA r b T.mq :=
    funext fun x => R.h6.readAt_unread _ _ x
  have e8 : View.readAt (Elt F) R.a8.view (Rect.unit (s := S512x512) (bo r b) S32x128.size (bo_inb r b)).toLoadRect (R.h8.unread T.sq) = blkA r b T.sq :=
    funext fun x => R.h8.readAt_unread _ _ x
  have e5 : View.readAt (Elt F) R.a5.view (Rect.unit (s := S512x512) (bo r b) S32x128.size (bo_inb r b)).toLoadRect (R.h5.unread T.w) = blkA r b T.w :=
    funext fun x => R.h5.readAt_unread _ _ x
  have p11 : blk_run.sl.v95 c R v8 v9 v65 v68 r b T = uB v8 v9 v65 v68 T r b := by
    unfold uB mB rB; rw [← e16, ← e6, ← e8]; rfl
  have p10 : blk_run.sl.v100 c R v8 v9 v65 v68 r b T = wnV (blkA r b T.w) (uB v8 v9 v65 v68 T r b) := by
    rw [← e5, ← p11]; rfl
  have p12 : blk_run.sl.v126 c R v65 r b T = mcV (mB v65 T r b) := by
    unfold mB; rw [← e16, ← e6]; rfl
  have p14 : blk_run.sl.v135 c R v68 r b T = scV (rB v68 T r b) := by
    unfold rB; rw [← e16, ← e8]; rfl
  have p19 : blk_run.sl.v145 c R v65 r b T = laneV (amaxV (mB v65 T r b)) := by
    unfold mB; rw [← e16, ← e6]; rfl
  have p20 : blk_run.sl.v152 c R v68 r b T = laneV (rminV (rB v68 T r b)) := by
    unfold rB; rw [← e16, ← e8]; rfl
  isplitl [H11]
  · iexists _; isplitr; swap; · iexact H11
    ipureintro
    refine (read_put R.a11 R.h11 _ _ _ _ _).trans ?_
    rw [p11]; rfl
  isplitl [H10]
  · iexists _; isplitr; swap; · iexact H10
    ipureintro
    refine (read_put R.a10 R.h10 _ _ _ _ _).trans ?_
    rw [p10]; rfl
  isplitl [H12]
  · iexists _; isplitr; swap; · iexact H12
    ipureintro
    refine (read_put R.a12 R.h12 _ _ _ _ _).trans ?_
    rw [p12]; rfl
  isplitl [H14]
  · iexists _; isplitr; swap; · iexact H14
    ipureintro
    refine (read_put R.a14 R.h14 _ _ _ _ _).trans ?_
    rw [p14]; rfl
  isplitl [H19]
  · iexists _; isplitr; swap; · iexact H19
    ipureintro
    refine (read_putM R.a19 R.h19 _ _ _ _ _ _).trans ?_
    rw [p19]; rfl
  iexists _; isplitr; swap; · iexact H20
  ipureintro
  refine (read_putM R.a20 R.h20 _ _ _ _ _ _).trans ?_
  rw [p20]; rfl

end Cert.Kernel.Body

end
-- ==== Proof.BitsRows.lean ====
/-
  What the row chunks of a tile do: the step of a chunk is its four blocks' steps with the chunk's scales, and the step of a list of
  chunks is theirs one after another.
-/
module

public import proofs.«01_k».proof.Proof.BitsBlock

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The slice of a scale scratch that chunk `r` reads at point `i`, rotated so that the point's scales come first. -/
abbrev rotA (i : grid1.Coords) (v31 : BitVec 32) (r : Fin 16) (d : Vec F S512x256 .f32) : FVec F S32x128 .f32 :=
  dynamicRotate 1 v31 none (subA (s := S512x256) (koff r i) S32x128.size (koff_inb r i) d : FVec F S32x128 .f32) rotates_S32x128_d1

/-- What chunk `r` makes of the contents. -/
def rowStep (i : grid1.Coords) (v20 v31 : BitVec 32) (v51 : IVec S32x128 32) (cu ep : F .f32) (ms ss : Vec F S512x256 .f32) (T : TI F)
    (r : Fin 16) (s : TS F) : TS F :=
  [0, 1, 2, 3].foldl (fun s b => blkStep i v20 v51 cu ep (rotA i v31 r ms) (rotA i v31 r ss) T r b s) s

/-- What the chunks of a list make of the contents, in order. -/
def rowsStep (i : grid1.Coords) (v20 v31 : BitVec 32) (v51 : IVec S32x128 32) (cu ep : F .f32) (ms ss : Vec F S512x256 .f32) (T : TI F)
    (l : List (Fin 16)) (s : TS F) : TS F :=
  l.foldl (fun s r => rowStep i v20 v31 v51 cu ep ms ss T r s) s

/-- The step of a chunk, as a run of its program. -/
theorem row_run (c : Dev nD) (𝒱₀ : Variants) (i : grid1.Coords) (R : Refs) (v20 v31 : BitVec 32) (v51 : IVec S32x128 32) (v8 v9 : F .f32)
    (ms ss : Vec F S512x256 .f32) (r : Fin 16) (T : TI F) (s : TS F) (K : PUnit → sProp 𝕄) :
    iprop(inSt c R T ∗ outSt c R s ∗ owns (c : Thread nD τ) R.a17 fullShare ms ∗ owns (c : Thread nD τ) R.a18 fullShare ss
        ∗ (iprop(inSt c R T ∗ outSt c R (rowStep i v20 v31 v51 v8 v9 ms ss T r s)
            ∗ owns (c : Thread nD τ) R.a17 fullShare ms ∗ owns (c : Thread nD τ) R.a18 fullShare ss) -∗ K ⟨⟩))
      ⊢ wp frame (wpE (defs₀ (F := F)) 𝒱₀ c none) Set.univ (rowU R i v20 v31 v51 v8 v9 r) K := by
  have key : ∀ v65 v68 : FVec F S32x128 .f32, v65 = rotA i v31 r ms → v68 = rotA i v31 r ss →
      iprop(inSt c R T ∗ outSt c R s
        ∗ (iprop(inSt c R T ∗ outSt c R (rowStep i v20 v31 v51 v8 v9 ms ss T r s)) -∗ K ⟨⟩))
      ⊢ wp frame (wpE (defs₀ (F := F)) 𝒱₀ c none) Set.univ (do
          blkU R i v20 v51 v8 v9 v65 v68 r 0
          blkU R i v20 v51 v8 v9 v65 v68 r 1
          blkU R i v20 v51 v8 v9 v65 v68 r 2
          blkU R i v20 v51 v8 v9 v65 v68 r 3) K := by
    rintro _ _ rfl rfl
    iintro ⟨Hi, Ho, Hk⟩
    rw [wp_bind]
    iapply blk_run c 𝒱₀ i R v20 v51 v8 v9 _ _ r 0 T s
    isplitl [Hi]; · iexact Hi
    isplitl [Ho]; · iexact Ho
    iintro ⟨Hi, Ho⟩
    rw [wp_bind]
    iapply blk_run c 𝒱₀ i R v20 v51 v8 v9 _ _ r 1 T _
    isplitl [Hi]; · iexact Hi
    isplitl [Ho]; · iexact Ho
    iintro ⟨Hi, Ho⟩
    rw [wp_bind]
    iapply blk_run c 𝒱₀ i R v20 v51 v8 v9 _ _ r 2 T _
    isplitl [Hi]; · iexact Hi
    isplitl [Ho]; · iexact Ho
    iintro ⟨Hi, Ho⟩
    iapply blk_run c 𝒱₀ i R v20 v51 v8 v9 _ _ r 3 T _
    isplitl [Hi]; · iexact Hi
    isplitl [Ho]; · iexact Ho
    iintro ⟨Hi, Ho⟩
    iapply Hk
    isplitl [Hi]; · iexact Hi
    iexact Ho
  unfold owns
  iintro ⟨Hi, Ho, ⟨%f17, %h17, H17⟩, ⟨%f18, %h18, H18⟩, Hk⟩
  obtain rfl := R.h17.eq_unread h17
  obtain rfl := R.h18.eq_unread h18
  rw [show rowU (F := F) R i v20 v31 v51 v8 v9 r =
    Prog.op (TpuEff.load (nD := nD) (τ := τ) (Λ := Λ₀) (Val := Elt F) (e := .f32) R.a17 (Rect.unit (s := S512x256) (koff r i) S32x128.size (koff_inb r i)).toLoadRect (View.loadsAt_vmem h_S32x128)) fun (v64 : Vec F S32x128 .f32) =>
    Prog.op (TpuEff.load (nD := nD) (τ := τ) (Λ := Λ₀) (Val := Elt F) (e := .f32) R.a18 (Rect.unit (s := S512x256) (koff r i) S32x128.size (koff_inb r i)).toLoadRect (View.loadsAt_vmem h_S32x128)) fun (v67 : Vec F S32x128 .f32) => (do
          blkU R i v20 v51 v8 v9 (dynamicRotate 1 v31 none (v64 : FVec F S32x128 .f32) rotates_S32x128_d1) (dynamicRotate 1 v31 none (v67 : FVec F S32x128 .f32) rotates_S32x128_d1) r 0
          blkU R i v20 v51 v8 v9 (dynamicRotate 1 v31 none (v64 : FVec F S32x128 .f32) rotates_S32x128_d1) (dynamicRotate 1 v31 none (v67 : FVec F S32x128 .f32) rotates_S32x128_d1) r 1
          blkU R i v20 v51 v8 v9 (dynamicRotate 1 v31 none (v64 : FVec F S32x128 .f32) rotates_S32x128_d1) (dynamicRotate 1 v31 none (v67 : FVec F S32x128 .f32) rotates_S32x128_d1) r 2
          blkU R i v20 v51 v8 v9 (dynamicRotate 1 v31 none (v64 : FVec F S32x128 .f32) rotates_S32x128_d1) (dynamicRotate 1 v31 none (v67 : FVec F S32x128 .f32) rotates_S32x128_d1) r 3) from rfl]
  sl_step
  sl_step
  iapply key _ _ (congrArg (fun x : FVec F S32x128 .f32 => dynamicRotate 1 v31 none x rotates_S32x128_d1) (funext fun x => R.h17.readAt_unread ms (Rect.unit (s := S512x256) (koff r i) S32x128.size (koff_inb r i)).toLoadRect x)) (congrArg (fun x : FVec F S32x128 .f32 => dynamicRotate 1 v31 none x rotates_S32x128_d1) (funext fun x => R.h18.readAt_unread ss (Rect.unit (s := S512x256) (koff r i) S32x128.size (koff_inb r i)).toLoadRect x))
  isplitl [Hi]; · iexact Hi
  isplitl [Ho]; · iexact Ho
  iintro ⟨Hi, Ho⟩
  iapply Hk
  isplitl [Hi]; · iexact Hi
  isplitl [Ho]; · iexact Ho
  isplitl [H17]; · iexists _; isplitr; swap; · iexact H17
                   ipureintro; exact R.h17.read_unread _
  iexists _; isplitr; swap; · iexact H18
  ipureintro; exact R.h18.read_unread _

/-- The step of a list of chunks, as a run of its program. -/
theorem rows_run (c : Dev nD) (𝒱₀ : Variants) (i : grid1.Coords) (R : Refs) (v20 v31 : BitVec 32) (v51 : IVec S32x128 32) (v8 v9 : F .f32)
    (ms ss : Vec F S512x256 .f32) (T : TI F) (l : List (Fin 16)) (s : TS F) (K : PUnit → sProp 𝕄) :
    iprop(inSt c R T ∗ outSt c R s ∗ owns (c : Thread nD τ) R.a17 fullShare ms ∗ owns (c : Thread nD τ) R.a18 fullShare ss
        ∗ (iprop(inSt c R T ∗ outSt c R (rowsStep i v20 v31 v51 v8 v9 ms ss T l s)
            ∗ owns (c : Thread nD τ) R.a17 fullShare ms ∗ owns (c : Thread nD τ) R.a18 fullShare ss) -∗ K ⟨⟩))
      ⊢ wp frame (wpE (defs₀ (F := F)) 𝒱₀ c none) Set.univ (rowsU R i v20 v31 v51 v8 v9 l) K := by
  induction l generalizing s with
  | nil =>
    iintro ⟨Hi, Ho, H17, H18, Hk⟩
    rw [show rowsU (F := F) R i v20 v31 v51 v8 v9 [] = pure ⟨⟩ from rfl]
    sl_step
    iapply Hk
    isplitl [Hi]; · iexact Hi
    isplitl [Ho]; · iexact Ho
    isplitl [H17]; · iexact H17
    iexact H18
  | cons r l ih =>
    iintro ⟨Hi, Ho, H17, H18, Hk⟩
    rw [show rowsU (F := F) R i v20 v31 v51 v8 v9 (r :: l) = (rowU R i v20 v31 v51 v8 v9 r >>= fun _ => rowsU R i v20 v31 v51 v8 v9 l) from rfl]
    rw [wp_bind]
    iapply row_run c 𝒱₀ i R v20 v31 v51 v8 v9 ms ss r T s
    isplitl [Hi]; · iexact Hi
    isplitl [Ho]; · iexact Ho
    isplitl [H17]; · iexact H17
    isplitl [H18]; · iexact H18
    iintro ⟨Hi, Ho, H17, H18⟩
    iapply ih _
    isplitl [Hi]; · iexact Hi
    isplitl [Ho]; · iexact Ho
    isplitl [H17]; · iexact H17
    isplitl [H18]; · iexact H18
    iexact Hk

end Cert.Kernel.Body

end
-- ==== Proof.BitsBodyEq.lean ====
/-
  The printed body of the update kernel is the program of `IdealBody.lean`.
-/
module

public import proofs.«01_k».proof.Proof.BitsBody

@[expose] public section

set_option maxRecDepth 65536
set_option maxHeartbeats 0

noncomputable section

namespace Cert.Kernel.Body

open Cert.Kernel Cert.Kernel.Gen
open Idealize.ShloMosaic Idealize.ShloMosaic.TcCoe
open Idealize.SL.Sem

variable {F : FTy → Type} [FloatOps F]

/-- The body's opening: the first point's work and the two scalars. -/
theorem part2_eq (i : grid1.Coords) (R : Refs) :
    k1_part2 (F := F) i R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 = Prog.bind (if k1_h1 : isFirst i = 1#1 then initU R else pure ⟨⟩) (fun _ => do
     let v3 : Elt F .f32 ← smemLoad R.a2 (Rect.unit (s := S2) ![0] S1.size inb_S2_S1_0) numel1_S1 rfl
     let v4 : Elt F .f32 ← smemLoad R.a2 (Rect.unit (s := S2) ![1] S1.size inb_S2_S1_1) numel1_S1 rfl
     pure ⟨BitVec.ofNat 32 (i 1).val, cuOf v3 v4, epOf v4, laneOf i, shiftOf i, 32#32,
       Scalar.divsi (BitVec.ofNat 32 (i 1).val) 32#32, Scalar.cmpi .sgt (BitVec.ofNat 32 (i 1).val) 0#32⟩) := by
  unfold k1_part2
  by_cases h : isFirst i = 1#1
  · rw [dif_pos h]
    exact (dif_pos h).trans rfl
  · rw [dif_neg h]
    exact (dif_neg h).trans rfl

/-- Two effects followed by equal programs are equal. -/
theorem op_congr'.{v} {E : Type → Type v} {α β : Type} {e e' : E β} {k k' : β → Prog E α} (he : e = e')
    (hk : ∀ x, k x = k' x) : Prog.op e k = Prog.op e' k' := by
  subst he; exact congrArg _ (funext hk)

/-- One program followed by equal programs. -/
theorem bind_congr'.{v} {E : Type → Type v} {α β : Type} {x x' : Prog E α} {k k' : α → Prog E β} (hx : x = x')
    (hk : ∀ a, k a = k' a) : Prog.bind x k = Prog.bind x' k' := by
  subst hx; exact congrArg _ (funext hk)

/-- The printed body is that program. -/
theorem body_eq (i : grid1.Coords) (R : Refs) :
    cc1_wgrad_adam (F := F) i R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 = bodyU R i := by
  unfold cc1_wgrad_adam k1_part138 bodyU
  rw [part2_eq]
  refine ((Prog.bind_assoc _ _ _).trans ((Prog.bind_assoc _ _ _).trans (bind_congr' rfl fun _ => ?_)))
  repeat refine op_congr' (by rfl) (fun _ => ?_)
  show dite (k1_cond2 i = 1#1) _ _ = dite (k1_cond2 i = 1#1) _ _
  by_cases h : k1_cond2 i = 1#1
  · rw [dif_pos h, dif_pos h]
    try rfl
  · rw [dif_neg h, dif_neg h]
    try rfl

end Cert.Kernel.Body

end
-- ==== Proof.BitsPhases.lean ====
/-
  What the body does before and after its blocks: the scales, scaled, into the scratch at a tile row's first point; the gradient tile;
  and the new scales at a tile row's last point. Then the whole body, as a step of the contents of its buffers.
-/
module

public import proofs.«01_k».proof.Proof.BitsRows
public import proofs.«01_k».proof.Proof.BitsBodyEq

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A whole buffer after two stores into boxes reads its contents with the boxes replaced, the later store winning. -/
theorem read_put2 {sp : Space} {s : Shape} {e : EltTy} (M : Memref sig .tc sp s e) (h : M.IsWhole) (off size off' size' : Fin s.rank → ℕ)
    (inb : ∀ a, off a + size a ≤ s.size a) (inb' : ∀ a, off' a + size' a ≤ s.size a)
    (w : (Rect.unit off size inb).shape.Idx → Elt F e) (w' : (Rect.unit off' size' inb').shape.Idx → Elt F e) (d : s.Idx → Elt F e) :
    M.view.read (Elt F) (M.view.writes (Elt F) (h.unread d) [⟨Rect.unit off size inb, w⟩, ⟨Rect.unit off' size' inb', w'⟩])
      = putA off size inb w (putA off' size' inb' w' d) := by
  funext y
  rw [View.read_writes_cons_unit M.view (h.unread d) inb w _ y rfl]
  rw [show M.view.read (Elt F) (M.view.writes (Elt F) (h.unread d) [⟨Rect.unit off' size' inb', w'⟩]) y = putA off' size' inb' w' d y from
    congrFun (read_put M h off' size' inb' w' d) y]
  rfl

/-- The index a whole box takes to itself. -/
theorem whole_idx {m n : ℕ} (inb : ∀ a, (![0, 0] : Fin 2 → ℕ) a + (⟨2, ![m, n]⟩ : Shape).size a ≤ (⟨2, ![m, n]⟩ : Shape).size a)
    (x : (⟨2, ![m, n]⟩ : Shape).Idx) :
    (Rect.unit (s := ⟨2, ![m, n]⟩) ![0, 0] (⟨2, ![m, n]⟩ : Shape).size inb).emb x = x := by
  funext a
  refine Fin.ext ?_
  show (![0, 0] : Fin 2 → ℕ) a + 1 * (x a).val = (x a).val
  fin_cases a <;> simp

/-- A box that is the whole array replaces all of it. -/
theorem putA_whole {m n : ℕ} {α : Type} (inb : ∀ a, (![0, 0] : Fin 2 → ℕ) a + (⟨2, ![m, n]⟩ : Shape).size a ≤ (⟨2, ![m, n]⟩ : Shape).size a)
    (w : (⟨2, ![m, n]⟩ : Shape).Idx → α) (d : (⟨2, ![m, n]⟩ : Shape).Idx → α) :
    putA (s := ⟨2, ![m, n]⟩) ![0, 0] (⟨2, ![m, n]⟩ : Shape).size inb w d = w := by
  funext y
  have hy : ∀ a, (![0, 0] : Fin 2 → ℕ) a ≤ (y a).val ∧ (y a).val < (![0, 0] : Fin 2 → ℕ) a + (⟨2, ![m, n]⟩ : Shape).size a := by
    intro a; have := (y a).isLt; fin_cases a <;> simp at this ⊢ <;> omega
  refine (dif_pos hy).trans (congrArg w (funext fun a => Fin.ext ?_))
  show (y a).val - (![0, 0] : Fin 2 → ℕ) a = (y a).val
  fin_cases a <;> simp

/-- The first 148 columns of a scratch replaced by an array's entries times `k`. -/
def scaleV (k : F .f32) (d : Vec F S512x148 .f32) (f : Vec F S512x256 .f32) : Vec F S512x256 .f32 :=
  putA (s := S512x256) ![0, 128] S512x20.size inb_S512x256_S512x20_0_128
    (mulf (subA (s := S512x148) ![0, 128] S512x20.size inb_S512x148_S512x20_0_128 d : FVec F S512x20 .f32) (broadcast S512x20 k))
    (putA (s := S512x256) ![0, 0] S512x128.size inb_S512x256_S512x128_0_0
      (mulf (subA (s := S512x148) ![0, 0] S512x128.size inb_S512x148_S512x128_0_0 d : FVec F S512x128 .f32) (broadcast S512x128 k)) f)

/-- The factor of the first moment's scales. -/
def kM : F .f32 := Scalar.ofBits .f32 0x41100000#32
/-- The factor of the second moment's scales. -/
def kS : F .f32 := Scalar.ofBits .f32 0x41FCDB0F#32

/-- New scales of the first moment, of the largest magnitudes. -/
def newM {s : Shape} (x : FVec F s .f32) : FVec F s .f32 :=
  let v := mulf x (broadcast s (Scalar.ofBits .f32 0x3DCCCCCD#32))
  select (cmpf .oeq v (broadcast s (Scalar.ofBits (F := F) .f32 0x00000000#32))) (broadcast s (Scalar.ofBits (F := F) .f32 0x3F800000#32))
    (divf v (broadcast s (Scalar.ofBits (F := F) .f32 0x42FE0000#32)))

/-- New scales of the second moment, of the least reciprocal roots. -/
def newS {s : Shape} (x : FVec F s .f32) : FVec F s .f32 :=
  let v := divf (broadcast s (Scalar.ofBits .f32 0x3D0186E2#32)) x
  select (cmpf .oeq v (broadcast s (Scalar.ofBits (F := F) .f32 0x00000000#32))) (broadcast s (Scalar.ofBits (F := F) .f32 0x3F800000#32))
    (divf v (broadcast s (Scalar.ofBits (F := F) .f32 0x42FE0000#32)))

/-- A tile of new scales, of the scratch that gathers. -/
def lastV (q : ∀ {s : Shape}, FVec F s .f32 → FVec F s .f32) (a : Vec F S512x256 .f32) (f : Vec F S512x148 .f32) : Vec F S512x148 .f32 :=
  putA (s := S512x148) ![0, 128] S512x20.size inb_S512x148_S512x20_0_128
    (q (s := S512x20) (subA (s := S512x256) ![0, 128] S512x20.size inb_S512x256_S512x20_0_128 a))
    (putA (s := S512x148) ![0, 0] S512x128.size inb_S512x148_S512x128_0_0
      (q (s := S512x128) (subA (s := S512x256) ![0, 0] S512x128.size inb_S512x256_S512x128_0_0 a)) f)

/-- The gradient tile. -/
def gradV (i : grid1.Coords) (x : Vec F S512x1536 .bf16) (d : Vec F S1536x18944 .fp8e5m2) : Vec F S512x512 .f32 :=
  matmul (F := F) dot_S512x1536_S1536x512_S512x512_1_0_0_1_n_n none x
    (subA (s := S1536x18944) (k1_off1 i) S1536x512.size (k1_off1_inb i) d : FVec F S1536x512 .fp8e5m2) (constant S512x512 .f32 0x00000000#32)

set_option maxHeartbeats 2000000 in
/-- The scales, scaled, into the scratch. -/
theorem init_run (c : Dev nD) (𝒱₀ : Variants) (R : Refs) (d7 d9 : Vec F S512x148 .f32) (d17 d18 : Vec F S512x256 .f32) (K : PUnit → sProp 𝕄) :
    iprop(owns (c : Thread nD τ) R.a7 fullShare d7 ∗ owns (c : Thread nD τ) R.a9 fullShare d9
        ∗ owns (c : Thread nD τ) R.a17 fullShare d17 ∗ owns (c : Thread nD τ) R.a18 fullShare d18
        ∗ (iprop(owns (c : Thread nD τ) R.a7 fullShare d7 ∗ owns (c : Thread nD τ) R.a9 fullShare d9
            ∗ owns (c : Thread nD τ) R.a17 fullShare (scaleV kM d7 d17) ∗ owns (c : Thread nD τ) R.a18 fullShare (scaleV kS d9 d18)) -∗ K ⟨⟩))
      ⊢ wp frame (wpE (defs₀ (F := F)) 𝒱₀ c none) Set.univ (initU R) K := by
  unfold owns
  iintro ⟨⟨%f7, %h7, H7⟩, ⟨%f9, %h9, H9⟩, ⟨%f17, %h17, H17⟩, ⟨%f18, %h18, H18⟩, Hk⟩
  obtain rfl := R.h7.eq_unread h7
  obtain rfl := R.h9.eq_unread h9
  obtain rfl := R.h17.eq_unread h17
  obtain rfl := R.h18.eq_unread h18
  sl_unfold [initU]
  sl_exec
  sl_step
  iapply Hk
  isplitl [H7]
  · iexists _; isplitr; swap; · iexact H7
    ipureintro; exact R.h7.read_unread _
  isplitl [H9]
  · iexists _; isplitr; swap; · iexact H9
    ipureintro; exact R.h9.read_unread _
  have e7 : View.readAt (Elt F) R.a7.view (Rect.unit (s := S512x148) ![0, 0] S512x128.size inb_S512x148_S512x128_0_0).toLoadRect (R.h7.unread d7)
      = subA (s := S512x148) ![0, 0] S512x128.size inb_S512x148_S512x128_0_0 d7 := funext fun x => R.h7.readAt_unread _ _ x
  have e7' : View.readAt (Elt F) R.a7.view (Rect.unit (s := S512x148) ![0, 128] S512x20.size inb_S512x148_S512x20_0_128).toLoadRect (R.h7.unread d7)
      = subA (s := S512x148) ![0, 128] S512x20.size inb_S512x148_S512x20_0_128 d7 := funext fun x => R.h7.readAt_unread _ _ x
  have e9 : View.readAt (Elt F) R.a9.view (Rect.unit (s := S512x148) ![0, 0] S512x128.size inb_S512x148_S512x128_0_0).toLoadRect (R.h9.unread d9)
      = subA (s := S512x148) ![0, 0] S512x128.size inb_S512x148_S512x128_0_0 d9 := funext fun x => R.h9.readAt_unread _ _ x
  have e9' : View.readAt (Elt F) R.a9.view (Rect.unit (s := S512x148) ![0, 128] S512x20.size inb_S512x148_S512x20_0_128).toLoadRect (R.h9.unread d9)
      = subA (s := S512x148) ![0, 128] S512x20.size inb_S512x148_S512x20_0_128 d9 := funext fun x => R.h9.readAt_unread _ _ x
  isplitl [H17]
  · iexists _; isplitr; swap; · iexact H17
    ipureintro
    refine (read_put2 R.a17 R.h17 _ _ _ _ _ _ _ _ _).trans ?_
    unfold scaleV
    rw [← e7, ← e7']
    refine congr (congrArg _ (shapeCast_self _ _)) (congrArg (putA _ _ _ · d17) (shapeCast_self _ _))
  · iexists _; isplitr; swap; · iexact H18
    ipureintro
    refine (read_put2 R.a18 R.h18 _ _ _ _ _ _ _ _ _).trans ?_
    unfold scaleV
    rw [← e9, ← e9']
    refine congr (congrArg _ (shapeCast_self _ _)) (congrArg (putA _ _ _ · d18) (shapeCast_self _ _))

set_option maxHeartbeats 2000000 in
/-- The gradient tile, into its scratch. -/
theorem mm_run (c : Dev nD) (𝒱₀ : Variants) (R : Refs) (i : grid1.Coords) (d3 : Vec F S512x1536 .bf16) (d4 : Vec F S1536x18944 .fp8e5m2)
    (d16 : Vec F S512x512 .f32) (K : PUnit → sProp 𝕄) :
    iprop(owns (c : Thread nD τ) R.a3 fullShare d3 ∗ owns (c : Thread nD τ) R.a4 fullShare d4
        ∗ owns (c : Thread nD τ) R.a16 fullShare d16
        ∗ (iprop(owns (c : Thread nD τ) R.a3 fullShare d3 ∗ owns (c : Thread nD τ) R.a4 fullShare d4
            ∗ owns (c : Thread nD τ) R.a16 fullShare (gradV i d3 d4)) -∗ K ⟨⟩))
      ⊢ wp frame (wpE (defs₀ (F := F)) 𝒱₀ c none) Set.univ (mmU R i) K := by
  unfold owns
  iintro ⟨⟨%f3, %h3, H3⟩, ⟨%f4, %h4, H4⟩, ⟨%f16, %h16, H16⟩, Hk⟩
  obtain rfl := R.h3.eq_unread h3
  obtain rfl := R.h4.eq_unread h4
  obtain rfl := R.h16.eq_unread h16
  sl_unfold [mmU]
  sl_exec
  sl_step
  iapply Hk
  isplitl [H3]
  · iexists _; isplitr; swap; · iexact H3
    ipureintro; exact R.h3.read_unread _
  isplitl [H4]
  · iexists _; isplitr; swap; · iexact H4
    ipureintro; exact R.h4.read_unread _
  iexists _; isplitr; swap; · iexact H16
  ipureintro
  refine (read_put R.a16 R.h16 _ _ _ _ _).trans ?_
  have e3 : View.readAt (Elt F) R.a3.view (Rect.unit (s := S512x1536) ![0, 0] S512x1536.size inb_S512x1536_S512x1536_0_0).toLoadRect (R.h3.unread d3)
      = d3 := funext fun x => (R.h3.readAt_unread _ _ x).trans (congrArg d3 (whole_idx _ x))
  have e4 : View.readAt (Elt F) R.a4.view (Rect.unit (s := S1536x18944) (k1_off1 i) S1536x512.size (k1_off1_inb i)).toLoadRect (R.h4.unread d4)
      = subA (s := S1536x18944) (k1_off1 i) S1536x512.size (k1_off1_inb i) d4 := funext fun x => R.h4.readAt_unread _ _ x
  refine (putA_whole _ _ _).trans ?_
  unfold gradV
  rw [← e4]
  refine (shapeCast_self _ _).trans ?_
  refine congr (congr (congrArg _ ((shapeCast_self _ _).trans e3)) (shapeCast_self _ _)) rfl

set_option maxHeartbeats 4000000 in
/-- The new scales, from the scratch that gathers. -/
theorem epi_run (c : Dev nD) (𝒱₀ : Variants) (R : Refs) (d13 d15 : Vec F S512x148 .f32) (d19 d20 : Vec F S512x256 .f32) (K : PUnit → sProp 𝕄) :
    iprop(owns (c : Thread nD τ) R.a13 fullShare d13 ∗ owns (c : Thread nD τ) R.a15 fullShare d15
        ∗ owns (c : Thread nD τ) R.a19 fullShare d19 ∗ owns (c : Thread nD τ) R.a20 fullShare d20
        ∗ (iprop(owns (c : Thread nD τ) R.a13 fullShare (lastV newM d19 d13) ∗ owns (c : Thread nD τ) R.a15 fullShare (lastV newS d20 d15)
            ∗ owns (c : Thread nD τ) R.a19 fullShare d19 ∗ owns (c : Thread nD τ) R.a20 fullShare d20) -∗ K ⟨⟩))
      ⊢ wp frame (wpE (defs₀ (F := F)) 𝒱₀ c none) Set.univ (epiU R) K := by
  unfold owns
  iintro ⟨⟨%f13, %h13, H13⟩, ⟨%f15, %h15, H15⟩, ⟨%f19, %h19, H19⟩, ⟨%f20, %h20, H20⟩, Hk⟩
  obtain rfl := R.h13.eq_unread h13
  obtain rfl := R.h15.eq_unread h15
  obtain rfl := R.h19.eq_unread h19
  obtain rfl := R.h20.eq_unread h20
  sl_unfold [epiU]
  sl_exec
  sl_step
  iapply Hk
  have e19 : View.readAt (Elt F) R.a19.view (Rect.unit (s := S512x256) ![0, 0] S512x128.size inb_S512x256_S512x128_0_0).toLoadRect (R.h19.unread d19)
      = subA (s := S512x256) ![0, 0] S512x128.size inb_S512x256_S512x128_0_0 d19 := funext fun x => R.h19.readAt_unread _ _ x
  have e19' : View.readAt (Elt F) R.a19.view (Rect.unit (s := S512x256) ![0, 128] S512x20.size inb_S512x256_S512x20_0_128).toLoadRect (R.h19.unread d19)
      = subA (s := S512x256) ![0, 128] S512x20.size inb_S512x256_S512x20_0_128 d19 := funext fun x => R.h19.readAt_unread _ _ x
  have e20 : View.readAt (Elt F) R.a20.view (Rect.unit (s := S512x256) ![0, 0] S512x128.size inb_S512x256_S512x128_0_0).toLoadRect (R.h20.unread d20)
      = subA (s := S512x256) ![0, 0] S512x128.size inb_S512x256_S512x128_0_0 d20 := funext fun x => R.h20.readAt_unread _ _ x
  have e20' : View.readAt (Elt F) R.a20.view (Rect.unit (s := S512x256) ![0, 128] S512x20.size inb_S512x256_S512x20_0_128).toLoadRect (R.h20.unread d20)
      = subA (s := S512x256) ![0, 128] S512x20.size inb_S512x256_S512x20_0_128 d20 := funext fun x => R.h20.readAt_unread _ _ x
  isplitl [H13]
  · iexists _; isplitr; swap; · iexact H13
    ipureintro
    refine (read_put2 R.a13 R.h13 _ _ _ _ _ _ _ _ _).trans ?_
    unfold lastV
    rw [← e19, ← e19']
    rfl
  isplitl [H15]
  · iexists _; isplitr; swap; · iexact H15
    ipureintro
    refine (read_put2 R.a15 R.h15 _ _ _ _ _ _ _ _ _).trans ?_
    unfold lastV
    rw [← e20, ← e20']
    rfl
  isplitl [H19]
  · iexists _; isplitr; swap; · iexact H19
    ipureintro; exact R.h19.read_unread _
  iexists _; isplitr; swap; · iexact H20
  ipureintro; exact R.h20.read_unread _

end Cert.Kernel.Body

end
-- ==== Proof.BitsRun.lean ====
/-
  The whole body of the main region, as a step of the contents of its buffers.
-/
module

public import proofs.«01_k».proof.Proof.BitsPhases

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The sixteen row chunks. -/
def chunks : List (Fin 16) := [0, 1, 2, 3, 4, 5, 6, 7, 8, 9, 10, 11, 12, 13, 14, 15]

/-- Each lane's number. -/
def lanes : IVec S32x128 32 := iota .tc S32x128 32 [1] iota_S32x128_d1_w32

/-- The first word of the constants. -/
def word0 : (S2 : Shape).Idx := fun _ => ⟨0, by decide +revert⟩
/-- The second word of the constants. -/
def word1 : (S2 : Shape).Idx := fun _ => ⟨1, by decide +revert⟩

/-- The scratch of scales after a point's first phase. -/
def scr (i : grid1.Coords) (k : F .f32) (d : Vec F S512x148 .f32) (f : Vec F S512x256 .f32) : Vec F S512x256 .f32 :=
  if isFirst i = 1#1 then scaleV k d f else f

/-- What a point makes of the tiles it writes and of the scratch that gathers. -/
def tileStep (i : grid1.Coords) (cst : Vec F S2 .f32) (d17 d18 : Vec F S512x256 .f32) (T : TI F) (s : TS F) : TS F :=
  rowsStep i (laneOf i) (shiftOf i) lanes (cuOf (cst word0) (cst word1)) (epOf (cst word1)) d17 d18 T chunks s

/-- The tile of new scales after a point. -/
def scaleOut (i : grid1.Coords) (q : ∀ {s : Shape}, FVec F s .f32 → FVec F s .f32) (a : Vec F S512x256 .f32) (f : Vec F S512x148 .f32) :
    Vec F S512x148 .f32 :=
  if k1_cond2 i = 1#1 then lastV q a f else f

/-- The load of the first word of the constants. -/
theorem word0_run (c : Dev nD) (𝒱₀ : Variants) (R : Refs) (cst : Vec F S2 .f32) (K : Elt F .f32 → sProp 𝕄) :
    iprop(owns (c : Thread nD τ) R.a2 fullShare cst ∗ (owns (c : Thread nD τ) R.a2 fullShare cst -∗ K (cst word0)))
      ⊢ wp frame (wpE (defs₀ (F := F)) 𝒱₀ c none) Set.univ (smemLoad R.a2 (Rect.unit (s := S2) ![0] S1.size inb_S2_S1_0) numel1_S1 rfl) K := by
  unfold owns
  iintro ⟨⟨%f2, %h2, H2⟩, Hk⟩
  obtain rfl := R.h2.eq_unread h2
  sl_unfold [smemLoad]
  sl_exec
  sl_step
  have e : View.readAt (Elt F) R.a2.view (Rect.unit (s := S2) ![0] S1.size inb_S2_S1_0).toLoadRect (R.h2.unread cst)
      (Shape.Idx.first (numel1_S1.symm ▸ Nat.one_pos)) = cst word0 :=
    (R.h2.readAt_unread _ _ _).trans (congrArg cst (funext fun a => by fin_cases a; rfl))
  rw [← e]
  iapply Hk
  iexists _; isplitr; swap; · iexact H2
  ipureintro; exact h2

/-- The load of the second word of the constants. -/
theorem word1_run (c : Dev nD) (𝒱₀ : Variants) (R : Refs) (cst : Vec F S2 .f32) (K : Elt F .f32 → sProp 𝕄) :
    iprop(owns (c : Thread nD τ) R.a2 fullShare cst ∗ (owns (c : Thread nD τ) R.a2 fullShare cst -∗ K (cst word1)))
      ⊢ wp frame (wpE (defs₀ (F := F)) 𝒱₀ c none) Set.univ (smemLoad R.a2 (Rect.unit (s := S2) ![1] S1.size inb_S2_S1_1) numel1_S1 rfl) K := by
  unfold owns
  iintro ⟨⟨%f2, %h2, H2⟩, Hk⟩
  obtain rfl := R.h2.eq_unread h2
  sl_unfold [smemLoad]
  sl_exec
  sl_step
  have e : View.readAt (Elt F) R.a2.view (Rect.unit (s := S2) ![1] S1.size inb_S2_S1_1).toLoadRect (R.h2.unread cst)
      (Shape.Idx.first (numel1_S1.symm ▸ Nat.one_pos)) = cst word1 :=
    (R.h2.readAt_unread _ _ _).trans (congrArg cst (funext fun a => by fin_cases a; rfl))
  rw [← e]
  iapply Hk
  iexists _; isplitr; swap; · iexact H2
  ipureintro; exact h2

/-- The body, as a step of the contents of its buffers. -/
theorem body_run (c : Dev nD) (𝒱₀ : Variants) (i : grid1.Coords) (R : Refs) (cst : Vec F S2 .f32) (d3 : Vec F S512x1536 .bf16)
    (d4 : Vec F S1536x18944 .fp8e5m2) (T : TI F) (d7 d9 d13 d15 : Vec F S512x148 .f32) (d17 d18 : Vec F S512x256 .f32) (s : TS F)
    (K : PUnit → sProp 𝕄) :
    iprop(owns (c : Thread nD τ) R.a2 fullShare cst ∗ owns (c : Thread nD τ) R.a3 fullShare d3 ∗ owns (c : Thread nD τ) R.a4 fullShare d4
        ∗ inSt c R T ∗ owns (c : Thread nD τ) R.a7 fullShare d7 ∗ owns (c : Thread nD τ) R.a9 fullShare d9
        ∗ owns (c : Thread nD τ) R.a13 fullShare d13 ∗ owns (c : Thread nD τ) R.a15 fullShare d15
        ∗ owns (c : Thread nD τ) R.a17 fullShare d17 ∗ owns (c : Thread nD τ) R.a18 fullShare d18 ∗ outSt c R s
        ∗ (iprop(owns (c : Thread nD τ) R.a2 fullShare cst ∗ owns (c : Thread nD τ) R.a3 fullShare d3 ∗ owns (c : Thread nD τ) R.a4 fullShare d4
        ∗ inSt c R { T with g := gradV i d3 d4 } ∗ owns (c : Thread nD τ) R.a7 fullShare d7 ∗ owns (c : Thread nD τ) R.a9 fullShare d9
        ∗ owns (c : Thread nD τ) R.a13 fullShare (scaleOut i newM (tileStep i cst (scr i kM d7 d17) (scr i kS d9 d18) { T with g := gradV i d3 d4 } s).ma d13)
        ∗ owns (c : Thread nD τ) R.a15 fullShare (scaleOut i newS (tileStep i cst (scr i kM d7 d17) (scr i kS d9 d18) { T with g := gradV i d3 d4 } s).sr d15)
        ∗ owns (c : Thread nD τ) R.a17 fullShare (scr i kM d7 d17) ∗ owns (c : Thread nD τ) R.a18 fullShare (scr i kS d9 d18)
        ∗ outSt c R (tileStep i cst (scr i kM d7 d17) (scr i kS d9 d18) { T with g := gradV i d3 d4 } s)) -∗ K ⟨⟩))
      ⊢ wp frame (wpE (defs₀ (F := F)) 𝒱₀ c none) Set.univ (bodyU R i) K := by
  have fst : ∀ K' : PUnit → sProp 𝕄,
      iprop(owns (c : Thread nD τ) R.a7 fullShare d7 ∗ owns (c : Thread nD τ) R.a9 fullShare d9
        ∗ owns (c : Thread nD τ) R.a17 fullShare d17 ∗ owns (c : Thread nD τ) R.a18 fullShare d18
        ∗ (iprop(owns (c : Thread nD τ) R.a7 fullShare d7 ∗ owns (c : Thread nD τ) R.a9 fullShare d9
            ∗ owns (c : Thread nD τ) R.a17 fullShare (scr i kM d7 d17) ∗ owns (c : Thread nD τ) R.a18 fullShare (scr i kS d9 d18)) -∗ K' ⟨⟩))
      ⊢ wp frame (wpE (defs₀ (F := F)) 𝒱₀ c none) Set.univ (if k1_h1 : isFirst i = 1#1 then initU R else pure ⟨⟩) K' := by
    intro K'
    unfold scr
    by_cases h : isFirst i = 1#1
    · rw [dif_pos h, if_pos h, if_pos h]
      exact init_run c 𝒱₀ R d7 d9 d17 d18 K'
    · rw [dif_neg h, if_neg h, if_neg h]
      iintro ⟨H7, H9, H17, H18, Hk⟩
      sl_step
      iapply Hk
      isplitl [H7]; · iexact H7
      isplitl [H9]; · iexact H9
      isplitl [H17]; · iexact H17
      iexact H18
  have lst : ∀ (a b : Vec F S512x256 .f32) (K' : PUnit → sProp 𝕄),
      iprop(owns (c : Thread nD τ) R.a13 fullShare d13 ∗ owns (c : Thread nD τ) R.a15 fullShare d15
        ∗ owns (c : Thread nD τ) R.a19 fullShare a ∗ owns (c : Thread nD τ) R.a20 fullShare b
        ∗ (iprop(owns (c : Thread nD τ) R.a13 fullShare (scaleOut i newM a d13) ∗ owns (c : Thread nD τ) R.a15 fullShare (scaleOut i newS b d15)
            ∗ owns (c : Thread nD τ) R.a19 fullShare a ∗ owns (c : Thread nD τ) R.a20 fullShare b) -∗ K' ⟨⟩))
      ⊢ wp frame (wpE (defs₀ (F := F)) 𝒱₀ c none) Set.univ (if k1_h2 : k1_cond2 i = 1#1 then (epiU R >>= fun _ => pure ⟨⟩) else pure ⟨⟩) K' := by
    intro a b K'
    unfold scaleOut
    by_cases h : k1_cond2 i = 1#1
    · rw [dif_pos h, if_pos h, if_pos h]
      rw [wp_bind]
      iintro ⟨H7, H9, H17, H18, Hk⟩
      iapply epi_run c 𝒱₀ R d13 d15 a b
      isplitl [H7]; · iexact H7
      isplitl [H9]; · iexact H9
      isplitl [H17]; · iexact H17
      isplitl [H18]; · iexact H18
      iintro H
      sl_step
      iapply Hk
      iexact H
    · rw [dif_neg h, if_neg h, if_neg h]
      iintro ⟨H7, H9, H17, H18, Hk⟩
      sl_step
      iapply Hk
      isplitl [H7]; · iexact H7
      isplitl [H9]; · iexact H9
      isplitl [H17]; · iexact H17
      iexact H18
  iintro ⟨H2, H3, H4, Hi, H7, H9, H13, H15, H17, H18, Ho, Hk⟩
  rw [show bodyU (F := F) R i = ((if k1_h1 : isFirst i = 1#1 then initU R else pure ⟨⟩) >>= fun _ => (
      smemLoad R.a2 (Rect.unit (s := S2) ![0] S1.size inb_S2_S1_0) numel1_S1 rfl >>= fun v3 =>
      smemLoad R.a2 (Rect.unit (s := S2) ![1] S1.size inb_S2_S1_1) numel1_S1 rfl >>= fun v4 =>
      mmU R i >>= fun _ =>
      rowsU R i (laneOf i) (shiftOf i) lanes (cuOf v3 v4) (epOf v4) chunks >>= fun _ =>
      (if k1_h2 : k1_cond2 i = 1#1 then (epiU R >>= fun _ => pure ⟨⟩) else pure ⟨⟩))) from rfl]
  rw [wp_bind]
  iapply fst
  isplitl [H7]; · iexact H7
  isplitl [H9]; · iexact H9
  isplitl [H17]; · iexact H17
  isplitl [H18]; · iexact H18
  iintro ⟨H7, H9, H17, H18⟩
  rw [wp_bind]
  iapply word0_run c 𝒱₀ R cst
  isplitl [H2]; · iexact H2
  iintro H2
  rw [wp_bind]
  iapply word1_run c 𝒱₀ R cst
  isplitl [H2]; · iexact H2
  iintro H2
  rw [wp_bind]
  unfold inSt
  icases Hi with ⟨H16, Hi⟩
  iapply mm_run c 𝒱₀ R i d3 d4 T.g
  isplitl [H3]; · iexact H3
  isplitl [H4]; · iexact H4
  isplitl [H16]; · iexact H16
  iintro ⟨H3, H4, H16⟩
  rw [wp_bind]
  iapply rows_run c 𝒱₀ i R _ _ _ _ _ (scr i kM d7 d17) (scr i kS d9 d18) { T with g := gradV i d3 d4 } chunks s
  unfold inSt
  isplitl [H16 Hi]
  · isplitl [H16]; · iexact H16
    iexact Hi
  isplitl [Ho]; · iexact Ho
  isplitl [H17]; · iexact H17
  isplitl [H18]; · iexact H18
  iintro ⟨Hi, Ho, H17, H18⟩
  unfold outSt
  icases Ho with ⟨H11, H10, H12, H14, H19, H20⟩
  iapply lst
  isplitl [H13]; · iexact H13
  isplitl [H15]; · iexact H15
  isplitl [H19]; · iexact H19
  isplitl [H20]; · iexact H20
  iintro ⟨H13, H15, H19, H20⟩
  iapply Hk
  isplitl [H2]; · iexact H2
  isplitl [H3]; · iexact H3
  isplitl [H4]; · iexact H4
  isplitl [Hi]; · iexact Hi
  isplitl [H7]; · iexact H7
  isplitl [H9]; · iexact H9
  isplitl [H13]; · iexact H13
  isplitl [H15]; · iexact H15
  isplitl [H17]; · iexact H17
  isplitl [H18]; · iexact H18
  isplitl [H11]; · iexact H11
  isplitl [H10]; · iexact H10
  isplitl [H12]; · iexact H12
  isplitl [H14]; · iexact H14
  isplitl [H19]; · iexact H19
  iexact H20

end Cert.Kernel.Body

end
-- ==== Proof.BitsTile.lean ====
/-
  The tiles a point leaves, entry by entry: every entry of a tile written is its own block's value, and a scratch that gathers holds
  each block's maximum or minimum in the block's own column.
-/
module

public import proofs.«01_k».proof.Proof.BitsRun

@[expose] public section

set_option maxRecDepth 16384

noncomputable section

namespace Cert.Kernel.Body

open Cert.Kernel Cert.Kernel.Gen
open Idealize.ShloMosaic

variable {F : FTy → Type} [FloatOps F]

/-! ## Indices -/

/-- The index with coordinates `p` and `q`. -/
def ix {m n : ℕ} (p : Fin m) (q : Fin n) : (⟨2, ![m, n]⟩ : Shape).Idx := fun a =>
  ⟨(![p.val, q.val] : Fin 2 → ℕ) a, by fin_cases a; exacts [p.isLt, q.isLt]⟩

/-- An index of a rank-two shape is the one with its coordinates. -/
theorem ix_eta {m n : ℕ} (y : (⟨2, ![m, n]⟩ : Shape).Idx) (p : Fin m) (q : Fin n) (hp : p.val = (y 0).val) (hq : q.val = (y 1).val) :
    ix p q = y := by
  funext a; refine Fin.ext ?_
  fin_cases a
  · exact hp
  · exact hq

/-- The row chunk, block and place within its block of an entry of a tile. -/
def rowOf (y : S512x512.Idx) : Fin 16 := ⟨(y 0).val / 32, by have : (y 0).val < 512 := (y 0).isLt; omega⟩
def blkOf (y : S512x512.Idx) : Fin 4 := ⟨(y 1).val / 128, by have : (y 1).val < 512 := (y 1).isLt; omega⟩
def locOf (y : S512x512.Idx) : S32x128.Idx := ix (⟨(y 0).val % 32, by omega⟩ : Fin 32) (⟨(y 1).val % 128, by omega⟩ : Fin 128)

theorem bo_eq : ∀ (r : Fin 16) (b : Fin 4), bo r b 0 = 32 * r.val ∧ bo r b 1 = 128 * b.val := by decide +kernel
theorem so_eq : ∀ (b : Fin 4), so b 0 = 0 ∧ so b 1 = b.val := by decide +kernel
theorem koff_eq : ∀ (r : Fin 16) (i : grid1.Coords), koff r i 0 = 32 * r.val ∧ koff r i 1 = 128 * ((i 1).val / 32) := by decide +kernel
theorem lane_eq : ∀ (i : grid1.Coords), (laneOf i).toNat = 4 * ((i 1).val % 32) := by decide +kernel
theorem shift_eq : ∀ (i : grid1.Coords), (shiftOf i).toNat = (128 - 4 * ((i 1).val % 32)) % 128 := by decide +kernel
theorem off1_eq : ∀ (i : grid1.Coords), k1_off1 i 0 = 0 ∧ k1_off1 i 1 = 512 * (i 1).val := by decide +kernel
theorem first_iff : ∀ (i : grid1.Coords), isFirst i = 1#1 ↔ (i 1).val = 0 := by decide +kernel
theorem last_iff : ∀ (i : grid1.Coords), k1_cond2 i = 1#1 ↔ (i 1).val = 36 := by decide +kernel
theorem point_lt (i : grid1.Coords) : (i 1).val < 37 := (i 1).isLt

/-! ## Replacing blocks one after another -/

/-- Of replacements at cells no two of which share an entry, the one at an entry's own cell decides it; -/
theorem fold_hit {ι β γ : Type} (put : ι → (β → γ) → β → γ) (P : ι → β → Prop) (val : ι → β → γ)
    (hin : ∀ k d y, P k y → put k d y = val k y) (hout : ∀ k d y, ¬ P k y → put k d y = d y)
    (huniq : ∀ k k' y, P k y → P k' y → k = k') (y : β) (k : ι) (hk : P k y) :
    ∀ (l : List ι) (d : β → γ), (k ∈ l ∨ d y = val k y) → l.foldl (fun d k => put k d) d y = val k y := by
  intro l
  induction l with
  | nil => intro d h; rcases h with h | h; · exact absurd h List.not_mem_nil
           exact h
  | cons a l ih =>
    intro d h
    rw [List.foldl_cons]
    refine ih _ ?_
    by_cases ha : P a y
    · have : a = k := huniq _ _ _ ha hk
      subst this
      exact .inr (hin _ _ _ ha)
    · rcases h with h | h
      · rcases List.mem_cons.mp h with h | h
        · exact absurd (h ▸ hk) ha
        · exact .inl h
      · exact .inr ((hout _ _ _ ha).trans h)

/-- and an entry of no cell is kept. -/
theorem fold_miss {ι β γ : Type} (put : ι → (β → γ) → β → γ) (P : ι → β → Prop)
    (hout : ∀ k d y, ¬ P k y → put k d y = d y) (y : β) (hk : ∀ k, ¬ P k y) :
    ∀ (l : List ι) (d : β → γ), l.foldl (fun d k => put k d) d y = d y := by
  intro l
  induction l with
  | nil => intro d; rfl
  | cons a l ih => intro d; rw [List.foldl_cons, ih, hout _ _ _ (hk a)]

/-- The blocks of a tile, in order. -/
def cells : List (Fin 16 × Fin 4) := chunks.flatMap fun r => [0, 1, 2, 3].map fun b => (r, b)

theorem mem_cells : ∀ k : Fin 16 × Fin 4, k ∈ cells := by decide +kernel

/-- A point's step is its blocks' steps, in order. -/
theorem tileStep_eq (i : grid1.Coords) (cst : Vec F S2 .f32) (d17 d18 : Vec F S512x256 .f32) (T : TI F) (s : TS F) :
    tileStep i cst d17 d18 T s = cells.foldl (fun s k => blkStep i (laneOf i) lanes (cuOf (cst word0) (cst word1)) (epOf (cst word1))
      (rotA i (shiftOf i) k.1 d17) (rotA i (shiftOf i) k.1 d18) T k.1 k.2 s) s := by
  unfold tileStep rowsStep rowStep cells
  rw [List.foldl_flatMap]
  simp only [List.foldl_map]

/-- A block replaced, at an entry. -/
theorem putA_bo {α : Type} (r : Fin 16) (b : Fin 4) (w : S32x128.Idx → α) (d : S512x512.Idx → α) (y : S512x512.Idx) :
    putA (s := S512x512) (bo r b) S32x128.size (bo_inb r b) w d y = if rowOf y = r ∧ blkOf y = b then w (locOf y) else d y := by
  obtain ⟨h0, h1⟩ := bo_eq r b
  have hy0 : (y 0).val < 512 := (y 0).isLt
  have hy1 : (y 1).val < 512 := (y 1).isLt
  by_cases h : rowOf y = r ∧ blkOf y = b
  · have hr : (y 0).val / 32 = r.val := congrArg Fin.val h.1
    have hb : (y 1).val / 128 = b.val := congrArg Fin.val h.2
    have hh : ∀ a, bo r b a ≤ (y a).val ∧ (y a).val < bo r b a + S32x128.size a := by
      intro a; fin_cases a
      · show bo r b 0 ≤ (y 0).val ∧ (y 0).val < bo r b 0 + 32; omega
      · show bo r b 1 ≤ (y 1).val ∧ (y 1).val < bo r b 1 + 128; omega
    rw [if_pos h]
    refine (dif_pos hh).trans (congrArg w (funext fun a => Fin.ext ?_))
    fin_cases a
    · show (y 0).val - bo r b 0 = (y 0).val % 32; omega
    · show (y 1).val - bo r b 1 = (y 1).val % 128; omega
  · rw [if_neg h]
    refine dif_neg fun hh => h ?_
    have a0 : bo r b 0 ≤ (y 0).val ∧ (y 0).val < bo r b 0 + 32 := hh 0
    have a1 : bo r b 1 ≤ (y 1).val ∧ (y 1).val < bo r b 1 + 128 := hh 1
    exact ⟨Fin.ext (by show (y 0).val / 32 = r.val; omega), Fin.ext (by show (y 1).val / 128 = b.val; omega)⟩

/-- All blocks replaced: each entry is its block's. -/
theorem fold_tile {α : Type} (w : Fin 16 → Fin 4 → S32x128.Idx → α) (d : S512x512.Idx → α) :
    cells.foldl (fun d k => putA (s := S512x512) (bo k.1 k.2) S32x128.size (bo_inb k.1 k.2) (w k.1 k.2) d) d
      = fun y => w (rowOf y) (blkOf y) (locOf y) := by
  funext y
  refine fold_hit (fun k d => putA (s := S512x512) (bo k.1 k.2) S32x128.size (bo_inb k.1 k.2) (w k.1 k.2) d)
    (fun k y => rowOf y = k.1 ∧ blkOf y = k.2) (fun k y => w k.1 k.2 (locOf y)) ?_ ?_ ?_ y (rowOf y, blkOf y) ⟨rfl, rfl⟩ cells d (.inl (mem_cells _))
  · intro k d y h; exact (putA_bo _ _ _ _ _).trans (if_pos h)
  · intro k d y h; exact (putA_bo _ _ _ _ _).trans (if_neg h)
  · intro k k' y h h'; exact Prod.ext (h.1.symm.trans h'.1) (h.2.symm.trans h'.2)

/-! ## The scratch that gathers -/

/-- A lane is marked when it is the block's. -/
theorem mask_at (i : grid1.Coords) (b : Fin 4) (x : S32x128.Idx) :
    maskV lanes (Scalar.addi (laneOf i) (BitVec.ofNat 32 b.val)) x = 1#1 ↔ (x 1).val = 4 * ((i 1).val % 32) + b.val := by
  have hl := lane_eq i
  have hi := point_lt i
  have hx : (x 1).val < 128 := (x 1).isLt
  have hb : b.val < 4 := b.isLt
  unfold maskV lanes
  rw [shapeCast_self]
  show BitVec.ofBool (BitVec.ofNat 32 (0 * 128 + (x 1).val) == (laneOf i + BitVec.ofNat 32 b.val)) = 1#1 ↔ _
  rw [show ∀ c : Bool, BitVec.ofBool c = 1#1 ↔ c = true from by decide, beq_iff_eq, ← BitVec.toNat_inj, BitVec.toNat_add,
    BitVec.toNat_ofNat, BitVec.toNat_ofNat, hl]
  omega

/-- A column spread over the lanes, at an entry. -/
theorem laneV_at (a : FVec F S32x1 .f32) (x : S32x128.Idx) : laneV a x = a (ix (x 0) (0 : Fin 1)) := by
  unfold laneV
  rw [shapeCast_self, shapeCast_self]
  refine congrArg a (funext fun q => Fin.ext ?_)
  fin_cases q <;> rfl

/-- A block's column replaced, at an entry. -/
theorem putM_col (i : grid1.Coords) (r : Fin 16) (b : Fin 4) (a : FVec F S32x1 .f32) (d : Vec F S512x256 .f32) (z : S512x256.Idx) :
    putM (s := S512x256) (koff r i) S32x128.size (koff_inb r i) (maskV lanes (Scalar.addi (laneOf i) (BitVec.ofNat 32 b.val))) (laneV a) d z
      = if (z 0).val / 32 = r.val ∧ (z 1).val = 4 * (i 1).val + b.val then a (ix (⟨(z 0).val % 32, by omega⟩ : Fin 32) (0 : Fin 1)) else d z := by
  obtain ⟨h0, h1⟩ := koff_eq r i
  have hi := point_lt i
  have hz0 : (z 0).val < 512 := (z 0).isLt
  have hz1 : (z 1).val < 256 := (z 1).isLt
  unfold putM
  by_cases hh : ∀ a, koff r i a ≤ (z a).val ∧ (z a).val < koff r i a + S32x128.size a
  · have a0 : koff r i 0 ≤ (z 0).val ∧ (z 0).val < koff r i 0 + 32 := hh 0
    have a1 : koff r i 1 ≤ (z 1).val ∧ (z 1).val < koff r i 1 + 128 := hh 1
    rw [dif_pos hh]
    have hm := mask_at i b (Rect.unitLocal (s := S512x256) z hh)
    have hx : ((Rect.unitLocal (s := S512x256) z hh) 1).val = (z 1).val - koff r i 1 := rfl
    rw [hx] at hm
    by_cases hc : (z 0).val / 32 = r.val ∧ (z 1).val = 4 * (i 1).val + b.val
    · rw [if_pos hc, if_pos (hm.mpr (by omega)), laneV_at]
      refine congrArg a (funext fun q => Fin.ext ?_)
      fin_cases q
      · show (z 0).val - koff r i 0 = (z 0).val % 32; omega
      · rfl
    · rw [if_neg hc, if_neg (fun h => hc ⟨by omega, by have := hm.mp h; omega⟩)]
  · rw [dif_neg hh, if_neg]
    rintro ⟨hr, hc⟩
    apply hh
    intro q; fin_cases q
    · show koff r i 0 ≤ (z 0).val ∧ (z 0).val < koff r i 0 + 32; omega
    · show koff r i 1 ≤ (z 1).val ∧ (z 1).val < koff r i 1 + 128; omega

/-- All the point's columns replaced, at an entry of one of them; -/
theorem fold_cols_hit (i : grid1.Coords) (a : Fin 16 → Fin 4 → FVec F S32x1 .f32) (d : Vec F S512x256 .f32) (z : S512x256.Idx)
    (r : Fin 16) (b : Fin 4) (hr : (z 0).val / 32 = r.val) (hb : (z 1).val = 4 * (i 1).val + b.val) :
    cells.foldl (fun d k => putM (s := S512x256) (koff k.1 i) S32x128.size (koff_inb k.1 i)
      (maskV lanes (Scalar.addi (laneOf i) (BitVec.ofNat 32 k.2.val))) (laneV (a k.1 k.2)) d) d z
      = a r b (ix (⟨(z 0).val % 32, by omega⟩ : Fin 32) (0 : Fin 1)) := by
  refine fold_hit (fun k d => putM (s := S512x256) (koff k.1 i) S32x128.size (koff_inb k.1 i)
      (maskV lanes (Scalar.addi (laneOf i) (BitVec.ofNat 32 k.2.val))) (laneV (a k.1 k.2)) d)
    (fun k z => (z 0).val / 32 = k.1.val ∧ (z 1).val = 4 * (i 1).val + k.2.val)
    (fun k z => a k.1 k.2 (ix (⟨(z 0).val % 32, by omega⟩ : Fin 32) (0 : Fin 1))) ?_ ?_ ?_ z (r, b) ⟨hr, hb⟩ cells d (.inl (mem_cells _))
  · intro k d y h; exact (putM_col _ _ _ _ _ _).trans (if_pos h)
  · intro k d y h; exact (putM_col _ _ _ _ _ _).trans (if_neg h)
  · intro k k' y h h'; exact Prod.ext (Fin.ext (by omega)) (Fin.ext (by omega))

/-- and at an entry of none. -/
theorem fold_cols_miss (i : grid1.Coords) (a : Fin 16 → Fin 4 → FVec F S32x1 .f32) (d : Vec F S512x256 .f32) (z : S512x256.Idx)
    (hb : (z 1).val < 4 * (i 1).val) :
    cells.foldl (fun d k => putM (s := S512x256) (koff k.1 i) S32x128.size (koff_inb k.1 i)
      (maskV lanes (Scalar.addi (laneOf i) (BitVec.ofNat 32 k.2.val))) (laneV (a k.1 k.2)) d) d z = d z := by
  refine fold_miss (fun k d => putM (s := S512x256) (koff k.1 i) S32x128.size (koff_inb k.1 i)
      (maskV lanes (Scalar.addi (laneOf i) (BitVec.ofNat 32 k.2.val))) (laneV (a k.1 k.2)) d)
    (fun k z => (z 0).val / 32 = k.1.val ∧ (z 1).val = 4 * (i 1).val + k.2.val) ?_ z ?_ cells d
  · intro k d y h; exact (putM_col _ _ _ _ _ _).trans (if_neg h)
  · rintro k ⟨-, h⟩; omega

/-! ## The scales a block reads -/

/-- Column `j` of a scratch, in the rows of chunk `r`. -/
def colOf {w : ℕ} (d : Vec F ⟨2, ![512, w]⟩ .f32) (r : Fin 16) (j : Fin w) : FVec F S32x1 .f32 := fun x =>
  d (ix (⟨32 * r.val + (x 0).val, by have : (x 0).val < 32 := (x 0).isLt; omega⟩ : Fin 512) j)

/-- Block `b`'s scale in the rotated slice is the scratch's column `4 n + b`. -/
theorem colV_rotA (i : grid1.Coords) (r : Fin 16) (b : Fin 4) (d : Vec F S512x256 .f32) :
    colV b (rotA i (shiftOf i) r d) = colOf d r (⟨4 * (i 1).val + b.val, by have := point_lt i; omega⟩ : Fin 256) := by
  obtain ⟨h0, h1⟩ := koff_eq r i
  obtain ⟨s0, s1⟩ := so_eq b
  have hs := shift_eq i
  have hi := point_lt i
  funext x
  have hx : (x 1).val < 1 := (x 1).isLt
  have hx0 : (x 0).val < 32 := (x 0).isLt
  refine congrArg d (funext fun q => Fin.ext ?_)
  fin_cases q
  · show koff r i 0 + 1 * (so b 0 + (x 0).val) = 32 * r.val + (x 0).val
    omega
  · show koff r i 1 + 1 * ((so b 1 + (x 1).val + 128 - (shiftOf i).toNat % 128) % 128) = 4 * (i 1).val + b.val
    have hb : b.val < 4 := b.isLt
    omega

end Cert.Kernel.Body

end
-- ==== Proof.BitsOut.lean ====
/-
  What the main region leaves, as functions of the arrays it reads, and the step of a point in those terms.
-/
module

public import proofs.«01_k».proof.Proof.BitsTile

@[expose] public section

set_option maxRecDepth 16384

noncomputable section

namespace Cert.Kernel.Body

open Cert.Kernel Cert.Kernel.Gen
open Idealize.ShloMosaic

variable {F : FTy → Type} [FloatOps F]

/-! ## The arrays read, and what is made of them -/

/-- The arrays that the main region reads. -/
structure In (F : FTy → Type) where
  cst : Vec F S2 .f32
  xt : Vec F S3584x1536 .bf16
  dy : Vec F S1536x18944 .fp8e5m2
  w : Vec F S3584x18944 .bf16
  mq : Vec F S3584x18944 .i8
  ms : Vec F S3584x148 .f32
  sq : Vec F S3584x18944 .i8
  ss : Vec F S3584x148 .f32

/-- The tile `(d, n)` of an array. -/
def tB {e : EltTy} (a : Vec F S3584x18944 e) (d : Fin 7) (n : Fin 37) : Vec F S512x512 e := fun x =>
  a (ix (⟨512 * d.val + (x 0).val, by have : (x 0).val < 512 := (x 0).isLt; omega⟩ : Fin 3584)
    (⟨512 * n.val + (x 1).val, by have : (x 1).val < 512 := (x 1).isLt; omega⟩ : Fin 18944))

/-- The rows `512 d …` of an array of scales. -/
def sB (a : Vec F S3584x148 .f32) (d : Fin 7) : Vec F S512x148 .f32 := fun x =>
  a (ix (⟨512 * d.val + (x 0).val, by have : (x 0).val < 512 := (x 0).isLt; omega⟩ : Fin 3584) (x 1 : Fin 148))

/-- The rows `512 d …` of the scaled activations. -/
def xB (a : Vec F S3584x1536 .bf16) (d : Fin 7) : Vec F S512x1536 .bf16 := fun x =>
  a (ix (⟨512 * d.val + (x 0).val, by have : (x 0).val < 512 := (x 0).isLt; omega⟩ : Fin 3584) (x 1 : Fin 1536))

/-- The columns `512 n …` of the gradient codes. -/
def yB (a : Vec F S1536x18944 .fp8e5m2) (n : Fin 37) : Vec F S1536x512 .fp8e5m2 := fun x =>
  a (ix (x 0 : Fin 1536) (⟨512 * n.val + (x 1).val, by have : (x 1).val < 512 := (x 1).isLt; omega⟩ : Fin 18944))

/-- The weight gradient, tile `(d, n)`. -/
def gI (I : In F) (d : Fin 7) (n : Fin 37) : Vec F S512x512 .f32 :=
  matmul (F := F) dot_S512x1536_S1536x512_S512x512_1_0_0_1_n_n none (xB I.xt d : FVec F S512x1536 .bf16) (yB I.dy n : FVec F S1536x512 .fp8e5m2)
    (constant S512x512 .f32 0x00000000#32)

/-- A tile of scales times `k`. -/
def scaled (k : F .f32) (a : Vec F S512x148 .f32) : Vec F S512x148 .f32 := mulf (a : FVec F S512x148 .f32) (broadcast S512x148 k)

/-- The tiles read at point `(d, n)`. -/
def tI (I : In F) (d : Fin 7) (n : Fin 37) : TI F := ⟨gI I d n, tB I.mq d n, tB I.sq d n, tB I.w d n⟩

/-- The column of scales of block `b` of tile column `n`. -/
def col (n : Fin 37) (b : Fin 4) : Fin 148 := ⟨4 * n.val + b.val, by omega⟩

/-- The first moment of block `(r, b)` of tile `(d, n)`; -/
def mI (I : In F) (d : Fin 7) (n : Fin 37) (r : Fin 16) (b : Fin 4) : FVec F S32x128 .f32 :=
  mV (blkA r b (gI I d n)) (blkA r b (tB I.mq d n)) (colOf (scaled kM (sB I.ms d)) r (col n b))
/-- its reciprocal root; -/
def rI (I : In F) (d : Fin 7) (n : Fin 37) (r : Fin 16) (b : Fin 4) : FVec F S32x128 .f32 :=
  rsV (blkA r b (gI I d n)) (blkA r b (tB I.sq d n)) (colOf (scaled kS (sB I.ss d)) r (col n b))
/-- its update. -/
def uI (I : In F) (d : Fin 7) (n : Fin 37) (r : Fin 16) (b : Fin 4) : FVec F S32x128 .f32 :=
  updV (cuOf (I.cst word0) (I.cst word1)) (epOf (I.cst word1)) (mI I d n r b) (invV (rI I d n r b))

/-- The update, tile `(d, n)`; -/
def uO (I : In F) (d : Fin 7) (n : Fin 37) : Vec F S512x512 .f32 := fun y => uI I d n (rowOf y) (blkOf y) (locOf y)
/-- the new weights; -/
def wO (I : In F) (d : Fin 7) (n : Fin 37) : Vec F S512x512 .bf16 := fun y =>
  wnV (blkA (rowOf y) (blkOf y) (tB I.w d n)) (uI I d n (rowOf y) (blkOf y)) (locOf y)
/-- the codes of the first moment; -/
def mO (I : In F) (d : Fin 7) (n : Fin 37) : Vec F S512x512 .i8 := fun y => mcV (mI I d n (rowOf y) (blkOf y)) (locOf y)
/-- the codes of the second moment's root. -/
def sO (I : In F) (d : Fin 7) (n : Fin 37) : Vec F S512x512 .i8 := fun y => scV (rI I d n (rowOf y) (blkOf y)) (locOf y)

/-- The tile column, chunk, block and row within its chunk of an entry of a tile of scales. -/
def tileOf (z : S512x148.Idx) : Fin 37 := ⟨(z 1).val / 4, by have : (z 1).val < 148 := (z 1).isLt; omega⟩
def chunkOf (z : S512x148.Idx) : Fin 16 := ⟨(z 0).val / 32, by have : (z 0).val < 512 := (z 0).isLt; omega⟩
def sblkOf (z : S512x148.Idx) : Fin 4 := ⟨(z 1).val % 4, by omega⟩
def slocOf (z : S512x148.Idx) : S32x1.Idx := ix (⟨(z 0).val % 32, by omega⟩ : Fin 32) (0 : Fin 1)

/-- The largest magnitude of the first moment in each block; -/
def aO (I : In F) (d : Fin 7) : Vec F S512x148 .f32 := fun z => amaxV (mI I d (tileOf z) (chunkOf z) (sblkOf z)) (slocOf z)
/-- the least reciprocal root in each block. -/
def rO (I : In F) (d : Fin 7) : Vec F S512x148 .f32 := fun z => rminV (rI I d (tileOf z) (chunkOf z) (sblkOf z)) (slocOf z)
/-- The new scales of the first moment; -/
def msO (I : In F) (d : Fin 7) : Vec F S512x148 .f32 := newM (aO I d : FVec F S512x148 .f32)
/-- and of the second moment's root. -/
def ssO (I : In F) (d : Fin 7) : Vec F S512x148 .f32 := newS (rO I d : FVec F S512x148 .f32)

/-! ## The scratch between points -/

/-- The scratch as the scales' columns see it: every column of the scales. -/
def narrow (a : Vec F S512x256 .f32) : Vec F S512x148 .f32 := fun z =>
  a (ix (z 0 : Fin 512) (⟨(z 1).val, by have : (z 1).val < 148 := (z 1).isLt; omega⟩ : Fin 256))

/-- The scratch before point `n > 0` of tile row `d`: the scales, scaled, and what the points before gathered. -/
structure Good (I : In F) (d : Fin 7) (n : ℕ) (d17 d18 d19 d20 : Vec F S512x256 .f32) : Prop where
  hm : narrow d17 = scaled kM (sB I.ms d)
  hs : narrow d18 = scaled kS (sB I.ss d)
  ha : ∀ z : S512x148.Idx, (z 1).val < 4 * n → narrow d19 z = aO I d z
  hr : ∀ z : S512x148.Idx, (z 1).val < 4 * n → narrow d20 z = rO I d z

/-- The scaled scales reach every column of the scales. -/
theorem narrow_scaleV (k : F .f32) (a : Vec F S512x148 .f32) (f : Vec F S512x256 .f32) : narrow (scaleV k a f) = scaled k a := by
  funext z
  have h0 : (z 0).val < 512 := (z 0).isLt
  have h1 : (z 1).val < 148 := (z 1).isLt
  unfold narrow scaleV putA
  by_cases h : 128 ≤ (z 1).val
  · rw [dif_pos (by intro q; fin_cases q
                    · exact ⟨Nat.zero_le _, show (z 0).val < 0 + 512 by omega⟩
                    · exact ⟨h, show (z 1).val < 128 + 20 by omega⟩)]
    refine congrArg (fun e => FloatOps.mulf e k) (congrArg a (funext fun q => Fin.ext ?_))
    fin_cases q
    · show 0 + 1 * ((z 0).val - 0) = (z 0).val; omega
    · show 128 + 1 * ((z 1).val - 128) = (z 1).val; omega
  · rw [dif_neg (fun hh => h (hh 1).1), dif_pos (by
      intro q; fin_cases q
      · exact ⟨Nat.zero_le _, show (z 0).val < 0 + 512 by omega⟩
      · exact ⟨Nat.zero_le _, show (z 1).val < 0 + 128 by omega⟩)]
    refine congrArg (fun e => FloatOps.mulf e k) (congrArg a (funext fun q => Fin.ext ?_))
    fin_cases q
    · show 0 + 1 * ((z 0).val - 0) = (z 0).val; omega
    · show 0 + 1 * ((z 1).val - 0) = (z 1).val; omega

/-- The new scales are those of the scratch's columns, for a function of scales that works entry by entry. -/
theorem lastV_eq (q : ∀ {s : Shape}, FVec F s .f32 → FVec F s .f32) (q1 : F .f32 → F .f32)
    (hq : ∀ {s : Shape} (x : FVec F s .f32) (i : s.Idx), q x i = q1 (x i)) (a : Vec F S512x256 .f32) (f : Vec F S512x148 .f32) :
    lastV q a f = q (s := S512x148) (narrow a) := by
  funext z
  have h0 : (z 0).val < 512 := (z 0).isLt
  have h1 : (z 1).val < 148 := (z 1).isLt
  unfold lastV putA
  rw [hq]
  by_cases h : 128 ≤ (z 1).val
  · rw [dif_pos (by intro q; fin_cases q
                    · exact ⟨Nat.zero_le _, show (z 0).val < 0 + 512 by omega⟩
                    · exact ⟨h, show (z 1).val < 128 + 20 by omega⟩)]
    refine (hq _ _).trans (congrArg q1 (congrArg a (funext fun q => Fin.ext ?_)))
    fin_cases q
    · show 0 + 1 * ((z 0).val - 0) = (z 0).val; omega
    · show 128 + 1 * ((z 1).val - 128) = (z 1).val; omega
  · rw [dif_neg (fun hh => h (hh 1).1), dif_pos (by
      intro q; fin_cases q
      · exact ⟨Nat.zero_le _, show (z 0).val < 0 + 512 by omega⟩
      · exact ⟨Nat.zero_le _, show (z 1).val < 0 + 128 by omega⟩)]
    refine (hq _ _).trans (congrArg q1 (congrArg a (funext fun q => Fin.ext ?_)))
    fin_cases q
    · show 0 + 1 * ((z 0).val - 0) = (z 0).val; omega
    · show 0 + 1 * ((z 1).val - 0) = (z 1).val; omega

/-- The only index of a scalar. -/
def ix0 : (⟨0, ![]⟩ : Shape).Idx := fun a => a.elim0

theorem lastV_newM (a : Vec F S512x256 .f32) (f : Vec F S512x148 .f32) : lastV newM a f = newM (s := S512x148) (narrow a) :=
  lastV_eq newM (fun e => newM (s := ⟨0, ![]⟩) (fun _ => e) ix0) (fun _ _ => rfl) a f
theorem lastV_newS (a : Vec F S512x256 .f32) (f : Vec F S512x148 .f32) : lastV newS a f = newS (s := S512x148) (narrow a) :=
  lastV_eq newS (fun e => newS (s := ⟨0, ![]⟩) (fun _ => e) ix0) (fun _ _ => rfl) a f

/-! ## The step of a point -/

/-- The gradient tile that the body computes. -/
theorem gradV_eq (I : In F) (i : grid1.Coords) : gradV i (xB I.xt (i 0)) I.dy = gI I (i 0) (i 1) := by
  obtain ⟨h0, h1⟩ := off1_eq i
  unfold gradV gI
  refine congrArg (fun z : FVec F S1536x512 .fp8e5m2 => matmul (F := F) dot_S512x1536_S1536x512_S512x512_1_0_0_1_n_n none _ z _) ?_
  funext x
  refine congrArg I.dy (funext fun q => Fin.ext ?_)
  fin_cases q
  · show k1_off1 i 0 + 1 * (x 0).val = (x 0).val; omega
  · show k1_off1 i 1 + 1 * (x 1).val = 512 * (i 1).val + (x 1).val; omega

/-- A block's scale, from a scratch that holds the scaled scales. -/
theorem colV_of (i : grid1.Coords) (r : Fin 16) (b : Fin 4) (d : Vec F S512x256 .f32) (a : Vec F S512x148 .f32) (h : narrow d = a) :
    colV b (rotA i (shiftOf i) r d) = colOf a r (col (i 1) b) := by
  rw [colV_rotA, ← h]
  rfl

/-- The scratch that a point's blocks read. -/
theorem scr_eq (I : In F) (i : grid1.Coords) (k : F .f32) (a : Vec F S512x148 .f32) (d17 : Vec F S512x256 .f32)
    (h : 0 < (i 1).val → narrow d17 = scaled k a) : narrow (scr i k a d17) = scaled k a := by
  unfold scr
  by_cases hf : isFirst i = 1#1
  · rw [if_pos hf]; exact narrow_scaleV k a d17
  · rw [if_neg hf]
    exact h (Nat.pos_of_ne_zero fun h0 => hf ((first_iff i).mpr h0))

variable (I : In F) (i : grid1.Coords) (d17 d18 : Vec F S512x256 .f32) (s : TS F)
  (hm : narrow d17 = scaled kM (sB I.ms (i 0))) (hs : narrow d18 = scaled kS (sB I.ss (i 0)))

include hm in
theorem mB_eq (r : Fin 16) (b : Fin 4) : mB (rotA i (shiftOf i) r d17) (tI I (i 0) (i 1)) r b = mI I (i 0) (i 1) r b := by
  unfold mB; rw [colV_of i r b d17 _ hm]; rfl
include hs in
theorem rB_eq (r : Fin 16) (b : Fin 4) : rB (rotA i (shiftOf i) r d18) (tI I (i 0) (i 1)) r b = rI I (i 0) (i 1) r b := by
  unfold rB; rw [colV_of i r b d18 _ hs]; rfl

/-- What a point's blocks leave, field by field. -/
theorem step_u : (tileStep i I.cst d17 d18 (tI I (i 0) (i 1)) s).u = cells.foldl (fun d k => putA (s := S512x512) (bo k.1 k.2) S32x128.size (bo_inb k.1 k.2)
    (uB (cuOf (I.cst word0) (I.cst word1)) (epOf (I.cst word1)) (rotA i (shiftOf i) k.1 d17) (rotA i (shiftOf i) k.1 d18) (tI I (i 0) (i 1)) k.1 k.2) d) s.u := by
  rw [tileStep_eq]; exact List.foldl_hom TS.u (fun _ _ => rfl) |>.symm
theorem step_wn : (tileStep i I.cst d17 d18 (tI I (i 0) (i 1)) s).wn = cells.foldl (fun d k => putA (s := S512x512) (bo k.1 k.2) S32x128.size (bo_inb k.1 k.2)
    (wnV (blkA k.1 k.2 (tI I (i 0) (i 1)).w) (uB (cuOf (I.cst word0) (I.cst word1)) (epOf (I.cst word1)) (rotA i (shiftOf i) k.1 d17) (rotA i (shiftOf i) k.1 d18) (tI I (i 0) (i 1)) k.1 k.2)) d) s.wn := by
  rw [tileStep_eq]; exact List.foldl_hom TS.wn (fun _ _ => rfl) |>.symm
theorem step_mc : (tileStep i I.cst d17 d18 (tI I (i 0) (i 1)) s).mc = cells.foldl (fun d k => putA (s := S512x512) (bo k.1 k.2) S32x128.size (bo_inb k.1 k.2)
    (mcV (mB (rotA i (shiftOf i) k.1 d17) (tI I (i 0) (i 1)) k.1 k.2)) d) s.mc := by
  rw [tileStep_eq]; exact List.foldl_hom TS.mc (fun _ _ => rfl) |>.symm
theorem step_sc : (tileStep i I.cst d17 d18 (tI I (i 0) (i 1)) s).sc = cells.foldl (fun d k => putA (s := S512x512) (bo k.1 k.2) S32x128.size (bo_inb k.1 k.2)
    (scV (rB (rotA i (shiftOf i) k.1 d18) (tI I (i 0) (i 1)) k.1 k.2)) d) s.sc := by
  rw [tileStep_eq]; exact List.foldl_hom TS.sc (fun _ _ => rfl) |>.symm
theorem step_ma : (tileStep i I.cst d17 d18 (tI I (i 0) (i 1)) s).ma = cells.foldl (fun d k => putM (s := S512x256) (koff k.1 i) S32x128.size (koff_inb k.1 i)
    (maskV lanes (Scalar.addi (laneOf i) (BitVec.ofNat 32 k.2.val))) (laneV (amaxV (mB (rotA i (shiftOf i) k.1 d17) (tI I (i 0) (i 1)) k.1 k.2))) d) s.ma := by
  rw [tileStep_eq]; exact List.foldl_hom TS.ma (fun _ _ => rfl) |>.symm
theorem step_sr : (tileStep i I.cst d17 d18 (tI I (i 0) (i 1)) s).sr = cells.foldl (fun d k => putM (s := S512x256) (koff k.1 i) S32x128.size (koff_inb k.1 i)
    (maskV lanes (Scalar.addi (laneOf i) (BitVec.ofNat 32 k.2.val))) (laneV (rminV (rB (rotA i (shiftOf i) k.1 d18) (tI I (i 0) (i 1)) k.1 k.2))) d) s.sr := by
  rw [tileStep_eq]; exact List.foldl_hom TS.sr (fun _ _ => rfl) |>.symm

include hm hs in
/-- The tiles that a point leaves. -/
theorem step_tiles : (tileStep i I.cst d17 d18 (tI I (i 0) (i 1)) s).u = uO I (i 0) (i 1)
    ∧ (tileStep i I.cst d17 d18 (tI I (i 0) (i 1)) s).wn = wO I (i 0) (i 1)
    ∧ (tileStep i I.cst d17 d18 (tI I (i 0) (i 1)) s).mc = mO I (i 0) (i 1)
    ∧ (tileStep i I.cst d17 d18 (tI I (i 0) (i 1)) s).sc = sO I (i 0) (i 1) := by
  refine ⟨?_, ?_, ?_, ?_⟩
  · rw [step_u]
    simp only [uB, mB_eq I i d17 hm, rB_eq I i d18 hs]
    exact fold_tile (fun r b => uI I (i 0) (i 1) r b) _
  · rw [step_wn]
    simp only [uB, mB_eq I i d17 hm, rB_eq I i d18 hs]
    exact fold_tile (fun r b => wnV (blkA r b (tB I.w (i 0) (i 1))) (uI I (i 0) (i 1) r b)) _
  · rw [step_mc]
    simp only [mB_eq I i d17 hm]
    exact fold_tile (fun r b => mcV (mI I (i 0) (i 1) r b)) _
  · rw [step_sc]
    simp only [rB_eq I i d18 hs]
    exact fold_tile (fun r b => scV (rI I (i 0) (i 1) r b)) _

include hm in
/-- The maxima gathered after a point. -/
theorem step_gather_m (ha : ∀ z : S512x148.Idx, (z 1).val < 4 * (i 1).val → narrow s.ma z = aO I (i 0) z) (z : S512x148.Idx)
    (hz : (z 1).val < 4 * ((i 1).val + 1)) : narrow (tileStep i I.cst d17 d18 (tI I (i 0) (i 1)) s).ma z = aO I (i 0) z := by
  have h0 : (z 0).val < 512 := (z 0).isLt
  rw [step_ma]
  simp only [mB_eq I i d17 hm]
  by_cases hlt : (z 1).val < 4 * (i 1).val
  · rw [← ha z hlt]
    exact fold_cols_miss i (fun r b => amaxV (mI I (i 0) (i 1) r b)) s.ma _ hlt
  · refine (fold_cols_hit i (fun r b => amaxV (mI I (i 0) (i 1) r b)) s.ma _ (chunkOf z) (sblkOf z) rfl
      (show (z 1).val = 4 * (i 1).val + (z 1).val % 4 by omega)).trans ?_
    have ht : tileOf z = i 1 := Fin.ext (show (z 1).val / 4 = (i 1).val by omega)
    unfold aO
    rw [ht]
    rfl

include hs in
/-- The minima gathered after a point. -/
theorem step_gather_s (hr : ∀ z : S512x148.Idx, (z 1).val < 4 * (i 1).val → narrow s.sr z = rO I (i 0) z) (z : S512x148.Idx)
    (hz : (z 1).val < 4 * ((i 1).val + 1)) : narrow (tileStep i I.cst d17 d18 (tI I (i 0) (i 1)) s).sr z = rO I (i 0) z := by
  have h0 : (z 0).val < 512 := (z 0).isLt
  rw [step_sr]
  simp only [rB_eq I i d18 hs]
  by_cases hlt : (z 1).val < 4 * (i 1).val
  · rw [← hr z hlt]
    exact fold_cols_miss i (fun r b => rminV (rI I (i 0) (i 1) r b)) s.sr _ hlt
  · refine (fold_cols_hit i (fun r b => rminV (rI I (i 0) (i 1) r b)) s.sr _ (chunkOf z) (sblkOf z) rfl
      (show (z 1).val = 4 * (i 1).val + (z 1).val % 4 by omega)).trans ?_
    have ht : tileOf z = i 1 := Fin.ext (show (z 1).val / 4 = (i 1).val by omega)
    unfold rO
    rw [ht]
    rfl

end Cert.Kernel.Body

end
-- ==== Proof.BitsDat0.lean ====
/-
  The preparing region: the activations, scaled, one block of rows at each point.
-/
module

public import proofs.«01_k».proof.Proof.BitsOut
public import proofs.«01_k».proof.Proof.BitsPhases
public import proofs.«01_k».proof.Proof.Gen.Kernel.Points
public import proofs.«01_k».proof.Proof.Gen.Kernel.Launch
public import Idealize.ShloMosaic.Lib.Pipeline.Frame
public import Idealize.ShloMosaic.Lib.Pipeline.ValueKit

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- The activations, scaled: codes transposed, times the activations' scale, times the gradient's scale. -/
def xO (x : Vec F S1536x3584 .fp8e4m3) (sx sy : Vec F S1x1536 .bf16) : FVec F S3584x1536 .bf16 :=
  mulf (mulf (fun z => (extf .bf16 (x : FVec F S1536x3584 .fp8e4m3) bitsLt_fp8e4m3_bf16 : FVec F S1536x3584 .bf16) (ix (z 1 : Fin 1536) (z 0 : Fin 3584)))
    (fun z => sx (ix (0 : Fin 1) (z 1 : Fin 1536)))) (fun z => sy (ix (0 : Fin 1) (z 1 : Fin 1536)))

/-- The columns `512 d …` of the activations' codes. -/
def cB (a : Vec F S1536x3584 .fp8e4m3) (d : Fin 7) : Vec F S1536x512 .fp8e4m3 := fun x =>
  a (ix (x 0 : Fin 1536) (⟨512 * d.val + (x 1).val, by have : (x 1).val < 512 := (x 1).isLt; omega⟩ : Fin 3584))

/-- What the body makes of the blocks it loads. -/
def prepV (v0 : Vec F S1536x512 .fp8e4m3) (v4 v8 : Vec F S1x1536 .bf16) : FVec F S512x1536 .bf16 :=
  mulf (mulf (transpose S512x1536 [1, 0] (extf .bf16 (shapeCast S1536x512 v0 shapeCasts_S1536x512_S1536x512 : FVec F S1536x512 .fp8e4m3) bitsLt_fp8e4m3_bf16 : FVec F S1536x512 .bf16)
      transposes_S1536x512_p1_0_S512x1536 : FVec F S512x1536 .bf16)
    (broadcastTo S512x1536 (shapeCast S1x1536 v4 shapeCasts_S1x1536_S1x1536) broadcasts_S1x1536_S512x1536 : FVec F S512x1536 .bf16))
    (broadcastTo S512x1536 (shapeCast S1x1536 v8 shapeCasts_S1x1536_S1x1536) broadcasts_S1x1536_S512x1536 : FVec F S512x1536 .bf16)

/-- What the body stores is the block of the scaled activations. -/
theorem pay_eq (x : Vec F S1536x3584 .fp8e4m3) (sx sy : Vec F S1x1536 .bf16) (d : Fin 7) :
    prepV (cB x d) sx sy = xB (xO x sx sy) d := by
  unfold prepV
  simp only [shapeCast_self]
  funext y
  have e1 : ∀ v : FVec F S1536x512 .bf16, transpose S512x1536 [1, 0] v transposes_S1536x512_p1_0_S512x1536 y = v (ix (y 1 : Fin 1536) (y 0 : Fin 512)) := fun v =>
    congrArg v (funext fun a => by fin_cases a <;> rfl)
  have e2 : ∀ v : FVec F S1x1536 .bf16, broadcastTo S512x1536 v broadcasts_S1x1536_S512x1536 y = v (ix (0 : Fin 1) (y 1 : Fin 1536)) := fun v =>
    congrArg v (funext fun a => by fin_cases a <;> rfl)
  exact congrArg₂ FloatOps.mulf (congrArg₂ FloatOps.mulf (e1 _) (e2 _)) (e2 _)

/-- The body, run: the block stored, the inputs as they were. -/
theorem prep_run (c : Dev nD) (𝒱₀ : Variants) (i : grid0.Coords) (a1 : Memref sig .tc .vmem S1536x512 .fp8e4m3) (h1 : a1.IsWhole)
    (a2 : Memref sig .tc .vmem S1x1536 .bf16) (h2 : a2.IsWhole) (a3 : Memref sig .tc .vmem S1x1536 .bf16) (h3 : a3.IsWhole)
    (a4 : Memref sig .tc .vmem S512x1536 .bf16) (h4 : a4.IsWhole) (d1 : Vec F S1536x512 .fp8e4m3) (d2 d3 : Vec F S1x1536 .bf16)
    (d4 : Vec F S512x1536 .bf16) (K : PUnit → sProp 𝕄) :
    iprop(owns (c : Thread nD τ) a1 fullShare d1 ∗ owns (c : Thread nD τ) a2 fullShare d2 ∗ owns (c : Thread nD τ) a3 fullShare d3
        ∗ owns (c : Thread nD τ) a4 fullShare d4
        ∗ (iprop(owns (c : Thread nD τ) a1 fullShare d1 ∗ owns (c : Thread nD τ) a2 fullShare d2 ∗ owns (c : Thread nD τ) a3 fullShare d3
            ∗ owns (c : Thread nD τ) a4 fullShare (prepV d1 d2 d3)) -∗ K ⟨⟩))
      ⊢ wp frame (wpE (defs₀ (F := F)) 𝒱₀ c none) Set.univ (cc0_prep_x i a1 h1 a2 h2 a3 h3 a4 h4) K := by
  unfold cc0_prep_x owns
  iintro ⟨⟨%f1, %e1, H1⟩, ⟨%f2, %e2, H2⟩, ⟨%f3, %e3, H3⟩, ⟨%f4, %e4, H4⟩, Hk⟩
  obtain rfl := h1.eq_unread e1
  obtain rfl := h2.eq_unread e2
  obtain rfl := h3.eq_unread e3
  obtain rfl := h4.eq_unread e4
  sl_exec
  sl_step
  iapply Hk
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  iexists _; isplitr; swap; · iexact H4
  ipureintro
  refine (read_put a4 h4 _ _ _ _ _).trans ((putA_whole _ _ _).trans ?_)
  have e1 : View.readAt (Elt F) a1.view (Rect.unit (s := S1536x512) ![0, 0] S1536x512.size inb_S1536x512_S1536x512_0_0).toLoadRect (h1.unread d1) = d1 :=
    funext fun x => (h1.readAt_unread _ _ x).trans (congrArg d1 (whole_idx _ x))
  have e2 : View.readAt (Elt F) a2.view (Rect.unit (s := S1x1536) ![0, 0] S1x1536.size inb_S1x1536_S1x1536_0_0).toLoadRect (h2.unread d2) = d2 :=
    funext fun x => (h2.readAt_unread _ _ x).trans (congrArg d2 (whole_idx _ x))
  have e3 : View.readAt (Elt F) a3.view (Rect.unit (s := S1x1536) ![0, 0] S1x1536.size inb_S1x1536_S1x1536_0_0).toLoadRect (h3.unread d3) = d3 :=
    funext fun x => (h3.readAt_unread _ _ x).trans (congrArg d3 (whole_idx _ x))
  refine Eq.trans ?_ (congr (congr (congrArg prepV e1) e2) e3)
  rfl

/-! ## The proof data -/

abbrev rw0 (t : Fin cfg0.N) : Fin 7 := grid0.coords t 0

theorem index0 : ∀ t : Fin cfg0.N, (win0_0.index t 0 = 0 ∧ win0_0.index t 1 = (rw0 t).val) ∧ (win0_1.index t 0 = 0 ∧ win0_1.index t 1 = 0)
    ∧ (win0_2.index t 0 = 0 ∧ win0_2.index t 1 = 0) ∧ (win0_3.index t 0 = (rw0 t).val ∧ win0_3.index t 1 = 0) := by decide +kernel

variable (V : Valuation τ sig (Elt F)) (c : Dev nD)

/-- The scaled activations, off the buffers' contents at the region's entry. -/
def xOf : FVec F S3584x1536 .bf16 := xO (V main_v0 : Vec F S1536x3584 .fp8e4m3) (V main_v2 : Vec F S1x1536 .bf16) (V main_v4 : Vec F S1x1536 .bf16)

/-- What the body leaves in each window at each point. -/
def after0 : (w : Fin 4) → (t : Fin cfg0.N) → (cfg0.win w).block.Idx → Elt F (cfg0.win w).elt
  | 0, t => cB (V main_v0) (rw0 t)
  | 1, t => (V main_v2 : Vec F S1x1536 .bf16)
  | 2, t => (V main_v4 : Vec F S1x1536 .bf16)
  | 3, t => xB (xOf V) (rw0 t)
  | ⟨_ + 4, h⟩, t => absurd h (Nat.not_lt.2 (Nat.le_add_left _ _))

/-- The proof data of the preparing region, entered with the buffers at `V`. -/
def dat0 : Dat τ (Elt F) Unit ℕ (Pipeline.UD sig nD τ) ℕ cfg0 c where
  A w := V (Pipeline.arrRef spec0 w)
  after w t := after0 V w t
  Φ _ := Pipeline.scopedRest spec0 c
  q _ := fullShare
  owed _ := 0

theorem dat0_A (w : Fin cfg0.W) : (dat0 V c).A w = V (Pipeline.arrRef spec0 w) := by dsimp only [dat0]
theorem dat0_after (w : Fin cfg0.W) (t : Fin cfg0.N) : (dat0 V c).after w t = after0 V w t := by dsimp only [dat0]

theorem blk0_0 (t : Fin cfg0.N) : (dat0 V c).blockOf 0 t = cB (V main_v0) (rw0 t) := by
  unfold Dat.blockOf
  rw [dat0_A]
  funext y
  refine congrArg (V main_v0 : Vec F S1536x3584 .fp8e4m3) (funext fun a => Fin.ext ?_)
  obtain ⟨⟨h0, h1⟩, -⟩ := index0 t
  fin_cases a
  · show (((cfg0.win 0).blk t).view.emb y 0).val = (y 0).val
    blk_simp [h0]; try omega
  · show (((cfg0.win 0).blk t).view.emb y 1).val = 512 * (rw0 t).val + (y 1).val
    blk_simp [h1]; try omega
theorem blk0_1 (t : Fin cfg0.N) : (dat0 V c).blockOf 1 t = (V main_v2 : Vec F S1x1536 .bf16) := by
  unfold Dat.blockOf
  rw [dat0_A]
  funext y
  refine congrArg (V main_v2 : Vec F S1x1536 .bf16) (funext fun a => Fin.ext ?_)
  obtain ⟨-, ⟨h0, h1⟩, -⟩ := index0 t
  fin_cases a
  · show (((cfg0.win 1).blk t).view.emb y 0).val = (y 0).val
    blk_simp [h0]; try omega
  · show (((cfg0.win 1).blk t).view.emb y 1).val = (y 1).val
    blk_simp [h1]; try omega
theorem blk0_2 (t : Fin cfg0.N) : (dat0 V c).blockOf 2 t = (V main_v4 : Vec F S1x1536 .bf16) := by
  unfold Dat.blockOf
  rw [dat0_A]
  funext y
  refine congrArg (V main_v4 : Vec F S1x1536 .bf16) (funext fun a => Fin.ext ?_)
  obtain ⟨-, -, ⟨h0, h1⟩, -⟩ := index0 t
  fin_cases a
  · show (((cfg0.win 2).blk t).view.emb y 0).val = (y 0).val
    blk_simp [h0]; try omega
  · show (((cfg0.win 2).blk t).view.emb y 1).val = (y 1).val
    blk_simp [h1]; try omega

theorem bef0_0 (t : Fin cfg0.N) (d : (cfg0.win 0).block.Idx → Elt F (cfg0.win 0).elt) : (dat0 V c).before 0 t d = after0 V 0 t :=
  ((dat0 V c).before_in_eq_fetched 0 rfl (fun _ => rfl) (fun _ _ _ => rfl) (fun t => (blk0_0 V c t).symm) t d).trans (blk0_0 V c t)
theorem bef0_1 (t : Fin cfg0.N) (d : (cfg0.win 1).block.Idx → Elt F (cfg0.win 1).elt) : (dat0 V c).before 1 t d = after0 V 1 t :=
  ((dat0 V c).before_in_eq_fetched 1 rfl (fun _ => rfl) (fun _ _ _ => rfl) (fun t => (blk0_1 V c t).symm) t d).trans (blk0_1 V c t)
theorem bef0_2 (t : Fin cfg0.N) (d : (cfg0.win 2).block.Idx → Elt F (cfg0.win 2).elt) : (dat0 V c).before 2 t d = after0 V 2 t :=
  ((dat0 V c).before_in_eq_fetched 2 rfl (fun _ => rfl) (fun _ _ _ => rfl) (fun t => (blk0_2 V c t).symm) t d).trans (blk0_2 V c t)

/-! ## The body obligation -/

def pre0 (t : Fin cfg0.N) : sProp 𝕄 :=
  iprop((dat0 V c).Φ t.castSucc ∗ (dat0 V c).owesAt () t.castSucc
    ∗ (∃ d, owns (c : Thread nD τ) (st0_0 t) fullShare ((dat0 V c).before 0 t d)) ∗ (∃ d, owns (c : Thread nD τ) (st0_1 t) fullShare ((dat0 V c).before 1 t d))
    ∗ (∃ d, owns (c : Thread nD τ) (st0_2 t) fullShare ((dat0 V c).before 2 t d)) ∗ (∃ d, owns (c : Thread nD τ) (st0_3 t) fullShare ((dat0 V c).before 3 t d)))
def post0 (t : Fin cfg0.N) : sProp 𝕄 :=
  iprop((dat0 V c).Φ t.succ ∗ (dat0 V c).owesAt () t.succ
    ∗ owns (c : Thread nD τ) (st0_0 t) fullShare (after0 V 0 t) ∗ owns (c : Thread nD τ) (st0_1 t) fullShare (after0 V 1 t)
    ∗ owns (c : Thread nD τ) (st0_2 t) fullShare (after0 V 2 t) ∗ owns (c : Thread nD τ) (st0_3 t) fullShare (after0 V 3 t))

/-- The body at a point. -/
theorem sound0 (t : Fin cfg0.N) :
    pre0 V c t ⊢ wp frame (wpE (defs₀ (F := F)) Variants.none c none) Set.univ (bodyAt0 t) (fun _ => post0 V c t) := by
  unfold pre0 post0 bodyAt0
  rw [show (dat0 V c).Φ t.succ = (dat0 V c).Φ t.castSucc from rfl, show (dat0 V c).owesAt () t.succ = (dat0 V c).owesAt () t.castSucc from rfl]
  iintro ⟨HΦ, HO, ⟨%e0, W0⟩, ⟨%e1, W1⟩, ⟨%e2, W2⟩, ⟨%e3, W3⟩⟩
  rw [bef0_0, bef0_1, bef0_2]
  iapply (prep_run c Variants.none (grid0.coords t) _ _ _ _ _ _ _ _ (cB (V main_v0) (rw0 t)) (V main_v2 : Vec F S1x1536 .bf16) (V main_v4 : Vec F S1x1536 .bf16) ((dat0 V c).before 3 t e3) _)
  isplitl [W0]; · iexact W0
  isplitl [W1]; · iexact W1
  isplitl [W2]; · iexact W2
  isplitl [W3]; · iexact W3
  rw [pay_eq]
  iintro ⟨W0, W1, W2, W3⟩
  isplitl [HΦ]; · iexact HΦ
  isplitl [HO]; · iexact HO
  isplitl [W0]; · iexact W0
  isplitl [W1]; · iexact W1
  isplitl [W2]; · iexact W2
  iexact W3

theorem defs₀_row0 (t : Fin cfg0.N) : defs₀ (F := F) .tc cfg0.body (cfg0.bodyArgs t (cfg0.slots t)) = bodyAt0 t := by
  unfold defs₀; rw [Defs.onTc_tc]

/-- The library's body obligation. -/
theorem body_obligation0 : BodyObligation (dat0 V c) (defs₀ (F := F)) Variants.none () Set.univ := fun t => by
  rw [bigSep_W0, bigSep_W0, defs₀_row0]
  exact triple_restated (sound0 V c t) rfl .rfl fun _ => .rfl

end Cert.Kernel.Body

end
-- ==== Proof.BitsDat1.lean ====
/-
  The main region: what its windows hold point by point, and its body obligation.
-/
module

public import proofs.«01_k».proof.Proof.BitsOut
public import proofs.«01_k».proof.Proof.BitsRun
public import proofs.«01_k».proof.Proof.BitsBodyEq
public import proofs.«01_k».proof.Proof.Gen.Kernel.Points
public import proofs.«01_k».proof.Proof.Gen.Kernel.Launch
public import Idealize.ShloMosaic.Lib.Pipeline.Frame
public import Idealize.ShloMosaic.Lib.Pipeline.ValueKit

@[expose] public section

set_option maxRecDepth 16384

noncomputable section

namespace Cert.Kernel.Body

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## Where the points lie -/

/-- The tile row and tile column of a point. -/
abbrev rw1 (t : Fin cfg1.N) : Fin 7 := grid1.coords t 0
abbrev cl1 (t : Fin cfg1.N) : Fin 37 := grid1.coords t 1

theorem rw1_val : ∀ t : Fin cfg1.N, (rw1 t).val = t.val / 37 := by decide +kernel
theorem cl1_val : ∀ t : Fin cfg1.N, (cl1 t).val = t.val % 37 := by decide +kernel

theorem tile_index : ∀ t : Fin cfg1.N, (win1_3.index t 0 = (rw1 t).val ∧ win1_3.index t 1 = (cl1 t).val) ∧ (win1_4.index t 0 = (rw1 t).val ∧ win1_4.index t 1 = (cl1 t).val)
    ∧ (win1_6.index t 0 = (rw1 t).val ∧ win1_6.index t 1 = (cl1 t).val) ∧ (win1_8.index t 0 = (rw1 t).val ∧ win1_8.index t 1 = (cl1 t).val)
    ∧ (win1_9.index t 0 = (rw1 t).val ∧ win1_9.index t 1 = (cl1 t).val) ∧ (win1_10.index t 0 = (rw1 t).val ∧ win1_10.index t 1 = (cl1 t).val)
    ∧ (win1_12.index t 0 = (rw1 t).val ∧ win1_12.index t 1 = (cl1 t).val) := by decide +kernel
theorem rows_index : ∀ t : Fin cfg1.N, (win1_1.index t 0 = (rw1 t).val ∧ win1_1.index t 1 = 0) ∧ (win1_5.index t 0 = (rw1 t).val ∧ win1_5.index t 1 = 0)
    ∧ (win1_7.index t 0 = (rw1 t).val ∧ win1_7.index t 1 = 0) ∧ (win1_11.index t 0 = (rw1 t).val ∧ win1_11.index t 1 = 0)
    ∧ (win1_13.index t 0 = (rw1 t).val ∧ win1_13.index t 1 = 0) := by decide +kernel
theorem whole_index : ∀ t : Fin cfg1.N, win1_0.index t 0 = 0 ∧ win1_2.index t 0 = 0 ∧ win1_2.index t 1 = 0 := by decide +kernel

/-! ## The proof data -/

/-- The arrays that the region reads, off the buffers' contents at its entry. -/
def inOf (V : Valuation τ sig (Elt F)) : In F where
  cst := V main_v13
  xt := V main_v5
  dy := V main_v14
  w := V main_arg4
  mq := V main_arg5
  ms := V main_arg6
  sq := V main_arg7
  ss := V main_arg8

/-- What the body leaves in each window at each point: an input's block, an output's tile. -/
def after1 (I : In F) : (w : Fin 14) → (t : Fin cfg1.N) → (cfg1.win w).block.Idx → Elt F (cfg1.win w).elt
  | 0, t => I.cst
  | 1, t => xB I.xt (rw1 t)
  | 2, t => I.dy
  | 3, t => tB I.w (rw1 t) (cl1 t)
  | 4, t => tB I.mq (rw1 t) (cl1 t)
  | 5, t => sB I.ms (rw1 t)
  | 6, t => tB I.sq (rw1 t) (cl1 t)
  | 7, t => sB I.ss (rw1 t)
  | 8, t => wO I (rw1 t) (cl1 t)
  | 9, t => uO I (rw1 t) (cl1 t)
  | 10, t => mO I (rw1 t) (cl1 t)
  | 11, t => msO I (rw1 t)
  | 12, t => sO I (rw1 t) (cl1 t)
  | 13, t => ssO I (rw1 t)
  | ⟨_ + 14, h⟩, t => absurd h (Nat.not_lt.2 (Nat.le_add_left _ _))

/-- The scratch before point `n`. -/
def Scr (I : In F) (n : ℕ) (d17 d18 d19 d20 : Vec F S512x256 .f32) : Prop :=
  ∀ (d : Fin 7) (k : ℕ), 0 < k → k < 37 → n = 37 * d.val + k → Good I d k d17 d18 d19 d20

/-- The other region's staging buffers, at anything. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The scratch buffers between points. -/
def scratch1 (I : In F) (c : Dev nD) (n : ℕ) : sProp 𝕄 :=
  iprop((∃ d : Vec F S512x512 .f32, owns (c : Thread nD τ) (Memref.whole cc1_scratch0) fullShare d)
    ∗ ∃ d17 d18 d19 d20 : Vec F S512x256 .f32, iprop(⌜Scr I n d17 d18 d19 d20⌝
      ∗ owns (c : Thread nD τ) (Memref.whole cc1_scratch1) fullShare d17 ∗ owns (c : Thread nD τ) (Memref.whole cc1_scratch2) fullShare d18
      ∗ owns (c : Thread nD τ) (Memref.whole cc1_scratch3) fullShare d19 ∗ owns (c : Thread nD τ) (Memref.whole cc1_scratch4) fullShare d20))

variable (V : Valuation τ sig (Elt F)) (c : Dev nD)

/-- The proof data of the main region, entered with the buffers at `V`. -/
def dat1 : Dat τ (Elt F) Unit ℕ (Pipeline.UD sig nD τ) ℕ cfg1 c where
  A w := V (Pipeline.arrRef spec1 w)
  after w t := after1 (inOf V) w t
  Φ t := iprop(rest1 c ∗ scratch1 (inOf V) c t.val)
  q _ := fullShare
  owed _ := 0

theorem dat1_A (w : Fin cfg1.W) : (dat1 V c).A w = V (Pipeline.arrRef spec1 w) := by dsimp only [dat1]
theorem dat1_after (w : Fin cfg1.W) (t : Fin cfg1.N) : (dat1 V c).after w t = after1 (inOf V) w t := by dsimp only [dat1]

/-! ## The windows' blocks -/

theorem blk1_0 (t : Fin cfg1.N) : (dat1 V c).blockOf 0 t = (inOf V).cst := by
  unfold Dat.blockOf
  rw [dat1_A]
  funext y
  refine congrArg (inOf V).cst (funext fun a => Fin.ext ?_)
  obtain ⟨h0, -, -⟩ := whole_index t
  fin_cases a
  show (((cfg1.win 0).blk t).view.emb y 0).val = (y 0).val
  blk_simp [h0]; try omega
theorem blk1_2 (t : Fin cfg1.N) : (dat1 V c).blockOf 2 t = (inOf V).dy := by
  unfold Dat.blockOf
  rw [dat1_A]
  funext y
  refine congrArg (inOf V).dy (funext fun a => Fin.ext ?_)
  obtain ⟨-, h0, h1⟩ := whole_index t
  fin_cases a
  · show (((cfg1.win 2).blk t).view.emb y 0).val = (y 0).val
    blk_simp [h0]; try omega
  · show (((cfg1.win 2).blk t).view.emb y 1).val = (y 1).val
    blk_simp [h1]; try omega
theorem blk1_1 (t : Fin cfg1.N) : (dat1 V c).blockOf 1 t = xB (inOf V).xt (rw1 t) := by
  unfold Dat.blockOf
  rw [dat1_A]
  funext y
  refine congrArg (inOf V).xt (funext fun a => Fin.ext ?_)
  obtain ⟨⟨h0, h1⟩, -⟩ := rows_index t
  fin_cases a
  · show (((cfg1.win 1).blk t).view.emb y 0).val = 512 * (rw1 t).val + (y 0).val
    blk_simp [h0]; try omega
  · show (((cfg1.win 1).blk t).view.emb y 1).val = (y 1).val
    blk_simp [h1]; try omega
theorem blk1_3 (t : Fin cfg1.N) : (dat1 V c).blockOf 3 t = tB (inOf V).w (rw1 t) (cl1 t) := by
  unfold Dat.blockOf
  rw [dat1_A]
  funext y
  refine congrArg (inOf V).w (funext fun a => Fin.ext ?_)
  obtain ⟨⟨h0, h1⟩, -⟩ := tile_index t
  fin_cases a
  · show (((cfg1.win 3).blk t).view.emb y 0).val = 512 * (rw1 t).val + (y 0).val
    blk_simp [h0]; try omega
  · show (((cfg1.win 3).blk t).view.emb y 1).val = 512 * (cl1 t).val + (y 1).val
    blk_simp [h1]; try omega
theorem blk1_4 (t : Fin cfg1.N) : (dat1 V c).blockOf 4 t = tB (inOf V).mq (rw1 t) (cl1 t) := by
  unfold Dat.blockOf
  rw [dat1_A]
  funext y
  refine congrArg (inOf V).mq (funext fun a => Fin.ext ?_)
  obtain ⟨-, ⟨h0, h1⟩, -⟩ := tile_index t
  fin_cases a
  · show (((cfg1.win 4).blk t).view.emb y 0).val = 512 * (rw1 t).val + (y 0).val
    blk_simp [h0]; try omega
  · show (((cfg1.win 4).blk t).view.emb y 1).val = 512 * (cl1 t).val + (y 1).val
    blk_simp [h1]; try omega
theorem blk1_5 (t : Fin cfg1.N) : (dat1 V c).blockOf 5 t = sB (inOf V).ms (rw1 t) := by
  unfold Dat.blockOf
  rw [dat1_A]
  funext y
  refine congrArg (inOf V).ms (funext fun a => Fin.ext ?_)
  obtain ⟨-, ⟨h0, h1⟩, -⟩ := rows_index t
  fin_cases a
  · show (((cfg1.win 5).blk t).view.emb y 0).val = 512 * (rw1 t).val + (y 0).val
    blk_simp [h0]; try omega
  · show (((cfg1.win 5).blk t).view.emb y 1).val = (y 1).val
    blk_simp [h1]; try omega
theorem blk1_6 (t : Fin cfg1.N) : (dat1 V c).blockOf 6 t = tB (inOf V).sq (rw1 t) (cl1 t) := by
  unfold Dat.blockOf
  rw [dat1_A]
  funext y
  refine congrArg (inOf V).sq (funext fun a => Fin.ext ?_)
  obtain ⟨-, -, ⟨h0, h1⟩, -⟩ := tile_index t
  fin_cases a
  · show (((cfg1.win 6).blk t).view.emb y 0).val = 512 * (rw1 t).val + (y 0).val
    blk_simp [h0]; try omega
  · show (((cfg1.win 6).blk t).view.emb y 1).val = 512 * (cl1 t).val + (y 1).val
    blk_simp [h1]; try omega
theorem blk1_7 (t : Fin cfg1.N) : (dat1 V c).blockOf 7 t = sB (inOf V).ss (rw1 t) := by
  unfold Dat.blockOf
  rw [dat1_A]
  funext y
  refine congrArg (inOf V).ss (funext fun a => Fin.ext ?_)
  obtain ⟨-, -, ⟨h0, h1⟩, -⟩ := rows_index t
  fin_cases a
  · show (((cfg1.win 7).blk t).view.emb y 0).val = 512 * (rw1 t).val + (y 0).val
    blk_simp [h0]; try omega
  · show (((cfg1.win 7).blk t).view.emb y 1).val = (y 1).val
    blk_simp [h1]; try omega

/-- What the body finds in an input's buffer: its block, fetched there or not. -/
theorem bef1_0 (t : Fin cfg1.N) (d : (cfg1.win 0).block.Idx → Elt F (cfg1.win 0).elt) : (dat1 V c).before 0 t d = after1 (inOf V) 0 t :=
  ((dat1 V c).before_in_eq_fetched 0 rfl (fun _ => rfl) (fun _ _ _ => rfl) (fun t => (blk1_0 V c t).symm) t d).trans (blk1_0 V c t)
theorem bef1_1 (t : Fin cfg1.N) (d : (cfg1.win 1).block.Idx → Elt F (cfg1.win 1).elt) : (dat1 V c).before 1 t d = after1 (inOf V) 1 t :=
  ((dat1 V c).before_in_eq_fetched 1 rfl (fun _ => rfl) (fun _ _ _ => rfl) (fun t => (blk1_1 V c t).symm) t d).trans (blk1_1 V c t)
theorem bef1_2 (t : Fin cfg1.N) (d : (cfg1.win 2).block.Idx → Elt F (cfg1.win 2).elt) : (dat1 V c).before 2 t d = after1 (inOf V) 2 t :=
  ((dat1 V c).before_in_eq_fetched 2 rfl (fun _ => rfl) (fun _ _ _ => rfl) (fun t => (blk1_2 V c t).symm) t d).trans (blk1_2 V c t)
theorem bef1_3 (t : Fin cfg1.N) (d : (cfg1.win 3).block.Idx → Elt F (cfg1.win 3).elt) : (dat1 V c).before 3 t d = after1 (inOf V) 3 t :=
  ((dat1 V c).before_in_eq_fetched 3 rfl (fun _ => rfl) (fun _ _ _ => rfl) (fun t => (blk1_3 V c t).symm) t d).trans (blk1_3 V c t)
theorem bef1_4 (t : Fin cfg1.N) (d : (cfg1.win 4).block.Idx → Elt F (cfg1.win 4).elt) : (dat1 V c).before 4 t d = after1 (inOf V) 4 t :=
  ((dat1 V c).before_in_eq_fetched 4 rfl (fun _ => rfl) (fun _ _ _ => rfl) (fun t => (blk1_4 V c t).symm) t d).trans (blk1_4 V c t)
theorem bef1_5 (t : Fin cfg1.N) (d : (cfg1.win 5).block.Idx → Elt F (cfg1.win 5).elt) : (dat1 V c).before 5 t d = after1 (inOf V) 5 t :=
  ((dat1 V c).before_in_eq_fetched 5 rfl (fun _ => rfl) (fun _ _ _ => rfl) (fun t => (blk1_5 V c t).symm) t d).trans (blk1_5 V c t)
theorem bef1_6 (t : Fin cfg1.N) (d : (cfg1.win 6).block.Idx → Elt F (cfg1.win 6).elt) : (dat1 V c).before 6 t d = after1 (inOf V) 6 t :=
  ((dat1 V c).before_in_eq_fetched 6 rfl (fun _ => rfl) (fun _ _ _ => rfl) (fun t => (blk1_6 V c t).symm) t d).trans (blk1_6 V c t)
theorem bef1_7 (t : Fin cfg1.N) (d : (cfg1.win 7).block.Idx → Elt F (cfg1.win 7).elt) : (dat1 V c).before 7 t d = after1 (inOf V) 7 t :=
  ((dat1 V c).before_in_eq_fetched 7 rfl (fun _ => rfl) (fun _ _ _ => rfl) (fun t => (blk1_7 V c t).symm) t d).trans (blk1_7 V c t)

end Cert.Kernel.Body

end
-- ==== Proof.BitsSound1.lean ====
/-
  The main region's body obligation.
-/
module

public import proofs.«01_k».proof.Proof.BitsDat1

@[expose] public section

set_option maxRecDepth 16384

noncomputable section

namespace Cert.Kernel.Body

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- The buffers that point `t` works on. -/
def refs1 (t : Fin cfg1.N) : Refs where
  a2 := win1_0.stage (cfg1.slots t 0)
  h2 := hstage1_0 ((cfg1.slots t 0).cast nbuf1_0)
  a3 := win1_1.stage (cfg1.slots t 1)
  h3 := hstage1_1 ((cfg1.slots t 1).cast nbuf1_1)
  a4 := win1_2.stage (cfg1.slots t 2)
  h4 := hstage1_2 ((cfg1.slots t 2).cast nbuf1_2)
  a5 := win1_3.stage (cfg1.slots t 3)
  h5 := hstage1_3 ((cfg1.slots t 3).cast nbuf1_3)
  a6 := win1_4.stage (cfg1.slots t 4)
  h6 := hstage1_4 ((cfg1.slots t 4).cast nbuf1_4)
  a7 := win1_5.stage (cfg1.slots t 5)
  h7 := hstage1_5 ((cfg1.slots t 5).cast nbuf1_5)
  a8 := win1_6.stage (cfg1.slots t 6)
  h8 := hstage1_6 ((cfg1.slots t 6).cast nbuf1_6)
  a9 := win1_7.stage (cfg1.slots t 7)
  h9 := hstage1_7 ((cfg1.slots t 7).cast nbuf1_7)
  a10 := win1_8.stage (cfg1.slots t 8)
  h10 := hstage1_8 ((cfg1.slots t 8).cast nbuf1_8)
  a11 := win1_9.stage (cfg1.slots t 9)
  h11 := hstage1_9 ((cfg1.slots t 9).cast nbuf1_9)
  a12 := win1_10.stage (cfg1.slots t 10)
  h12 := hstage1_10 ((cfg1.slots t 10).cast nbuf1_10)
  a13 := win1_11.stage (cfg1.slots t 11)
  h13 := hstage1_11 ((cfg1.slots t 11).cast nbuf1_11)
  a14 := win1_12.stage (cfg1.slots t 12)
  h14 := hstage1_12 ((cfg1.slots t 12).cast nbuf1_12)
  a15 := win1_13.stage (cfg1.slots t 13)
  h15 := hstage1_13 ((cfg1.slots t 13).cast nbuf1_13)
  a16 := Memref.whole cc1_scratch0
  h16 := Memref.isWhole_whole _
  a17 := Memref.whole cc1_scratch1
  h17 := Memref.isWhole_whole _
  a18 := Memref.whole cc1_scratch2
  h18 := Memref.isWhole_whole _
  a19 := Memref.whole cc1_scratch3
  h19 := Memref.isWhole_whole _
  a20 := Memref.whole cc1_scratch4
  h20 := Memref.isWhole_whole _

variable (V : Valuation τ sig (Elt F)) (c : Dev nD)

/-- The body table's row at a point is the body, in the form that the triple is about. -/
theorem defs₀_row1 (t : Fin cfg1.N) : defs₀ (F := F) .tc cfg1.body (cfg1.bodyArgs t (cfg1.slots t)) = bodyU (refs1 t) (grid1.coords t) := by
  refine Eq.trans (b := bodyAt1 t) ?_ (body_eq (grid1.coords t) (refs1 t))
  unfold defs₀; rw [Defs.onTc_tc]

/-- The scratch after a point. -/
theorem scr_next (I : In F) (t : Fin cfg1.N) (d17 d18 d19 d20 : Vec F S512x256 .f32)
    (h : Good I (rw1 t) ((cl1 t).val + 1) d17 d18 d19 d20) : Scr I (t.val + 1) d17 d18 d19 d20 := by
  intro d k hk0 hk hn
  have h0 := rw1_val t
  have h1 := cl1_val t
  obtain rfl : d = rw1 t := Fin.ext (by omega)
  obtain rfl : k = (cl1 t).val + 1 := by omega
  exact h

/-- The scratch before a point that is not the first of its tile row. -/
theorem scr_here (I : In F) (t : Fin cfg1.N) (d17 d18 d19 d20 : Vec F S512x256 .f32) (h : Scr I t.val d17 d18 d19 d20)
    (h0 : 0 < (cl1 t).val) : Good I (rw1 t) (cl1 t).val d17 d18 d19 d20 :=
  h (rw1 t) (cl1 t).val h0 (cl1 t).isLt (by have := rw1_val t; have := cl1_val t; omega)

/-- What a point leaves: its tiles, and the scratch ready for the next point. -/
theorem point_leaves (I : In F) (t : Fin cfg1.N) (d17 d18 : Vec F S512x256 .f32) (s : TS F) (h : Scr I t.val d17 d18 s.ma s.sr) :
    ((tileStep (grid1.coords t) I.cst (scr (grid1.coords t) kM (sB I.ms (rw1 t)) d17) (scr (grid1.coords t) kS (sB I.ss (rw1 t)) d18) (tI I (rw1 t) (cl1 t)) s).u = uO I (rw1 t) (cl1 t)
      ∧ (tileStep (grid1.coords t) I.cst (scr (grid1.coords t) kM (sB I.ms (rw1 t)) d17) (scr (grid1.coords t) kS (sB I.ss (rw1 t)) d18) (tI I (rw1 t) (cl1 t)) s).wn = wO I (rw1 t) (cl1 t)
      ∧ (tileStep (grid1.coords t) I.cst (scr (grid1.coords t) kM (sB I.ms (rw1 t)) d17) (scr (grid1.coords t) kS (sB I.ss (rw1 t)) d18) (tI I (rw1 t) (cl1 t)) s).mc = mO I (rw1 t) (cl1 t)
      ∧ (tileStep (grid1.coords t) I.cst (scr (grid1.coords t) kM (sB I.ms (rw1 t)) d17) (scr (grid1.coords t) kS (sB I.ss (rw1 t)) d18) (tI I (rw1 t) (cl1 t)) s).sc = sO I (rw1 t) (cl1 t))
    ∧ Good I (rw1 t) ((cl1 t).val + 1) (scr (grid1.coords t) kM (sB I.ms (rw1 t)) d17) (scr (grid1.coords t) kS (sB I.ss (rw1 t)) d18)
        (tileStep (grid1.coords t) I.cst (scr (grid1.coords t) kM (sB I.ms (rw1 t)) d17) (scr (grid1.coords t) kS (sB I.ss (rw1 t)) d18) (tI I (rw1 t) (cl1 t)) s).ma
        (tileStep (grid1.coords t) I.cst (scr (grid1.coords t) kM (sB I.ms (rw1 t)) d17) (scr (grid1.coords t) kS (sB I.ss (rw1 t)) d18) (tI I (rw1 t) (cl1 t)) s).sr := by
  have hm := scr_eq I (grid1.coords t) kM (sB I.ms (rw1 t)) d17 fun h0 => (scr_here I t _ _ _ _ h h0).hm
  have hs := scr_eq I (grid1.coords t) kS (sB I.ss (rw1 t)) d18 fun h0 => (scr_here I t _ _ _ _ h h0).hs
  have ha : ∀ z : S512x148.Idx, (z 1).val < 4 * (cl1 t).val → narrow s.ma z = aO I (rw1 t) z := fun z hz =>
    (scr_here I t _ _ _ _ h (by omega)).ha z hz
  have hr : ∀ z : S512x148.Idx, (z 1).val < 4 * (cl1 t).val → narrow s.sr z = rO I (rw1 t) z := fun z hz =>
    (scr_here I t _ _ _ _ h (by omega)).hr z hz
  exact ⟨step_tiles I (grid1.coords t) _ _ s hm hs, hm, hs, step_gather_m I (grid1.coords t) _ _ s hm ha,
    step_gather_s I (grid1.coords t) _ _ s hs hr⟩

/-- After the last point of a tile row the gathered scratch is whole, and the new scales are its. -/
theorem last_m (I : In F) (d : Fin 7) (d17 d18 d19 d20 : Vec F S512x256 .f32) (h : Good I d 37 d17 d18 d19 d20) (f : Vec F S512x148 .f32) :
    lastV newM d19 f = msO I d := by
  rw [lastV_newM, show narrow d19 = aO I d from funext fun z => h.ha z (show (z 1).val < 148 from (z 1).isLt)]
  rfl
theorem last_s (I : In F) (d : Fin 7) (d17 d18 d19 d20 : Vec F S512x256 .f32) (h : Good I d 37 d17 d18 d19 d20) (f : Vec F S512x148 .f32) :
    lastV newS d20 f = ssO I d := by
  rw [lastV_newS, show narrow d20 = rO I d from funext fun z => h.hr z (show (z 1).val < 148 from (z 1).isLt)]
  rfl

/-- What the body is called with at a point, and what it leaves. -/
def pre1 (t : Fin cfg1.N) : sProp 𝕄 :=
  iprop((dat1 V c).Φ t.castSucc ∗ (dat1 V c).owesAt () t.castSucc
    ∗ (∃ d, owns (c : Thread nD τ) (refs1 t).a2 fullShare ((dat1 V c).before 0 t d)) ∗ (∃ d, owns (c : Thread nD τ) (refs1 t).a3 fullShare ((dat1 V c).before 1 t d)) ∗ (∃ d, owns (c : Thread nD τ) (refs1 t).a4 fullShare ((dat1 V c).before 2 t d)) ∗ (∃ d, owns (c : Thread nD τ) (refs1 t).a5 fullShare ((dat1 V c).before 3 t d)) ∗ (∃ d, owns (c : Thread nD τ) (refs1 t).a6 fullShare ((dat1 V c).before 4 t d)) ∗ (∃ d, owns (c : Thread nD τ) (refs1 t).a7 fullShare ((dat1 V c).before 5 t d)) ∗ (∃ d, owns (c : Thread nD τ) (refs1 t).a8 fullShare ((dat1 V c).before 6 t d)) ∗ (∃ d, owns (c : Thread nD τ) (refs1 t).a9 fullShare ((dat1 V c).before 7 t d)) ∗ (∃ d, owns (c : Thread nD τ) (refs1 t).a10 fullShare ((dat1 V c).before 8 t d)) ∗ (∃ d, owns (c : Thread nD τ) (refs1 t).a11 fullShare ((dat1 V c).before 9 t d)) ∗ (∃ d, owns (c : Thread nD τ) (refs1 t).a12 fullShare ((dat1 V c).before 10 t d)) ∗ (∃ d, owns (c : Thread nD τ) (refs1 t).a13 fullShare ((dat1 V c).before 11 t d)) ∗ (∃ d, owns (c : Thread nD τ) (refs1 t).a14 fullShare ((dat1 V c).before 12 t d)) ∗ (∃ d, owns (c : Thread nD τ) (refs1 t).a15 fullShare ((dat1 V c).before 13 t d)))
def post1 (t : Fin cfg1.N) : sProp 𝕄 :=
  iprop((dat1 V c).Φ t.succ ∗ (dat1 V c).owesAt () t.succ
    ∗ owns (c : Thread nD τ) (refs1 t).a2 fullShare (after1 (inOf V) 0 t) ∗ owns (c : Thread nD τ) (refs1 t).a3 fullShare (after1 (inOf V) 1 t) ∗ owns (c : Thread nD τ) (refs1 t).a4 fullShare (after1 (inOf V) 2 t) ∗ owns (c : Thread nD τ) (refs1 t).a5 fullShare (after1 (inOf V) 3 t) ∗ owns (c : Thread nD τ) (refs1 t).a6 fullShare (after1 (inOf V) 4 t) ∗ owns (c : Thread nD τ) (refs1 t).a7 fullShare (after1 (inOf V) 5 t) ∗ owns (c : Thread nD τ) (refs1 t).a8 fullShare (after1 (inOf V) 6 t) ∗ owns (c : Thread nD τ) (refs1 t).a9 fullShare (after1 (inOf V) 7 t) ∗ owns (c : Thread nD τ) (refs1 t).a10 fullShare (after1 (inOf V) 8 t) ∗ owns (c : Thread nD τ) (refs1 t).a11 fullShare (after1 (inOf V) 9 t) ∗ owns (c : Thread nD τ) (refs1 t).a12 fullShare (after1 (inOf V) 10 t) ∗ (dat1 V c).leavesExact 11 t ∗ owns (c : Thread nD τ) (refs1 t).a14 fullShare (after1 (inOf V) 12 t) ∗ (dat1 V c).leavesExact 13 t)

/-- A window of new scales, left by the body: as found, but at the last point of a tile row the new scales. -/
theorem leaves1_11 (t : Fin cfg1.N) (d : (cfg1.win 11).block.Idx → Elt F (cfg1.win 11).elt) (a : Vec F S512x256 .f32)
    (h1 : k1_cond2 (grid1.coords t) = 1#1 → lastV newM a ((dat1 V c).before 11 t d) = msO (inOf V) (rw1 t)) :
    (owns (c : Thread nD τ) (refs1 t).a13 fullShare (scaleOut (grid1.coords t) newM a ((dat1 V c).before 11 t d)) : sProp 𝕄) ⊢ (dat1 V c).leavesExact 11 t := by
  unfold Dat.leavesExact scaleOut
  by_cases h : k1_cond2 (grid1.coords t) = 1#1
  · rw [show cfg1.idle 11 (cfg1.grid.coords t) = false from by show (!(k1_cond2 (grid1.coords t) == 1#1)) = false; rw [h]; rfl, if_pos h, h1 h]
    exact .rfl
  · have hf : (cfg1.win 11).flush t = false := by
      rw [← Bool.not_eq_true]; intro hf
      exact h ((last_iff _).mpr (by rw [cl1_val]; exact (flush1_11 t).mp hf))
    rw [show cfg1.idle 11 (cfg1.grid.coords t) = true from by
      show (!(k1_cond2 (grid1.coords t) == 1#1)) = true; rw [Bool.not_eq_true', beq_eq_false_iff_ne]; exact h, hf, if_neg h]
    iintro H
    iexists d
    iexact H
theorem leaves1_13 (t : Fin cfg1.N) (d : (cfg1.win 13).block.Idx → Elt F (cfg1.win 13).elt) (a : Vec F S512x256 .f32)
    (h1 : k1_cond2 (grid1.coords t) = 1#1 → lastV newS a ((dat1 V c).before 13 t d) = ssO (inOf V) (rw1 t)) :
    (owns (c : Thread nD τ) (refs1 t).a15 fullShare (scaleOut (grid1.coords t) newS a ((dat1 V c).before 13 t d)) : sProp 𝕄) ⊢ (dat1 V c).leavesExact 13 t := by
  unfold Dat.leavesExact scaleOut
  by_cases h : k1_cond2 (grid1.coords t) = 1#1
  · rw [show cfg1.idle 13 (cfg1.grid.coords t) = false from by show (!(k1_cond2 (grid1.coords t) == 1#1)) = false; rw [h]; rfl, if_pos h, h1 h]
    exact .rfl
  · have hf : (cfg1.win 13).flush t = false := by
      rw [← Bool.not_eq_true]; intro hf
      exact h ((last_iff _).mpr (by rw [cl1_val]; exact (flush1_13 t).mp hf))
    rw [show cfg1.idle 13 (cfg1.grid.coords t) = true from by
      show (!(k1_cond2 (grid1.coords t) == 1#1)) = true; rw [Bool.not_eq_true', beq_eq_false_iff_ne]; exact h, hf, if_neg h]
    iintro H
    iexists d
    iexact H

/-- The body at a point. -/
theorem sound1 (t : Fin cfg1.N) :
    pre1 V c t ⊢ wp frame (wpE (defs₀ (F := F)) Variants.none c none) Set.univ (bodyU (refs1 t) (grid1.coords t)) (fun _ => post1 V c t) := by
  unfold pre1
  rw [show (dat1 V c).Φ t.castSucc = iprop(rest1 c ∗ scratch1 (inOf V) c t.val) from rfl]
  unfold scratch1
  iintro ⟨⟨Hr, ⟨%d16, H16⟩, ⟨%d17, %d18, %d19, %d20, %hS, H17, H18, H19, H20⟩⟩, HO, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%e10, W10⟩, ⟨%e11, W11⟩, ⟨%e12, W12⟩, ⟨%e13, W13⟩⟩
  rw [bef1_0, bef1_1, bef1_2, bef1_3, bef1_4, bef1_5, bef1_6, bef1_7]
  iapply (body_run c Variants.none (grid1.coords t) (refs1 t) (inOf V).cst (xB (inOf V).xt (rw1 t)) (inOf V).dy
    ⟨d16, tB (inOf V).mq (rw1 t) (cl1 t), tB (inOf V).sq (rw1 t) (cl1 t), tB (inOf V).w (rw1 t) (cl1 t)⟩ (sB (inOf V).ms (rw1 t)) (sB (inOf V).ss (rw1 t))
    ((dat1 V c).before 11 t e11) ((dat1 V c).before 13 t e13) d17 d18
    ⟨(dat1 V c).before 9 t e9, (dat1 V c).before 8 t e8, (dat1 V c).before 10 t e10, (dat1 V c).before 12 t e12, d19, d20⟩ _)
  isplitl [W0]; · iexact W0
  isplitl [W1]; · iexact W1
  isplitl [W2]; · iexact W2
  isplitl [H16 W4 W6 W3]
  · unfold inSt
    isplitl [H16]; · iexact H16
    isplitl [W4]; · iexact W4
    isplitl [W6]; · iexact W6
    iexact W3
  isplitl [W5]; · iexact W5
  isplitl [W7]; · iexact W7
  isplitl [W11]; · iexact W11
  isplitl [W13]; · iexact W13
  isplitl [H17]; · iexact H17
  isplitl [H18]; · iexact H18
  isplitl [W9 W8 W10 W12 H19 H20]
  · unfold outSt
    isplitl [W9]; · iexact W9
    isplitl [W8]; · iexact W8
    isplitl [W10]; · iexact W10
    isplitl [W12]; · iexact W12
    isplitl [H19]; · iexact H19
    iexact H20
  rw [gradV_eq (inOf V) (grid1.coords t)]
  obtain ⟨⟨hu, hw, hmc, hsc⟩, hG⟩ := point_leaves (inOf V) t d17 d18
    ⟨(dat1 V c).before 9 t e9, (dat1 V c).before 8 t e8, (dat1 V c).before 10 t e10, (dat1 V c).before 12 t e12, d19, d20⟩ hS
  unfold inSt outSt tI at *
  iintro ⟨W0, W1, W2, ⟨H16, W4, W6, W3⟩, W5, W7, W11, W13, H17, H18, ⟨W9, W8, W10, W12, H19, H20⟩⟩
  rw [hu, hw, hmc, hsc]
  unfold post1
  rw [show (dat1 V c).Φ t.succ = iprop(rest1 c ∗ scratch1 (inOf V) c (t.val + 1)) from rfl,
    show (dat1 V c).owesAt () t.succ = (dat1 V c).owesAt () t.castSucc from rfl]
  isplitl [Hr H16 H17 H18 H19 H20]
  · isplitl [Hr]; · iexact Hr
    unfold scratch1
    isplitl [H16]; · iexists _; iexact H16
    iexists _, _, _, _
    isplitr; · ipureintro; exact scr_next (inOf V) t _ _ _ _ hG
    isplitl [H17]; · iexact H17
    isplitl [H18]; · iexact H18
    isplitl [H19]; · iexact H19
    iexact H20
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]
  · iapply (leaves1_11 V c t e11 _ (fun h => last_m (inOf V) (rw1 t) _ _ _ _
      (by rw [show (cl1 t).val = 36 from (last_iff _).mp h] at hG; exact hG) _))
    iexact W11
  isplitl [W12]; · iexact W12
  iapply (leaves1_13 V c t e13 _ (fun h => last_s (inOf V) (rw1 t) _ _ _ _
      (by rw [show (cl1 t).val = 36 from (last_iff _).mp h] at hG; exact hG) _))
  iexact W13

/-- The library's body obligation. -/
theorem body_obligation1 : BodyObligation (dat1 V c) (defs₀ (F := F)) Variants.none () Set.univ := fun t => by
  rw [bigSep_W1, bigSep_W1, defs₀_row1]
  exact triple_restated (sound1 V c t) rfl .rfl fun _ => .rfl

end Cert.Kernel.Body

end
-- ==== Proof.BitsRegions.lean ====
/-
  The records of the two regions: what the buffers hold at each one's entry and exit.
-/
module

public import proofs.«01_k».proof.Proof.BitsDat0
public import proofs.«01_k».proof.Proof.BitsSound1
public import proofs.«01_k».proof.Proof.Gen.Kernel.Regions
public import Idealize.ShloMosaic.Lib.Pipeline.RegionArraysS

@[expose] public section

set_option maxRecDepth 16384

noncomputable section

namespace Cert.Kernel.Body

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (Pipeline.UD sig nD τ) ℕ

/-! ## What the buffers hold between the items -/

variable (m : (ℓ : Loc nD τ sig) → Buf (Elt F) ℓ)

/-- What the first region leaves. -/
def outs0 : Outs (F := F) := fun _ r c => Pipeline.afterRegion (dat0 (V1 m c) c) (V1 m c) r

/-- What both regions leave. -/
def outs : Outs (F := F) := fun J r c => match J with
  | 4 => Pipeline.afterRegion (dat1 (V3 m (outs0 m) c) c) (V3 m (outs0 m) c) r
  | _ => Pipeline.afterRegion (dat0 (V1 m c) c) (V1 m c) r

/-- The contents at the main region's entry. -/
abbrev VM (c : Dev nD) : Valuation τ sig (Elt F) := V3 m (outs m) c

theorem VM_eq (c : Dev nD) : V3 m (outs0 m) c = VM m c := rfl

/-- The proof data of both regions. -/
def pdats : (p : Fin 2) → (c : Dev nD) → Dat τ (Elt F) Unit ℕ (Pipeline.UD sig nD τ) ℕ (cfgs p) c
  | 0 => fun c => dat0 (V1 m c) c
  | 1 => fun c => dat1 (VM m c) c

theorem pdats_0 (c : Dev nD) : pdats m 0 c = dat0 (V1 m c) c := rfl
theorem pdats_1 (c : Dev nD) : pdats m 1 c = dat1 (VM m c) c := rfl

theorem tc_of_uc {b : DevRef τ sig} (hb : b ∈ Pipeline.ucRefs τ sig) : ∃ r : Ref sig .tc, b = Proc.devRef .tc r := by
  unfold Pipeline.ucRefs at hb
  have h := (Finset.mem_filter.mp hb).1
  unfold StableHlo.tcRefs at h
  obtain ⟨r, -, e⟩ := Finset.mem_map.mp h
  exact ⟨r, e.symm⟩

theorem keeps0 : ∀ r : Ref sig .tc, r ∉ ([main_v5] : List (Ref sig .tc)) → ∀ w : Fin cfg0.W, Pipeline.arrRef cfg0.spec w = r → (cfg0.win w).isOut = false := by decide +kernel
theorem keeps1 : ∀ r : Ref sig .tc, r ∉ ([main_v15_0, main_v15_1, main_v15_2, main_v15_3, main_v15_4, main_v15_5] : List (Ref sig .tc)) →
    ∀ w : Fin cfg1.W, Pipeline.arrRef cfg1.spec w = r → (cfg1.win w).isOut = false := by decide +kernel

/-- After the first region only the prepared activations have changed. -/
theorem after0_eq (c : Dev nD) (r : Ref sig .tc) :
    Pipeline.afterRegion (dat0 (V1 m c) c) (V1 m c) r = V2 m (outs m) c r := by
  by_cases h : r ∈ ([main_v5] : List (Ref sig .tc))
  · simp only [List.mem_cons, List.not_mem_nil, or_false] at h
    subst h
    exact (Function.update_self (Proc.devRef .tc main_v5) (outs m 2 main_v5 c) (V1 m c)).symm
  · rw [V2_of m (outs m) c r h]
    exact Pipeline.afterRegion_keeps (dat0 (V1 m c) c) (V1 m c) launch0.win.arr_inj (dat0_A _ _) r (keeps0 r h)

/-- After the main region only the results have changed. -/
theorem after1_eq (c : Dev nD) (r : Ref sig .tc) :
    Pipeline.afterRegion (dat1 (VM m c) c) (VM m c) r = V4 m (outs m) c r := by
  by_cases h : r ∈ ([main_v15_0, main_v15_1, main_v15_2, main_v15_3, main_v15_4, main_v15_5] : List (Ref sig .tc))
  · simp only [List.mem_cons, List.not_mem_nil, or_false] at h
    rcases h with rfl | rfl | rfl | rfl | rfl | rfl <;>
      simp only [V4, Function.update_self, ne_eq, reduceCtorEq, not_false_eq_true, Function.update_of_ne] <;> rfl
  · rw [V4_of m (outs m) c r h]
    exact Pipeline.afterRegion_keeps (dat1 (VM m c) c) (VM m c) launch1.win.arr_inj (dat1_A _ _) r (keeps1 r h)

/-! ## The regions' records -/

/-- Every TensorCore semaphore has the one level. -/
abbrev Lset (g : GSem nD τ sig) : Finset Unit := if g.1.2 = .tc then {()} else ∅
abbrev lvl (g : GSem nD τ sig) (i : Unit) : ℕ := 0

theorem levelCut (p : Fin 2) : Pipeline.LevelCut (pcfgs (F := F)) adm () Lset lvl p (fun _ => (0 : CellTallies nD τ sig Unit)) (fun _ => 0) where
  hι c w s := by simp [Lset]
  hιb c w s := le_refl _
  hD c g i h := absurd h (by simp)

/-- What rides along: the core owes nothing. -/
def E (_ : Fin 3) (c : Dev nD) : sProp 𝕄 := iprop((∃ W, owes (c : Thread nD τ) (0 : CellTallies nD τ sig Unit) W) ∗ emp ∗ emp)

theorem scratch_in (c : Dev nD) : (Pipeline.scopedRest spec1 c : sProp 𝕄) ⊢ iprop(rest1 (F := F) c ∗ scratch1 (inOf (VM m c)) c 0) := by
  rw [scopedRest1_eq]; unfold rest1 scratch1
  iintro ⟨H0, H1, H2, H3, H4, H5, ⟨%f0, S0⟩, ⟨%f1, S1⟩, ⟨%f2, S2⟩, ⟨%f3, S3⟩, ⟨%f4, S4⟩⟩
  isplitl [H0 H1 H2 H3 H4 H5]
  · isplitl [H0]; · iexact H0
    isplitl [H1]; · iexact H1
    isplitl [H2]; · iexact H2
    isplitl [H3]; · iexact H3
    isplitl [H4]; · iexact H4
    iexact H5
  simp only [owns_whole]
  isplitl [S0]; · iexists f0; iexact S0
  iexists f1, f2, f3, f4
  isplitr
  · ipureintro; intro d k hk _ h; omega
  isplitl [S1]; · iexact S1
  isplitl [S2]; · iexact S2
  isplitl [S3]; · iexact S3
  iexact S4

theorem scratch_out (I : In F) (c : Dev nD) (n : ℕ) : iprop(rest1 (F := F) c ∗ scratch1 I c n) ⊢ (Pipeline.scopedRest spec1 c : sProp 𝕄) := by
  rw [scopedRest1_eq]; unfold rest1 scratch1
  simp only [owns_whole]
  iintro ⟨⟨H0, H1, H2, H3, H4, H5⟩, ⟨%f0, S0⟩, ⟨%f1, %f2, %f3, %f4, -, S1, S2, S3, S4⟩⟩
  isplitl [H0]; · iexact H0
  isplitl [H1]; · iexact H1
  isplitl [H2]; · iexact H2
  isplitl [H3]; · iexact H3
  isplitl [H4]; · iexact H4
  isplitl [H5]; · iexact H5
  isplitl [S0]; · iexists f0; iexact S0
  isplitl [S1]; · iexists f1; iexact S1
  isplitl [S2]; · iexists f2; iexact S2
  isplitl [S3]; · iexists f3; iexact S3
  iexists f4; iexact S4

theorem hin0 (c : Dev nD) : iprop(Pipeline.scopedRest spec0 c ∗ emp) ⊢ (Pipeline.scopedRest spec0 c : sProp 𝕄) := by
  iintro ⟨H, -⟩; iexact H

theorem hout0 (c : Dev nD) : (Pipeline.scopedRest spec0 c : sProp 𝕄) ⊢ iprop(Pipeline.scopedRest spec0 c ∗ emp) := by
  iintro H
  isplitl [H]; · iexact H
  iempintro

theorem hin1 (c : Dev nD) : iprop(Pipeline.scopedRest spec1 c ∗ emp) ⊢ iprop(rest1 (F := F) c ∗ scratch1 (inOf (VM m c)) c 0) := by
  iintro ⟨H, -⟩; iapply (scratch_in m c); iexact H

theorem hout1 (c : Dev nD) : iprop(rest1 (F := F) c ∗ scratch1 (inOf (VM m c)) c cfg1.N) ⊢ iprop(Pipeline.scopedRest spec1 c ∗ emp) := by
  iintro H
  isplitl [H]; · iapply (scratch_out (inOf (VM m c)) c cfg1.N); iexact H
  iempintro

/-- The first region. -/
def reg0 : RegionSeg (pcfgs (F := F)) adm (pdats m) () defs₀ Variants.none Lset lvl 0 :=
  RegionSeg.ofHeldIn pcfgs adm (pdats m) () defs₀ Variants.none Lset lvl 0 (fun _ => 0) (Pipeline.ucRefs τ sig) (fun _ => iprop(emp)) (fun _ => iprop(emp))
    launch0.toP rfl (fun c => (body_obligation0 (V1 m c) c).loose) (fun _ _ => rfl) (fun _ => rfl) (fun c w => Dat.share_full _ (fun _ => rfl) w)
    (fun c => hin0 c) (fun c => hout0 c)
    (fun _ => 0) (levelCut 0) (fun _ => iprop(emp)) (fun c => V1 m c) (fun c w => rfl)

/-- The main region. -/
def reg1 : RegionSeg (pcfgs (F := F)) adm (pdats m) () defs₀ Variants.none Lset lvl 1 :=
  RegionSeg.ofHeldIn pcfgs adm (pdats m) () defs₀ Variants.none Lset lvl 1 (fun _ => 0) (Pipeline.ucRefs τ sig) (fun _ => iprop(emp)) (fun _ => iprop(emp))
    launch1.toP rfl (fun c => (body_obligation1 (VM m c) c).loose) (fun _ _ => rfl) (fun _ => rfl) (fun c w => Dat.share_full _ (fun _ => rfl) w)
    (fun c => hin1 m c) (fun c => hout1 m c)
    (fun _ => 0) (levelCut 1) (fun _ => iprop(emp)) (fun c => VM m c) (fun c w => rfl)

end Cert.Kernel.Body

end
-- ==== Proof.BitsLaunch.lean ====
/-
  The whole program's run: the host stretch, the region that prepares the activations, the host stretch, the main region.
-/
module

public import proofs.«01_k».proof.Proof.BitsRegions
public import proofs.«01_k».proof.Proof.Gen.Kernel.Regions
public import Idealize.ShloMosaic.Lib.Pipeline.RegionArraysS

@[expose] public section

set_option maxRecDepth 16384

noncomputable section

namespace Cert.Kernel.Body

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

theorem sub0 : Pipeline.arrRefs (τ := τ) (pcfgs (F := F) 0).spec ⊆ Pipeline.ucRefs τ sig := Pipeline.arrRefs_sub_ucRefs spec0 launch0.win.arr_unscoped
theorem sub1 : Pipeline.arrRefs (τ := τ) (pcfgs (F := F) 1).spec ⊆ Pipeline.ucRefs τ sig := Pipeline.arrRefs_sub_ucRefs spec1 launch1.win.arr_unscoped

theorem hpre0 (c : Dev nD) : iprop(StableHlo.held (c : Thread nD τ) (Pipeline.ucRefs τ sig) (V1 m c) ∗ E (F := F) 0 c) ⊢ (reg0 m).pre c := by
  unfold reg0 E
  exact RegionSeg.ofHeldIn_pre (pcs := pcfgs (F := F)) (a := adm) (pdats := pdats m) (ι := ()) (p := 0) (D := fun _ => 0) (S := Pipeline.ucRefs τ sig)
    (X := fun _ => iprop(emp)) (Y := fun _ => iprop(emp)) (R := fun _ => iprop(emp)) (W := fun c => V1 m c) (sub0 (F := F)) c

theorem hpost0 (c : Dev nD) : (reg0 m).post c ⊢ iprop(StableHlo.held (c : Thread nD τ) (Pipeline.ucRefs τ sig) (V2 m (outs m) c) ∗ E (F := F) 1 c) := by
  rw [← StableHlo.held_congr (c : Thread nD τ) (S := Pipeline.ucRefs τ sig) (V := Pipeline.afterRegion (dat0 (V1 m c) c) (V1 m c)) (V' := V2 m (outs m) c)
    (fun b hb => by obtain ⟨r, rfl⟩ := tc_of_uc hb; exact after0_eq m c r)]
  unfold reg0 E
  exact RegionSeg.ofHeldIn_post (sub0 (F := F)) c

theorem hpre1 (c : Dev nD) : iprop(StableHlo.held (c : Thread nD τ) (Pipeline.ucRefs τ sig) (V3 m (outs m) c) ∗ E (F := F) 1 c) ⊢ (reg1 m).pre c := by
  unfold reg1 E
  exact RegionSeg.ofHeldIn_pre (pcs := pcfgs (F := F)) (a := adm) (pdats := pdats m) (ι := ()) (p := 1) (D := fun _ => 0) (S := Pipeline.ucRefs τ sig)
    (X := fun _ => iprop(emp)) (Y := fun _ => iprop(emp)) (R := fun _ => iprop(emp)) (W := fun c => VM m c) (sub1 (F := F)) c

theorem hpost1 (c : Dev nD) : (reg1 m).post c ⊢ iprop(StableHlo.held (c : Thread nD τ) (Pipeline.ucRefs τ sig) (V4 m (outs m) c) ∗ E (F := F) 2 c) := by
  rw [← StableHlo.held_congr (c : Thread nD τ) (S := Pipeline.ucRefs τ sig) (V := Pipeline.afterRegion (dat1 (VM m c) c) (VM m c)) (V' := V4 m (outs m) c)
    (fun b hb => by obtain ⟨r, rfl⟩ := tc_of_uc hb; exact after1_eq m c r)]
  unfold reg1 E
  exact RegionSeg.ofHeldIn_post (sub1 (F := F)) c

theorem hE2 (c : Dev nD) : E (F := F) 2 c ⊢ (iprop(∃ W, owes (c : Thread nD τ) (0 : CellTallies nD τ sig Unit) W) : sProp 𝕄) := by
  unfold E; iintro ⟨H, -, -⟩; iexact H

/-! ## The run -/

/-- The launch element: the pipeline's rounds, no counters. -/
def u₀ : Pipeline.UD sig nD τ := (initOf (Pipeline.cells cfgs cellOf_inj) (Pipeline.launchToks cfgs cellOf_inj), 1)

/-- A buffer of core `c` at the end holds what the last valuation says. -/
def ends (c : Dev nD) (m' : (ℓ : Loc nD τ sig) → Buf (Elt F) ℓ) (r : Ref sig .tc) : Prop :=
  m' ((c.tc : Thread nD τ).loc r) = V4 m (outs m) c r

theorem uc_all : ∀ r : Ref sig .tc, r ∈ ([main_arg0, main_arg1, main_arg2, main_arg3, main_arg4, main_arg5, main_arg6, main_arg7, main_arg8, main_arg9,
    main_v15_0, main_v15_1, main_v15_2, main_v15_3, main_v15_4, main_v15_5] : List (Ref sig .tc)) → Proc.devRef (τ := τ) .tc r ∈ Pipeline.ucRefs τ sig := by
  intro r hr
  refine Finset.mem_filter.mpr ⟨StableHlo.devRef_mem_tcRefs r, ?_⟩
  revert r; decide

set_option backward.isDefEq.respectTransparency.types false in
/-- Every weakly fair execution terminates, with every argument and every result at the last valuation and every counter at zero. -/
theorem run_all (ρ : Dev nD → PrngReg) :
    θ_run defs (onTc (τ := τ) (main (F := F))) ⟨m, fun _ => 0, ρ⟩ (fun r => (∀ c : Dev nD, ∀ b : Ref sig .tc,
      b ∈ ([main_arg0, main_arg1, main_arg2, main_arg3, main_arg4, main_arg5, main_arg6, main_arg7, main_arg8, main_arg9,
        main_v15_0, main_v15_1, main_v15_2, main_v15_3, main_v15_4, main_v15_5] : List (Ref sig .tc)) → ends m c r.2.mem b)
      ∧ r.2.sem = fun _ => 0) := by
  refine Pipeline.θ_run_regions_kit_dev_sems (pcfgs (F := F)) adm (pdats m) () cellOf_inj embL defs₀ Variants.none Lset lvl m ρ main
    (segs m (outs m) Variants.none Lset lvl E () (pdats m) (reg0 m) (reg1 m))
    (fun c Q => by
      rewrite [main_chain c, Seg.run_eq_chain,
        show (segs m (outs m) Variants.none Lset lvl E () (pdats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun g h => if_neg h) (fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨.rfl, hpre0 m c, hpost0 m c, hpre1 m c, (hpost1 m c).trans (sep_mono .rfl (hE2 c))⟩)
    (hinit := ?_) (QY := fun c s => ∀ b : Ref sig .tc,
      b ∈ ([main_arg0, main_arg1, main_arg2, main_arg3, main_arg4, main_arg5, main_arg6, main_arg7, main_arg8, main_arg9,
        main_v15_0, main_v15_1, main_v15_2, main_v15_3, main_v15_4, main_v15_5] : List (Ref sig .tc)) → ends m c s.mem b)
    (hfin := fun c s' => ?_) (hQ := fun _ h hz => ⟨h, funext fun g => hz g (.inr (regions_no_unscoped g.2))⟩)
  · refine Pipeline.initEach Lset lvl fun c => ?_
    rw [show unscopedBufs c (fun b => m ((c : Thread nD τ).loc b)) = StableHlo.held (c : Thread nD τ) (Pipeline.ucRefs τ sig) (V0 m c) from Pipeline.unscopedBufs_held c (V0 m c)]
    unfold E
    iintro ⟨⟨Hh, -, HO, -, -, -⟩, -⟩
    imodintro
    isplitl [Hh]; · iexact Hh
    isplitl [HO]; · iexists ∅; iexact HO
    isplitr; · iempintro
    iempintro
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact fun b hb => h (Proc.devRef .tc b) (uc_all b hb)
    · iexact HSI

end Cert.Kernel.Body

end
-- ==== Proof.IdealBody.lean ====
/-
  The body of the update kernel, written once per block of 32 rows by 128 columns instead of sixty-four times: the printed
  body is this program (`body_eq`), so that one statement about a block serves all sixty-four.
-/
module

public import proofs.«01_k».proof.Proof.Gen.KernelIdeal.Launch

@[expose] public section

set_option maxRecDepth 16384

noncomputable section

namespace Cert.KernelIdeal.Body

open Cert.KernelIdeal Cert.KernelIdeal.Gen
open Idealize.ShloMosaic Idealize.ShloMosaic.TcCoe
open Idealize.SL.Sem

variable {F : FTy → Type} [FloatOps F] [Named F]

/-- The kernel's nineteen operands: fourteen staged windows and five scratch buffers, each a whole buffer. -/
structure Refs where
  a2 : Memref sig .tc .smem S2 .f32
  h2 : a2.IsWhole
  a3 : Memref sig .tc .vmem S512x1536 .bf16
  h3 : a3.IsWhole
  a4 : Memref sig .tc .vmem S1536x18944 .fp8e5m2
  h4 : a4.IsWhole
  a5 : Memref sig .tc .vmem S512x512 .bf16
  h5 : a5.IsWhole
  a6 : Memref sig .tc .vmem S512x512 .i8
  h6 : a6.IsWhole
  a7 : Memref sig .tc .vmem S512x148 .f32
  h7 : a7.IsWhole
  a8 : Memref sig .tc .vmem S512x512 .i8
  h8 : a8.IsWhole
  a9 : Memref sig .tc .vmem S512x148 .f32
  h9 : a9.IsWhole
  a10 : Memref sig .tc .vmem S512x512 .bf16
  h10 : a10.IsWhole
  a11 : Memref sig .tc .vmem S512x512 .f32
  h11 : a11.IsWhole
  a12 : Memref sig .tc .vmem S512x512 .i8
  h12 : a12.IsWhole
  a13 : Memref sig .tc .vmem S512x148 .f32
  h13 : a13.IsWhole
  a14 : Memref sig .tc .vmem S512x512 .i8
  h14 : a14.IsWhole
  a15 : Memref sig .tc .vmem S512x148 .f32
  h15 : a15.IsWhole
  a16 : Memref sig .tc .vmem S512x512 .f32
  h16 : a16.IsWhole
  a17 : Memref sig .tc .vmem S512x256 .f32
  h17 : a17.IsWhole
  a18 : Memref sig .tc .vmem S512x256 .f32
  h18 : a18.IsWhole
  a19 : Memref sig .tc .vmem S512x256 .f32
  h19 : a19.IsWhole
  a20 : Memref sig .tc .vmem S512x256 .f32
  h20 : a20.IsWhole

/-! ## Where a block lies -/

/-- The corner of block `(r, b)` of a tile: row `32 r`, column `128 b`. -/
abbrev bo (r : Fin 16) (b : Fin 4) : Fin 2 → ℕ := ![32 * r.val, 128 * b.val]

theorem bo_inb (r : Fin 16) (b : Fin 4) : ∀ a, bo r b a + S32x128.size a ≤ S512x512.size a := by
  revert r b; decide

theorem bo_bf16 (r : Fin 16) (b : Fin 4) :
    (Rect.unit (s := S512x512) (bo r b) S32x128.size (bo_inb r b)).PackedRows (EltTy.packing .bf16) := by
  revert r b; decide

theorem bo_i8 (r : Fin 16) (b : Fin 4) :
    (Rect.unit (s := S512x512) (bo r b) S32x128.size (bo_inb r b)).PackedRows (EltTy.packing .i8) := by
  revert r b; decide

/-- The corner of the slice of a scale scratch that the row chunk `r` works on at point `i`, as printed. -/
def koff (r : Fin 16) (i : grid1.Coords) : Fin 2 → ℕ :=
  (![k1_off2, k1_off3, k1_off4, k1_off5, k1_off6, k1_off7, k1_off8, k1_off9, k1_off10, k1_off11, k1_off12, k1_off13, k1_off14, k1_off15, k1_off16, k1_off17] : Fin 16 → grid1.Coords → Fin 2 → ℕ) r i

theorem koff_inb (r : Fin 16) (i : grid1.Coords) : ∀ a, koff r i a + S32x128.size a ≤ S512x256.size a := by
  fin_cases r
  · exact k1_off2_inb i
  · exact k1_off3_inb i
  · exact k1_off4_inb i
  · exact k1_off5_inb i
  · exact k1_off6_inb i
  · exact k1_off7_inb i
  · exact k1_off8_inb i
  · exact k1_off9_inb i
  · exact k1_off10_inb i
  · exact k1_off11_inb i
  · exact k1_off12_inb i
  · exact k1_off13_inb i
  · exact k1_off14_inb i
  · exact k1_off15_inb i
  · exact k1_off16_inb i
  · exact k1_off17_inb i

/-- Where the scale of block `b` lies in a rotated slice. -/
abbrev so (b : Fin 4) : Fin 2 → ℕ := ![0, b.val]

theorem so_slices (b : Fin 4) : S32x128.Slices (so b) S32x1 := by
  revert b; decide

/-! ## The scalars -/

/-- Whether point `i` is the first of its tile row. -/
def isFirst (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

/-- The lane of a scale slice at which point `i`'s scales begin. -/
def laneOf (i : grid1.Coords) : BitVec 32 :=
  let arg1 : BitVec 32 := BitVec.ofNat 32 (i 1).val
  let c32_i32 : BitVec 32 := 32#32
  let c0_i32_3 : BitVec 32 := 0#32
  let v10 : BitVec 1 := Scalar.cmpi .eq c32_i32 c0_i32_3
  let c1_i32 : BitVec 32 := 1#32
  let v11 : BitVec 32 := Scalar.select v10 c1_i32 c32_i32
  let v12 : BitVec 32 := Scalar.remsi arg1 v11
  let c0_i32_4 : BitVec 32 := 0#32
  let v13 : BitVec 1 := Scalar.cmpi .ne v12 c0_i32_4
  let c0_i32_5 : BitVec 32 := 0#32
  let v14 : BitVec 1 := Scalar.cmpi .slt v12 c0_i32_5
  let c0_i32_6 : BitVec 32 := 0#32
  let v15 : BitVec 1 := Scalar.cmpi .slt v11 c0_i32_6
  let v16 : BitVec 1 := Scalar.xori v14 v15
  let v17 : BitVec 1 := Scalar.andi v16 v13
  let v18 : BitVec 32 := Scalar.addi v12 v11
  let v19 : BitVec 32 := Scalar.select v17 v18 v12
  let c4_i32 : BitVec 32 := 4#32
  let v20 : BitVec 32 := Scalar.muli c4_i32 v19
  v20

/-- The rotation that brings that lane to lane 0. -/
def shiftOf (i : grid1.Coords) : BitVec 32 :=
  let v20 : BitVec 32 := laneOf i
  let c128_i32 : BitVec 32 := 128#32
  let v21 : BitVec 32 := Scalar.subi c128_i32 v20
  let c128_i32_7 : BitVec 32 := 128#32
  let c0_i32_8 : BitVec 32 := 0#32
  let v22 : BitVec 1 := Scalar.cmpi .eq c128_i32_7 c0_i32_8
  let c1_i32_9 : BitVec 32 := 1#32
  let v23 : BitVec 32 := Scalar.select v22 c1_i32_9 c128_i32_7
  let v24 : BitVec 32 := Scalar.remsi v21 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  v31

/-- The factor of the first moment in the update, of the two bias corrections. -/
def cuOf (v3 v4 : Elt F .f32) : F .f32 :=
  let cst : F .f32 := Named.named κ "c2" 0x3A83126F#32
  let v5 : F .f32 := Scalar.divf v4 cst
  let v6 : F .f32 := Scalar.sqrt v5
  let cst_1 : F .f32 := Named.named κ "minus_lr_c1" 0xB8D1B717#32
  let v7 : F .f32 := Scalar.divf cst_1 v3
  let v8 : F .f32 := Scalar.mulf v7 v6
  v8

/-- What is added to the root of the second moment, of the second bias correction. -/
def epOf (v4 : Elt F .f32) : F .f32 :=
  let cst : F .f32 := Named.named κ "c2" 0x3A83126F#32
  let v5 : F .f32 := Scalar.divf v4 cst
  let v6 : F .f32 := Scalar.sqrt v5
  let cst_2 : F .f32 := Scalar.ofBits .f32 0x322BCC77#32
  let v9 : F .f32 := Scalar.mulf cst_2 v6
  v9

/-! ## The body -/

/-- At a tile row's first point: both scale columns, scaled, into the scratch. -/
def initU (R : Refs) : Prog (TpuEff nD τ sig (Elt F) Λ₀ .tc) PUnit := do
  let v5602 : Vec F S512x128 .f32 ← Prog.lift (.load R.a7 (Rect.unit (s := S512x148) ![0, 0] S512x128.size inb_S512x148_S512x128_0_0).toLoadRect (View.loadsAt_vmem h_S512x128))
  have cst_2157 : F .f32 := Named.named κ "b1_over_c1" 0x41100000#32
  have v5603 : FVec F S512x128 .f32 := broadcast S512x128 cst_2157
  have v5604 : FVec F S512x128 .f32 := mulf v5602 v5603
  let v5605 : Vec F S512x128 .f32 ← Prog.lift (.load R.a17 (Rect.unit (s := S512x256) ![0, 0] S512x128.size inb_S512x256_S512x128_0_0).toLoadRect (View.loadsAt_vmem h_S512x128))
  have v5606 : FVec F S512x128 .f32 := shapeCast S512x128 v5605 shapeCasts_S512x128_S512x128
  have v5607 : FVec F S512x128 .f32 := shapeCast S512x128 v5604 shapeCasts_S512x128_S512x128
  Prog.lift (.store R.a17 (Rect.unit (s := S512x256) ![0, 0] S512x128.size inb_S512x256_S512x128_0_0) v5607 Finset.univ (View.stores_vmem_bits_univ h_S512x128 rfl) (.inl rfl))
  let v5608 : Vec F S512x20 .f32 ← Prog.lift (.load R.a7 (Rect.unit (s := S512x148) ![0, 128] S512x20.size inb_S512x148_S512x20_0_128).toLoadRect (View.loadsAt_vmem h_S512x20))
  have cst_2162 : F .f32 := Named.named κ "b1_over_c1" 0x41100000#32
  have v5609 : FVec F S512x20 .f32 := broadcast S512x20 cst_2162
  have v5610 : FVec F S512x20 .f32 := mulf v5608 v5609
  let v5611 : Vec F S512x20 .f32 ← Prog.lift (.load R.a17 (Rect.unit (s := S512x256) ![0, 128] S512x20.size inb_S512x256_S512x20_0_128).toLoadRect (View.loadsAt_vmem h_S512x20))
  have v5612 : FVec F S512x20 .f32 := shapeCast S512x20 v5611 shapeCasts_S512x20_S512x20
  have v5613 : FVec F S512x20 .f32 := shapeCast S512x20 v5610 shapeCasts_S512x20_S512x20
  Prog.lift (.store R.a17 (Rect.unit (s := S512x256) ![0, 128] S512x20.size inb_S512x256_S512x20_0_128) v5613 Finset.univ (View.stores_vmem_bits_univ h_S512x20 rfl) (.inl rfl))
  let v5614 : Vec F S512x128 .f32 ← Prog.lift (.load R.a9 (Rect.unit (s := S512x148) ![0, 0] S512x128.size inb_S512x148_S512x128_0_0).toLoadRect (View.loadsAt_vmem h_S512x128))
  have cst_2167 : F .f32 := Named.named κ "sqrt_b2_over_c2" 0x41FCDB0F#32
  have v5615 : FVec F S512x128 .f32 := broadcast S512x128 cst_2167
  have v5616 : FVec F S512x128 .f32 := mulf v5614 v5615
  let v5617 : Vec F S512x128 .f32 ← Prog.lift (.load R.a18 (Rect.unit (s := S512x256) ![0, 0] S512x128.size inb_S512x256_S512x128_0_0).toLoadRect (View.loadsAt_vmem h_S512x128))
  have v5618 : FVec F S512x128 .f32 := shapeCast S512x128 v5617 shapeCasts_S512x128_S512x128
  have v5619 : FVec F S512x128 .f32 := shapeCast S512x128 v5616 shapeCasts_S512x128_S512x128
  Prog.lift (.store R.a18 (Rect.unit (s := S512x256) ![0, 0] S512x128.size inb_S512x256_S512x128_0_0) v5619 Finset.univ (View.stores_vmem_bits_univ h_S512x128 rfl) (.inl rfl))
  let v5620 : Vec F S512x20 .f32 ← Prog.lift (.load R.a9 (Rect.unit (s := S512x148) ![0, 128] S512x20.size inb_S512x148_S512x20_0_128).toLoadRect (View.loadsAt_vmem h_S512x20))
  have cst_2172 : F .f32 := Named.named κ "sqrt_b2_over_c2" 0x41FCDB0F#32
  have v5621 : FVec F S512x20 .f32 := broadcast S512x20 cst_2172
  have v5622 : FVec F S512x20 .f32 := mulf v5620 v5621
  let v5623 : Vec F S512x20 .f32 ← Prog.lift (.load R.a18 (Rect.unit (s := S512x256) ![0, 128] S512x20.size inb_S512x256_S512x20_0_128).toLoadRect (View.loadsAt_vmem h_S512x20))
  have v5624 : FVec F S512x20 .f32 := shapeCast S512x20 v5623 shapeCasts_S512x20_S512x20
  have v5625 : FVec F S512x20 .f32 := shapeCast S512x20 v5622 shapeCasts_S512x20_S512x20
  Prog.lift (.store R.a18 (Rect.unit (s := S512x256) ![0, 128] S512x20.size inb_S512x256_S512x20_0_128) v5625 Finset.univ (View.stores_vmem_bits_univ h_S512x20 rfl) (.inl rfl))

/-- The gradient tile: a product of two matrices, into the scratch. -/
def mmU (R : Refs) (i : grid1.Coords) : Prog (TpuEff nD τ sig (Elt F) Λ₀ .tc) PUnit := do
  let arg1 : BitVec 32 := BitVec.ofNat 32 (i 1).val
  let v52 : Vec F S512x1536 .bf16 ← Prog.lift (.load R.a3 (Rect.unit (s := S512x1536) ![0, 0] S512x1536.size inb_S512x1536_S512x1536_0_0).toLoadRect (View.loadsAt_vmem h_S512x1536))
  have v53 : FVec F S512x1536 .bf16 := shapeCast S512x1536 v52 shapeCasts_S512x1536_S512x1536
  let c512_i32 : BitVec 32 := 512#32
  let v54 : BitVec 32 := Scalar.muli arg1 c512_i32
  let v55 : BitVec 32 := v54
  let v57 : Vec F S1536x512 .fp8e5m2 ← Prog.lift (.load R.a4 (Rect.unit (s := S1536x18944) (k1_off1 i) S1536x512.size (k1_off1_inb i)).toLoadRect (View.loadsAt_vmem h_S1536x512))
  have v58 : FVec F S1536x512 .fp8e5m2 := shapeCast S1536x512 v57 shapeCasts_S1536x512_S1536x512
  have cst_24 : FVec F S512x512 .f32 := constant S512x512 .f32 0x00000000#32
  have v59 : FVec F S512x512 .f32 := matmul dot_S512x1536_S1536x512_S512x512_1_0_0_1_n_n none v53 v58 cst_24
  let v60 : Vec F S512x512 .f32 ← Prog.lift (.load R.a16 (Rect.unit (s := S512x512) ![0, 0] S512x512.size inb_S512x512_S512x512_0_0).toLoadRect (View.loadsAt_vmem h_S512x512))
  have v61 : FVec F S512x512 .f32 := shapeCast S512x512 v60 shapeCasts_S512x512_S512x512
  have v62 : FVec F S512x512 .f32 := shapeCast S512x512 v59 shapeCasts_S512x512_S512x512
  Prog.lift (.store R.a16 (Rect.unit (s := S512x512) ![0, 0] S512x512.size inb_S512x512_S512x512_0_0) v62 Finset.univ (View.stores_vmem_bits_univ h_S512x512 rfl) (.inl rfl))

/-- Block `(r, b)`: the optimiser's step on it. -/
def blkU (R : Refs) (i : grid1.Coords) (v20 : BitVec 32) (v51 : IVec S32x128 32) (v8 v9 : F .f32) (v65 v68 : FVec F S32x128 .f32)
    (r : Fin 16) (b : Fin 4) : Prog (TpuEff nD τ sig (Elt F) Λ₀ .tc) PUnit := do
  let v69 : Vec F S32x128 .f32 ← Prog.lift (.load R.a16 (Rect.unit (s := S512x512) (bo r b) S32x128.size (bo_inb r b)).toLoadRect (View.loadsAt_vmem h_S32x128))
  let v70 : Vec F S32x128 .i8 ← Prog.lift (.load R.a6 (Rect.unit (s := S512x512) (bo r b) S32x128.size (bo_inb r b)).toLoadRect (View.loadsAt_vmem h_S32x128))
  have v71 : FVec F S32x128 .bf16 := sitofp .bf16 v70
  have v72 : FVec F S32x128 .f32 := extf .f32 v71 bitsLt_bf16_f32
  let v73 : Vec F S32x128 .i8 ← Prog.lift (.load R.a8 (Rect.unit (s := S512x512) (bo r b) S32x128.size (bo_inb r b)).toLoadRect (View.loadsAt_vmem h_S32x128))
  have v74 : FVec F S32x128 .bf16 := sitofp .bf16 v73
  have v75 : FVec F S32x128 .f32 := extf .f32 v74 bitsLt_bf16_f32
  have v76 : FVec F S32x1 .f32 := extractStridedSlice S32x1 (so b) v65 (so_slices b)
  have v77 : FVec F S32x128 .f32 := broadcastTo S32x128 v76 broadcasts_S32x1_S32x128
  have v78 : FVec F S32x128 .f32 := mulf v72 v77
  have v79 : FVec F S32x128 .f32 := addf v78 v69
  have v80 : FVec F S32x1 .f32 := extractStridedSlice S32x1 (so b) v68 (so_slices b)
  have v81 : FVec F S32x128 .f32 := broadcastTo S32x128 v80 broadcasts_S32x1_S32x128
  have v82 : FVec F S32x128 .f32 := mulf v75 v81
  have v83 : FVec F S32x128 .f32 := mulf v82 v82
  have v84 : FVec F S32x128 .f32 := mulf v69 v69
  have v85 : FVec F S32x128 .f32 := addf v83 v84
  have v86 : FVec F S32x128 .f32 := rsqrt v85
  have cst_35 : F .f32 := Scalar.ofBits .f32 0x3F800000#32
  have v87 : FVec F S32x128 .f32 := broadcast S32x128 cst_35
  have v88 : FVec F S32x128 .f32 := divf v87 v86
  have v89 : FVec F S32x128 .f32 := broadcast S32x128 v8
  have v90 : FVec F S32x128 .f32 := mulf v79 v89
  have v91 : FVec F S32x128 .f32 := broadcast S32x128 v9
  have v92 : FVec F S32x128 .f32 := addf v88 v91
  have cst_36 : F .f32 := Scalar.ofBits .f32 0x3F800000#32
  have v93 : FVec F S32x128 .f32 := broadcast S32x128 cst_36
  have v94 : FVec F S32x128 .f32 := divf v93 v92
  have v95 : FVec F S32x128 .f32 := mulf v90 v94
  let v96 : Vec F S32x128 .f32 ← Prog.lift (.load R.a11 (Rect.unit (s := S512x512) (bo r b) S32x128.size (bo_inb r b)).toLoadRect (View.loadsAt_vmem h_S32x128))
  Prog.lift (.store R.a11 (Rect.unit (s := S512x512) (bo r b) S32x128.size (bo_inb r b)) v95 Finset.univ (View.stores_vmem_bits_univ h_S32x128 rfl) (.inl rfl))
  let v97 : Vec F S32x128 .bf16 ← Prog.lift (.load R.a5 (Rect.unit (s := S512x512) (bo r b) S32x128.size (bo_inb r b)).toLoadRect (View.loadsAt_vmem h_S32x128))
  have v98 : FVec F S32x128 .f32 := extf .f32 v97 bitsLt_bf16_f32
  have v99 : FVec F S32x128 .f32 := addf v98 v95
  have v100 : FVec F S32x128 .bf16 := truncf .bf16 v99 bitsLt_bf16_f32
  let v101 : Vec F S32x128 .bf16 ← Prog.lift (.load R.a10 (Rect.unit (s := S512x512) (bo r b) S32x128.size (bo_inb r b)).toLoadRect (View.loadsAt_vmem h_S32x128))
  Prog.lift (.store R.a10 (Rect.unit (s := S512x512) (bo r b) S32x128.size (bo_inb r b)) v100 Finset.univ (View.stores_vmem h_S32x128 (R.h10.storeExact_slice rfl _ (bo_bf16 r b)) (fun _ => rfl)) (.inl rfl))
  have v102 : FVec F S32x128 .f32 := absf v79
  have cst_43 : FVec F S32 .f32 := constant S32 .f32 0xFF800000#32
  have v103 : FVec F S32 .f32 := multiReduction .maximumf [1] S32 v102 0xFF800000#32 reduces_S32x128_S32 (.inl rfl) rfl
  have v104 : FVec F S32x1 .f32 := shapeCast S32x1 v103 shapeCasts_S32_S32x1
  have cst_44 : FVec F S32 .f32 := constant S32 .f32 0x7F800000#32
  have v105 : FVec F S32 .f32 := multiReduction .minimumf [1] S32 v86 0x7F800000#32 reduces_S32x128_S32 (.inl rfl) rfl
  have v106 : FVec F S32x1 .f32 := shapeCast S32x1 v105 shapeCasts_S32_S32x1
  have cst_45 : F .f32 := Scalar.ofBits .f32 0x00000000#32
  have v107 : FVec F S32x1 .f32 := broadcast S32x1 cst_45
  have v108 : IVec S32x1 1 := cmpf .oeq v104 v107
  have cst_46 : F .f32 := Scalar.ofBits .f32 0x42FE0000#32
  have v109 : FVec F S32x1 .f32 := broadcast S32x1 cst_46
  have v110 : FVec F S32x1 .f32 := divf v109 v104
  have cst_47 : F .f32 := Scalar.ofBits .f32 0x00000000#32
  have v111 : FVec F S32x1 .f32 := broadcast S32x1 cst_47
  have v112 : FVec F S32x1 .f32 := select v108 v111 v110
  have cst_48 : F .f32 := Scalar.ofBits .f32 0x7F800000#32
  have v113 : FVec F S32x1 .f32 := broadcast S32x1 cst_48
  have v114 : IVec S32x1 1 := cmpf .oeq v106 v113
  have cst_49 : F .f32 := Scalar.ofBits .f32 0x42FE0000#32
  have v115 : FVec F S32x1 .f32 := broadcast S32x1 cst_49
  have v116 : FVec F S32x1 .f32 := mulf v115 v106
  have cst_50 : F .f32 := Scalar.ofBits .f32 0x00000000#32
  have v117 : FVec F S32x1 .f32 := broadcast S32x1 cst_50
  have v118 : FVec F S32x1 .f32 := select v114 v117 v116
  have v119 : FVec F S32x128 .f32 := broadcastTo S32x128 v112 broadcasts_S32x1_S32x128
  have v120 : FVec F S32x128 .f32 := mulf v79 v119
  have v121 : FVec F S32x128 .f32 := roundeven v120
  have cst_51 : F .f32 := Scalar.ofBits .f32 0xC2FE0000#32
  have cst_52 : F .f32 := Scalar.ofBits .f32 0x42FE0000#32
  have v122 : FVec F S32x128 .f32 := broadcast S32x128 cst_51
  have v123 : FVec F S32x128 .f32 := maximumf v122 v121
  have v124 : FVec F S32x128 .f32 := broadcast S32x128 cst_52
  have v125 : FVec F S32x128 .f32 := minimumf v124 v123
  have v126 : IVec S32x128 8 := fptosi 8 v125
  let v127 : Vec F S32x128 .i8 ← Prog.lift (.load R.a12 (Rect.unit (s := S512x512) (bo r b) S32x128.size (bo_inb r b)).toLoadRect (View.loadsAt_vmem h_S32x128))
  Prog.lift (.store R.a12 (Rect.unit (s := S512x512) (bo r b) S32x128.size (bo_inb r b)) v126 Finset.univ (View.stores_vmem h_S32x128 (R.h12.storeExact_slice rfl _ (bo_i8 r b)) (fun _ => rfl)) (.inl rfl))
  have v128 : FVec F S32x128 .f32 := broadcastTo S32x128 v118 broadcasts_S32x1_S32x128
  have v129 : FVec F S32x128 .f32 := mulf v88 v128
  have v130 : FVec F S32x128 .f32 := roundeven v129
  have cst_55 : F .f32 := Scalar.ofBits .f32 0xC2FE0000#32
  have cst_56 : F .f32 := Scalar.ofBits .f32 0x42FE0000#32
  have v131 : FVec F S32x128 .f32 := broadcast S32x128 cst_55
  have v132 : FVec F S32x128 .f32 := maximumf v131 v130
  have v133 : FVec F S32x128 .f32 := broadcast S32x128 cst_56
  have v134 : FVec F S32x128 .f32 := minimumf v133 v132
  have v135 : IVec S32x128 8 := fptosi 8 v134
  let v136 : Vec F S32x128 .i8 ← Prog.lift (.load R.a14 (Rect.unit (s := S512x512) (bo r b) S32x128.size (bo_inb r b)).toLoadRect (View.loadsAt_vmem h_S32x128))
  Prog.lift (.store R.a14 (Rect.unit (s := S512x512) (bo r b) S32x128.size (bo_inb r b)) v135 Finset.univ (View.stores_vmem h_S32x128 (R.h14.storeExact_slice rfl _ (bo_i8 r b)) (fun _ => rfl)) (.inl rfl))
  let c0_i32_59 : BitVec 32 := BitVec.ofNat 32 b.val
  let v137 : BitVec 32 := Scalar.addi v20 c0_i32_59
  have v138 : IVec S32x128 32 := broadcast S32x128 v137
  have v139 : IVec S32x128 1 := cmpi .eq v51 v138
  have v140 : FVec F S32x1 .f32 := shapeCast S32x1 v104 shapeCasts_S32x1_S32x1
  have v141 : FVec F S32x128 .f32 := broadcastTo S32x128 v140 broadcasts_S32x1_S32x128
  let v143 : Vec F S32x128 .f32 ← Prog.lift (.load R.a19 (Rect.unit (s := S512x256) (koff r i) S32x128.size (koff_inb r i)).toLoadRect (View.loadsAt_vmem h_S32x128))
  have v144 : FVec F S32x128 .f32 := shapeCast S32x128 v143 shapeCasts_S32x128_S32x128
  have v145 : FVec F S32x128 .f32 := shapeCast S32x128 v141 shapeCasts_S32x128_S32x128
  have v146 : IVec S32x128 1 := shapeCast S32x128 v139 shapeCasts_S32x128_S32x128
  Prog.lift (.store R.a19 (Rect.unit (s := S512x256) (koff r i) S32x128.size (koff_inb r i)) v145 (IVec.on v146) (View.stores_vmem_bits h_S32x128 rfl (fun h => nomatch h)) (.inr (fun _ => rfl)))
  have v147 : FVec F S32x1 .f32 := shapeCast S32x1 v106 shapeCasts_S32x1_S32x1
  have v148 : FVec F S32x128 .f32 := broadcastTo S32x128 v147 broadcasts_S32x1_S32x128
  let v150 : Vec F S32x128 .f32 ← Prog.lift (.load R.a20 (Rect.unit (s := S512x256) (koff r i) S32x128.size (koff_inb r i)).toLoadRect (View.loadsAt_vmem h_S32x128))
  have v151 : FVec F S32x128 .f32 := shapeCast S32x128 v150 shapeCasts_S32x128_S32x128
  have v152 : FVec F S32x128 .f32 := shapeCast S32x128 v148 shapeCasts_S32x128_S32x128
  have v153 : IVec S32x128 1 := shapeCast S32x128 v139 shapeCasts_S32x128_S32x128
  Prog.lift (.store R.a20 (Rect.unit (s := S512x256) (koff r i) S32x128.size (koff_inb r i)) v152 (IVec.on v153) (View.stores_vmem_bits h_S32x128 rfl (fun h => nomatch h)) (.inr (fun _ => rfl)))

/-- Row chunk `r`: its scales read and rotated, then its four blocks. -/
def rowU (R : Refs) (i : grid1.Coords) (v20 v31 : BitVec 32) (v51 : IVec S32x128 32) (v8 v9 : F .f32)
    (r : Fin 16) : Prog (TpuEff nD τ sig (Elt F) Λ₀ .tc) PUnit := do
  let v64 : Vec F S32x128 .f32 ← Prog.lift (.load R.a17 (Rect.unit (s := S512x256) (koff r i) S32x128.size (koff_inb r i)).toLoadRect (View.loadsAt_vmem h_S32x128))
  have v65 : FVec F S32x128 .f32 := dynamicRotate 1 v31 none v64 rotates_S32x128_d1
  let v67 : Vec F S32x128 .f32 ← Prog.lift (.load R.a18 (Rect.unit (s := S512x256) (koff r i) S32x128.size (koff_inb r i)).toLoadRect (View.loadsAt_vmem h_S32x128))
  have v68 : FVec F S32x128 .f32 := dynamicRotate 1 v31 none v67 rotates_S32x128_d1
  blkU R i v20 v51 v8 v9 v65 v68 r 0
  blkU R i v20 v51 v8 v9 v65 v68 r 1
  blkU R i v20 v51 v8 v9 v65 v68 r 2
  blkU R i v20 v51 v8 v9 v65 v68 r 3

/-- The row chunks of a list, in order. -/
def rowsU (R : Refs) (i : grid1.Coords) (v20 v31 : BitVec 32) (v51 : IVec S32x128 32) (v8 v9 : F .f32) :
    List (Fin 16) → Prog (TpuEff nD τ sig (Elt F) Λ₀ .tc) PUnit
  | [] => pure ⟨⟩
  | r :: l => do
    rowU R i v20 v31 v51 v8 v9 r
    rowsU R i v20 v31 v51 v8 v9 l

/-- At a tile row's last point: the scales of the tile row, from the maxima and minima gathered. -/
def epiU (R : Refs) : Prog (TpuEff nD τ sig (Elt F) Λ₀ .tc) PUnit := do
  let v5602 : Vec F S512x128 .f32 ← Prog.lift (.load R.a19 (Rect.unit (s := S512x256) ![0, 0] S512x128.size inb_S512x256_S512x128_0_0).toLoadRect (View.loadsAt_vmem h_S512x128))
  have cst_2157 : F .f32 := Named.named κ "c1" 0x3DCCCCCD#32
  have v5603 : FVec F S512x128 .f32 := broadcast S512x128 cst_2157
  have v5604 : FVec F S512x128 .f32 := mulf v5602 v5603
  have cst_2158 : F .f32 := Scalar.ofBits .f32 0x00000000#32
  have v5605 : FVec F S512x128 .f32 := broadcast S512x128 cst_2158
  have v5606 : IVec S512x128 1 := cmpf .oeq v5604 v5605
  have cst_2159 : F .f32 := Scalar.ofBits .f32 0x42FE0000#32
  have v5607 : FVec F S512x128 .f32 := broadcast S512x128 cst_2159
  have v5608 : FVec F S512x128 .f32 := divf v5604 v5607
  have cst_2160 : F .f32 := Scalar.ofBits .f32 0x3F800000#32
  have v5609 : FVec F S512x128 .f32 := broadcast S512x128 cst_2160
  have v5610 : FVec F S512x128 .f32 := select v5606 v5609 v5608
  let v5611 : Vec F S512x128 .f32 ← Prog.lift (.load R.a13 (Rect.unit (s := S512x148) ![0, 0] S512x128.size inb_S512x148_S512x128_0_0).toLoadRect (View.loadsAt_vmem h_S512x128))
  Prog.lift (.store R.a13 (Rect.unit (s := S512x148) ![0, 0] S512x128.size inb_S512x148_S512x128_0_0) v5610 Finset.univ (View.stores_vmem_bits_univ h_S512x128 rfl) (.inl rfl))
  let v5612 : Vec F S512x128 .f32 ← Prog.lift (.load R.a20 (Rect.unit (s := S512x256) ![0, 0] S512x128.size inb_S512x256_S512x128_0_0).toLoadRect (View.loadsAt_vmem h_S512x128))
  have cst_2165 : F .f32 := Named.named κ "sqrt_c2" 0x3D0186E2#32
  have v5613 : FVec F S512x128 .f32 := broadcast S512x128 cst_2165
  have v5614 : FVec F S512x128 .f32 := divf v5613 v5612
  have cst_2166 : F .f32 := Scalar.ofBits .f32 0x00000000#32
  have v5615 : FVec F S512x128 .f32 := broadcast S512x128 cst_2166
  have v5616 : IVec S512x128 1 := cmpf .oeq v5614 v5615
  have cst_2167 : F .f32 := Scalar.ofBits .f32 0x42FE0000#32
  have v5617 : FVec F S512x128 .f32 := broadcast S512x128 cst_2167
  have v5618 : FVec F S512x128 .f32 := divf v5614 v5617
  have cst_2168 : F .f32 := Scalar.ofBits .f32 0x3F800000#32
  have v5619 : FVec F S512x128 .f32 := broadcast S512x128 cst_2168
  have v5620 : FVec F S512x128 .f32 := select v5616 v5619 v5618
  let v5621 : Vec F S512x128 .f32 ← Prog.lift (.load R.a15 (Rect.unit (s := S512x148) ![0, 0] S512x128.size inb_S512x148_S512x128_0_0).toLoadRect (View.loadsAt_vmem h_S512x128))
  Prog.lift (.store R.a15 (Rect.unit (s := S512x148) ![0, 0] S512x128.size inb_S512x148_S512x128_0_0) v5620 Finset.univ (View.stores_vmem_bits_univ h_S512x128 rfl) (.inl rfl))
  let v5622 : Vec F S512x20 .f32 ← Prog.lift (.load R.a19 (Rect.unit (s := S512x256) ![0, 128] S512x20.size inb_S512x256_S512x20_0_128).toLoadRect (View.loadsAt_vmem h_S512x20))
  have cst_2173 : F .f32 := Named.named κ "c1" 0x3DCCCCCD#32
  have v5623 : FVec F S512x20 .f32 := broadcast S512x20 cst_2173
  have v5624 : FVec F S512x20 .f32 := mulf v5622 v5623
  have cst_2174 : F .f32 := Scalar.ofBits .f32 0x00000000#32
  have v5625 : FVec F S512x20 .f32 := broadcast S512x20 cst_2174
  have v5626 : IVec S512x20 1 := cmpf .oeq v5624 v5625
  have cst_2175 : F .f32 := Scalar.ofBits .f32 0x42FE0000#32
  have v5627 : FVec F S512x20 .f32 := broadcast S512x20 cst_2175
  have v5628 : FVec F S512x20 .f32 := divf v5624 v5627
  have cst_2176 : F .f32 := Scalar.ofBits .f32 0x3F800000#32
  have v5629 : FVec F S512x20 .f32 := broadcast S512x20 cst_2176
  have v5630 : FVec F S512x20 .f32 := select v5626 v5629 v5628
  let v5631 : Vec F S512x20 .f32 ← Prog.lift (.load R.a13 (Rect.unit (s := S512x148) ![0, 128] S512x20.size inb_S512x148_S512x20_0_128).toLoadRect (View.loadsAt_vmem h_S512x20))
  Prog.lift (.store R.a13 (Rect.unit (s := S512x148) ![0, 128] S512x20.size inb_S512x148_S512x20_0_128) v5630 Finset.univ (View.stores_vmem_bits_univ h_S512x20 rfl) (.inl rfl))
  let v5632 : Vec F S512x20 .f32 ← Prog.lift (.load R.a20 (Rect.unit (s := S512x256) ![0, 128] S512x20.size inb_S512x256_S512x20_0_128).toLoadRect (View.loadsAt_vmem h_S512x20))
  have cst_2181 : F .f32 := Named.named κ "sqrt_c2" 0x3D0186E2#32
  have v5633 : FVec F S512x20 .f32 := broadcast S512x20 cst_2181
  have v5634 : FVec F S512x20 .f32 := divf v5633 v5632
  have cst_2182 : F .f32 := Scalar.ofBits .f32 0x00000000#32
  have v5635 : FVec F S512x20 .f32 := broadcast S512x20 cst_2182
  have v5636 : IVec S512x20 1 := cmpf .oeq v5634 v5635
  have cst_2183 : F .f32 := Scalar.ofBits .f32 0x42FE0000#32
  have v5637 : FVec F S512x20 .f32 := broadcast S512x20 cst_2183
  have v5638 : FVec F S512x20 .f32 := divf v5634 v5637
  have cst_2184 : F .f32 := Scalar.ofBits .f32 0x3F800000#32
  have v5639 : FVec F S512x20 .f32 := broadcast S512x20 cst_2184
  have v5640 : FVec F S512x20 .f32 := select v5636 v5639 v5638
  let v5641 : Vec F S512x20 .f32 ← Prog.lift (.load R.a15 (Rect.unit (s := S512x148) ![0, 128] S512x20.size inb_S512x148_S512x20_0_128).toLoadRect (View.loadsAt_vmem h_S512x20))
  Prog.lift (.store R.a15 (Rect.unit (s := S512x148) ![0, 128] S512x20.size inb_S512x148_S512x20_0_128) v5640 Finset.univ (View.stores_vmem_bits_univ h_S512x20 rfl) (.inl rfl))

/-- The whole body. -/
def bodyU (R : Refs) (i : grid1.Coords) : Prog (TpuEff nD τ sig (Elt F) Λ₀ .tc) PUnit :=
  Prog.bind (if k1_h1 : isFirst i = 1#1 then initU R else pure ⟨⟩) fun _ => do
  let v3 : Elt F .f32 ← smemLoad R.a2 (Rect.unit (s := S2) ![0] S1.size inb_S2_S1_0) numel1_S1 rfl
  let v4 : Elt F .f32 ← smemLoad R.a2 (Rect.unit (s := S2) ![1] S1.size inb_S2_S1_1) numel1_S1 rfl
  mmU R i
  rowsU R i (laneOf i) (shiftOf i) (iota .tc S32x128 32 [1] iota_S32x128_d1_w32) (cuOf v3 v4) (epOf v4)
    [0, 1, 2, 3, 4, 5, 6, 7, 8, 9, 10, 11, 12, 13, 14, 15]
  if k1_h2 : k1_cond2 i = 1#1 then epiU R else pure ⟨⟩
  pure ⟨⟩

end Cert.KernelIdeal.Body

end
-- ==== Proof.IdealBlock.lean ====
/-
  What one block of 32 rows by 128 columns of a tile does: the values it computes, as functions of vectors, and the step it takes
  from the tile's contents before it to those after it.
-/
module

public import proofs.«01_k».proof.Proof.IdealBody
public import proofs.«01_k».proof.Proof.Gen.KernelIdeal.Regions
public import Idealize.ShloMosaic.Lib.Pipeline.Frame
public import Idealize.ShloMosaic.Lib.Tactic
public import Idealize.ShloMosaic.Lib.Transfers
public import Idealize.ShloMosaic.Lib.WholeRead
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## The values of a block -/

/-- The first moment: the codes times their scales, plus the gradient. -/
def mV (g : FVec F S32x128 .f32) (mq : IVec S32x128 8) (cm : FVec F S32x1 .f32) : FVec F S32x128 .f32 :=
  addf (mulf (extf .f32 (sitofp .bf16 mq) bitsLt_bf16_f32) (broadcastTo S32x128 cm broadcasts_S32x1_S32x128)) g

/-- The reciprocal root of the second moment. -/
def rsV (g : FVec F S32x128 .f32) (sq : IVec S32x128 8) (cs : FVec F S32x1 .f32) : FVec F S32x128 .f32 :=
  let t := mulf (extf .f32 (sitofp .bf16 sq) bitsLt_bf16_f32) (broadcastTo S32x128 cs broadcasts_S32x1_S32x128)
  rsqrt (addf (mulf t t) (mulf g g))

/-- One over each entry. -/
def invV (x : FVec F S32x128 .f32) : FVec F S32x128 .f32 :=
  divf (broadcast S32x128 (Scalar.ofBits (F := F) .f32 0x3F800000#32)) x

/-- The update, of the first moment and the root of the second. -/
def updV (cu ep : F .f32) (m s : FVec F S32x128 .f32) : FVec F S32x128 .f32 :=
  mulf (mulf m (broadcast S32x128 cu)) (invV (addf s (broadcast S32x128 ep)))

/-- The new weights. -/
def wnV (w : FVec F S32x128 .bf16) (u : FVec F S32x128 .f32) : FVec F S32x128 .bf16 :=
  truncf .bf16 (addf (extf .f32 w bitsLt_bf16_f32) u) bitsLt_bf16_f32

/-- Each row's largest magnitude. -/
def amaxV (m : FVec F S32x128 .f32) : FVec F S32x1 .f32 :=
  shapeCast S32x1 (multiReduction .maximumf [1] S32 (absf m) 0xFF800000#32 reduces_S32x128_S32 (.inl rfl) rfl) shapeCasts_S32_S32x1

/-- Each row's least entry. -/
def rminV (x : FVec F S32x128 .f32) : FVec F S32x1 .f32 :=
  shapeCast S32x1 (multiReduction .minimumf [1] S32 x 0x7F800000#32 reduces_S32x128_S32 (.inl rfl) rfl) shapeCasts_S32_S32x1

/-- Rounded, clipped to ±127 and made bytes. -/
def codeV (x : FVec F S32x128 .f32) : IVec S32x128 8 :=
  fptosi 8 (minimumf (broadcast S32x128 (Scalar.ofBits (F := F) .f32 0x42FE0000#32))
    (maximumf (broadcast S32x128 (Scalar.ofBits (F := F) .f32 0xC2FE0000#32)) (roundeven x)))

/-- The codes of the first moment. -/
def mcV (m : FVec F S32x128 .f32) : IVec S32x128 8 :=
  codeV (mulf m (broadcastTo S32x128 (select (cmpf .oeq (amaxV m) (broadcast S32x1 (Scalar.ofBits (F := F) .f32 0x00000000#32)))
    (broadcast S32x1 (Scalar.ofBits (F := F) .f32 0x00000000#32))
    (divf (broadcast S32x1 (Scalar.ofBits (F := F) .f32 0x42FE0000#32)) (amaxV m))) broadcasts_S32x1_S32x128))

/-- The codes of the second moment's root, of the reciprocal root. -/
def scV (x : FVec F S32x128 .f32) : IVec S32x128 8 :=
  codeV (mulf (invV x) (broadcastTo S32x128 (select (cmpf .oeq (rminV x) (broadcast S32x1 (Scalar.ofBits (F := F) .f32 0x7F800000#32)))
    (broadcast S32x1 (Scalar.ofBits (F := F) .f32 0x00000000#32))
    (mulf (broadcast S32x1 (Scalar.ofBits (F := F) .f32 0x42FE0000#32)) (rminV x))) broadcasts_S32x1_S32x128))

/-- A column spread over the lanes. -/
def laneV (a : FVec F S32x1 .f32) : FVec F S32x128 .f32 :=
  shapeCast S32x128 (broadcastTo S32x128 (shapeCast S32x1 a shapeCasts_S32x1_S32x1) broadcasts_S32x1_S32x128) shapeCasts_S32x128_S32x128

/-- The lanes that equal `l`. -/
def maskV (v51 : IVec S32x128 32) (l : BitVec 32) : IVec S32x128 1 :=
  shapeCast S32x128 (cmpi .eq v51 (broadcast S32x128 l)) shapeCasts_S32x128_S32x128

/-! ## Reading and replacing a part of an array -/

/-- The part of `d` at the box of 32 by 128 with corner `off`. -/
def subA {s : Shape} {α : Type} (off size : Fin s.rank → ℕ) (inb : ∀ a, off a + size a ≤ s.size a) (d : s.Idx → α) :
    (Rect.unit off size inb).shape.Idx → α := fun x => d ((Rect.unit off size inb).emb x)

/-- `d` with the box at `off` replaced by `w`. -/
def putA {s : Shape} {α : Type} (off size : Fin s.rank → ℕ) (inb : ∀ a, off a + size a ≤ s.size a)
    (w : (Rect.unit off size inb).shape.Idx → α) (d : s.Idx → α) : s.Idx → α := fun y =>
  if h : ∀ a, off a ≤ (y a).val ∧ (y a).val < off a + size a then w (Rect.unitLocal (s := s) y h) else d y

/-- `d` with the entries of the box at `off` that `p` marks replaced by those of `w`. -/
def putM {s : Shape} {α : Type} (off size : Fin s.rank → ℕ) (inb : ∀ a, off a + size a ≤ s.size a)
    (p : (Rect.unit off size inb).shape.Idx → BitVec 1) (w : (Rect.unit off size inb).shape.Idx → α) (d : s.Idx → α) : s.Idx → α := fun y =>
  if h : ∀ a, off a ≤ (y a).val ∧ (y a).val < off a + size a then
    (if p (Rect.unitLocal (s := s) y h) = 1#1 then w (Rect.unitLocal (s := s) y h) else d y) else d y

/-! ## The step of a block -/

/-- The contents of the four tiles written, and of the two scratch buffers that gather maxima and minima. -/
structure TS (F : FTy → Type) where
  u : Vec F S512x512 .f32
  wn : Vec F S512x512 .bf16
  mc : Vec F S512x512 .i8
  sc : Vec F S512x512 .i8
  ma : Vec F S512x256 .f32
  sr : Vec F S512x256 .f32

/-- The contents of the tiles read: the gradient, the two arrays of codes and the weights. -/
structure TI (F : FTy → Type) where
  g : Vec F S512x512 .f32
  mq : Vec F S512x512 .i8
  sq : Vec F S512x512 .i8
  w : Vec F S512x512 .bf16

/-- Block `(r, b)` of a tile. -/
abbrev blkA {e : EltTy} (r : Fin 16) (b : Fin 4) (d : Vec F S512x512 e) : Vec F S32x128 e :=
  subA (s := S512x512) (bo r b) S32x128.size (bo_inb r b) d

/-- The scale of block `b` in a rotated slice. -/
abbrev colV (b : Fin 4) (v : FVec F S32x128 .f32) : FVec F S32x1 .f32 := extractStridedSlice S32x1 (so b) v (so_slices b)

/-- The first moment of block `(r, b)`. -/
abbrev mB (v65 : FVec F S32x128 .f32) (T : TI F) (r : Fin 16) (b : Fin 4) : FVec F S32x128 .f32 :=
  mV (blkA r b T.g) (blkA r b T.mq) (colV b v65)
/-- The reciprocal root of block `(r, b)`. -/
abbrev rB (v68 : FVec F S32x128 .f32) (T : TI F) (r : Fin 16) (b : Fin 4) : FVec F S32x128 .f32 :=
  rsV (blkA r b T.g) (blkA r b T.sq) (colV b v68)
/-- The update of block `(r, b)`. -/
abbrev uB (cu ep : F .f32) (v65 v68 : FVec F S32x128 .f32) (T : TI F) (r : Fin 16) (b : Fin 4) : FVec F S32x128 .f32 :=
  updV cu ep (mB v65 T r b) (invV (rB v68 T r b))

/-- What block `(r, b)` makes of the contents. -/
def blkStep (i : grid1.Coords) (v20 : BitVec 32) (v51 : IVec S32x128 32) (cu ep : F .f32) (v65 v68 : FVec F S32x128 .f32) (T : TI F)
    (r : Fin 16) (b : Fin 4) (s : TS F) : TS F where
  u := putA (s := S512x512) (bo r b) S32x128.size (bo_inb r b) (uB cu ep v65 v68 T r b) s.u
  wn := putA (s := S512x512) (bo r b) S32x128.size (bo_inb r b) (wnV (blkA r b T.w) (uB cu ep v65 v68 T r b)) s.wn
  mc := putA (s := S512x512) (bo r b) S32x128.size (bo_inb r b) (mcV (mB v65 T r b)) s.mc
  sc := putA (s := S512x512) (bo r b) S32x128.size (bo_inb r b) (scV (rB v68 T r b)) s.sc
  ma := putM (s := S512x256) (koff r i) S32x128.size (koff_inb r i) (maskV v51 (Scalar.addi v20 (BitVec.ofNat 32 b.val)))
    (laneV (amaxV (mB v65 T r b))) s.ma
  sr := putM (s := S512x256) (koff r i) S32x128.size (koff_inb r i) (maskV v51 (Scalar.addi v20 (BitVec.ofNat 32 b.val)))
    (laneV (rminV (rB v68 T r b))) s.sr

/-- The buffers that a block reads, at their contents. -/
def inSt (c : Dev nD) (R : Refs) (T : TI F) : sProp 𝕄 :=
  iprop(owns (c : Thread nD τ) R.a16 fullShare T.g ∗ owns (c : Thread nD τ) R.a6 fullShare T.mq
    ∗ owns (c : Thread nD τ) R.a8 fullShare T.sq ∗ owns (c : Thread nD τ) R.a5 fullShare T.w)

/-- The buffers that a block writes, at their contents. -/
def outSt (c : Dev nD) (R : Refs) (s : TS F) : sProp 𝕄 :=
  iprop(owns (c : Thread nD τ) R.a11 fullShare s.u ∗ owns (c : Thread nD τ) R.a10 fullShare s.wn
    ∗ owns (c : Thread nD τ) R.a12 fullShare s.mc ∗ owns (c : Thread nD τ) R.a14 fullShare s.sc
    ∗ owns (c : Thread nD τ) R.a19 fullShare s.ma ∗ owns (c : Thread nD τ) R.a20 fullShare s.sr)

/-- A whole buffer after a store into a box reads its contents with the box replaced. -/
theorem read_put {sp : Space} {s : Shape} {e : EltTy} (M : Memref sig .tc sp s e) (h : M.IsWhole) (off size : Fin s.rank → ℕ)
    (inb : ∀ a, off a + size a ≤ s.size a) (w : (Rect.unit off size inb).shape.Idx → Elt F e) (d : s.Idx → Elt F e) :
    M.view.read (Elt F) (M.view.writes (Elt F) (h.unread d) [⟨Rect.unit off size inb, w⟩]) = putA off size inb w d := by
  funext y
  rw [View.read_writes_cons_unit M.view (h.unread d) inb w [] y rfl]
  unfold putA
  split
  · rfl
  · show M.view.read (Elt F) (h.unread d) y = d y
    rw [h.read_unread]

/-- A whole buffer after a masked store into a box reads its contents with the marked entries of the box replaced. -/
theorem read_putM {sp : Space} {s : Shape} {e : EltTy} (M : Memref sig .tc sp s e) (h : M.IsWhole) (off size : Fin s.rank → ℕ)
    (inb : ∀ a, off a + size a ≤ s.size a) (p : IVec (Rect.unit off size inb).shape 1) (w : (Rect.unit off size inb).shape.Idx → Elt F e)
    (d : s.Idx → Elt F e) :
    M.view.read (Elt F) (View.write (Elt F) (M.access (Rect.unit off size inb)) (h.unread d) w (IVec.on p)) = putM off size inb p w d := by
  funext y
  unfold putM
  have hd : M.view.read (Elt F) (h.unread d) y = d y := by rw [h.read_unread]
  by_cases hy : ∀ a, off a ≤ (y a).val ∧ (y a).val < off a + size a
  · rw [dif_pos hy]
    have he : (Rect.unit off size inb).emb (Rect.unitLocal (s := s) y hy) = y := funext fun a => Fin.ext (by
      show off a + 1 * ((y a).val - off a) = (y a).val
      have := hy a; omega)
    by_cases hp : p (Rect.unitLocal (s := s) y hy) = 1#1
    · rw [if_pos hp]
      refine (congrArg _ he.symm).trans ?_
      exact View.read_slice_write_emb (v := M.view) (Rect.unit off size inb) (h.unread d) w (by simp only [IVec.on, Finset.mem_filter, Finset.mem_univ, true_and]; exact hp)
    · rw [if_neg hp, ← hd]
      refine View.read_slice_write_of_not_mem (v := M.view) (Rect.unit off size inb) (h.unread d) w (IVec.on p) ?_
      intro hm
      obtain ⟨x', hx', he'⟩ := Finset.mem_map.mp hm
      have hx : x' = Rect.unitLocal (s := s) y hy := (Rect.unit off size inb).emb.injective (he'.trans he.symm)
      subst hx
      simp only [IVec.on, Finset.mem_filter, Finset.mem_univ, true_and] at hx'
      exact hp hx'
  · rw [dif_neg hy, ← hd]
    refine View.read_slice_write_of_not_mem (v := M.view) (Rect.unit off size inb) (h.unread d) w (IVec.on p) ?_
    intro hm
    obtain ⟨x', -, he'⟩ := Finset.mem_map.mp hm
    apply hy
    intro a
    have := congrArg (fun z => (z a).val) he'
    have h2 : off a + 1 * (x' a).val = (y a).val := this
    have h3 : (x' a).val < size a := (x' a).isLt
    omega

set_option maxHeartbeats 2000000 in
/-- The step of a block, as a run of its program. -/
theorem blk_run (c : Dev nD) (𝒱₀ : Variants) (i : grid1.Coords) (R : Refs) (v20 : BitVec 32) (v51 : IVec S32x128 32) (v8 v9 : F .f32)
    (v65 v68 : FVec F S32x128 .f32) (r : Fin 16) (b : Fin 4) (T : TI F) (s : TS F) (K : PUnit → sProp 𝕄) :
    iprop(inSt c R T ∗ outSt c R s
        ∗ (iprop(inSt c R T ∗ outSt c R (blkStep i v20 v51 v8 v9 v65 v68 T r b s)) -∗ K ⟨⟩))
      ⊢ wp frame (wpE (defs₀ (F := F)) 𝒱₀ c none) Set.univ (blkU R i v20 v51 v8 v9 v65 v68 r b) K := by
  unfold inSt outSt owns
  iintro ⟨⟨⟨%f16, %h16, H16⟩, ⟨%f6, %h6, H6⟩, ⟨%f8, %h8, H8⟩, ⟨%f5, %h5, H5⟩⟩, ⟨⟨%f11, %h11, H11⟩, ⟨%f10, %h10, H10⟩, ⟨%f12, %h12, H12⟩, ⟨%f14, %h14, H14⟩, ⟨%f19, %h19, H19⟩, ⟨%f20, %h20, H20⟩⟩, Hk⟩
  obtain rfl := R.h16.eq_unread h16
  obtain rfl := R.h6.eq_unread h6
  obtain rfl := R.h8.eq_unread h8
  obtain rfl := R.h5.eq_unread h5
  obtain rfl := R.h11.eq_unread h11
  obtain rfl := R.h10.eq_unread h10
  obtain rfl := R.h12.eq_unread h12
  obtain rfl := R.h14.eq_unread h14
  obtain rfl := R.h19.eq_unread h19
  obtain rfl := R.h20.eq_unread h20
  sl_unfold [blkU]
  sl_exec
  sl_step
  iapply Hk
  isplitl [H16 H6 H8 H5]
  · isplitl [H16]; · iexists _; isplitr; swap; · iexact H16
                     ipureintro; exact R.h16.read_unread _
    isplitl [H6]; · iexists _; isplitr; swap; · iexact H6
                    ipureintro; exact R.h6.read_unread _
    isplitl [H8]; · iexists _; isplitr; swap; · iexact H8
                    ipureintro; exact R.h8.read_unread _
    iexists _; isplitr; swap; · iexact H5
    ipureintro; exact R.h5.read_unread _

  have e16 : View.readAt (Elt F) R.a16.view (Rect.unit (s := S512x512) (bo r b) S32x128.size (bo_inb r b)).toLoadRect (R.h16.unread T.g) = blkA r b T.g :=
    funext fun x => R.h16.readAt_unread _ _ x
  have e6 : View.readAt (Elt F) R.a6.view (Rect.unit (s := S512x512) (bo r b) S32x128.size (bo_inb r b)).toLoadRect (R.h6.unread T.mq) = blkA r b T.mq :=
    funext fun x => R.h6.readAt_unread _ _ x
  have e8 : View.readAt (Elt F) R.a8.view (Rect.unit (s := S512x512) (bo r b) S32x128.size (bo_inb r b)).toLoadRect (R.h8.unread T.sq) = blkA r b T.sq :=
    funext fun x => R.h8.readAt_unread _ _ x
  have e5 : View.readAt (Elt F) R.a5.view (Rect.unit (s := S512x512) (bo r b) S32x128.size (bo_inb r b)).toLoadRect (R.h5.unread T.w) = blkA r b T.w :=
    funext fun x => R.h5.readAt_unread _ _ x
  have p11 : blk_run.sl.v95 c R v8 v9 v65 v68 r b T = uB v8 v9 v65 v68 T r b := by
    unfold uB mB rB; rw [← e16, ← e6, ← e8]; rfl
  have p10 : blk_run.sl.v100 c R v8 v9 v65 v68 r b T = wnV (blkA r b T.w) (uB v8 v9 v65 v68 T r b) := by
    rw [← e5, ← p11]; rfl
  have p12 : blk_run.sl.v126 c R v65 r b T = mcV (mB v65 T r b) := by
    unfold mB; rw [← e16, ← e6]; rfl
  have p14 : blk_run.sl.v135 c R v68 r b T = scV (rB v68 T r b) := by
    unfold rB; rw [← e16, ← e8]; rfl
  have p19 : blk_run.sl.v145 c R v65 r b T = laneV (amaxV (mB v65 T r b)) := by
    unfold mB; rw [← e16, ← e6]; rfl
  have p20 : blk_run.sl.v152 c R v68 r b T = laneV (rminV (rB v68 T r b)) := by
    unfold rB; rw [← e16, ← e8]; rfl
  isplitl [H11]
  · iexists _; isplitr; swap; · iexact H11
    ipureintro
    refine (read_put R.a11 R.h11 _ _ _ _ _).trans ?_
    rw [p11]; rfl
  isplitl [H10]
  · iexists _; isplitr; swap; · iexact H10
    ipureintro
    refine (read_put R.a10 R.h10 _ _ _ _ _).trans ?_
    rw [p10]; rfl
  isplitl [H12]
  · iexists _; isplitr; swap; · iexact H12
    ipureintro
    refine (read_put R.a12 R.h12 _ _ _ _ _).trans ?_
    rw [p12]; rfl
  isplitl [H14]
  · iexists _; isplitr; swap; · iexact H14
    ipureintro
    refine (read_put R.a14 R.h14 _ _ _ _ _).trans ?_
    rw [p14]; rfl
  isplitl [H19]
  · iexists _; isplitr; swap; · iexact H19
    ipureintro
    refine (read_putM R.a19 R.h19 _ _ _ _ _ _).trans ?_
    rw [p19]; rfl
  iexists _; isplitr; swap; · iexact H20
  ipureintro
  refine (read_putM R.a20 R.h20 _ _ _ _ _ _).trans ?_
  rw [p20]; rfl

end Cert.KernelIdeal.Body

end
-- ==== Proof.IdealRows.lean ====
/-
  What the row chunks of a tile do: the step of a chunk is its four blocks' steps with the chunk's scales, and the step of a list of
  chunks is theirs one after another.
-/
module

public import proofs.«01_k».proof.Proof.IdealBlock

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The slice of a scale scratch that chunk `r` reads at point `i`, rotated so that the point's scales come first. -/
abbrev rotA (i : grid1.Coords) (v31 : BitVec 32) (r : Fin 16) (d : Vec F S512x256 .f32) : FVec F S32x128 .f32 :=
  dynamicRotate 1 v31 none (subA (s := S512x256) (koff r i) S32x128.size (koff_inb r i) d : FVec F S32x128 .f32) rotates_S32x128_d1

/-- What chunk `r` makes of the contents. -/
def rowStep (i : grid1.Coords) (v20 v31 : BitVec 32) (v51 : IVec S32x128 32) (cu ep : F .f32) (ms ss : Vec F S512x256 .f32) (T : TI F)
    (r : Fin 16) (s : TS F) : TS F :=
  [0, 1, 2, 3].foldl (fun s b => blkStep i v20 v51 cu ep (rotA i v31 r ms) (rotA i v31 r ss) T r b s) s

/-- What the chunks of a list make of the contents, in order. -/
def rowsStep (i : grid1.Coords) (v20 v31 : BitVec 32) (v51 : IVec S32x128 32) (cu ep : F .f32) (ms ss : Vec F S512x256 .f32) (T : TI F)
    (l : List (Fin 16)) (s : TS F) : TS F :=
  l.foldl (fun s r => rowStep i v20 v31 v51 cu ep ms ss T r s) s

/-- The step of a chunk, as a run of its program. -/
theorem row_run (c : Dev nD) (𝒱₀ : Variants) (i : grid1.Coords) (R : Refs) (v20 v31 : BitVec 32) (v51 : IVec S32x128 32) (v8 v9 : F .f32)
    (ms ss : Vec F S512x256 .f32) (r : Fin 16) (T : TI F) (s : TS F) (K : PUnit → sProp 𝕄) :
    iprop(inSt c R T ∗ outSt c R s ∗ owns (c : Thread nD τ) R.a17 fullShare ms ∗ owns (c : Thread nD τ) R.a18 fullShare ss
        ∗ (iprop(inSt c R T ∗ outSt c R (rowStep i v20 v31 v51 v8 v9 ms ss T r s)
            ∗ owns (c : Thread nD τ) R.a17 fullShare ms ∗ owns (c : Thread nD τ) R.a18 fullShare ss) -∗ K ⟨⟩))
      ⊢ wp frame (wpE (defs₀ (F := F)) 𝒱₀ c none) Set.univ (rowU R i v20 v31 v51 v8 v9 r) K := by
  have key : ∀ v65 v68 : FVec F S32x128 .f32, v65 = rotA i v31 r ms → v68 = rotA i v31 r ss →
      iprop(inSt c R T ∗ outSt c R s
        ∗ (iprop(inSt c R T ∗ outSt c R (rowStep i v20 v31 v51 v8 v9 ms ss T r s)) -∗ K ⟨⟩))
      ⊢ wp frame (wpE (defs₀ (F := F)) 𝒱₀ c none) Set.univ (do
          blkU R i v20 v51 v8 v9 v65 v68 r 0
          blkU R i v20 v51 v8 v9 v65 v68 r 1
          blkU R i v20 v51 v8 v9 v65 v68 r 2
          blkU R i v20 v51 v8 v9 v65 v68 r 3) K := by
    rintro _ _ rfl rfl
    iintro ⟨Hi, Ho, Hk⟩
    rw [wp_bind]
    iapply blk_run c 𝒱₀ i R v20 v51 v8 v9 _ _ r 0 T s
    isplitl [Hi]; · iexact Hi
    isplitl [Ho]; · iexact Ho
    iintro ⟨Hi, Ho⟩
    rw [wp_bind]
    iapply blk_run c 𝒱₀ i R v20 v51 v8 v9 _ _ r 1 T _
    isplitl [Hi]; · iexact Hi
    isplitl [Ho]; · iexact Ho
    iintro ⟨Hi, Ho⟩
    rw [wp_bind]
    iapply blk_run c 𝒱₀ i R v20 v51 v8 v9 _ _ r 2 T _
    isplitl [Hi]; · iexact Hi
    isplitl [Ho]; · iexact Ho
    iintro ⟨Hi, Ho⟩
    iapply blk_run c 𝒱₀ i R v20 v51 v8 v9 _ _ r 3 T _
    isplitl [Hi]; · iexact Hi
    isplitl [Ho]; · iexact Ho
    iintro ⟨Hi, Ho⟩
    iapply Hk
    isplitl [Hi]; · iexact Hi
    iexact Ho
  unfold owns
  iintro ⟨Hi, Ho, ⟨%f17, %h17, H17⟩, ⟨%f18, %h18, H18⟩, Hk⟩
  obtain rfl := R.h17.eq_unread h17
  obtain rfl := R.h18.eq_unread h18
  rw [show rowU (F := F) R i v20 v31 v51 v8 v9 r =
    Prog.op (TpuEff.load (nD := nD) (τ := τ) (Λ := Λ₀) (Val := Elt F) (e := .f32) R.a17 (Rect.unit (s := S512x256) (koff r i) S32x128.size (koff_inb r i)).toLoadRect (View.loadsAt_vmem h_S32x128)) fun (v64 : Vec F S32x128 .f32) =>
    Prog.op (TpuEff.load (nD := nD) (τ := τ) (Λ := Λ₀) (Val := Elt F) (e := .f32) R.a18 (Rect.unit (s := S512x256) (koff r i) S32x128.size (koff_inb r i)).toLoadRect (View.loadsAt_vmem h_S32x128)) fun (v67 : Vec F S32x128 .f32) => (do
          blkU R i v20 v51 v8 v9 (dynamicRotate 1 v31 none (v64 : FVec F S32x128 .f32) rotates_S32x128_d1) (dynamicRotate 1 v31 none (v67 : FVec F S32x128 .f32) rotates_S32x128_d1) r 0
          blkU R i v20 v51 v8 v9 (dynamicRotate 1 v31 none (v64 : FVec F S32x128 .f32) rotates_S32x128_d1) (dynamicRotate 1 v31 none (v67 : FVec F S32x128 .f32) rotates_S32x128_d1) r 1
          blkU R i v20 v51 v8 v9 (dynamicRotate 1 v31 none (v64 : FVec F S32x128 .f32) rotates_S32x128_d1) (dynamicRotate 1 v31 none (v67 : FVec F S32x128 .f32) rotates_S32x128_d1) r 2
          blkU R i v20 v51 v8 v9 (dynamicRotate 1 v31 none (v64 : FVec F S32x128 .f32) rotates_S32x128_d1) (dynamicRotate 1 v31 none (v67 : FVec F S32x128 .f32) rotates_S32x128_d1) r 3) from rfl]
  sl_step
  sl_step
  iapply key _ _ (congrArg (fun x : FVec F S32x128 .f32 => dynamicRotate 1 v31 none x rotates_S32x128_d1) (funext fun x => R.h17.readAt_unread ms (Rect.unit (s := S512x256) (koff r i) S32x128.size (koff_inb r i)).toLoadRect x)) (congrArg (fun x : FVec F S32x128 .f32 => dynamicRotate 1 v31 none x rotates_S32x128_d1) (funext fun x => R.h18.readAt_unread ss (Rect.unit (s := S512x256) (koff r i) S32x128.size (koff_inb r i)).toLoadRect x))
  isplitl [Hi]; · iexact Hi
  isplitl [Ho]; · iexact Ho
  iintro ⟨Hi, Ho⟩
  iapply Hk
  isplitl [Hi]; · iexact Hi
  isplitl [Ho]; · iexact Ho
  isplitl [H17]; · iexists _; isplitr; swap; · iexact H17
                   ipureintro; exact R.h17.read_unread _
  iexists _; isplitr; swap; · iexact H18
  ipureintro; exact R.h18.read_unread _

/-- The step of a list of chunks, as a run of its program. -/
theorem rows_run (c : Dev nD) (𝒱₀ : Variants) (i : grid1.Coords) (R : Refs) (v20 v31 : BitVec 32) (v51 : IVec S32x128 32) (v8 v9 : F .f32)
    (ms ss : Vec F S512x256 .f32) (T : TI F) (l : List (Fin 16)) (s : TS F) (K : PUnit → sProp 𝕄) :
    iprop(inSt c R T ∗ outSt c R s ∗ owns (c : Thread nD τ) R.a17 fullShare ms ∗ owns (c : Thread nD τ) R.a18 fullShare ss
        ∗ (iprop(inSt c R T ∗ outSt c R (rowsStep i v20 v31 v51 v8 v9 ms ss T l s)
            ∗ owns (c : Thread nD τ) R.a17 fullShare ms ∗ owns (c : Thread nD τ) R.a18 fullShare ss) -∗ K ⟨⟩))
      ⊢ wp frame (wpE (defs₀ (F := F)) 𝒱₀ c none) Set.univ (rowsU R i v20 v31 v51 v8 v9 l) K := by
  induction l generalizing s with
  | nil =>
    iintro ⟨Hi, Ho, H17, H18, Hk⟩
    rw [show rowsU (F := F) R i v20 v31 v51 v8 v9 [] = pure ⟨⟩ from rfl]
    sl_step
    iapply Hk
    isplitl [Hi]; · iexact Hi
    isplitl [Ho]; · iexact Ho
    isplitl [H17]; · iexact H17
    iexact H18
  | cons r l ih =>
    iintro ⟨Hi, Ho, H17, H18, Hk⟩
    rw [show rowsU (F := F) R i v20 v31 v51 v8 v9 (r :: l) = (rowU R i v20 v31 v51 v8 v9 r >>= fun _ => rowsU R i v20 v31 v51 v8 v9 l) from rfl]
    rw [wp_bind]
    iapply row_run c 𝒱₀ i R v20 v31 v51 v8 v9 ms ss r T s
    isplitl [Hi]; · iexact Hi
    isplitl [Ho]; · iexact Ho
    isplitl [H17]; · iexact H17
    isplitl [H18]; · iexact H18
    iintro ⟨Hi, Ho, H17, H18⟩
    iapply ih _
    isplitl [Hi]; · iexact Hi
    isplitl [Ho]; · iexact Ho
    isplitl [H17]; · iexact H17
    isplitl [H18]; · iexact H18
    iexact Hk

end Cert.KernelIdeal.Body

end
-- ==== Proof.IdealBodyEq.lean ====
/-
  The printed body of the update kernel is the program of `IdealBody.lean`.
-/
module

public import proofs.«01_k».proof.Proof.IdealBody

@[expose] public section

set_option maxRecDepth 65536
set_option maxHeartbeats 0

noncomputable section

namespace Cert.KernelIdeal.Body

open Cert.KernelIdeal Cert.KernelIdeal.Gen
open Idealize.ShloMosaic Idealize.ShloMosaic.TcCoe
open Idealize.SL.Sem

variable {F : FTy → Type} [FloatOps F] [Named F]

/-- The body's opening: the first point's work and the two scalars. -/
theorem part2_eq (i : grid1.Coords) (R : Refs) :
    k1_part2 (F := F) i R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 = Prog.bind (if k1_h1 : isFirst i = 1#1 then initU R else pure ⟨⟩) (fun _ => do
     let v3 : Elt F .f32 ← smemLoad R.a2 (Rect.unit (s := S2) ![0] S1.size inb_S2_S1_0) numel1_S1 rfl
     let v4 : Elt F .f32 ← smemLoad R.a2 (Rect.unit (s := S2) ![1] S1.size inb_S2_S1_1) numel1_S1 rfl
     pure ⟨BitVec.ofNat 32 (i 1).val, cuOf v3 v4, epOf v4, laneOf i, shiftOf i, 32#32,
       Scalar.divsi (BitVec.ofNat 32 (i 1).val) 32#32, Scalar.cmpi .sgt (BitVec.ofNat 32 (i 1).val) 0#32⟩) := by
  unfold k1_part2
  by_cases h : isFirst i = 1#1
  · rw [dif_pos h]
    exact (dif_pos h).trans rfl
  · rw [dif_neg h]
    exact (dif_neg h).trans rfl

/-- Two effects followed by equal programs are equal. -/
theorem op_congr'.{v} {E : Type → Type v} {α β : Type} {e e' : E β} {k k' : β → Prog E α} (he : e = e')
    (hk : ∀ x, k x = k' x) : Prog.op e k = Prog.op e' k' := by
  subst he; exact congrArg _ (funext hk)

/-- One program followed by equal programs. -/
theorem bind_congr'.{v} {E : Type → Type v} {α β : Type} {x x' : Prog E α} {k k' : α → Prog E β} (hx : x = x')
    (hk : ∀ a, k a = k' a) : Prog.bind x k = Prog.bind x' k' := by
  subst hx; exact congrArg _ (funext hk)

/-- The printed body is that program. -/
theorem body_eq (i : grid1.Coords) (R : Refs) :
    cc1_wgrad_adam (F := F) i R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 = bodyU R i := by
  unfold cc1_wgrad_adam k1_part138 bodyU
  rw [part2_eq]
  refine ((Prog.bind_assoc _ _ _).trans ((Prog.bind_assoc _ _ _).trans (bind_congr' rfl fun _ => ?_)))
  repeat refine op_congr' (by rfl) (fun _ => ?_)
  show dite (k1_cond2 i = 1#1) _ _ = dite (k1_cond2 i = 1#1) _ _
  by_cases h : k1_cond2 i = 1#1
  · rw [dif_pos h, dif_pos h]
    try rfl
  · rw [dif_neg h, dif_neg h]
    try rfl

end Cert.KernelIdeal.Body

end
-- ==== Proof.IdealPhases.lean ====
/-
  What the body does before and after its blocks: the scales, scaled, into the scratch at a tile row's first point; the gradient tile;
  and the new scales at a tile row's last point. Then the whole body, as a step of the contents of its buffers.
-/
module

public import proofs.«01_k».proof.Proof.IdealRows
public import proofs.«01_k».proof.Proof.IdealBodyEq

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- A whole buffer after two stores into boxes reads its contents with the boxes replaced, the later store winning. -/
theorem read_put2 {sp : Space} {s : Shape} {e : EltTy} (M : Memref sig .tc sp s e) (h : M.IsWhole) (off size off' size' : Fin s.rank → ℕ)
    (inb : ∀ a, off a + size a ≤ s.size a) (inb' : ∀ a, off' a + size' a ≤ s.size a)
    (w : (Rect.unit off size inb).shape.Idx → Elt F e) (w' : (Rect.unit off' size' inb').shape.Idx → Elt F e) (d : s.Idx → Elt F e) :
    M.view.read (Elt F) (M.view.writes (Elt F) (h.unread d) [⟨Rect.unit off size inb, w⟩, ⟨Rect.unit off' size' inb', w'⟩])
      = putA off size inb w (putA off' size' inb' w' d) := by
  funext y
  rw [View.read_writes_cons_unit M.view (h.unread d) inb w _ y rfl]
  rw [show M.view.read (Elt F) (M.view.writes (Elt F) (h.unread d) [⟨Rect.unit off' size' inb', w'⟩]) y = putA off' size' inb' w' d y from
    congrFun (read_put M h off' size' inb' w' d) y]
  rfl

/-- The index a whole box takes to itself. -/
theorem whole_idx {m n : ℕ} (inb : ∀ a, (![0, 0] : Fin 2 → ℕ) a + (⟨2, ![m, n]⟩ : Shape).size a ≤ (⟨2, ![m, n]⟩ : Shape).size a)
    (x : (⟨2, ![m, n]⟩ : Shape).Idx) :
    (Rect.unit (s := ⟨2, ![m, n]⟩) ![0, 0] (⟨2, ![m, n]⟩ : Shape).size inb).emb x = x := by
  funext a
  refine Fin.ext ?_
  show (![0, 0] : Fin 2 → ℕ) a + 1 * (x a).val = (x a).val
  fin_cases a <;> simp

/-- A box that is the whole array replaces all of it. -/
theorem putA_whole {m n : ℕ} {α : Type} (inb : ∀ a, (![0, 0] : Fin 2 → ℕ) a + (⟨2, ![m, n]⟩ : Shape).size a ≤ (⟨2, ![m, n]⟩ : Shape).size a)
    (w : (⟨2, ![m, n]⟩ : Shape).Idx → α) (d : (⟨2, ![m, n]⟩ : Shape).Idx → α) :
    putA (s := ⟨2, ![m, n]⟩) ![0, 0] (⟨2, ![m, n]⟩ : Shape).size inb w d = w := by
  funext y
  have hy : ∀ a, (![0, 0] : Fin 2 → ℕ) a ≤ (y a).val ∧ (y a).val < (![0, 0] : Fin 2 → ℕ) a + (⟨2, ![m, n]⟩ : Shape).size a := by
    intro a; have := (y a).isLt; fin_cases a <;> simp at this ⊢ <;> omega
  refine (dif_pos hy).trans (congrArg w (funext fun a => Fin.ext ?_))
  show (y a).val - (![0, 0] : Fin 2 → ℕ) a = (y a).val
  fin_cases a <;> simp

/-- The first 148 columns of a scratch replaced by an array's entries times `k`. -/
def scaleV (k : F .f32) (d : Vec F S512x148 .f32) (f : Vec F S512x256 .f32) : Vec F S512x256 .f32 :=
  putA (s := S512x256) ![0, 128] S512x20.size inb_S512x256_S512x20_0_128
    (mulf (subA (s := S512x148) ![0, 128] S512x20.size inb_S512x148_S512x20_0_128 d : FVec F S512x20 .f32) (broadcast S512x20 k))
    (putA (s := S512x256) ![0, 0] S512x128.size inb_S512x256_S512x128_0_0
      (mulf (subA (s := S512x148) ![0, 0] S512x128.size inb_S512x148_S512x128_0_0 d : FVec F S512x128 .f32) (broadcast S512x128 k)) f)

/-- The factor of the first moment's scales. -/
def kM : F .f32 := Named.named κ "b1_over_c1" 0x41100000#32
/-- The factor of the second moment's scales. -/
def kS : F .f32 := Named.named κ "sqrt_b2_over_c2" 0x41FCDB0F#32

/-- New scales of the first moment, of the largest magnitudes. -/
def newM {s : Shape} (x : FVec F s .f32) : FVec F s .f32 :=
  let v := mulf x (broadcast s (Named.named κ "c1" 0x3DCCCCCD#32))
  select (cmpf .oeq v (broadcast s (Scalar.ofBits (F := F) .f32 0x00000000#32))) (broadcast s (Scalar.ofBits (F := F) .f32 0x3F800000#32))
    (divf v (broadcast s (Scalar.ofBits (F := F) .f32 0x42FE0000#32)))

/-- New scales of the second moment, of the least reciprocal roots. -/
def newS {s : Shape} (x : FVec F s .f32) : FVec F s .f32 :=
  let v := divf (broadcast s (Named.named κ "sqrt_c2" 0x3D0186E2#32)) x
  select (cmpf .oeq v (broadcast s (Scalar.ofBits (F := F) .f32 0x00000000#32))) (broadcast s (Scalar.ofBits (F := F) .f32 0x3F800000#32))
    (divf v (broadcast s (Scalar.ofBits (F := F) .f32 0x42FE0000#32)))

/-- A tile of new scales, of the scratch that gathers. -/
def lastV (q : ∀ {s : Shape}, FVec F s .f32 → FVec F s .f32) (a : Vec F S512x256 .f32) (f : Vec F S512x148 .f32) : Vec F S512x148 .f32 :=
  putA (s := S512x148) ![0, 128] S512x20.size inb_S512x148_S512x20_0_128
    (q (s := S512x20) (subA (s := S512x256) ![0, 128] S512x20.size inb_S512x256_S512x20_0_128 a))
    (putA (s := S512x148) ![0, 0] S512x128.size inb_S512x148_S512x128_0_0
      (q (s := S512x128) (subA (s := S512x256) ![0, 0] S512x128.size inb_S512x256_S512x128_0_0 a)) f)

/-- The gradient tile. -/
def gradV (i : grid1.Coords) (x : Vec F S512x1536 .bf16) (d : Vec F S1536x18944 .fp8e5m2) : Vec F S512x512 .f32 :=
  matmul (F := F) dot_S512x1536_S1536x512_S512x512_1_0_0_1_n_n none x
    (subA (s := S1536x18944) (k1_off1 i) S1536x512.size (k1_off1_inb i) d : FVec F S1536x512 .fp8e5m2) (constant S512x512 .f32 0x00000000#32)

set_option maxHeartbeats 2000000 in
/-- The scales, scaled, into the scratch. -/
theorem init_run (c : Dev nD) (𝒱₀ : Variants) (R : Refs) (d7 d9 : Vec F S512x148 .f32) (d17 d18 : Vec F S512x256 .f32) (K : PUnit → sProp 𝕄) :
    iprop(owns (c : Thread nD τ) R.a7 fullShare d7 ∗ owns (c : Thread nD τ) R.a9 fullShare d9
        ∗ owns (c : Thread nD τ) R.a17 fullShare d17 ∗ owns (c : Thread nD τ) R.a18 fullShare d18
        ∗ (iprop(owns (c : Thread nD τ) R.a7 fullShare d7 ∗ owns (c : Thread nD τ) R.a9 fullShare d9
            ∗ owns (c : Thread nD τ) R.a17 fullShare (scaleV kM d7 d17) ∗ owns (c : Thread nD τ) R.a18 fullShare (scaleV kS d9 d18)) -∗ K ⟨⟩))
      ⊢ wp frame (wpE (defs₀ (F := F)) 𝒱₀ c none) Set.univ (initU R) K := by
  unfold owns
  iintro ⟨⟨%f7, %h7, H7⟩, ⟨%f9, %h9, H9⟩, ⟨%f17, %h17, H17⟩, ⟨%f18, %h18, H18⟩, Hk⟩
  obtain rfl := R.h7.eq_unread h7
  obtain rfl := R.h9.eq_unread h9
  obtain rfl := R.h17.eq_unread h17
  obtain rfl := R.h18.eq_unread h18
  sl_unfold [initU]
  sl_exec
  sl_step
  iapply Hk
  isplitl [H7]
  · iexists _; isplitr; swap; · iexact H7
    ipureintro; exact R.h7.read_unread _
  isplitl [H9]
  · iexists _; isplitr; swap; · iexact H9
    ipureintro; exact R.h9.read_unread _
  have e7 : View.readAt (Elt F) R.a7.view (Rect.unit (s := S512x148) ![0, 0] S512x128.size inb_S512x148_S512x128_0_0).toLoadRect (R.h7.unread d7)
      = subA (s := S512x148) ![0, 0] S512x128.size inb_S512x148_S512x128_0_0 d7 := funext fun x => R.h7.readAt_unread _ _ x
  have e7' : View.readAt (Elt F) R.a7.view (Rect.unit (s := S512x148) ![0, 128] S512x20.size inb_S512x148_S512x20_0_128).toLoadRect (R.h7.unread d7)
      = subA (s := S512x148) ![0, 128] S512x20.size inb_S512x148_S512x20_0_128 d7 := funext fun x => R.h7.readAt_unread _ _ x
  have e9 : View.readAt (Elt F) R.a9.view (Rect.unit (s := S512x148) ![0, 0] S512x128.size inb_S512x148_S512x128_0_0).toLoadRect (R.h9.unread d9)
      = subA (s := S512x148) ![0, 0] S512x128.size inb_S512x148_S512x128_0_0 d9 := funext fun x => R.h9.readAt_unread _ _ x
  have e9' : View.readAt (Elt F) R.a9.view (Rect.unit (s := S512x148) ![0, 128] S512x20.size inb_S512x148_S512x20_0_128).toLoadRect (R.h9.unread d9)
      = subA (s := S512x148) ![0, 128] S512x20.size inb_S512x148_S512x20_0_128 d9 := funext fun x => R.h9.readAt_unread _ _ x
  isplitl [H17]
  · iexists _; isplitr; swap; · iexact H17
    ipureintro
    refine (read_put2 R.a17 R.h17 _ _ _ _ _ _ _ _ _).trans ?_
    unfold scaleV
    rw [← e7, ← e7']
    refine congr (congrArg _ (shapeCast_self _ _)) (congrArg (putA _ _ _ · d17) (shapeCast_self _ _))
  · iexists _; isplitr; swap; · iexact H18
    ipureintro
    refine (read_put2 R.a18 R.h18 _ _ _ _ _ _ _ _ _).trans ?_
    unfold scaleV
    rw [← e9, ← e9']
    refine congr (congrArg _ (shapeCast_self _ _)) (congrArg (putA _ _ _ · d18) (shapeCast_self _ _))

set_option maxHeartbeats 2000000 in
/-- The gradient tile, into its scratch. -/
theorem mm_run (c : Dev nD) (𝒱₀ : Variants) (R : Refs) (i : grid1.Coords) (d3 : Vec F S512x1536 .bf16) (d4 : Vec F S1536x18944 .fp8e5m2)
    (d16 : Vec F S512x512 .f32) (K : PUnit → sProp 𝕄) :
    iprop(owns (c : Thread nD τ) R.a3 fullShare d3 ∗ owns (c : Thread nD τ) R.a4 fullShare d4
        ∗ owns (c : Thread nD τ) R.a16 fullShare d16
        ∗ (iprop(owns (c : Thread nD τ) R.a3 fullShare d3 ∗ owns (c : Thread nD τ) R.a4 fullShare d4
            ∗ owns (c : Thread nD τ) R.a16 fullShare (gradV i d3 d4)) -∗ K ⟨⟩))
      ⊢ wp frame (wpE (defs₀ (F := F)) 𝒱₀ c none) Set.univ (mmU R i) K := by
  unfold owns
  iintro ⟨⟨%f3, %h3, H3⟩, ⟨%f4, %h4, H4⟩, ⟨%f16, %h16, H16⟩, Hk⟩
  obtain rfl := R.h3.eq_unread h3
  obtain rfl := R.h4.eq_unread h4
  obtain rfl := R.h16.eq_unread h16
  sl_unfold [mmU]
  sl_exec
  sl_step
  iapply Hk
  isplitl [H3]
  · iexists _; isplitr; swap; · iexact H3
    ipureintro; exact R.h3.read_unread _
  isplitl [H4]
  · iexists _; isplitr; swap; · iexact H4
    ipureintro; exact R.h4.read_unread _
  iexists _; isplitr; swap; · iexact H16
  ipureintro
  refine (read_put R.a16 R.h16 _ _ _ _ _).trans ?_
  have e3 : View.readAt (Elt F) R.a3.view (Rect.unit (s := S512x1536) ![0, 0] S512x1536.size inb_S512x1536_S512x1536_0_0).toLoadRect (R.h3.unread d3)
      = d3 := funext fun x => (R.h3.readAt_unread _ _ x).trans (congrArg d3 (whole_idx _ x))
  have e4 : View.readAt (Elt F) R.a4.view (Rect.unit (s := S1536x18944) (k1_off1 i) S1536x512.size (k1_off1_inb i)).toLoadRect (R.h4.unread d4)
      = subA (s := S1536x18944) (k1_off1 i) S1536x512.size (k1_off1_inb i) d4 := funext fun x => R.h4.readAt_unread _ _ x
  refine (putA_whole _ _ _).trans ?_
  unfold gradV
  rw [← e4]
  refine (shapeCast_self _ _).trans ?_
  refine congr (congr (congrArg _ ((shapeCast_self _ _).trans e3)) (shapeCast_self _ _)) rfl

set_option maxHeartbeats 4000000 in
/-- The new scales, from the scratch that gathers. -/
theorem epi_run (c : Dev nD) (𝒱₀ : Variants) (R : Refs) (d13 d15 : Vec F S512x148 .f32) (d19 d20 : Vec F S512x256 .f32) (K : PUnit → sProp 𝕄) :
    iprop(owns (c : Thread nD τ) R.a13 fullShare d13 ∗ owns (c : Thread nD τ) R.a15 fullShare d15
        ∗ owns (c : Thread nD τ) R.a19 fullShare d19 ∗ owns (c : Thread nD τ) R.a20 fullShare d20
        ∗ (iprop(owns (c : Thread nD τ) R.a13 fullShare (lastV newM d19 d13) ∗ owns (c : Thread nD τ) R.a15 fullShare (lastV newS d20 d15)
            ∗ owns (c : Thread nD τ) R.a19 fullShare d19 ∗ owns (c : Thread nD τ) R.a20 fullShare d20) -∗ K ⟨⟩))
      ⊢ wp frame (wpE (defs₀ (F := F)) 𝒱₀ c none) Set.univ (epiU R) K := by
  unfold owns
  iintro ⟨⟨%f13, %h13, H13⟩, ⟨%f15, %h15, H15⟩, ⟨%f19, %h19, H19⟩, ⟨%f20, %h20, H20⟩, Hk⟩
  obtain rfl := R.h13.eq_unread h13
  obtain rfl := R.h15.eq_unread h15
  obtain rfl := R.h19.eq_unread h19
  obtain rfl := R.h20.eq_unread h20
  sl_unfold [epiU]
  sl_exec
  sl_step
  iapply Hk
  have e19 : View.readAt (Elt F) R.a19.view (Rect.unit (s := S512x256) ![0, 0] S512x128.size inb_S512x256_S512x128_0_0).toLoadRect (R.h19.unread d19)
      = subA (s := S512x256) ![0, 0] S512x128.size inb_S512x256_S512x128_0_0 d19 := funext fun x => R.h19.readAt_unread _ _ x
  have e19' : View.readAt (Elt F) R.a19.view (Rect.unit (s := S512x256) ![0, 128] S512x20.size inb_S512x256_S512x20_0_128).toLoadRect (R.h19.unread d19)
      = subA (s := S512x256) ![0, 128] S512x20.size inb_S512x256_S512x20_0_128 d19 := funext fun x => R.h19.readAt_unread _ _ x
  have e20 : View.readAt (Elt F) R.a20.view (Rect.unit (s := S512x256) ![0, 0] S512x128.size inb_S512x256_S512x128_0_0).toLoadRect (R.h20.unread d20)
      = subA (s := S512x256) ![0, 0] S512x128.size inb_S512x256_S512x128_0_0 d20 := funext fun x => R.h20.readAt_unread _ _ x
  have e20' : View.readAt (Elt F) R.a20.view (Rect.unit (s := S512x256) ![0, 128] S512x20.size inb_S512x256_S512x20_0_128).toLoadRect (R.h20.unread d20)
      = subA (s := S512x256) ![0, 128] S512x20.size inb_S512x256_S512x20_0_128 d20 := funext fun x => R.h20.readAt_unread _ _ x
  isplitl [H13]
  · iexists _; isplitr; swap; · iexact H13
    ipureintro
    refine (read_put2 R.a13 R.h13 _ _ _ _ _ _ _ _ _).trans ?_
    unfold lastV
    rw [← e19, ← e19']
    rfl
  isplitl [H15]
  · iexists _; isplitr; swap; · iexact H15
    ipureintro
    refine (read_put2 R.a15 R.h15 _ _ _ _ _ _ _ _ _).trans ?_
    unfold lastV
    rw [← e20, ← e20']
    rfl
  isplitl [H19]
  · iexists _; isplitr; swap; · iexact H19
    ipureintro; exact R.h19.read_unread _
  iexists _; isplitr; swap; · iexact H20
  ipureintro; exact R.h20.read_unread _

end Cert.KernelIdeal.Body

end
-- ==== Proof.IdealRun.lean ====
/-
  The whole body of the main region, as a step of the contents of its buffers.
-/
module

public import proofs.«01_k».proof.Proof.IdealPhases

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The sixteen row chunks. -/
def chunks : List (Fin 16) := [0, 1, 2, 3, 4, 5, 6, 7, 8, 9, 10, 11, 12, 13, 14, 15]

/-- Each lane's number. -/
def lanes : IVec S32x128 32 := iota .tc S32x128 32 [1] iota_S32x128_d1_w32

/-- The first word of the constants. -/
def word0 : (S2 : Shape).Idx := fun _ => ⟨0, by decide +revert⟩
/-- The second word of the constants. -/
def word1 : (S2 : Shape).Idx := fun _ => ⟨1, by decide +revert⟩

/-- The scratch of scales after a point's first phase. -/
def scr (i : grid1.Coords) (k : F .f32) (d : Vec F S512x148 .f32) (f : Vec F S512x256 .f32) : Vec F S512x256 .f32 :=
  if isFirst i = 1#1 then scaleV k d f else f

/-- What a point makes of the tiles it writes and of the scratch that gathers. -/
def tileStep (i : grid1.Coords) (cst : Vec F S2 .f32) (d17 d18 : Vec F S512x256 .f32) (T : TI F) (s : TS F) : TS F :=
  rowsStep i (laneOf i) (shiftOf i) lanes (cuOf (cst word0) (cst word1)) (epOf (cst word1)) d17 d18 T chunks s

/-- The tile of new scales after a point. -/
def scaleOut (i : grid1.Coords) (q : ∀ {s : Shape}, FVec F s .f32 → FVec F s .f32) (a : Vec F S512x256 .f32) (f : Vec F S512x148 .f32) :
    Vec F S512x148 .f32 :=
  if k1_cond2 i = 1#1 then lastV q a f else f

/-- The load of the first word of the constants. -/
theorem word0_run (c : Dev nD) (𝒱₀ : Variants) (R : Refs) (cst : Vec F S2 .f32) (K : Elt F .f32 → sProp 𝕄) :
    iprop(owns (c : Thread nD τ) R.a2 fullShare cst ∗ (owns (c : Thread nD τ) R.a2 fullShare cst -∗ K (cst word0)))
      ⊢ wp frame (wpE (defs₀ (F := F)) 𝒱₀ c none) Set.univ (smemLoad R.a2 (Rect.unit (s := S2) ![0] S1.size inb_S2_S1_0) numel1_S1 rfl) K := by
  unfold owns
  iintro ⟨⟨%f2, %h2, H2⟩, Hk⟩
  obtain rfl := R.h2.eq_unread h2
  sl_unfold [smemLoad]
  sl_exec
  sl_step
  have e : View.readAt (Elt F) R.a2.view (Rect.unit (s := S2) ![0] S1.size inb_S2_S1_0).toLoadRect (R.h2.unread cst)
      (Shape.Idx.first (numel1_S1.symm ▸ Nat.one_pos)) = cst word0 :=
    (R.h2.readAt_unread _ _ _).trans (congrArg cst (funext fun a => by fin_cases a; rfl))
  rw [← e]
  iapply Hk
  iexists _; isplitr; swap; · iexact H2
  ipureintro; exact h2

/-- The load of the second word of the constants. -/
theorem word1_run (c : Dev nD) (𝒱₀ : Variants) (R : Refs) (cst : Vec F S2 .f32) (K : Elt F .f32 → sProp 𝕄) :
    iprop(owns (c : Thread nD τ) R.a2 fullShare cst ∗ (owns (c : Thread nD τ) R.a2 fullShare cst -∗ K (cst word1)))
      ⊢ wp frame (wpE (defs₀ (F := F)) 𝒱₀ c none) Set.univ (smemLoad R.a2 (Rect.unit (s := S2) ![1] S1.size inb_S2_S1_1) numel1_S1 rfl) K := by
  unfold owns
  iintro ⟨⟨%f2, %h2, H2⟩, Hk⟩
  obtain rfl := R.h2.eq_unread h2
  sl_unfold [smemLoad]
  sl_exec
  sl_step
  have e : View.readAt (Elt F) R.a2.view (Rect.unit (s := S2) ![1] S1.size inb_S2_S1_1).toLoadRect (R.h2.unread cst)
      (Shape.Idx.first (numel1_S1.symm ▸ Nat.one_pos)) = cst word1 :=
    (R.h2.readAt_unread _ _ _).trans (congrArg cst (funext fun a => by fin_cases a; rfl))
  rw [← e]
  iapply Hk
  iexists _; isplitr; swap; · iexact H2
  ipureintro; exact h2

/-- The body, as a step of the contents of its buffers. -/
theorem body_run (c : Dev nD) (𝒱₀ : Variants) (i : grid1.Coords) (R : Refs) (cst : Vec F S2 .f32) (d3 : Vec F S512x1536 .bf16)
    (d4 : Vec F S1536x18944 .fp8e5m2) (T : TI F) (d7 d9 d13 d15 : Vec F S512x148 .f32) (d17 d18 : Vec F S512x256 .f32) (s : TS F)
    (K : PUnit → sProp 𝕄) :
    iprop(owns (c : Thread nD τ) R.a2 fullShare cst ∗ owns (c : Thread nD τ) R.a3 fullShare d3 ∗ owns (c : Thread nD τ) R.a4 fullShare d4
        ∗ inSt c R T ∗ owns (c : Thread nD τ) R.a7 fullShare d7 ∗ owns (c : Thread nD τ) R.a9 fullShare d9
        ∗ owns (c : Thread nD τ) R.a13 fullShare d13 ∗ owns (c : Thread nD τ) R.a15 fullShare d15
        ∗ owns (c : Thread nD τ) R.a17 fullShare d17 ∗ owns (c : Thread nD τ) R.a18 fullShare d18 ∗ outSt c R s
        ∗ (iprop(owns (c : Thread nD τ) R.a2 fullShare cst ∗ owns (c : Thread nD τ) R.a3 fullShare d3 ∗ owns (c : Thread nD τ) R.a4 fullShare d4
        ∗ inSt c R { T with g := gradV i d3 d4 } ∗ owns (c : Thread nD τ) R.a7 fullShare d7 ∗ owns (c : Thread nD τ) R.a9 fullShare d9
        ∗ owns (c : Thread nD τ) R.a13 fullShare (scaleOut i newM (tileStep i cst (scr i kM d7 d17) (scr i kS d9 d18) { T with g := gradV i d3 d4 } s).ma d13)
        ∗ owns (c : Thread nD τ) R.a15 fullShare (scaleOut i newS (tileStep i cst (scr i kM d7 d17) (scr i kS d9 d18) { T with g := gradV i d3 d4 } s).sr d15)
        ∗ owns (c : Thread nD τ) R.a17 fullShare (scr i kM d7 d17) ∗ owns (c : Thread nD τ) R.a18 fullShare (scr i kS d9 d18)
        ∗ outSt c R (tileStep i cst (scr i kM d7 d17) (scr i kS d9 d18) { T with g := gradV i d3 d4 } s)) -∗ K ⟨⟩))
      ⊢ wp frame (wpE (defs₀ (F := F)) 𝒱₀ c none) Set.univ (bodyU R i) K := by
  have fst : ∀ K' : PUnit → sProp 𝕄,
      iprop(owns (c : Thread nD τ) R.a7 fullShare d7 ∗ owns (c : Thread nD τ) R.a9 fullShare d9
        ∗ owns (c : Thread nD τ) R.a17 fullShare d17 ∗ owns (c : Thread nD τ) R.a18 fullShare d18
        ∗ (iprop(owns (c : Thread nD τ) R.a7 fullShare d7 ∗ owns (c : Thread nD τ) R.a9 fullShare d9
            ∗ owns (c : Thread nD τ) R.a17 fullShare (scr i kM d7 d17) ∗ owns (c : Thread nD τ) R.a18 fullShare (scr i kS d9 d18)) -∗ K' ⟨⟩))
      ⊢ wp frame (wpE (defs₀ (F := F)) 𝒱₀ c none) Set.univ (if k1_h1 : isFirst i = 1#1 then initU R else pure ⟨⟩) K' := by
    intro K'
    unfold scr
    by_cases h : isFirst i = 1#1
    · rw [dif_pos h, if_pos h, if_pos h]
      exact init_run c 𝒱₀ R d7 d9 d17 d18 K'
    · rw [dif_neg h, if_neg h, if_neg h]
      iintro ⟨H7, H9, H17, H18, Hk⟩
      sl_step
      iapply Hk
      isplitl [H7]; · iexact H7
      isplitl [H9]; · iexact H9
      isplitl [H17]; · iexact H17
      iexact H18
  have lst : ∀ (a b : Vec F S512x256 .f32) (K' : PUnit → sProp 𝕄),
      iprop(owns (c : Thread nD τ) R.a13 fullShare d13 ∗ owns (c : Thread nD τ) R.a15 fullShare d15
        ∗ owns (c : Thread nD τ) R.a19 fullShare a ∗ owns (c : Thread nD τ) R.a20 fullShare b
        ∗ (iprop(owns (c : Thread nD τ) R.a13 fullShare (scaleOut i newM a d13) ∗ owns (c : Thread nD τ) R.a15 fullShare (scaleOut i newS b d15)
            ∗ owns (c : Thread nD τ) R.a19 fullShare a ∗ owns (c : Thread nD τ) R.a20 fullShare b) -∗ K' ⟨⟩))
      ⊢ wp frame (wpE (defs₀ (F := F)) 𝒱₀ c none) Set.univ (if k1_h2 : k1_cond2 i = 1#1 then (epiU R >>= fun _ => pure ⟨⟩) else pure ⟨⟩) K' := by
    intro a b K'
    unfold scaleOut
    by_cases h : k1_cond2 i = 1#1
    · rw [dif_pos h, if_pos h, if_pos h]
      rw [wp_bind]
      iintro ⟨H7, H9, H17, H18, Hk⟩
      iapply epi_run c 𝒱₀ R d13 d15 a b
      isplitl [H7]; · iexact H7
      isplitl [H9]; · iexact H9
      isplitl [H17]; · iexact H17
      isplitl [H18]; · iexact H18
      iintro H
      sl_step
      iapply Hk
      iexact H
    · rw [dif_neg h, if_neg h, if_neg h]
      iintro ⟨H7, H9, H17, H18, Hk⟩
      sl_step
      iapply Hk
      isplitl [H7]; · iexact H7
      isplitl [H9]; · iexact H9
      isplitl [H17]; · iexact H17
      iexact H18
  iintro ⟨H2, H3, H4, Hi, H7, H9, H13, H15, H17, H18, Ho, Hk⟩
  rw [show bodyU (F := F) R i = ((if k1_h1 : isFirst i = 1#1 then initU R else pure ⟨⟩) >>= fun _ => (
      smemLoad R.a2 (Rect.unit (s := S2) ![0] S1.size inb_S2_S1_0) numel1_S1 rfl >>= fun v3 =>
      smemLoad R.a2 (Rect.unit (s := S2) ![1] S1.size inb_S2_S1_1) numel1_S1 rfl >>= fun v4 =>
      mmU R i >>= fun _ =>
      rowsU R i (laneOf i) (shiftOf i) lanes (cuOf v3 v4) (epOf v4) chunks >>= fun _ =>
      (if k1_h2 : k1_cond2 i = 1#1 then (epiU R >>= fun _ => pure ⟨⟩) else pure ⟨⟩))) from rfl]
  rw [wp_bind]
  iapply fst
  isplitl [H7]; · iexact H7
  isplitl [H9]; · iexact H9
  isplitl [H17]; · iexact H17
  isplitl [H18]; · iexact H18
  iintro ⟨H7, H9, H17, H18⟩
  rw [wp_bind]
  iapply word0_run c 𝒱₀ R cst
  isplitl [H2]; · iexact H2
  iintro H2
  rw [wp_bind]
  iapply word1_run c 𝒱₀ R cst
  isplitl [H2]; · iexact H2
  iintro H2
  rw [wp_bind]
  unfold inSt
  icases Hi with ⟨H16, Hi⟩
  iapply mm_run c 𝒱₀ R i d3 d4 T.g
  isplitl [H3]; · iexact H3
  isplitl [H4]; · iexact H4
  isplitl [H16]; · iexact H16
  iintro ⟨H3, H4, H16⟩
  rw [wp_bind]
  iapply rows_run c 𝒱₀ i R _ _ _ _ _ (scr i kM d7 d17) (scr i kS d9 d18) { T with g := gradV i d3 d4 } chunks s
  unfold inSt
  isplitl [H16 Hi]
  · isplitl [H16]; · iexact H16
    iexact Hi
  isplitl [Ho]; · iexact Ho
  isplitl [H17]; · iexact H17
  isplitl [H18]; · iexact H18
  iintro ⟨Hi, Ho, H17, H18⟩
  unfold outSt
  icases Ho with ⟨H11, H10, H12, H14, H19, H20⟩
  iapply lst
  isplitl [H13]; · iexact H13
  isplitl [H15]; · iexact H15
  isplitl [H19]; · iexact H19
  isplitl [H20]; · iexact H20
  iintro ⟨H13, H15, H19, H20⟩
  iapply Hk
  isplitl [H2]; · iexact H2
  isplitl [H3]; · iexact H3
  isplitl [H4]; · iexact H4
  isplitl [Hi]; · iexact Hi
  isplitl [H7]; · iexact H7
  isplitl [H9]; · iexact H9
  isplitl [H13]; · iexact H13
  isplitl [H15]; · iexact H15
  isplitl [H17]; · iexact H17
  isplitl [H18]; · iexact H18
  isplitl [H11]; · iexact H11
  isplitl [H10]; · iexact H10
  isplitl [H12]; · iexact H12
  isplitl [H14]; · iexact H14
  isplitl [H19]; · iexact H19
  iexact H20

end Cert.KernelIdeal.Body

end
-- ==== Proof.IdealTile.lean ====
/-
  The tiles a point leaves, entry by entry: every entry of a tile written is its own block's value, and a scratch that gathers holds
  each block's maximum or minimum in the block's own column.
-/
module

public import proofs.«01_k».proof.Proof.IdealRun

@[expose] public section

set_option maxRecDepth 16384

noncomputable section

namespace Cert.KernelIdeal.Body

open Cert.KernelIdeal Cert.KernelIdeal.Gen
open Idealize.ShloMosaic

variable {F : FTy → Type} [FloatOps F] [Named F]

/-! ## Indices -/

/-- The index with coordinates `p` and `q`. -/
def ix {m n : ℕ} (p : Fin m) (q : Fin n) : (⟨2, ![m, n]⟩ : Shape).Idx := fun a =>
  ⟨(![p.val, q.val] : Fin 2 → ℕ) a, by fin_cases a; exacts [p.isLt, q.isLt]⟩

/-- An index of a rank-two shape is the one with its coordinates. -/
theorem ix_eta {m n : ℕ} (y : (⟨2, ![m, n]⟩ : Shape).Idx) (p : Fin m) (q : Fin n) (hp : p.val = (y 0).val) (hq : q.val = (y 1).val) :
    ix p q = y := by
  funext a; refine Fin.ext ?_
  fin_cases a
  · exact hp
  · exact hq

/-- The row chunk, block and place within its block of an entry of a tile. -/
def rowOf (y : S512x512.Idx) : Fin 16 := ⟨(y 0).val / 32, by have : (y 0).val < 512 := (y 0).isLt; omega⟩
def blkOf (y : S512x512.Idx) : Fin 4 := ⟨(y 1).val / 128, by have : (y 1).val < 512 := (y 1).isLt; omega⟩
def locOf (y : S512x512.Idx) : S32x128.Idx := ix (⟨(y 0).val % 32, by omega⟩ : Fin 32) (⟨(y 1).val % 128, by omega⟩ : Fin 128)

theorem bo_eq : ∀ (r : Fin 16) (b : Fin 4), bo r b 0 = 32 * r.val ∧ bo r b 1 = 128 * b.val := by decide +kernel
theorem so_eq : ∀ (b : Fin 4), so b 0 = 0 ∧ so b 1 = b.val := by decide +kernel
theorem koff_eq : ∀ (r : Fin 16) (i : grid1.Coords), koff r i 0 = 32 * r.val ∧ koff r i 1 = 128 * ((i 1).val / 32) := by decide +kernel
theorem lane_eq : ∀ (i : grid1.Coords), (laneOf i).toNat = 4 * ((i 1).val % 32) := by decide +kernel
theorem shift_eq : ∀ (i : grid1.Coords), (shiftOf i).toNat = (128 - 4 * ((i 1).val % 32)) % 128 := by decide +kernel
theorem off1_eq : ∀ (i : grid1.Coords), k1_off1 i 0 = 0 ∧ k1_off1 i 1 = 512 * (i 1).val := by decide +kernel
theorem first_iff : ∀ (i : grid1.Coords), isFirst i = 1#1 ↔ (i 1).val = 0 := by decide +kernel
theorem last_iff : ∀ (i : grid1.Coords), k1_cond2 i = 1#1 ↔ (i 1).val = 36 := by decide +kernel
theorem point_lt (i : grid1.Coords) : (i 1).val < 37 := (i 1).isLt

/-! ## Replacing blocks one after another -/

/-- Of replacements at cells no two of which share an entry, the one at an entry's own cell decides it; -/
theorem fold_hit {ι β γ : Type} (put : ι → (β → γ) → β → γ) (P : ι → β → Prop) (val : ι → β → γ)
    (hin : ∀ k d y, P k y → put k d y = val k y) (hout : ∀ k d y, ¬ P k y → put k d y = d y)
    (huniq : ∀ k k' y, P k y → P k' y → k = k') (y : β) (k : ι) (hk : P k y) :
    ∀ (l : List ι) (d : β → γ), (k ∈ l ∨ d y = val k y) → l.foldl (fun d k => put k d) d y = val k y := by
  intro l
  induction l with
  | nil => intro d h; rcases h with h | h; · exact absurd h List.not_mem_nil
           exact h
  | cons a l ih =>
    intro d h
    rw [List.foldl_cons]
    refine ih _ ?_
    by_cases ha : P a y
    · have : a = k := huniq _ _ _ ha hk
      subst this
      exact .inr (hin _ _ _ ha)
    · rcases h with h | h
      · rcases List.mem_cons.mp h with h | h
        · exact absurd (h ▸ hk) ha
        · exact .inl h
      · exact .inr ((hout _ _ _ ha).trans h)

/-- and an entry of no cell is kept. -/
theorem fold_miss {ι β γ : Type} (put : ι → (β → γ) → β → γ) (P : ι → β → Prop)
    (hout : ∀ k d y, ¬ P k y → put k d y = d y) (y : β) (hk : ∀ k, ¬ P k y) :
    ∀ (l : List ι) (d : β → γ), l.foldl (fun d k => put k d) d y = d y := by
  intro l
  induction l with
  | nil => intro d; rfl
  | cons a l ih => intro d; rw [List.foldl_cons, ih, hout _ _ _ (hk a)]

/-- The blocks of a tile, in order. -/
def cells : List (Fin 16 × Fin 4) := chunks.flatMap fun r => [0, 1, 2, 3].map fun b => (r, b)

theorem mem_cells : ∀ k : Fin 16 × Fin 4, k ∈ cells := by decide +kernel

/-- A point's step is its blocks' steps, in order. -/
theorem tileStep_eq (i : grid1.Coords) (cst : Vec F S2 .f32) (d17 d18 : Vec F S512x256 .f32) (T : TI F) (s : TS F) :
    tileStep i cst d17 d18 T s = cells.foldl (fun s k => blkStep i (laneOf i) lanes (cuOf (cst word0) (cst word1)) (epOf (cst word1))
      (rotA i (shiftOf i) k.1 d17) (rotA i (shiftOf i) k.1 d18) T k.1 k.2 s) s := by
  unfold tileStep rowsStep rowStep cells
  rw [List.foldl_flatMap]
  simp only [List.foldl_map]

/-- A block replaced, at an entry. -/
theorem putA_bo {α : Type} (r : Fin 16) (b : Fin 4) (w : S32x128.Idx → α) (d : S512x512.Idx → α) (y : S512x512.Idx) :
    putA (s := S512x512) (bo r b) S32x128.size (bo_inb r b) w d y = if rowOf y = r ∧ blkOf y = b then w (locOf y) else d y := by
  obtain ⟨h0, h1⟩ := bo_eq r b
  have hy0 : (y 0).val < 512 := (y 0).isLt
  have hy1 : (y 1).val < 512 := (y 1).isLt
  by_cases h : rowOf y = r ∧ blkOf y = b
  · have hr : (y 0).val / 32 = r.val := congrArg Fin.val h.1
    have hb : (y 1).val / 128 = b.val := congrArg Fin.val h.2
    have hh : ∀ a, bo r b a ≤ (y a).val ∧ (y a).val < bo r b a + S32x128.size a := by
      intro a; fin_cases a
      · show bo r b 0 ≤ (y 0).val ∧ (y 0).val < bo r b 0 + 32; omega
      · show bo r b 1 ≤ (y 1).val ∧ (y 1).val < bo r b 1 + 128; omega
    rw [if_pos h]
    refine (dif_pos hh).trans (congrArg w (funext fun a => Fin.ext ?_))
    fin_cases a
    · show (y 0).val - bo r b 0 = (y 0).val % 32; omega
    · show (y 1).val - bo r b 1 = (y 1).val % 128; omega
  · rw [if_neg h]
    refine dif_neg fun hh => h ?_
    have a0 : bo r b 0 ≤ (y 0).val ∧ (y 0).val < bo r b 0 + 32 := hh 0
    have a1 : bo r b 1 ≤ (y 1).val ∧ (y 1).val < bo r b 1 + 128 := hh 1
    exact ⟨Fin.ext (by show (y 0).val / 32 = r.val; omega), Fin.ext (by show (y 1).val / 128 = b.val; omega)⟩

/-- All blocks replaced: each entry is its block's. -/
theorem fold_tile {α : Type} (w : Fin 16 → Fin 4 → S32x128.Idx → α) (d : S512x512.Idx → α) :
    cells.foldl (fun d k => putA (s := S512x512) (bo k.1 k.2) S32x128.size (bo_inb k.1 k.2) (w k.1 k.2) d) d
      = fun y => w (rowOf y) (blkOf y) (locOf y) := by
  funext y
  refine fold_hit (fun k d => putA (s := S512x512) (bo k.1 k.2) S32x128.size (bo_inb k.1 k.2) (w k.1 k.2) d)
    (fun k y => rowOf y = k.1 ∧ blkOf y = k.2) (fun k y => w k.1 k.2 (locOf y)) ?_ ?_ ?_ y (rowOf y, blkOf y) ⟨rfl, rfl⟩ cells d (.inl (mem_cells _))
  · intro k d y h; exact (putA_bo _ _ _ _ _).trans (if_pos h)
  · intro k d y h; exact (putA_bo _ _ _ _ _).trans (if_neg h)
  · intro k k' y h h'; exact Prod.ext (h.1.symm.trans h'.1) (h.2.symm.trans h'.2)

/-! ## The scratch that gathers -/

/-- A lane is marked when it is the block's. -/
theorem mask_at (i : grid1.Coords) (b : Fin 4) (x : S32x128.Idx) :
    maskV lanes (Scalar.addi (laneOf i) (BitVec.ofNat 32 b.val)) x = 1#1 ↔ (x 1).val = 4 * ((i 1).val % 32) + b.val := by
  have hl := lane_eq i
  have hi := point_lt i
  have hx : (x 1).val < 128 := (x 1).isLt
  have hb : b.val < 4 := b.isLt
  unfold maskV lanes
  rw [shapeCast_self]
  show BitVec.ofBool (BitVec.ofNat 32 (0 * 128 + (x 1).val) == (laneOf i + BitVec.ofNat 32 b.val)) = 1#1 ↔ _
  rw [show ∀ c : Bool, BitVec.ofBool c = 1#1 ↔ c = true from by decide, beq_iff_eq, ← BitVec.toNat_inj, BitVec.toNat_add,
    BitVec.toNat_ofNat, BitVec.toNat_ofNat, hl]
  omega

/-- A column spread over the lanes, at an entry. -/
theorem laneV_at (a : FVec F S32x1 .f32) (x : S32x128.Idx) : laneV a x = a (ix (x 0) (0 : Fin 1)) := by
  unfold laneV
  rw [shapeCast_self, shapeCast_self]
  refine congrArg a (funext fun q => Fin.ext ?_)
  fin_cases q <;> rfl

/-- A block's column replaced, at an entry. -/
theorem putM_col (i : grid1.Coords) (r : Fin 16) (b : Fin 4) (a : FVec F S32x1 .f32) (d : Vec F S512x256 .f32) (z : S512x256.Idx) :
    putM (s := S512x256) (koff r i) S32x128.size (koff_inb r i) (maskV lanes (Scalar.addi (laneOf i) (BitVec.ofNat 32 b.val))) (laneV a) d z
      = if (z 0).val / 32 = r.val ∧ (z 1).val = 4 * (i 1).val + b.val then a (ix (⟨(z 0).val % 32, by omega⟩ : Fin 32) (0 : Fin 1)) else d z := by
  obtain ⟨h0, h1⟩ := koff_eq r i
  have hi := point_lt i
  have hz0 : (z 0).val < 512 := (z 0).isLt
  have hz1 : (z 1).val < 256 := (z 1).isLt
  unfold putM
  by_cases hh : ∀ a, koff r i a ≤ (z a).val ∧ (z a).val < koff r i a + S32x128.size a
  · have a0 : koff r i 0 ≤ (z 0).val ∧ (z 0).val < koff r i 0 + 32 := hh 0
    have a1 : koff r i 1 ≤ (z 1).val ∧ (z 1).val < koff r i 1 + 128 := hh 1
    rw [dif_pos hh]
    have hm := mask_at i b (Rect.unitLocal (s := S512x256) z hh)
    have hx : ((Rect.unitLocal (s := S512x256) z hh) 1).val = (z 1).val - koff r i 1 := rfl
    rw [hx] at hm
    by_cases hc : (z 0).val / 32 = r.val ∧ (z 1).val = 4 * (i 1).val + b.val
    · rw [if_pos hc, if_pos (hm.mpr (by omega)), laneV_at]
      refine congrArg a (funext fun q => Fin.ext ?_)
      fin_cases q
      · show (z 0).val - koff r i 0 = (z 0).val % 32; omega
      · rfl
    · rw [if_neg hc, if_neg (fun h => hc ⟨by omega, by have := hm.mp h; omega⟩)]
  · rw [dif_neg hh, if_neg]
    rintro ⟨hr, hc⟩
    apply hh
    intro q; fin_cases q
    · show koff r i 0 ≤ (z 0).val ∧ (z 0).val < koff r i 0 + 32; omega
    · show koff r i 1 ≤ (z 1).val ∧ (z 1).val < koff r i 1 + 128; omega

/-- All the point's columns replaced, at an entry of one of them; -/
theorem fold_cols_hit (i : grid1.Coords) (a : Fin 16 → Fin 4 → FVec F S32x1 .f32) (d : Vec F S512x256 .f32) (z : S512x256.Idx)
    (r : Fin 16) (b : Fin 4) (hr : (z 0).val / 32 = r.val) (hb : (z 1).val = 4 * (i 1).val + b.val) :
    cells.foldl (fun d k => putM (s := S512x256) (koff k.1 i) S32x128.size (koff_inb k.1 i)
      (maskV lanes (Scalar.addi (laneOf i) (BitVec.ofNat 32 k.2.val))) (laneV (a k.1 k.2)) d) d z
      = a r b (ix (⟨(z 0).val % 32, by omega⟩ : Fin 32) (0 : Fin 1)) := by
  refine fold_hit (fun k d => putM (s := S512x256) (koff k.1 i) S32x128.size (koff_inb k.1 i)
      (maskV lanes (Scalar.addi (laneOf i) (BitVec.ofNat 32 k.2.val))) (laneV (a k.1 k.2)) d)
    (fun k z => (z 0).val / 32 = k.1.val ∧ (z 1).val = 4 * (i 1).val + k.2.val)
    (fun k z => a k.1 k.2 (ix (⟨(z 0).val % 32, by omega⟩ : Fin 32) (0 : Fin 1))) ?_ ?_ ?_ z (r, b) ⟨hr, hb⟩ cells d (.inl (mem_cells _))
  · intro k d y h; exact (putM_col _ _ _ _ _ _).trans (if_pos h)
  · intro k d y h; exact (putM_col _ _ _ _ _ _).trans (if_neg h)
  · intro k k' y h h'; exact Prod.ext (Fin.ext (by omega)) (Fin.ext (by omega))

/-- and at an entry of none. -/
theorem fold_cols_miss (i : grid1.Coords) (a : Fin 16 → Fin 4 → FVec F S32x1 .f32) (d : Vec F S512x256 .f32) (z : S512x256.Idx)
    (hb : (z 1).val < 4 * (i 1).val) :
    cells.foldl (fun d k => putM (s := S512x256) (koff k.1 i) S32x128.size (koff_inb k.1 i)
      (maskV lanes (Scalar.addi (laneOf i) (BitVec.ofNat 32 k.2.val))) (laneV (a k.1 k.2)) d) d z = d z := by
  refine fold_miss (fun k d => putM (s := S512x256) (koff k.1 i) S32x128.size (koff_inb k.1 i)
      (maskV lanes (Scalar.addi (laneOf i) (BitVec.ofNat 32 k.2.val))) (laneV (a k.1 k.2)) d)
    (fun k z => (z 0).val / 32 = k.1.val ∧ (z 1).val = 4 * (i 1).val + k.2.val) ?_ z ?_ cells d
  · intro k d y h; exact (putM_col _ _ _ _ _ _).trans (if_neg h)
  · rintro k ⟨-, h⟩; omega

/-! ## The scales a block reads -/

/-- Column `j` of a scratch, in the rows of chunk `r`. -/
def colOf {w : ℕ} (d : Vec F ⟨2, ![512, w]⟩ .f32) (r : Fin 16) (j : Fin w) : FVec F S32x1 .f32 := fun x =>
  d (ix (⟨32 * r.val + (x 0).val, by have : (x 0).val < 32 := (x 0).isLt; omega⟩ : Fin 512) j)

/-- Block `b`'s scale in the rotated slice is the scratch's column `4 n + b`. -/
theorem colV_rotA (i : grid1.Coords) (r : Fin 16) (b : Fin 4) (d : Vec F S512x256 .f32) :
    colV b (rotA i (shiftOf i) r d) = colOf d r (⟨4 * (i 1).val + b.val, by have := point_lt i; omega⟩ : Fin 256) := by
  obtain ⟨h0, h1⟩ := koff_eq r i
  obtain ⟨s0, s1⟩ := so_eq b
  have hs := shift_eq i
  have hi := point_lt i
  funext x
  have hx : (x 1).val < 1 := (x 1).isLt
  have hx0 : (x 0).val < 32 := (x 0).isLt
  refine congrArg d (funext fun q => Fin.ext ?_)
  fin_cases q
  · show koff r i 0 + 1 * (so b 0 + (x 0).val) = 32 * r.val + (x 0).val
    omega
  · show koff r i 1 + 1 * ((so b 1 + (x 1).val + 128 - (shiftOf i).toNat % 128) % 128) = 4 * (i 1).val + b.val
    have hb : b.val < 4 := b.isLt
    omega

end Cert.KernelIdeal.Body

end
-- ==== Proof.IdealOut.lean ====
/-
  What the main region leaves, as functions of the arrays it reads, and the step of a point in those terms.
-/
module

public import proofs.«01_k».proof.Proof.IdealTile

@[expose] public section

set_option maxRecDepth 16384

noncomputable section

namespace Cert.KernelIdeal.Body

open Cert.KernelIdeal Cert.KernelIdeal.Gen
open Idealize.ShloMosaic

variable {F : FTy → Type} [FloatOps F] [Named F]

/-! ## The arrays read, and what is made of them -/

/-- The arrays that the main region reads. -/
structure In (F : FTy → Type) where
  cst : Vec F S2 .f32
  xt : Vec F S3584x1536 .bf16
  dy : Vec F S1536x18944 .fp8e5m2
  w : Vec F S3584x18944 .bf16
  mq : Vec F S3584x18944 .i8
  ms : Vec F S3584x148 .f32
  sq : Vec F S3584x18944 .i8
  ss : Vec F S3584x148 .f32

/-- The tile `(d, n)` of an array. -/
def tB {e : EltTy} (a : Vec F S3584x18944 e) (d : Fin 7) (n : Fin 37) : Vec F S512x512 e := fun x =>
  a (ix (⟨512 * d.val + (x 0).val, by have : (x 0).val < 512 := (x 0).isLt; omega⟩ : Fin 3584)
    (⟨512 * n.val + (x 1).val, by have : (x 1).val < 512 := (x 1).isLt; omega⟩ : Fin 18944))

/-- The rows `512 d …` of an array of scales. -/
def sB (a : Vec F S3584x148 .f32) (d : Fin 7) : Vec F S512x148 .f32 := fun x =>
  a (ix (⟨512 * d.val + (x 0).val, by have : (x 0).val < 512 := (x 0).isLt; omega⟩ : Fin 3584) (x 1 : Fin 148))

/-- The rows `512 d …` of the scaled activations. -/
def xB (a : Vec F S3584x1536 .bf16) (d : Fin 7) : Vec F S512x1536 .bf16 := fun x =>
  a (ix (⟨512 * d.val + (x 0).val, by have : (x 0).val < 512 := (x 0).isLt; omega⟩ : Fin 3584) (x 1 : Fin 1536))

/-- The columns `512 n …` of the gradient codes. -/
def yB (a : Vec F S1536x18944 .fp8e5m2) (n : Fin 37) : Vec F S1536x512 .fp8e5m2 := fun x =>
  a (ix (x 0 : Fin 1536) (⟨512 * n.val + (x 1).val, by have : (x 1).val < 512 := (x 1).isLt; omega⟩ : Fin 18944))

/-- The weight gradient, tile `(d, n)`. -/
def gI (I : In F) (d : Fin 7) (n : Fin 37) : Vec F S512x512 .f32 :=
  matmul (F := F) dot_S512x1536_S1536x512_S512x512_1_0_0_1_n_n none (xB I.xt d : FVec F S512x1536 .bf16) (yB I.dy n : FVec F S1536x512 .fp8e5m2)
    (constant S512x512 .f32 0x00000000#32)

/-- A tile of scales times `k`. -/
def scaled (k : F .f32) (a : Vec F S512x148 .f32) : Vec F S512x148 .f32 := mulf (a : FVec F S512x148 .f32) (broadcast S512x148 k)

/-- The tiles read at point `(d, n)`. -/
def tI (I : In F) (d : Fin 7) (n : Fin 37) : TI F := ⟨gI I d n, tB I.mq d n, tB I.sq d n, tB I.w d n⟩

/-- The column of scales of block `b` of tile column `n`. -/
def col (n : Fin 37) (b : Fin 4) : Fin 148 := ⟨4 * n.val + b.val, by omega⟩

/-- The first moment of block `(r, b)` of tile `(d, n)`; -/
def mI (I : In F) (d : Fin 7) (n : Fin 37) (r : Fin 16) (b : Fin 4) : FVec F S32x128 .f32 :=
  mV (blkA r b (gI I d n)) (blkA r b (tB I.mq d n)) (colOf (scaled kM (sB I.ms d)) r (col n b))
/-- its reciprocal root; -/
def rI (I : In F) (d : Fin 7) (n : Fin 37) (r : Fin 16) (b : Fin 4) : FVec F S32x128 .f32 :=
  rsV (blkA r b (gI I d n)) (blkA r b (tB I.sq d n)) (colOf (scaled kS (sB I.ss d)) r (col n b))
/-- its update. -/
def uI (I : In F) (d : Fin 7) (n : Fin 37) (r : Fin 16) (b : Fin 4) : FVec F S32x128 .f32 :=
  updV (cuOf (I.cst word0) (I.cst word1)) (epOf (I.cst word1)) (mI I d n r b) (invV (rI I d n r b))

/-- The update, tile `(d, n)`; -/
def uO (I : In F) (d : Fin 7) (n : Fin 37) : Vec F S512x512 .f32 := fun y => uI I d n (rowOf y) (blkOf y) (locOf y)
/-- the new weights; -/
def wO (I : In F) (d : Fin 7) (n : Fin 37) : Vec F S512x512 .bf16 := fun y =>
  wnV (blkA (rowOf y) (blkOf y) (tB I.w d n)) (uI I d n (rowOf y) (blkOf y)) (locOf y)
/-- the codes of the first moment; -/
def mO (I : In F) (d : Fin 7) (n : Fin 37) : Vec F S512x512 .i8 := fun y => mcV (mI I d n (rowOf y) (blkOf y)) (locOf y)
/-- the codes of the second moment's root. -/
def sO (I : In F) (d : Fin 7) (n : Fin 37) : Vec F S512x512 .i8 := fun y => scV (rI I d n (rowOf y) (blkOf y)) (locOf y)

/-- The tile column, chunk, block and row within its chunk of an entry of a tile of scales. -/
def tileOf (z : S512x148.Idx) : Fin 37 := ⟨(z 1).val / 4, by have : (z 1).val < 148 := (z 1).isLt; omega⟩
def chunkOf (z : S512x148.Idx) : Fin 16 := ⟨(z 0).val / 32, by have : (z 0).val < 512 := (z 0).isLt; omega⟩
def sblkOf (z : S512x148.Idx) : Fin 4 := ⟨(z 1).val % 4, by omega⟩
def slocOf (z : S512x148.Idx) : S32x1.Idx := ix (⟨(z 0).val % 32, by omega⟩ : Fin 32) (0 : Fin 1)

/-- The largest magnitude of the first moment in each block; -/
def aO (I : In F) (d : Fin 7) : Vec F S512x148 .f32 := fun z => amaxV (mI I d (tileOf z) (chunkOf z) (sblkOf z)) (slocOf z)
/-- the least reciprocal root in each block. -/
def rO (I : In F) (d : Fin 7) : Vec F S512x148 .f32 := fun z => rminV (rI I d (tileOf z) (chunkOf z) (sblkOf z)) (slocOf z)
/-- The new scales of the first moment; -/
def msO (I : In F) (d : Fin 7) : Vec F S512x148 .f32 := newM (aO I d : FVec F S512x148 .f32)
/-- and of the second moment's root. -/
def ssO (I : In F) (d : Fin 7) : Vec F S512x148 .f32 := newS (rO I d : FVec F S512x148 .f32)

/-! ## The scratch between points -/

/-- The scratch as the scales' columns see it: every column of the scales. -/
def narrow (a : Vec F S512x256 .f32) : Vec F S512x148 .f32 := fun z =>
  a (ix (z 0 : Fin 512) (⟨(z 1).val, by have : (z 1).val < 148 := (z 1).isLt; omega⟩ : Fin 256))

/-- The scratch before point `n > 0` of tile row `d`: the scales, scaled, and what the points before gathered. -/
structure Good (I : In F) (d : Fin 7) (n : ℕ) (d17 d18 d19 d20 : Vec F S512x256 .f32) : Prop where
  hm : narrow d17 = scaled kM (sB I.ms d)
  hs : narrow d18 = scaled kS (sB I.ss d)
  ha : ∀ z : S512x148.Idx, (z 1).val < 4 * n → narrow d19 z = aO I d z
  hr : ∀ z : S512x148.Idx, (z 1).val < 4 * n → narrow d20 z = rO I d z

/-- The scaled scales reach every column of the scales. -/
theorem narrow_scaleV (k : F .f32) (a : Vec F S512x148 .f32) (f : Vec F S512x256 .f32) : narrow (scaleV k a f) = scaled k a := by
  funext z
  have h0 : (z 0).val < 512 := (z 0).isLt
  have h1 : (z 1).val < 148 := (z 1).isLt
  unfold narrow scaleV putA
  by_cases h : 128 ≤ (z 1).val
  · rw [dif_pos (by intro q; fin_cases q
                    · exact ⟨Nat.zero_le _, show (z 0).val < 0 + 512 by omega⟩
                    · exact ⟨h, show (z 1).val < 128 + 20 by omega⟩)]
    refine congrArg (fun e => FloatOps.mulf e k) (congrArg a (funext fun q => Fin.ext ?_))
    fin_cases q
    · show 0 + 1 * ((z 0).val - 0) = (z 0).val; omega
    · show 128 + 1 * ((z 1).val - 128) = (z 1).val; omega
  · rw [dif_neg (fun hh => h (hh 1).1), dif_pos (by
      intro q; fin_cases q
      · exact ⟨Nat.zero_le _, show (z 0).val < 0 + 512 by omega⟩
      · exact ⟨Nat.zero_le _, show (z 1).val < 0 + 128 by omega⟩)]
    refine congrArg (fun e => FloatOps.mulf e k) (congrArg a (funext fun q => Fin.ext ?_))
    fin_cases q
    · show 0 + 1 * ((z 0).val - 0) = (z 0).val; omega
    · show 0 + 1 * ((z 1).val - 0) = (z 1).val; omega

/-- The new scales are those of the scratch's columns, for a function of scales that works entry by entry. -/
theorem lastV_eq (q : ∀ {s : Shape}, FVec F s .f32 → FVec F s .f32) (q1 : F .f32 → F .f32)
    (hq : ∀ {s : Shape} (x : FVec F s .f32) (i : s.Idx), q x i = q1 (x i)) (a : Vec F S512x256 .f32) (f : Vec F S512x148 .f32) :
    lastV q a f = q (s := S512x148) (narrow a) := by
  funext z
  have h0 : (z 0).val < 512 := (z 0).isLt
  have h1 : (z 1).val < 148 := (z 1).isLt
  unfold lastV putA
  rw [hq]
  by_cases h : 128 ≤ (z 1).val
  · rw [dif_pos (by intro q; fin_cases q
                    · exact ⟨Nat.zero_le _, show (z 0).val < 0 + 512 by omega⟩
                    · exact ⟨h, show (z 1).val < 128 + 20 by omega⟩)]
    refine (hq _ _).trans (congrArg q1 (congrArg a (funext fun q => Fin.ext ?_)))
    fin_cases q
    · show 0 + 1 * ((z 0).val - 0) = (z 0).val; omega
    · show 128 + 1 * ((z 1).val - 128) = (z 1).val; omega
  · rw [dif_neg (fun hh => h (hh 1).1), dif_pos (by
      intro q; fin_cases q
      · exact ⟨Nat.zero_le _, show (z 0).val < 0 + 512 by omega⟩
      · exact ⟨Nat.zero_le _, show (z 1).val < 0 + 128 by omega⟩)]
    refine (hq _ _).trans (congrArg q1 (congrArg a (funext fun q => Fin.ext ?_)))
    fin_cases q
    · show 0 + 1 * ((z 0).val - 0) = (z 0).val; omega
    · show 0 + 1 * ((z 1).val - 0) = (z 1).val; omega

/-- The only index of a scalar. -/
def ix0 : (⟨0, ![]⟩ : Shape).Idx := fun a => a.elim0

theorem lastV_newM (a : Vec F S512x256 .f32) (f : Vec F S512x148 .f32) : lastV newM a f = newM (s := S512x148) (narrow a) :=
  lastV_eq newM (fun e => newM (s := ⟨0, ![]⟩) (fun _ => e) ix0) (fun _ _ => rfl) a f
theorem lastV_newS (a : Vec F S512x256 .f32) (f : Vec F S512x148 .f32) : lastV newS a f = newS (s := S512x148) (narrow a) :=
  lastV_eq newS (fun e => newS (s := ⟨0, ![]⟩) (fun _ => e) ix0) (fun _ _ => rfl) a f

/-! ## The step of a point -/

/-- The gradient tile that the body computes. -/
theorem gradV_eq (I : In F) (i : grid1.Coords) : gradV i (xB I.xt (i 0)) I.dy = gI I (i 0) (i 1) := by
  obtain ⟨h0, h1⟩ := off1_eq i
  unfold gradV gI
  refine congrArg (fun z : FVec F S1536x512 .fp8e5m2 => matmul (F := F) dot_S512x1536_S1536x512_S512x512_1_0_0_1_n_n none _ z _) ?_
  funext x
  refine congrArg I.dy (funext fun q => Fin.ext ?_)
  fin_cases q
  · show k1_off1 i 0 + 1 * (x 0).val = (x 0).val; omega
  · show k1_off1 i 1 + 1 * (x 1).val = 512 * (i 1).val + (x 1).val; omega

/-- A block's scale, from a scratch that holds the scaled scales. -/
theorem colV_of (i : grid1.Coords) (r : Fin 16) (b : Fin 4) (d : Vec F S512x256 .f32) (a : Vec F S512x148 .f32) (h : narrow d = a) :
    colV b (rotA i (shiftOf i) r d) = colOf a r (col (i 1) b) := by
  rw [colV_rotA, ← h]
  rfl

/-- The scratch that a point's blocks read. -/
theorem scr_eq (I : In F) (i : grid1.Coords) (k : F .f32) (a : Vec F S512x148 .f32) (d17 : Vec F S512x256 .f32)
    (h : 0 < (i 1).val → narrow d17 = scaled k a) : narrow (scr i k a d17) = scaled k a := by
  unfold scr
  by_cases hf : isFirst i = 1#1
  · rw [if_pos hf]; exact narrow_scaleV k a d17
  · rw [if_neg hf]
    exact h (Nat.pos_of_ne_zero fun h0 => hf ((first_iff i).mpr h0))

variable (I : In F) (i : grid1.Coords) (d17 d18 : Vec F S512x256 .f32) (s : TS F)
  (hm : narrow d17 = scaled kM (sB I.ms (i 0))) (hs : narrow d18 = scaled kS (sB I.ss (i 0)))

include hm in
theorem mB_eq (r : Fin 16) (b : Fin 4) : mB (rotA i (shiftOf i) r d17) (tI I (i 0) (i 1)) r b = mI I (i 0) (i 1) r b := by
  unfold mB; rw [colV_of i r b d17 _ hm]; rfl
include hs in
theorem rB_eq (r : Fin 16) (b : Fin 4) : rB (rotA i (shiftOf i) r d18) (tI I (i 0) (i 1)) r b = rI I (i 0) (i 1) r b := by
  unfold rB; rw [colV_of i r b d18 _ hs]; rfl

/-- What a point's blocks leave, field by field. -/
theorem step_u : (tileStep i I.cst d17 d18 (tI I (i 0) (i 1)) s).u = cells.foldl (fun d k => putA (s := S512x512) (bo k.1 k.2) S32x128.size (bo_inb k.1 k.2)
    (uB (cuOf (I.cst word0) (I.cst word1)) (epOf (I.cst word1)) (rotA i (shiftOf i) k.1 d17) (rotA i (shiftOf i) k.1 d18) (tI I (i 0) (i 1)) k.1 k.2) d) s.u := by
  rw [tileStep_eq]; exact List.foldl_hom TS.u (fun _ _ => rfl) |>.symm
theorem step_wn : (tileStep i I.cst d17 d18 (tI I (i 0) (i 1)) s).wn = cells.foldl (fun d k => putA (s := S512x512) (bo k.1 k.2) S32x128.size (bo_inb k.1 k.2)
    (wnV (blkA k.1 k.2 (tI I (i 0) (i 1)).w) (uB (cuOf (I.cst word0) (I.cst word1)) (epOf (I.cst word1)) (rotA i (shiftOf i) k.1 d17) (rotA i (shiftOf i) k.1 d18) (tI I (i 0) (i 1)) k.1 k.2)) d) s.wn := by
  rw [tileStep_eq]; exact List.foldl_hom TS.wn (fun _ _ => rfl) |>.symm
theorem step_mc : (tileStep i I.cst d17 d18 (tI I (i 0) (i 1)) s).mc = cells.foldl (fun d k => putA (s := S512x512) (bo k.1 k.2) S32x128.size (bo_inb k.1 k.2)
    (mcV (mB (rotA i (shiftOf i) k.1 d17) (tI I (i 0) (i 1)) k.1 k.2)) d) s.mc := by
  rw [tileStep_eq]; exact List.foldl_hom TS.mc (fun _ _ => rfl) |>.symm
theorem step_sc : (tileStep i I.cst d17 d18 (tI I (i 0) (i 1)) s).sc = cells.foldl (fun d k => putA (s := S512x512) (bo k.1 k.2) S32x128.size (bo_inb k.1 k.2)
    (scV (rB (rotA i (shiftOf i) k.1 d18) (tI I (i 0) (i 1)) k.1 k.2)) d) s.sc := by
  rw [tileStep_eq]; exact List.foldl_hom TS.sc (fun _ _ => rfl) |>.symm
theorem step_ma : (tileStep i I.cst d17 d18 (tI I (i 0) (i 1)) s).ma = cells.foldl (fun d k => putM (s := S512x256) (koff k.1 i) S32x128.size (koff_inb k.1 i)
    (maskV lanes (Scalar.addi (laneOf i) (BitVec.ofNat 32 k.2.val))) (laneV (amaxV (mB (rotA i (shiftOf i) k.1 d17) (tI I (i 0) (i 1)) k.1 k.2))) d) s.ma := by
  rw [tileStep_eq]; exact List.foldl_hom TS.ma (fun _ _ => rfl) |>.symm
theorem step_sr : (tileStep i I.cst d17 d18 (tI I (i 0) (i 1)) s).sr = cells.foldl (fun d k => putM (s := S512x256) (koff k.1 i) S32x128.size (koff_inb k.1 i)
    (maskV lanes (Scalar.addi (laneOf i) (BitVec.ofNat 32 k.2.val))) (laneV (rminV (rB (rotA i (shiftOf i) k.1 d18) (tI I (i 0) (i 1)) k.1 k.2))) d) s.sr := by
  rw [tileStep_eq]; exact List.foldl_hom TS.sr (fun _ _ => rfl) |>.symm

include hm hs in
/-- The tiles that a point leaves. -/
theorem step_tiles : (tileStep i I.cst d17 d18 (tI I (i 0) (i 1)) s).u = uO I (i 0) (i 1)
    ∧ (tileStep i I.cst d17 d18 (tI I (i 0) (i 1)) s).wn = wO I (i 0) (i 1)
    ∧ (tileStep i I.cst d17 d18 (tI I (i 0) (i 1)) s).mc = mO I (i 0) (i 1)
    ∧ (tileStep i I.cst d17 d18 (tI I (i 0) (i 1)) s).sc = sO I (i 0) (i 1) := by
  refine ⟨?_, ?_, ?_, ?_⟩
  · rw [step_u]
    simp only [uB, mB_eq I i d17 hm, rB_eq I i d18 hs]
    exact fold_tile (fun r b => uI I (i 0) (i 1) r b) _
  · rw [step_wn]
    simp only [uB, mB_eq I i d17 hm, rB_eq I i d18 hs]
    exact fold_tile (fun r b => wnV (blkA r b (tB I.w (i 0) (i 1))) (uI I (i 0) (i 1) r b)) _
  · rw [step_mc]
    simp only [mB_eq I i d17 hm]
    exact fold_tile (fun r b => mcV (mI I (i 0) (i 1) r b)) _
  · rw [step_sc]
    simp only [rB_eq I i d18 hs]
    exact fold_tile (fun r b => scV (rI I (i 0) (i 1) r b)) _

include hm in
/-- The maxima gathered after a point. -/
theorem step_gather_m (ha : ∀ z : S512x148.Idx, (z 1).val < 4 * (i 1).val → narrow s.ma z = aO I (i 0) z) (z : S512x148.Idx)
    (hz : (z 1).val < 4 * ((i 1).val + 1)) : narrow (tileStep i I.cst d17 d18 (tI I (i 0) (i 1)) s).ma z = aO I (i 0) z := by
  have h0 : (z 0).val < 512 := (z 0).isLt
  rw [step_ma]
  simp only [mB_eq I i d17 hm]
  by_cases hlt : (z 1).val < 4 * (i 1).val
  · rw [← ha z hlt]
    exact fold_cols_miss i (fun r b => amaxV (mI I (i 0) (i 1) r b)) s.ma _ hlt
  · refine (fold_cols_hit i (fun r b => amaxV (mI I (i 0) (i 1) r b)) s.ma _ (chunkOf z) (sblkOf z) rfl
      (show (z 1).val = 4 * (i 1).val + (z 1).val % 4 by omega)).trans ?_
    have ht : tileOf z = i 1 := Fin.ext (show (z 1).val / 4 = (i 1).val by omega)
    unfold aO
    rw [ht]
    rfl

include hs in
/-- The minima gathered after a point. -/
theorem step_gather_s (hr : ∀ z : S512x148.Idx, (z 1).val < 4 * (i 1).val → narrow s.sr z = rO I (i 0) z) (z : S512x148.Idx)
    (hz : (z 1).val < 4 * ((i 1).val + 1)) : narrow (tileStep i I.cst d17 d18 (tI I (i 0) (i 1)) s).sr z = rO I (i 0) z := by
  have h0 : (z 0).val < 512 := (z 0).isLt
  rw [step_sr]
  simp only [rB_eq I i d18 hs]
  by_cases hlt : (z 1).val < 4 * (i 1).val
  · rw [← hr z hlt]
    exact fold_cols_miss i (fun r b => rminV (rI I (i 0) (i 1) r b)) s.sr _ hlt
  · refine (fold_cols_hit i (fun r b => rminV (rI I (i 0) (i 1) r b)) s.sr _ (chunkOf z) (sblkOf z) rfl
      (show (z 1).val = 4 * (i 1).val + (z 1).val % 4 by omega)).trans ?_
    have ht : tileOf z = i 1 := Fin.ext (show (z 1).val / 4 = (i 1).val by omega)
    unfold rO
    rw [ht]
    rfl

end Cert.KernelIdeal.Body

end
-- ==== Proof.IdealDat0.lean ====
/-
  The preparing region: the activations, scaled, one block of rows at each point.
-/
module

public import proofs.«01_k».proof.Proof.IdealOut
public import proofs.«01_k».proof.Proof.IdealPhases
public import proofs.«01_k».proof.Proof.Gen.KernelIdeal.Points
public import proofs.«01_k».proof.Proof.Gen.KernelIdeal.Launch
public import Idealize.ShloMosaic.Lib.Pipeline.Frame
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

/-- The activations, scaled: codes transposed, times the activations' scale, times the gradient's scale. -/
def xO (x : Vec F S1536x3584 .fp8e4m3) (sx sy : Vec F S1x1536 .bf16) : FVec F S3584x1536 .bf16 :=
  mulf (mulf (fun z => (extf .bf16 (x : FVec F S1536x3584 .fp8e4m3) bitsLt_fp8e4m3_bf16 : FVec F S1536x3584 .bf16) (ix (z 1 : Fin 1536) (z 0 : Fin 3584)))
    (fun z => sx (ix (0 : Fin 1) (z 1 : Fin 1536)))) (fun z => sy (ix (0 : Fin 1) (z 1 : Fin 1536)))

/-- The columns `512 d …` of the activations' codes. -/
def cB (a : Vec F S1536x3584 .fp8e4m3) (d : Fin 7) : Vec F S1536x512 .fp8e4m3 := fun x =>
  a (ix (x 0 : Fin 1536) (⟨512 * d.val + (x 1).val, by have : (x 1).val < 512 := (x 1).isLt; omega⟩ : Fin 3584))

/-- What the body makes of the blocks it loads. -/
def prepV (v0 : Vec F S1536x512 .fp8e4m3) (v4 v8 : Vec F S1x1536 .bf16) : FVec F S512x1536 .bf16 :=
  mulf (mulf (transpose S512x1536 [1, 0] (extf .bf16 (shapeCast S1536x512 v0 shapeCasts_S1536x512_S1536x512 : FVec F S1536x512 .fp8e4m3) bitsLt_fp8e4m3_bf16 : FVec F S1536x512 .bf16)
      transposes_S1536x512_p1_0_S512x1536 : FVec F S512x1536 .bf16)
    (broadcastTo S512x1536 (shapeCast S1x1536 v4 shapeCasts_S1x1536_S1x1536) broadcasts_S1x1536_S512x1536 : FVec F S512x1536 .bf16))
    (broadcastTo S512x1536 (shapeCast S1x1536 v8 shapeCasts_S1x1536_S1x1536) broadcasts_S1x1536_S512x1536 : FVec F S512x1536 .bf16)

/-- What the body stores is the block of the scaled activations. -/
theorem pay_eq (x : Vec F S1536x3584 .fp8e4m3) (sx sy : Vec F S1x1536 .bf16) (d : Fin 7) :
    prepV (cB x d) sx sy = xB (xO x sx sy) d := by
  unfold prepV
  simp only [shapeCast_self]
  funext y
  have e1 : ∀ v : FVec F S1536x512 .bf16, transpose S512x1536 [1, 0] v transposes_S1536x512_p1_0_S512x1536 y = v (ix (y 1 : Fin 1536) (y 0 : Fin 512)) := fun v =>
    congrArg v (funext fun a => by fin_cases a <;> rfl)
  have e2 : ∀ v : FVec F S1x1536 .bf16, broadcastTo S512x1536 v broadcasts_S1x1536_S512x1536 y = v (ix (0 : Fin 1) (y 1 : Fin 1536)) := fun v =>
    congrArg v (funext fun a => by fin_cases a <;> rfl)
  exact congrArg₂ FloatOps.mulf (congrArg₂ FloatOps.mulf (e1 _) (e2 _)) (e2 _)

/-- The body, run: the block stored, the inputs as they were. -/
theorem prep_run (c : Dev nD) (𝒱₀ : Variants) (i : grid0.Coords) (a1 : Memref sig .tc .vmem S1536x512 .fp8e4m3) (h1 : a1.IsWhole)
    (a2 : Memref sig .tc .vmem S1x1536 .bf16) (h2 : a2.IsWhole) (a3 : Memref sig .tc .vmem S1x1536 .bf16) (h3 : a3.IsWhole)
    (a4 : Memref sig .tc .vmem S512x1536 .bf16) (h4 : a4.IsWhole) (d1 : Vec F S1536x512 .fp8e4m3) (d2 d3 : Vec F S1x1536 .bf16)
    (d4 : Vec F S512x1536 .bf16) (K : PUnit → sProp 𝕄) :
    iprop(owns (c : Thread nD τ) a1 fullShare d1 ∗ owns (c : Thread nD τ) a2 fullShare d2 ∗ owns (c : Thread nD τ) a3 fullShare d3
        ∗ owns (c : Thread nD τ) a4 fullShare d4
        ∗ (iprop(owns (c : Thread nD τ) a1 fullShare d1 ∗ owns (c : Thread nD τ) a2 fullShare d2 ∗ owns (c : Thread nD τ) a3 fullShare d3
            ∗ owns (c : Thread nD τ) a4 fullShare (prepV d1 d2 d3)) -∗ K ⟨⟩))
      ⊢ wp frame (wpE (defs₀ (F := F)) 𝒱₀ c none) Set.univ (cc0_prep_x i a1 h1 a2 h2 a3 h3 a4 h4) K := by
  unfold cc0_prep_x owns
  iintro ⟨⟨%f1, %e1, H1⟩, ⟨%f2, %e2, H2⟩, ⟨%f3, %e3, H3⟩, ⟨%f4, %e4, H4⟩, Hk⟩
  obtain rfl := h1.eq_unread e1
  obtain rfl := h2.eq_unread e2
  obtain rfl := h3.eq_unread e3
  obtain rfl := h4.eq_unread e4
  sl_exec
  sl_step
  iapply Hk
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  iexists _; isplitr; swap; · iexact H4
  ipureintro
  refine (read_put a4 h4 _ _ _ _ _).trans ((putA_whole _ _ _).trans ?_)
  have e1 : View.readAt (Elt F) a1.view (Rect.unit (s := S1536x512) ![0, 0] S1536x512.size inb_S1536x512_S1536x512_0_0).toLoadRect (h1.unread d1) = d1 :=
    funext fun x => (h1.readAt_unread _ _ x).trans (congrArg d1 (whole_idx _ x))
  have e2 : View.readAt (Elt F) a2.view (Rect.unit (s := S1x1536) ![0, 0] S1x1536.size inb_S1x1536_S1x1536_0_0).toLoadRect (h2.unread d2) = d2 :=
    funext fun x => (h2.readAt_unread _ _ x).trans (congrArg d2 (whole_idx _ x))
  have e3 : View.readAt (Elt F) a3.view (Rect.unit (s := S1x1536) ![0, 0] S1x1536.size inb_S1x1536_S1x1536_0_0).toLoadRect (h3.unread d3) = d3 :=
    funext fun x => (h3.readAt_unread _ _ x).trans (congrArg d3 (whole_idx _ x))
  refine Eq.trans ?_ (congr (congr (congrArg prepV e1) e2) e3)
  rfl

/-! ## The proof data -/

abbrev rw0 (t : Fin cfg0.N) : Fin 7 := grid0.coords t 0

theorem index0 : ∀ t : Fin cfg0.N, (win0_0.index t 0 = 0 ∧ win0_0.index t 1 = (rw0 t).val) ∧ (win0_1.index t 0 = 0 ∧ win0_1.index t 1 = 0)
    ∧ (win0_2.index t 0 = 0 ∧ win0_2.index t 1 = 0) ∧ (win0_3.index t 0 = (rw0 t).val ∧ win0_3.index t 1 = 0) := by decide +kernel

variable (V : Valuation τ sig (Elt F)) (c : Dev nD)

/-- The scaled activations, off the buffers' contents at the region's entry. -/
def xOf : FVec F S3584x1536 .bf16 := xO (V main_v0 : Vec F S1536x3584 .fp8e4m3) (V main_v2 : Vec F S1x1536 .bf16) (V main_v4 : Vec F S1x1536 .bf16)

/-- What the body leaves in each window at each point. -/
def after0 : (w : Fin 4) → (t : Fin cfg0.N) → (cfg0.win w).block.Idx → Elt F (cfg0.win w).elt
  | 0, t => cB (V main_v0) (rw0 t)
  | 1, t => (V main_v2 : Vec F S1x1536 .bf16)
  | 2, t => (V main_v4 : Vec F S1x1536 .bf16)
  | 3, t => xB (xOf V) (rw0 t)
  | ⟨_ + 4, h⟩, t => absurd h (Nat.not_lt.2 (Nat.le_add_left _ _))

/-- The proof data of the preparing region, entered with the buffers at `V`. -/
def dat0 : Dat τ (Elt F) Unit ℕ (Pipeline.UD sig nD τ) ℕ cfg0 c where
  A w := V (Pipeline.arrRef spec0 w)
  after w t := after0 V w t
  Φ _ := Pipeline.scopedRest spec0 c
  q _ := fullShare
  owed _ := 0

theorem dat0_A (w : Fin cfg0.W) : (dat0 V c).A w = V (Pipeline.arrRef spec0 w) := by dsimp only [dat0]
theorem dat0_after (w : Fin cfg0.W) (t : Fin cfg0.N) : (dat0 V c).after w t = after0 V w t := by dsimp only [dat0]

theorem blk0_0 (t : Fin cfg0.N) : (dat0 V c).blockOf 0 t = cB (V main_v0) (rw0 t) := by
  unfold Dat.blockOf
  rw [dat0_A]
  funext y
  refine congrArg (V main_v0 : Vec F S1536x3584 .fp8e4m3) (funext fun a => Fin.ext ?_)
  obtain ⟨⟨h0, h1⟩, -⟩ := index0 t
  fin_cases a
  · show (((cfg0.win 0).blk t).view.emb y 0).val = (y 0).val
    blk_simp [h0]; try omega
  · show (((cfg0.win 0).blk t).view.emb y 1).val = 512 * (rw0 t).val + (y 1).val
    blk_simp [h1]; try omega
theorem blk0_1 (t : Fin cfg0.N) : (dat0 V c).blockOf 1 t = (V main_v2 : Vec F S1x1536 .bf16) := by
  unfold Dat.blockOf
  rw [dat0_A]
  funext y
  refine congrArg (V main_v2 : Vec F S1x1536 .bf16) (funext fun a => Fin.ext ?_)
  obtain ⟨-, ⟨h0, h1⟩, -⟩ := index0 t
  fin_cases a
  · show (((cfg0.win 1).blk t).view.emb y 0).val = (y 0).val
    blk_simp [h0]; try omega
  · show (((cfg0.win 1).blk t).view.emb y 1).val = (y 1).val
    blk_simp [h1]; try omega
theorem blk0_2 (t : Fin cfg0.N) : (dat0 V c).blockOf 2 t = (V main_v4 : Vec F S1x1536 .bf16) := by
  unfold Dat.blockOf
  rw [dat0_A]
  funext y
  refine congrArg (V main_v4 : Vec F S1x1536 .bf16) (funext fun a => Fin.ext ?_)
  obtain ⟨-, -, ⟨h0, h1⟩, -⟩ := index0 t
  fin_cases a
  · show (((cfg0.win 2).blk t).view.emb y 0).val = (y 0).val
    blk_simp [h0]; try omega
  · show (((cfg0.win 2).blk t).view.emb y 1).val = (y 1).val
    blk_simp [h1]; try omega

theorem bef0_0 (t : Fin cfg0.N) (d : (cfg0.win 0).block.Idx → Elt F (cfg0.win 0).elt) : (dat0 V c).before 0 t d = after0 V 0 t :=
  ((dat0 V c).before_in_eq_fetched 0 rfl (fun _ => rfl) (fun _ _ _ => rfl) (fun t => (blk0_0 V c t).symm) t d).trans (blk0_0 V c t)
theorem bef0_1 (t : Fin cfg0.N) (d : (cfg0.win 1).block.Idx → Elt F (cfg0.win 1).elt) : (dat0 V c).before 1 t d = after0 V 1 t :=
  ((dat0 V c).before_in_eq_fetched 1 rfl (fun _ => rfl) (fun _ _ _ => rfl) (fun t => (blk0_1 V c t).symm) t d).trans (blk0_1 V c t)
theorem bef0_2 (t : Fin cfg0.N) (d : (cfg0.win 2).block.Idx → Elt F (cfg0.win 2).elt) : (dat0 V c).before 2 t d = after0 V 2 t :=
  ((dat0 V c).before_in_eq_fetched 2 rfl (fun _ => rfl) (fun _ _ _ => rfl) (fun t => (blk0_2 V c t).symm) t d).trans (blk0_2 V c t)

/-! ## The body obligation -/

def pre0 (t : Fin cfg0.N) : sProp 𝕄 :=
  iprop((dat0 V c).Φ t.castSucc ∗ (dat0 V c).owesAt () t.castSucc
    ∗ (∃ d, owns (c : Thread nD τ) (st0_0 t) fullShare ((dat0 V c).before 0 t d)) ∗ (∃ d, owns (c : Thread nD τ) (st0_1 t) fullShare ((dat0 V c).before 1 t d))
    ∗ (∃ d, owns (c : Thread nD τ) (st0_2 t) fullShare ((dat0 V c).before 2 t d)) ∗ (∃ d, owns (c : Thread nD τ) (st0_3 t) fullShare ((dat0 V c).before 3 t d)))
def post0 (t : Fin cfg0.N) : sProp 𝕄 :=
  iprop((dat0 V c).Φ t.succ ∗ (dat0 V c).owesAt () t.succ
    ∗ owns (c : Thread nD τ) (st0_0 t) fullShare (after0 V 0 t) ∗ owns (c : Thread nD τ) (st0_1 t) fullShare (after0 V 1 t)
    ∗ owns (c : Thread nD τ) (st0_2 t) fullShare (after0 V 2 t) ∗ owns (c : Thread nD τ) (st0_3 t) fullShare (after0 V 3 t))

/-- The body at a point. -/
theorem sound0 (t : Fin cfg0.N) :
    pre0 V c t ⊢ wp frame (wpE (defs₀ (F := F)) Variants.none c none) Set.univ (bodyAt0 t) (fun _ => post0 V c t) := by
  unfold pre0 post0 bodyAt0
  rw [show (dat0 V c).Φ t.succ = (dat0 V c).Φ t.castSucc from rfl, show (dat0 V c).owesAt () t.succ = (dat0 V c).owesAt () t.castSucc from rfl]
  iintro ⟨HΦ, HO, ⟨%e0, W0⟩, ⟨%e1, W1⟩, ⟨%e2, W2⟩, ⟨%e3, W3⟩⟩
  rw [bef0_0, bef0_1, bef0_2]
  iapply (prep_run c Variants.none (grid0.coords t) _ _ _ _ _ _ _ _ (cB (V main_v0) (rw0 t)) (V main_v2 : Vec F S1x1536 .bf16) (V main_v4 : Vec F S1x1536 .bf16) ((dat0 V c).before 3 t e3) _)
  isplitl [W0]; · iexact W0
  isplitl [W1]; · iexact W1
  isplitl [W2]; · iexact W2
  isplitl [W3]; · iexact W3
  rw [pay_eq]
  iintro ⟨W0, W1, W2, W3⟩
  isplitl [HΦ]; · iexact HΦ
  isplitl [HO]; · iexact HO
  isplitl [W0]; · iexact W0
  isplitl [W1]; · iexact W1
  isplitl [W2]; · iexact W2
  iexact W3

theorem defs₀_row0 (t : Fin cfg0.N) : defs₀ (F := F) .tc cfg0.body (cfg0.bodyArgs t (cfg0.slots t)) = bodyAt0 t := by
  unfold defs₀; rw [Defs.onTc_tc]

/-- The library's body obligation. -/
theorem body_obligation0 : BodyObligation (dat0 V c) (defs₀ (F := F)) Variants.none () Set.univ := fun t => by
  rw [bigSep_W0, bigSep_W0, defs₀_row0]
  exact triple_restated (sound0 V c t) rfl .rfl fun _ => .rfl

end Cert.KernelIdeal.Body

end
-- ==== Proof.IdealDat1.lean ====
/-
  The main region: what its windows hold point by point, and its body obligation.
-/
module

public import proofs.«01_k».proof.Proof.IdealOut
public import proofs.«01_k».proof.Proof.IdealRun
public import proofs.«01_k».proof.Proof.IdealBodyEq
public import proofs.«01_k».proof.Proof.Gen.KernelIdeal.Points
public import proofs.«01_k».proof.Proof.Gen.KernelIdeal.Launch
public import Idealize.ShloMosaic.Lib.Pipeline.Frame
public import Idealize.ShloMosaic.Lib.Pipeline.ValueKit

@[expose] public section

set_option maxRecDepth 16384

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

/-! ## Where the points lie -/

/-- The tile row and tile column of a point. -/
abbrev rw1 (t : Fin cfg1.N) : Fin 7 := grid1.coords t 0
abbrev cl1 (t : Fin cfg1.N) : Fin 37 := grid1.coords t 1

theorem rw1_val : ∀ t : Fin cfg1.N, (rw1 t).val = t.val / 37 := by decide +kernel
theorem cl1_val : ∀ t : Fin cfg1.N, (cl1 t).val = t.val % 37 := by decide +kernel

theorem tile_index : ∀ t : Fin cfg1.N, (win1_3.index t 0 = (rw1 t).val ∧ win1_3.index t 1 = (cl1 t).val) ∧ (win1_4.index t 0 = (rw1 t).val ∧ win1_4.index t 1 = (cl1 t).val)
    ∧ (win1_6.index t 0 = (rw1 t).val ∧ win1_6.index t 1 = (cl1 t).val) ∧ (win1_8.index t 0 = (rw1 t).val ∧ win1_8.index t 1 = (cl1 t).val)
    ∧ (win1_9.index t 0 = (rw1 t).val ∧ win1_9.index t 1 = (cl1 t).val) ∧ (win1_10.index t 0 = (rw1 t).val ∧ win1_10.index t 1 = (cl1 t).val)
    ∧ (win1_12.index t 0 = (rw1 t).val ∧ win1_12.index t 1 = (cl1 t).val) := by decide +kernel
theorem rows_index : ∀ t : Fin cfg1.N, (win1_1.index t 0 = (rw1 t).val ∧ win1_1.index t 1 = 0) ∧ (win1_5.index t 0 = (rw1 t).val ∧ win1_5.index t 1 = 0)
    ∧ (win1_7.index t 0 = (rw1 t).val ∧ win1_7.index t 1 = 0) ∧ (win1_11.index t 0 = (rw1 t).val ∧ win1_11.index t 1 = 0)
    ∧ (win1_13.index t 0 = (rw1 t).val ∧ win1_13.index t 1 = 0) := by decide +kernel
theorem whole_index : ∀ t : Fin cfg1.N, win1_0.index t 0 = 0 ∧ win1_2.index t 0 = 0 ∧ win1_2.index t 1 = 0 := by decide +kernel

/-! ## The proof data -/

/-- The arrays that the region reads, off the buffers' contents at its entry. -/
def inOf (V : Valuation τ sig (Elt F)) : In F where
  cst := V main_v13
  xt := V main_v5
  dy := V main_v14
  w := V main_arg4
  mq := V main_arg5
  ms := V main_arg6
  sq := V main_arg7
  ss := V main_arg8

/-- What the body leaves in each window at each point: an input's block, an output's tile. -/
def after1 (I : In F) : (w : Fin 14) → (t : Fin cfg1.N) → (cfg1.win w).block.Idx → Elt F (cfg1.win w).elt
  | 0, t => I.cst
  | 1, t => xB I.xt (rw1 t)
  | 2, t => I.dy
  | 3, t => tB I.w (rw1 t) (cl1 t)
  | 4, t => tB I.mq (rw1 t) (cl1 t)
  | 5, t => sB I.ms (rw1 t)
  | 6, t => tB I.sq (rw1 t) (cl1 t)
  | 7, t => sB I.ss (rw1 t)
  | 8, t => wO I (rw1 t) (cl1 t)
  | 9, t => uO I (rw1 t) (cl1 t)
  | 10, t => mO I (rw1 t) (cl1 t)
  | 11, t => msO I (rw1 t)
  | 12, t => sO I (rw1 t) (cl1 t)
  | 13, t => ssO I (rw1 t)
  | ⟨_ + 14, h⟩, t => absurd h (Nat.not_lt.2 (Nat.le_add_left _ _))

/-- The scratch before point `n`. -/
def Scr (I : In F) (n : ℕ) (d17 d18 d19 d20 : Vec F S512x256 .f32) : Prop :=
  ∀ (d : Fin 7) (k : ℕ), 0 < k → k < 37 → n = 37 * d.val + k → Good I d k d17 d18 d19 d20

/-- The other region's staging buffers, at anything. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The scratch buffers between points. -/
def scratch1 (I : In F) (c : Dev nD) (n : ℕ) : sProp 𝕄 :=
  iprop((∃ d : Vec F S512x512 .f32, owns (c : Thread nD τ) (Memref.whole cc1_scratch0) fullShare d)
    ∗ ∃ d17 d18 d19 d20 : Vec F S512x256 .f32, iprop(⌜Scr I n d17 d18 d19 d20⌝
      ∗ owns (c : Thread nD τ) (Memref.whole cc1_scratch1) fullShare d17 ∗ owns (c : Thread nD τ) (Memref.whole cc1_scratch2) fullShare d18
      ∗ owns (c : Thread nD τ) (Memref.whole cc1_scratch3) fullShare d19 ∗ owns (c : Thread nD τ) (Memref.whole cc1_scratch4) fullShare d20))

variable (V : Valuation τ sig (Elt F)) (c : Dev nD)

/-- The proof data of the main region, entered with the buffers at `V`. -/
def dat1 : Dat τ (Elt F) Unit ℕ (Pipeline.UD sig nD τ) ℕ cfg1 c where
  A w := V (Pipeline.arrRef spec1 w)
  after w t := after1 (inOf V) w t
  Φ t := iprop(rest1 c ∗ scratch1 (inOf V) c t.val)
  q _ := fullShare
  owed _ := 0

theorem dat1_A (w : Fin cfg1.W) : (dat1 V c).A w = V (Pipeline.arrRef spec1 w) := by dsimp only [dat1]
theorem dat1_after (w : Fin cfg1.W) (t : Fin cfg1.N) : (dat1 V c).after w t = after1 (inOf V) w t := by dsimp only [dat1]

/-! ## The windows' blocks -/

theorem blk1_0 (t : Fin cfg1.N) : (dat1 V c).blockOf 0 t = (inOf V).cst := by
  unfold Dat.blockOf
  rw [dat1_A]
  funext y
  refine congrArg (inOf V).cst (funext fun a => Fin.ext ?_)
  obtain ⟨h0, -, -⟩ := whole_index t
  fin_cases a
  show (((cfg1.win 0).blk t).view.emb y 0).val = (y 0).val
  blk_simp [h0]; try omega
theorem blk1_2 (t : Fin cfg1.N) : (dat1 V c).blockOf 2 t = (inOf V).dy := by
  unfold Dat.blockOf
  rw [dat1_A]
  funext y
  refine congrArg (inOf V).dy (funext fun a => Fin.ext ?_)
  obtain ⟨-, h0, h1⟩ := whole_index t
  fin_cases a
  · show (((cfg1.win 2).blk t).view.emb y 0).val = (y 0).val
    blk_simp [h0]; try omega
  · show (((cfg1.win 2).blk t).view.emb y 1).val = (y 1).val
    blk_simp [h1]; try omega
theorem blk1_1 (t : Fin cfg1.N) : (dat1 V c).blockOf 1 t = xB (inOf V).xt (rw1 t) := by
  unfold Dat.blockOf
  rw [dat1_A]
  funext y
  refine congrArg (inOf V).xt (funext fun a => Fin.ext ?_)
  obtain ⟨⟨h0, h1⟩, -⟩ := rows_index t
  fin_cases a
  · show (((cfg1.win 1).blk t).view.emb y 0).val = 512 * (rw1 t).val + (y 0).val
    blk_simp [h0]; try omega
  · show (((cfg1.win 1).blk t).view.emb y 1).val = (y 1).val
    blk_simp [h1]; try omega
theorem blk1_3 (t : Fin cfg1.N) : (dat1 V c).blockOf 3 t = tB (inOf V).w (rw1 t) (cl1 t) := by
  unfold Dat.blockOf
  rw [dat1_A]
  funext y
  refine congrArg (inOf V).w (funext fun a => Fin.ext ?_)
  obtain ⟨⟨h0, h1⟩, -⟩ := tile_index t
  fin_cases a
  · show (((cfg1.win 3).blk t).view.emb y 0).val = 512 * (rw1 t).val + (y 0).val
    blk_simp [h0]; try omega
  · show (((cfg1.win 3).blk t).view.emb y 1).val = 512 * (cl1 t).val + (y 1).val
    blk_simp [h1]; try omega
theorem blk1_4 (t : Fin cfg1.N) : (dat1 V c).blockOf 4 t = tB (inOf V).mq (rw1 t) (cl1 t) := by
  unfold Dat.blockOf
  rw [dat1_A]
  funext y
  refine congrArg (inOf V).mq (funext fun a => Fin.ext ?_)
  obtain ⟨-, ⟨h0, h1⟩, -⟩ := tile_index t
  fin_cases a
  · show (((cfg1.win 4).blk t).view.emb y 0).val = 512 * (rw1 t).val + (y 0).val
    blk_simp [h0]; try omega
  · show (((cfg1.win 4).blk t).view.emb y 1).val = 512 * (cl1 t).val + (y 1).val
    blk_simp [h1]; try omega
theorem blk1_5 (t : Fin cfg1.N) : (dat1 V c).blockOf 5 t = sB (inOf V).ms (rw1 t) := by
  unfold Dat.blockOf
  rw [dat1_A]
  funext y
  refine congrArg (inOf V).ms (funext fun a => Fin.ext ?_)
  obtain ⟨-, ⟨h0, h1⟩, -⟩ := rows_index t
  fin_cases a
  · show (((cfg1.win 5).blk t).view.emb y 0).val = 512 * (rw1 t).val + (y 0).val
    blk_simp [h0]; try omega
  · show (((cfg1.win 5).blk t).view.emb y 1).val = (y 1).val
    blk_simp [h1]; try omega
theorem blk1_6 (t : Fin cfg1.N) : (dat1 V c).blockOf 6 t = tB (inOf V).sq (rw1 t) (cl1 t) := by
  unfold Dat.blockOf
  rw [dat1_A]
  funext y
  refine congrArg (inOf V).sq (funext fun a => Fin.ext ?_)
  obtain ⟨-, -, ⟨h0, h1⟩, -⟩ := tile_index t
  fin_cases a
  · show (((cfg1.win 6).blk t).view.emb y 0).val = 512 * (rw1 t).val + (y 0).val
    blk_simp [h0]; try omega
  · show (((cfg1.win 6).blk t).view.emb y 1).val = 512 * (cl1 t).val + (y 1).val
    blk_simp [h1]; try omega
theorem blk1_7 (t : Fin cfg1.N) : (dat1 V c).blockOf 7 t = sB (inOf V).ss (rw1 t) := by
  unfold Dat.blockOf
  rw [dat1_A]
  funext y
  refine congrArg (inOf V).ss (funext fun a => Fin.ext ?_)
  obtain ⟨-, -, ⟨h0, h1⟩, -⟩ := rows_index t
  fin_cases a
  · show (((cfg1.win 7).blk t).view.emb y 0).val = 512 * (rw1 t).val + (y 0).val
    blk_simp [h0]; try omega
  · show (((cfg1.win 7).blk t).view.emb y 1).val = (y 1).val
    blk_simp [h1]; try omega

/-- What the body finds in an input's buffer: its block, fetched there or not. -/
theorem bef1_0 (t : Fin cfg1.N) (d : (cfg1.win 0).block.Idx → Elt F (cfg1.win 0).elt) : (dat1 V c).before 0 t d = after1 (inOf V) 0 t :=
  ((dat1 V c).before_in_eq_fetched 0 rfl (fun _ => rfl) (fun _ _ _ => rfl) (fun t => (blk1_0 V c t).symm) t d).trans (blk1_0 V c t)
theorem bef1_1 (t : Fin cfg1.N) (d : (cfg1.win 1).block.Idx → Elt F (cfg1.win 1).elt) : (dat1 V c).before 1 t d = after1 (inOf V) 1 t :=
  ((dat1 V c).before_in_eq_fetched 1 rfl (fun _ => rfl) (fun _ _ _ => rfl) (fun t => (blk1_1 V c t).symm) t d).trans (blk1_1 V c t)
theorem bef1_2 (t : Fin cfg1.N) (d : (cfg1.win 2).block.Idx → Elt F (cfg1.win 2).elt) : (dat1 V c).before 2 t d = after1 (inOf V) 2 t :=
  ((dat1 V c).before_in_eq_fetched 2 rfl (fun _ => rfl) (fun _ _ _ => rfl) (fun t => (blk1_2 V c t).symm) t d).trans (blk1_2 V c t)
theorem bef1_3 (t : Fin cfg1.N) (d : (cfg1.win 3).block.Idx → Elt F (cfg1.win 3).elt) : (dat1 V c).before 3 t d = after1 (inOf V) 3 t :=
  ((dat1 V c).before_in_eq_fetched 3 rfl (fun _ => rfl) (fun _ _ _ => rfl) (fun t => (blk1_3 V c t).symm) t d).trans (blk1_3 V c t)
theorem bef1_4 (t : Fin cfg1.N) (d : (cfg1.win 4).block.Idx → Elt F (cfg1.win 4).elt) : (dat1 V c).before 4 t d = after1 (inOf V) 4 t :=
  ((dat1 V c).before_in_eq_fetched 4 rfl (fun _ => rfl) (fun _ _ _ => rfl) (fun t => (blk1_4 V c t).symm) t d).trans (blk1_4 V c t)
theorem bef1_5 (t : Fin cfg1.N) (d : (cfg1.win 5).block.Idx → Elt F (cfg1.win 5).elt) : (dat1 V c).before 5 t d = after1 (inOf V) 5 t :=
  ((dat1 V c).before_in_eq_fetched 5 rfl (fun _ => rfl) (fun _ _ _ => rfl) (fun t => (blk1_5 V c t).symm) t d).trans (blk1_5 V c t)
theorem bef1_6 (t : Fin cfg1.N) (d : (cfg1.win 6).block.Idx → Elt F (cfg1.win 6).elt) : (dat1 V c).before 6 t d = after1 (inOf V) 6 t :=
  ((dat1 V c).before_in_eq_fetched 6 rfl (fun _ => rfl) (fun _ _ _ => rfl) (fun t => (blk1_6 V c t).symm) t d).trans (blk1_6 V c t)
theorem bef1_7 (t : Fin cfg1.N) (d : (cfg1.win 7).block.Idx → Elt F (cfg1.win 7).elt) : (dat1 V c).before 7 t d = after1 (inOf V) 7 t :=
  ((dat1 V c).before_in_eq_fetched 7 rfl (fun _ => rfl) (fun _ _ _ => rfl) (fun t => (blk1_7 V c t).symm) t d).trans (blk1_7 V c t)

end Cert.KernelIdeal.Body

end
-- ==== Proof.IdealSound1.lean ====
/-
  The main region's body obligation.
-/
module

public import proofs.«01_k».proof.Proof.IdealDat1

@[expose] public section

set_option maxRecDepth 16384

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

/-- The buffers that point `t` works on. -/
def refs1 (t : Fin cfg1.N) : Refs where
  a2 := win1_0.stage (cfg1.slots t 0)
  h2 := hstage1_0 ((cfg1.slots t 0).cast nbuf1_0)
  a3 := win1_1.stage (cfg1.slots t 1)
  h3 := hstage1_1 ((cfg1.slots t 1).cast nbuf1_1)
  a4 := win1_2.stage (cfg1.slots t 2)
  h4 := hstage1_2 ((cfg1.slots t 2).cast nbuf1_2)
  a5 := win1_3.stage (cfg1.slots t 3)
  h5 := hstage1_3 ((cfg1.slots t 3).cast nbuf1_3)
  a6 := win1_4.stage (cfg1.slots t 4)
  h6 := hstage1_4 ((cfg1.slots t 4).cast nbuf1_4)
  a7 := win1_5.stage (cfg1.slots t 5)
  h7 := hstage1_5 ((cfg1.slots t 5).cast nbuf1_5)
  a8 := win1_6.stage (cfg1.slots t 6)
  h8 := hstage1_6 ((cfg1.slots t 6).cast nbuf1_6)
  a9 := win1_7.stage (cfg1.slots t 7)
  h9 := hstage1_7 ((cfg1.slots t 7).cast nbuf1_7)
  a10 := win1_8.stage (cfg1.slots t 8)
  h10 := hstage1_8 ((cfg1.slots t 8).cast nbuf1_8)
  a11 := win1_9.stage (cfg1.slots t 9)
  h11 := hstage1_9 ((cfg1.slots t 9).cast nbuf1_9)
  a12 := win1_10.stage (cfg1.slots t 10)
  h12 := hstage1_10 ((cfg1.slots t 10).cast nbuf1_10)
  a13 := win1_11.stage (cfg1.slots t 11)
  h13 := hstage1_11 ((cfg1.slots t 11).cast nbuf1_11)
  a14 := win1_12.stage (cfg1.slots t 12)
  h14 := hstage1_12 ((cfg1.slots t 12).cast nbuf1_12)
  a15 := win1_13.stage (cfg1.slots t 13)
  h15 := hstage1_13 ((cfg1.slots t 13).cast nbuf1_13)
  a16 := Memref.whole cc1_scratch0
  h16 := Memref.isWhole_whole _
  a17 := Memref.whole cc1_scratch1
  h17 := Memref.isWhole_whole _
  a18 := Memref.whole cc1_scratch2
  h18 := Memref.isWhole_whole _
  a19 := Memref.whole cc1_scratch3
  h19 := Memref.isWhole_whole _
  a20 := Memref.whole cc1_scratch4
  h20 := Memref.isWhole_whole _

variable (V : Valuation τ sig (Elt F)) (c : Dev nD)

/-- The body table's row at a point is the body, in the form that the triple is about. -/
theorem defs₀_row1 (t : Fin cfg1.N) : defs₀ (F := F) .tc cfg1.body (cfg1.bodyArgs t (cfg1.slots t)) = bodyU (refs1 t) (grid1.coords t) := by
  refine Eq.trans (b := bodyAt1 t) ?_ (body_eq (grid1.coords t) (refs1 t))
  unfold defs₀; rw [Defs.onTc_tc]

/-- The scratch after a point. -/
theorem scr_next (I : In F) (t : Fin cfg1.N) (d17 d18 d19 d20 : Vec F S512x256 .f32)
    (h : Good I (rw1 t) ((cl1 t).val + 1) d17 d18 d19 d20) : Scr I (t.val + 1) d17 d18 d19 d20 := by
  intro d k hk0 hk hn
  have h0 := rw1_val t
  have h1 := cl1_val t
  obtain rfl : d = rw1 t := Fin.ext (by omega)
  obtain rfl : k = (cl1 t).val + 1 := by omega
  exact h

/-- The scratch before a point that is not the first of its tile row. -/
theorem scr_here (I : In F) (t : Fin cfg1.N) (d17 d18 d19 d20 : Vec F S512x256 .f32) (h : Scr I t.val d17 d18 d19 d20)
    (h0 : 0 < (cl1 t).val) : Good I (rw1 t) (cl1 t).val d17 d18 d19 d20 :=
  h (rw1 t) (cl1 t).val h0 (cl1 t).isLt (by have := rw1_val t; have := cl1_val t; omega)

/-- What a point leaves: its tiles, and the scratch ready for the next point. -/
theorem point_leaves (I : In F) (t : Fin cfg1.N) (d17 d18 : Vec F S512x256 .f32) (s : TS F) (h : Scr I t.val d17 d18 s.ma s.sr) :
    ((tileStep (grid1.coords t) I.cst (scr (grid1.coords t) kM (sB I.ms (rw1 t)) d17) (scr (grid1.coords t) kS (sB I.ss (rw1 t)) d18) (tI I (rw1 t) (cl1 t)) s).u = uO I (rw1 t) (cl1 t)
      ∧ (tileStep (grid1.coords t) I.cst (scr (grid1.coords t) kM (sB I.ms (rw1 t)) d17) (scr (grid1.coords t) kS (sB I.ss (rw1 t)) d18) (tI I (rw1 t) (cl1 t)) s).wn = wO I (rw1 t) (cl1 t)
      ∧ (tileStep (grid1.coords t) I.cst (scr (grid1.coords t) kM (sB I.ms (rw1 t)) d17) (scr (grid1.coords t) kS (sB I.ss (rw1 t)) d18) (tI I (rw1 t) (cl1 t)) s).mc = mO I (rw1 t) (cl1 t)
      ∧ (tileStep (grid1.coords t) I.cst (scr (grid1.coords t) kM (sB I.ms (rw1 t)) d17) (scr (grid1.coords t) kS (sB I.ss (rw1 t)) d18) (tI I (rw1 t) (cl1 t)) s).sc = sO I (rw1 t) (cl1 t))
    ∧ Good I (rw1 t) ((cl1 t).val + 1) (scr (grid1.coords t) kM (sB I.ms (rw1 t)) d17) (scr (grid1.coords t) kS (sB I.ss (rw1 t)) d18)
        (tileStep (grid1.coords t) I.cst (scr (grid1.coords t) kM (sB I.ms (rw1 t)) d17) (scr (grid1.coords t) kS (sB I.ss (rw1 t)) d18) (tI I (rw1 t) (cl1 t)) s).ma
        (tileStep (grid1.coords t) I.cst (scr (grid1.coords t) kM (sB I.ms (rw1 t)) d17) (scr (grid1.coords t) kS (sB I.ss (rw1 t)) d18) (tI I (rw1 t) (cl1 t)) s).sr := by
  have hm := scr_eq I (grid1.coords t) kM (sB I.ms (rw1 t)) d17 fun h0 => (scr_here I t _ _ _ _ h h0).hm
  have hs := scr_eq I (grid1.coords t) kS (sB I.ss (rw1 t)) d18 fun h0 => (scr_here I t _ _ _ _ h h0).hs
  have ha : ∀ z : S512x148.Idx, (z 1).val < 4 * (cl1 t).val → narrow s.ma z = aO I (rw1 t) z := fun z hz =>
    (scr_here I t _ _ _ _ h (by omega)).ha z hz
  have hr : ∀ z : S512x148.Idx, (z 1).val < 4 * (cl1 t).val → narrow s.sr z = rO I (rw1 t) z := fun z hz =>
    (scr_here I t _ _ _ _ h (by omega)).hr z hz
  exact ⟨step_tiles I (grid1.coords t) _ _ s hm hs, hm, hs, step_gather_m I (grid1.coords t) _ _ s hm ha,
    step_gather_s I (grid1.coords t) _ _ s hs hr⟩

/-- After the last point of a tile row the gathered scratch is whole, and the new scales are its. -/
theorem last_m (I : In F) (d : Fin 7) (d17 d18 d19 d20 : Vec F S512x256 .f32) (h : Good I d 37 d17 d18 d19 d20) (f : Vec F S512x148 .f32) :
    lastV newM d19 f = msO I d := by
  rw [lastV_newM, show narrow d19 = aO I d from funext fun z => h.ha z (show (z 1).val < 148 from (z 1).isLt)]
  rfl
theorem last_s (I : In F) (d : Fin 7) (d17 d18 d19 d20 : Vec F S512x256 .f32) (h : Good I d 37 d17 d18 d19 d20) (f : Vec F S512x148 .f32) :
    lastV newS d20 f = ssO I d := by
  rw [lastV_newS, show narrow d20 = rO I d from funext fun z => h.hr z (show (z 1).val < 148 from (z 1).isLt)]
  rfl

/-- What the body is called with at a point, and what it leaves. -/
def pre1 (t : Fin cfg1.N) : sProp 𝕄 :=
  iprop((dat1 V c).Φ t.castSucc ∗ (dat1 V c).owesAt () t.castSucc
    ∗ (∃ d, owns (c : Thread nD τ) (refs1 t).a2 fullShare ((dat1 V c).before 0 t d)) ∗ (∃ d, owns (c : Thread nD τ) (refs1 t).a3 fullShare ((dat1 V c).before 1 t d)) ∗ (∃ d, owns (c : Thread nD τ) (refs1 t).a4 fullShare ((dat1 V c).before 2 t d)) ∗ (∃ d, owns (c : Thread nD τ) (refs1 t).a5 fullShare ((dat1 V c).before 3 t d)) ∗ (∃ d, owns (c : Thread nD τ) (refs1 t).a6 fullShare ((dat1 V c).before 4 t d)) ∗ (∃ d, owns (c : Thread nD τ) (refs1 t).a7 fullShare ((dat1 V c).before 5 t d)) ∗ (∃ d, owns (c : Thread nD τ) (refs1 t).a8 fullShare ((dat1 V c).before 6 t d)) ∗ (∃ d, owns (c : Thread nD τ) (refs1 t).a9 fullShare ((dat1 V c).before 7 t d)) ∗ (∃ d, owns (c : Thread nD τ) (refs1 t).a10 fullShare ((dat1 V c).before 8 t d)) ∗ (∃ d, owns (c : Thread nD τ) (refs1 t).a11 fullShare ((dat1 V c).before 9 t d)) ∗ (∃ d, owns (c : Thread nD τ) (refs1 t).a12 fullShare ((dat1 V c).before 10 t d)) ∗ (∃ d, owns (c : Thread nD τ) (refs1 t).a13 fullShare ((dat1 V c).before 11 t d)) ∗ (∃ d, owns (c : Thread nD τ) (refs1 t).a14 fullShare ((dat1 V c).before 12 t d)) ∗ (∃ d, owns (c : Thread nD τ) (refs1 t).a15 fullShare ((dat1 V c).before 13 t d)))
def post1 (t : Fin cfg1.N) : sProp 𝕄 :=
  iprop((dat1 V c).Φ t.succ ∗ (dat1 V c).owesAt () t.succ
    ∗ owns (c : Thread nD τ) (refs1 t).a2 fullShare (after1 (inOf V) 0 t) ∗ owns (c : Thread nD τ) (refs1 t).a3 fullShare (after1 (inOf V) 1 t) ∗ owns (c : Thread nD τ) (refs1 t).a4 fullShare (after1 (inOf V) 2 t) ∗ owns (c : Thread nD τ) (refs1 t).a5 fullShare (after1 (inOf V) 3 t) ∗ owns (c : Thread nD τ) (refs1 t).a6 fullShare (after1 (inOf V) 4 t) ∗ owns (c : Thread nD τ) (refs1 t).a7 fullShare (after1 (inOf V) 5 t) ∗ owns (c : Thread nD τ) (refs1 t).a8 fullShare (after1 (inOf V) 6 t) ∗ owns (c : Thread nD τ) (refs1 t).a9 fullShare (after1 (inOf V) 7 t) ∗ owns (c : Thread nD τ) (refs1 t).a10 fullShare (after1 (inOf V) 8 t) ∗ owns (c : Thread nD τ) (refs1 t).a11 fullShare (after1 (inOf V) 9 t) ∗ owns (c : Thread nD τ) (refs1 t).a12 fullShare (after1 (inOf V) 10 t) ∗ (dat1 V c).leavesExact 11 t ∗ owns (c : Thread nD τ) (refs1 t).a14 fullShare (after1 (inOf V) 12 t) ∗ (dat1 V c).leavesExact 13 t)

/-- A window of new scales, left by the body: as found, but at the last point of a tile row the new scales. -/
theorem leaves1_11 (t : Fin cfg1.N) (d : (cfg1.win 11).block.Idx → Elt F (cfg1.win 11).elt) (a : Vec F S512x256 .f32)
    (h1 : k1_cond2 (grid1.coords t) = 1#1 → lastV newM a ((dat1 V c).before 11 t d) = msO (inOf V) (rw1 t)) :
    (owns (c : Thread nD τ) (refs1 t).a13 fullShare (scaleOut (grid1.coords t) newM a ((dat1 V c).before 11 t d)) : sProp 𝕄) ⊢ (dat1 V c).leavesExact 11 t := by
  unfold Dat.leavesExact scaleOut
  by_cases h : k1_cond2 (grid1.coords t) = 1#1
  · rw [show cfg1.idle 11 (cfg1.grid.coords t) = false from by show (!(k1_cond2 (grid1.coords t) == 1#1)) = false; rw [h]; rfl, if_pos h, h1 h]
    exact .rfl
  · have hf : (cfg1.win 11).flush t = false := by
      rw [← Bool.not_eq_true]; intro hf
      exact h ((last_iff _).mpr (by rw [cl1_val]; exact (flush1_11 t).mp hf))
    rw [show cfg1.idle 11 (cfg1.grid.coords t) = true from by
      show (!(k1_cond2 (grid1.coords t) == 1#1)) = true; rw [Bool.not_eq_true', beq_eq_false_iff_ne]; exact h, hf, if_neg h]
    iintro H
    iexists d
    iexact H
theorem leaves1_13 (t : Fin cfg1.N) (d : (cfg1.win 13).block.Idx → Elt F (cfg1.win 13).elt) (a : Vec F S512x256 .f32)
    (h1 : k1_cond2 (grid1.coords t) = 1#1 → lastV newS a ((dat1 V c).before 13 t d) = ssO (inOf V) (rw1 t)) :
    (owns (c : Thread nD τ) (refs1 t).a15 fullShare (scaleOut (grid1.coords t) newS a ((dat1 V c).before 13 t d)) : sProp 𝕄) ⊢ (dat1 V c).leavesExact 13 t := by
  unfold Dat.leavesExact scaleOut
  by_cases h : k1_cond2 (grid1.coords t) = 1#1
  · rw [show cfg1.idle 13 (cfg1.grid.coords t) = false from by show (!(k1_cond2 (grid1.coords t) == 1#1)) = false; rw [h]; rfl, if_pos h, h1 h]
    exact .rfl
  · have hf : (cfg1.win 13).flush t = false := by
      rw [← Bool.not_eq_true]; intro hf
      exact h ((last_iff _).mpr (by rw [cl1_val]; exact (flush1_13 t).mp hf))
    rw [show cfg1.idle 13 (cfg1.grid.coords t) = true from by
      show (!(k1_cond2 (grid1.coords t) == 1#1)) = true; rw [Bool.not_eq_true', beq_eq_false_iff_ne]; exact h, hf, if_neg h]
    iintro H
    iexists d
    iexact H

/-- The body at a point. -/
theorem sound1 (t : Fin cfg1.N) :
    pre1 V c t ⊢ wp frame (wpE (defs₀ (F := F)) Variants.none c none) Set.univ (bodyU (refs1 t) (grid1.coords t)) (fun _ => post1 V c t) := by
  unfold pre1
  rw [show (dat1 V c).Φ t.castSucc = iprop(rest1 c ∗ scratch1 (inOf V) c t.val) from rfl]
  unfold scratch1
  iintro ⟨⟨Hr, ⟨%d16, H16⟩, ⟨%d17, %d18, %d19, %d20, %hS, H17, H18, H19, H20⟩⟩, HO, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%e10, W10⟩, ⟨%e11, W11⟩, ⟨%e12, W12⟩, ⟨%e13, W13⟩⟩
  rw [bef1_0, bef1_1, bef1_2, bef1_3, bef1_4, bef1_5, bef1_6, bef1_7]
  iapply (body_run c Variants.none (grid1.coords t) (refs1 t) (inOf V).cst (xB (inOf V).xt (rw1 t)) (inOf V).dy
    ⟨d16, tB (inOf V).mq (rw1 t) (cl1 t), tB (inOf V).sq (rw1 t) (cl1 t), tB (inOf V).w (rw1 t) (cl1 t)⟩ (sB (inOf V).ms (rw1 t)) (sB (inOf V).ss (rw1 t))
    ((dat1 V c).before 11 t e11) ((dat1 V c).before 13 t e13) d17 d18
    ⟨(dat1 V c).before 9 t e9, (dat1 V c).before 8 t e8, (dat1 V c).before 10 t e10, (dat1 V c).before 12 t e12, d19, d20⟩ _)
  isplitl [W0]; · iexact W0
  isplitl [W1]; · iexact W1
  isplitl [W2]; · iexact W2
  isplitl [H16 W4 W6 W3]
  · unfold inSt
    isplitl [H16]; · iexact H16
    isplitl [W4]; · iexact W4
    isplitl [W6]; · iexact W6
    iexact W3
  isplitl [W5]; · iexact W5
  isplitl [W7]; · iexact W7
  isplitl [W11]; · iexact W11
  isplitl [W13]; · iexact W13
  isplitl [H17]; · iexact H17
  isplitl [H18]; · iexact H18
  isplitl [W9 W8 W10 W12 H19 H20]
  · unfold outSt
    isplitl [W9]; · iexact W9
    isplitl [W8]; · iexact W8
    isplitl [W10]; · iexact W10
    isplitl [W12]; · iexact W12
    isplitl [H19]; · iexact H19
    iexact H20
  rw [gradV_eq (inOf V) (grid1.coords t)]
  obtain ⟨⟨hu, hw, hmc, hsc⟩, hG⟩ := point_leaves (inOf V) t d17 d18
    ⟨(dat1 V c).before 9 t e9, (dat1 V c).before 8 t e8, (dat1 V c).before 10 t e10, (dat1 V c).before 12 t e12, d19, d20⟩ hS
  unfold inSt outSt tI at *
  iintro ⟨W0, W1, W2, ⟨H16, W4, W6, W3⟩, W5, W7, W11, W13, H17, H18, ⟨W9, W8, W10, W12, H19, H20⟩⟩
  rw [hu, hw, hmc, hsc]
  unfold post1
  rw [show (dat1 V c).Φ t.succ = iprop(rest1 c ∗ scratch1 (inOf V) c (t.val + 1)) from rfl,
    show (dat1 V c).owesAt () t.succ = (dat1 V c).owesAt () t.castSucc from rfl]
  isplitl [Hr H16 H17 H18 H19 H20]
  · isplitl [Hr]; · iexact Hr
    unfold scratch1
    isplitl [H16]; · iexists _; iexact H16
    iexists _, _, _, _
    isplitr; · ipureintro; exact scr_next (inOf V) t _ _ _ _ hG
    isplitl [H17]; · iexact H17
    isplitl [H18]; · iexact H18
    isplitl [H19]; · iexact H19
    iexact H20
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]
  · iapply (leaves1_11 V c t e11 _ (fun h => last_m (inOf V) (rw1 t) _ _ _ _
      (by rw [show (cl1 t).val = 36 from (last_iff _).mp h] at hG; exact hG) _))
    iexact W11
  isplitl [W12]; · iexact W12
  iapply (leaves1_13 V c t e13 _ (fun h => last_s (inOf V) (rw1 t) _ _ _ _
      (by rw [show (cl1 t).val = 36 from (last_iff _).mp h] at hG; exact hG) _))
  iexact W13

/-- The library's body obligation. -/
theorem body_obligation1 : BodyObligation (dat1 V c) (defs₀ (F := F)) Variants.none () Set.univ := fun t => by
  rw [bigSep_W1, bigSep_W1, defs₀_row1]
  exact triple_restated (sound1 V c t) rfl .rfl fun _ => .rfl

end Cert.KernelIdeal.Body

end
-- ==== Proof.IdealRegions.lean ====
/-
  The records of the two regions: what the buffers hold at each one's entry and exit.
-/
module

public import proofs.«01_k».proof.Proof.IdealDat0
public import proofs.«01_k».proof.Proof.IdealSound1
public import proofs.«01_k».proof.Proof.Gen.KernelIdeal.Regions
public import Idealize.ShloMosaic.Lib.Pipeline.RegionArraysS

@[expose] public section

set_option maxRecDepth 16384

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F] [Named F]

local notation "𝕄" => MT nD τ sig Unit (Elt F) ℕ (Pipeline.UD sig nD τ) ℕ

/-! ## What the buffers hold between the items -/

variable (m : (ℓ : Loc nD τ sig) → Buf (Elt F) ℓ)

/-- What the first region leaves. -/
def outs0 : Outs (F := F) := fun _ r c => Pipeline.afterRegion (dat0 (V1 m c) c) (V1 m c) r

/-- What both regions leave. -/
def outs : Outs (F := F) := fun J r c => match J with
  | 4 => Pipeline.afterRegion (dat1 (V3 m (outs0 m) c) c) (V3 m (outs0 m) c) r
  | _ => Pipeline.afterRegion (dat0 (V1 m c) c) (V1 m c) r

/-- The contents at the main region's entry. -/
abbrev VM (c : Dev nD) : Valuation τ sig (Elt F) := V3 m (outs m) c

theorem VM_eq (c : Dev nD) : V3 m (outs0 m) c = VM m c := rfl

/-- The proof data of both regions. -/
def pdats : (p : Fin 2) → (c : Dev nD) → Dat τ (Elt F) Unit ℕ (Pipeline.UD sig nD τ) ℕ (cfgs p) c
  | 0 => fun c => dat0 (V1 m c) c
  | 1 => fun c => dat1 (VM m c) c

theorem pdats_0 (c : Dev nD) : pdats m 0 c = dat0 (V1 m c) c := rfl
theorem pdats_1 (c : Dev nD) : pdats m 1 c = dat1 (VM m c) c := rfl

theorem tc_of_uc {b : DevRef τ sig} (hb : b ∈ Pipeline.ucRefs τ sig) : ∃ r : Ref sig .tc, b = Proc.devRef .tc r := by
  unfold Pipeline.ucRefs at hb
  have h := (Finset.mem_filter.mp hb).1
  unfold StableHlo.tcRefs at h
  obtain ⟨r, -, e⟩ := Finset.mem_map.mp h
  exact ⟨r, e.symm⟩

theorem keeps0 : ∀ r : Ref sig .tc, r ∉ ([main_v5] : List (Ref sig .tc)) → ∀ w : Fin cfg0.W, Pipeline.arrRef cfg0.spec w = r → (cfg0.win w).isOut = false := by decide +kernel
theorem keeps1 : ∀ r : Ref sig .tc, r ∉ ([main_v15_0, main_v15_1, main_v15_2, main_v15_3, main_v15_4, main_v15_5] : List (Ref sig .tc)) →
    ∀ w : Fin cfg1.W, Pipeline.arrRef cfg1.spec w = r → (cfg1.win w).isOut = false := by decide +kernel

/-- After the first region only the prepared activations have changed. -/
theorem after0_eq (c : Dev nD) (r : Ref sig .tc) :
    Pipeline.afterRegion (dat0 (V1 m c) c) (V1 m c) r = V2 m (outs m) c r := by
  by_cases h : r ∈ ([main_v5] : List (Ref sig .tc))
  · simp only [List.mem_cons, List.not_mem_nil, or_false] at h
    subst h
    exact (Function.update_self (Proc.devRef .tc main_v5) (outs m 2 main_v5 c) (V1 m c)).symm
  · rw [V2_of m (outs m) c r h]
    exact Pipeline.afterRegion_keeps (dat0 (V1 m c) c) (V1 m c) launch0.win.arr_inj (dat0_A _ _) r (keeps0 r h)

/-- After the main region only the results have changed. -/
theorem after1_eq (c : Dev nD) (r : Ref sig .tc) :
    Pipeline.afterRegion (dat1 (VM m c) c) (VM m c) r = V4 m (outs m) c r := by
  by_cases h : r ∈ ([main_v15_0, main_v15_1, main_v15_2, main_v15_3, main_v15_4, main_v15_5] : List (Ref sig .tc))
  · simp only [List.mem_cons, List.not_mem_nil, or_false] at h
    rcases h with rfl | rfl | rfl | rfl | rfl | rfl <;>
      simp only [V4, Function.update_self, ne_eq, reduceCtorEq, not_false_eq_true, Function.update_of_ne] <;> rfl
  · rw [V4_of m (outs m) c r h]
    exact Pipeline.afterRegion_keeps (dat1 (VM m c) c) (VM m c) launch1.win.arr_inj (dat1_A _ _) r (keeps1 r h)

/-! ## The regions' records -/

/-- Every TensorCore semaphore has the one level. -/
abbrev Lset (g : GSem nD τ sig) : Finset Unit := if g.1.2 = .tc then {()} else ∅
abbrev lvl (g : GSem nD τ sig) (i : Unit) : ℕ := 0

theorem levelCut (p : Fin 2) : Pipeline.LevelCut (pcfgs (F := F)) adm () Lset lvl p (fun _ => (0 : CellTallies nD τ sig Unit)) (fun _ => 0) where
  hι c w s := by simp [Lset]
  hιb c w s := le_refl _
  hD c g i h := absurd h (by simp)

/-- What rides along: the core owes nothing. -/
def E (_ : Fin 3) (c : Dev nD) : sProp 𝕄 := iprop((∃ W, owes (c : Thread nD τ) (0 : CellTallies nD τ sig Unit) W) ∗ emp ∗ emp)

theorem scratch_in (c : Dev nD) : (Pipeline.scopedRest spec1 c : sProp 𝕄) ⊢ iprop(rest1 (F := F) c ∗ scratch1 (inOf (VM m c)) c 0) := by
  rw [scopedRest1_eq]; unfold rest1 scratch1
  iintro ⟨H0, H1, H2, H3, H4, H5, ⟨%f0, S0⟩, ⟨%f1, S1⟩, ⟨%f2, S2⟩, ⟨%f3, S3⟩, ⟨%f4, S4⟩⟩
  isplitl [H0 H1 H2 H3 H4 H5]
  · isplitl [H0]; · iexact H0
    isplitl [H1]; · iexact H1
    isplitl [H2]; · iexact H2
    isplitl [H3]; · iexact H3
    isplitl [H4]; · iexact H4
    iexact H5
  simp only [owns_whole]
  isplitl [S0]; · iexists f0; iexact S0
  iexists f1, f2, f3, f4
  isplitr
  · ipureintro; intro d k hk _ h; omega
  isplitl [S1]; · iexact S1
  isplitl [S2]; · iexact S2
  isplitl [S3]; · iexact S3
  iexact S4

theorem scratch_out (I : In F) (c : Dev nD) (n : ℕ) : iprop(rest1 (F := F) c ∗ scratch1 I c n) ⊢ (Pipeline.scopedRest spec1 c : sProp 𝕄) := by
  rw [scopedRest1_eq]; unfold rest1 scratch1
  simp only [owns_whole]
  iintro ⟨⟨H0, H1, H2, H3, H4, H5⟩, ⟨%f0, S0⟩, ⟨%f1, %f2, %f3, %f4, -, S1, S2, S3, S4⟩⟩
  isplitl [H0]; · iexact H0
  isplitl [H1]; · iexact H1
  isplitl [H2]; · iexact H2
  isplitl [H3]; · iexact H3
  isplitl [H4]; · iexact H4
  isplitl [H5]; · iexact H5
  isplitl [S0]; · iexists f0; iexact S0
  isplitl [S1]; · iexists f1; iexact S1
  isplitl [S2]; · iexists f2; iexact S2
  isplitl [S3]; · iexists f3; iexact S3
  iexists f4; iexact S4

theorem hin0 (c : Dev nD) : iprop(Pipeline.scopedRest spec0 c ∗ emp) ⊢ (Pipeline.scopedRest spec0 c : sProp 𝕄) := by
  iintro ⟨H, -⟩; iexact H

theorem hout0 (c : Dev nD) : (Pipeline.scopedRest spec0 c : sProp 𝕄) ⊢ iprop(Pipeline.scopedRest spec0 c ∗ emp) := by
  iintro H
  isplitl [H]; · iexact H
  iempintro

theorem hin1 (c : Dev nD) : iprop(Pipeline.scopedRest spec1 c ∗ emp) ⊢ iprop(rest1 (F := F) c ∗ scratch1 (inOf (VM m c)) c 0) := by
  iintro ⟨H, -⟩; iapply (scratch_in m c); iexact H

theorem hout1 (c : Dev nD) : iprop(rest1 (F := F) c ∗ scratch1 (inOf (VM m c)) c cfg1.N) ⊢ iprop(Pipeline.scopedRest spec1 c ∗ emp) := by
  iintro H
  isplitl [H]; · iapply (scratch_out (inOf (VM m c)) c cfg1.N); iexact H
  iempintro

/-- The first region. -/
def reg0 : RegionSeg (pcfgs (F := F)) adm (pdats m) () defs₀ Variants.none Lset lvl 0 :=
  RegionSeg.ofHeldIn pcfgs adm (pdats m) () defs₀ Variants.none Lset lvl 0 (fun _ => 0) (Pipeline.ucRefs τ sig) (fun _ => iprop(emp)) (fun _ => iprop(emp))
    launch0.toP rfl (fun c => (body_obligation0 (V1 m c) c).loose) (fun _ _ => rfl) (fun _ => rfl) (fun c w => Dat.share_full _ (fun _ => rfl) w)
    (fun c => hin0 c) (fun c => hout0 c)
    (fun _ => 0) (levelCut 0) (fun _ => iprop(emp)) (fun c => V1 m c) (fun c w => rfl)

/-- The main region. -/
def reg1 : RegionSeg (pcfgs (F := F)) adm (pdats m) () defs₀ Variants.none Lset lvl 1 :=
  RegionSeg.ofHeldIn pcfgs adm (pdats m) () defs₀ Variants.none Lset lvl 1 (fun _ => 0) (Pipeline.ucRefs τ sig) (fun _ => iprop(emp)) (fun _ => iprop(emp))
    launch1.toP rfl (fun c => (body_obligation1 (VM m c) c).loose) (fun _ _ => rfl) (fun _ => rfl) (fun c w => Dat.share_full _ (fun _ => rfl) w)
    (fun c => hin1 m c) (fun c => hout1 m c)
    (fun _ => 0) (levelCut 1) (fun _ => iprop(emp)) (fun c => VM m c) (fun c w => rfl)

end Cert.KernelIdeal.Body

end
-- ==== Proof.IdealLaunch.lean ====
/-
  The whole program's run: the host stretch, the region that prepares the activations, the host stretch, the main region.
-/
module

public import proofs.«01_k».proof.Proof.IdealRegions
public import proofs.«01_k».proof.Proof.Gen.KernelIdeal.Regions
public import Idealize.ShloMosaic.Lib.Pipeline.RegionArraysS

@[expose] public section

set_option maxRecDepth 16384

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F] [Named F]

local notation "𝕄" => MT nD τ sig Unit (Elt F) ℕ (Pipeline.UD sig nD τ) ℕ

variable (m : (ℓ : Loc nD τ sig) → Buf (Elt F) ℓ)

theorem sub0 : Pipeline.arrRefs (τ := τ) (pcfgs (F := F) 0).spec ⊆ Pipeline.ucRefs τ sig := Pipeline.arrRefs_sub_ucRefs spec0 launch0.win.arr_unscoped
theorem sub1 : Pipeline.arrRefs (τ := τ) (pcfgs (F := F) 1).spec ⊆ Pipeline.ucRefs τ sig := Pipeline.arrRefs_sub_ucRefs spec1 launch1.win.arr_unscoped

theorem hpre0 (c : Dev nD) : iprop(StableHlo.held (c : Thread nD τ) (Pipeline.ucRefs τ sig) (V1 m c) ∗ E (F := F) 0 c) ⊢ (reg0 m).pre c := by
  unfold reg0 E
  exact RegionSeg.ofHeldIn_pre (pcs := pcfgs (F := F)) (a := adm) (pdats := pdats m) (ι := ()) (p := 0) (D := fun _ => 0) (S := Pipeline.ucRefs τ sig)
    (X := fun _ => iprop(emp)) (Y := fun _ => iprop(emp)) (R := fun _ => iprop(emp)) (W := fun c => V1 m c) (sub0 (F := F)) c

theorem hpost0 (c : Dev nD) : (reg0 m).post c ⊢ iprop(StableHlo.held (c : Thread nD τ) (Pipeline.ucRefs τ sig) (V2 m (outs m) c) ∗ E (F := F) 1 c) := by
  rw [← StableHlo.held_congr (c : Thread nD τ) (S := Pipeline.ucRefs τ sig) (V := Pipeline.afterRegion (dat0 (V1 m c) c) (V1 m c)) (V' := V2 m (outs m) c)
    (fun b hb => by obtain ⟨r, rfl⟩ := tc_of_uc hb; exact after0_eq m c r)]
  unfold reg0 E
  exact RegionSeg.ofHeldIn_post (sub0 (F := F)) c

theorem hpre1 (c : Dev nD) : iprop(StableHlo.held (c : Thread nD τ) (Pipeline.ucRefs τ sig) (V3 m (outs m) c) ∗ E (F := F) 1 c) ⊢ (reg1 m).pre c := by
  unfold reg1 E
  exact RegionSeg.ofHeldIn_pre (pcs := pcfgs (F := F)) (a := adm) (pdats := pdats m) (ι := ()) (p := 1) (D := fun _ => 0) (S := Pipeline.ucRefs τ sig)
    (X := fun _ => iprop(emp)) (Y := fun _ => iprop(emp)) (R := fun _ => iprop(emp)) (W := fun c => VM m c) (sub1 (F := F)) c

theorem hpost1 (c : Dev nD) : (reg1 m).post c ⊢ iprop(StableHlo.held (c : Thread nD τ) (Pipeline.ucRefs τ sig) (V4 m (outs m) c) ∗ E (F := F) 2 c) := by
  rw [← StableHlo.held_congr (c : Thread nD τ) (S := Pipeline.ucRefs τ sig) (V := Pipeline.afterRegion (dat1 (VM m c) c) (VM m c)) (V' := V4 m (outs m) c)
    (fun b hb => by obtain ⟨r, rfl⟩ := tc_of_uc hb; exact after1_eq m c r)]
  unfold reg1 E
  exact RegionSeg.ofHeldIn_post (sub1 (F := F)) c

theorem hE2 (c : Dev nD) : E (F := F) 2 c ⊢ (iprop(∃ W, owes (c : Thread nD τ) (0 : CellTallies nD τ sig Unit) W) : sProp 𝕄) := by
  unfold E; iintro ⟨H, -, -⟩; iexact H

/-! ## The run -/

/-- The launch element: the pipeline's rounds, no counters. -/
def u₀ : Pipeline.UD sig nD τ := (initOf (Pipeline.cells cfgs cellOf_inj) (Pipeline.launchToks cfgs cellOf_inj), 1)

/-- A buffer of core `c` at the end holds what the last valuation says. -/
def ends (c : Dev nD) (m' : (ℓ : Loc nD τ sig) → Buf (Elt F) ℓ) (r : Ref sig .tc) : Prop :=
  m' ((c.tc : Thread nD τ).loc r) = V4 m (outs m) c r

theorem uc_all : ∀ r : Ref sig .tc, r ∈ ([main_arg0, main_arg1, main_arg2, main_arg3, main_arg4, main_arg5, main_arg6, main_arg7, main_arg8, main_arg9,
    main_v15_0, main_v15_1, main_v15_2, main_v15_3, main_v15_4, main_v15_5] : List (Ref sig .tc)) → Proc.devRef (τ := τ) .tc r ∈ Pipeline.ucRefs τ sig := by
  intro r hr
  refine Finset.mem_filter.mpr ⟨StableHlo.devRef_mem_tcRefs r, ?_⟩
  revert r; decide

set_option backward.isDefEq.respectTransparency.types false in
/-- Every weakly fair execution terminates, with every argument and every result at the last valuation and every counter at zero. -/
theorem run_all (ρ : Dev nD → PrngReg) :
    θ_run defs (onTc (τ := τ) (main (F := F))) ⟨m, fun _ => 0, ρ⟩ (fun r => (∀ c : Dev nD, ∀ b : Ref sig .tc,
      b ∈ ([main_arg0, main_arg1, main_arg2, main_arg3, main_arg4, main_arg5, main_arg6, main_arg7, main_arg8, main_arg9,
        main_v15_0, main_v15_1, main_v15_2, main_v15_3, main_v15_4, main_v15_5] : List (Ref sig .tc)) → ends m c r.2.mem b)
      ∧ r.2.sem = fun _ => 0) := by
  refine Pipeline.θ_run_regions_kit_dev_sems (pcfgs (F := F)) adm (pdats m) () cellOf_inj embL defs₀ Variants.none Lset lvl m ρ main
    (segs m (outs m) Variants.none Lset lvl E () (pdats m) (reg0 m) (reg1 m))
    (fun c Q => by
      rewrite [main_chain c, Seg.run_eq_chain,
        show (segs m (outs m) Variants.none Lset lvl E () (pdats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun g h => if_neg h) (fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨.rfl, hpre0 m c, hpost0 m c, hpre1 m c, (hpost1 m c).trans (sep_mono .rfl (hE2 c))⟩)
    (hinit := ?_) (QY := fun c s => ∀ b : Ref sig .tc,
      b ∈ ([main_arg0, main_arg1, main_arg2, main_arg3, main_arg4, main_arg5, main_arg6, main_arg7, main_arg8, main_arg9,
        main_v15_0, main_v15_1, main_v15_2, main_v15_3, main_v15_4, main_v15_5] : List (Ref sig .tc)) → ends m c s.mem b)
    (hfin := fun c s' => ?_) (hQ := fun _ h hz => ⟨h, funext fun g => hz g (.inr (regions_no_unscoped g.2))⟩)
  · refine Pipeline.initEach Lset lvl fun c => ?_
    rw [show unscopedBufs c (fun b => m ((c : Thread nD τ).loc b)) = StableHlo.held (c : Thread nD τ) (Pipeline.ucRefs τ sig) (V0 m c) from Pipeline.unscopedBufs_held c (V0 m c)]
    unfold E
    iintro ⟨⟨Hh, -, HO, -, -, -⟩, -⟩
    imodintro
    isplitl [Hh]; · iexact Hh
    isplitl [HO]; · iexists ∅; iexact HO
    isplitr; · iempintro
    iempintro
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact fun b hb => h (Proc.devRef .tc b) (uc_all b hb)
    · iexact HSI

end Cert.KernelIdeal.Body

end
-- ==== Proof.Frames.lean ====
module

public import proofs.«01_k».proof.Proof.BitsLaunch
public import proofs.«01_k».proof.Proof.IdealLaunch

@[expose] public section

set_option maxRecDepth 16384

noncomputable section

/-! # The frames of the kernel, at both readings of its floats -/

namespace Cert.Proof

open Idealize.ShloMosaic Idealize.SL.Sem

/-- `Kernel` from any memory ends with its ten arguments unchanged and every semaphore at zero. -/
theorem frame_Kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0) :=
  (θ_run _ _ _).mono (fun _ h => ⟨fun c => ⟨(h.1 c Cert.Kernel.main_arg0 (by simp)).trans (Cert.Kernel.Gen.V4_main_arg0 m (Cert.Kernel.Body.outs m) c),
    (h.1 c Cert.Kernel.main_arg1 (by simp)).trans (Cert.Kernel.Gen.V4_main_arg1 m (Cert.Kernel.Body.outs m) c),
    (h.1 c Cert.Kernel.main_arg2 (by simp)).trans (Cert.Kernel.Gen.V4_main_arg2 m (Cert.Kernel.Body.outs m) c),
    (h.1 c Cert.Kernel.main_arg3 (by simp)).trans (Cert.Kernel.Gen.V4_main_arg3 m (Cert.Kernel.Body.outs m) c),
    (h.1 c Cert.Kernel.main_arg4 (by simp)).trans (Cert.Kernel.Gen.V4_main_arg4 m (Cert.Kernel.Body.outs m) c),
    (h.1 c Cert.Kernel.main_arg5 (by simp)).trans (Cert.Kernel.Gen.V4_main_arg5 m (Cert.Kernel.Body.outs m) c),
    (h.1 c Cert.Kernel.main_arg6 (by simp)).trans (Cert.Kernel.Gen.V4_main_arg6 m (Cert.Kernel.Body.outs m) c),
    (h.1 c Cert.Kernel.main_arg7 (by simp)).trans (Cert.Kernel.Gen.V4_main_arg7 m (Cert.Kernel.Body.outs m) c),
    (h.1 c Cert.Kernel.main_arg8 (by simp)).trans (Cert.Kernel.Gen.V4_main_arg8 m (Cert.Kernel.Body.outs m) c),
    (h.1 c Cert.Kernel.main_arg9 (by simp)).trans (Cert.Kernel.Gen.V4_main_arg9 m (Cert.Kernel.Body.outs m) c)⟩, h.2⟩)
    (Cert.Kernel.Body.run_all m g)

/-- `KernelIdeal` from any memory ends with its ten arguments unchanged and every semaphore at zero. -/
theorem frame_KernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0) :=
  (θ_run _ _ _).mono (fun _ h => ⟨fun c => ⟨(h.1 c Cert.KernelIdeal.main_arg0 (by simp)).trans (Cert.KernelIdeal.Gen.V4_main_arg0 m (Cert.KernelIdeal.Body.outs m) c),
    (h.1 c Cert.KernelIdeal.main_arg1 (by simp)).trans (Cert.KernelIdeal.Gen.V4_main_arg1 m (Cert.KernelIdeal.Body.outs m) c),
    (h.1 c Cert.KernelIdeal.main_arg2 (by simp)).trans (Cert.KernelIdeal.Gen.V4_main_arg2 m (Cert.KernelIdeal.Body.outs m) c),
    (h.1 c Cert.KernelIdeal.main_arg3 (by simp)).trans (Cert.KernelIdeal.Gen.V4_main_arg3 m (Cert.KernelIdeal.Body.outs m) c),
    (h.1 c Cert.KernelIdeal.main_arg4 (by simp)).trans (Cert.KernelIdeal.Gen.V4_main_arg4 m (Cert.KernelIdeal.Body.outs m) c),
    (h.1 c Cert.KernelIdeal.main_arg5 (by simp)).trans (Cert.KernelIdeal.Gen.V4_main_arg5 m (Cert.KernelIdeal.Body.outs m) c),
    (h.1 c Cert.KernelIdeal.main_arg6 (by simp)).trans (Cert.KernelIdeal.Gen.V4_main_arg6 m (Cert.KernelIdeal.Body.outs m) c),
    (h.1 c Cert.KernelIdeal.main_arg7 (by simp)).trans (Cert.KernelIdeal.Gen.V4_main_arg7 m (Cert.KernelIdeal.Body.outs m) c),
    (h.1 c Cert.KernelIdeal.main_arg8 (by simp)).trans (Cert.KernelIdeal.Gen.V4_main_arg8 m (Cert.KernelIdeal.Body.outs m) c),
    (h.1 c Cert.KernelIdeal.main_arg9 (by simp)).trans (Cert.KernelIdeal.Gen.V4_main_arg9 m (Cert.KernelIdeal.Body.outs m) c)⟩, h.2⟩)
    (Cert.KernelIdeal.Body.run_all m g)

end Cert.Proof

end
-- ==== Proof.RefValue.lean ====
module

public import proofs.«01_k».proof.Proof.Gen.ReferenceIdeal.Value
-- ==== Proof.Scalars.lean ====
module

public import Idealize.ShloMosaic.PureOps.Ideal

@[expose] public section

noncomputable section

/-! # The arithmetic of one step, over the extended reals

The kernel keeps the first moment as ten times, the second as a thousand times what the mathematics
says, and divides by reciprocals. These lemmas say of one element (and of one block of lanes) that
what it computes is what the mathematics says, at every extended real: infinities included. -/

namespace Cert.Adam

open Idealize.ShloMosaic

/-- The kernel's first moment, ten times the new one. -/
def kM (q s g : EReal) : EReal := q * (s * ((9 : ℝ) : EReal)) + g
/-- The kernel's root of the old second moment, scaled. -/
def kT (q s : EReal) : EReal := q * (s * ((Real.sqrt 999 : ℝ) : EReal))
/-- The kernel's second moment, a thousand times the new one. -/
def kV (q s g : EReal) : EReal := kT q s * kT q s + g * g
/-- The new first moment. -/
def rM (q s g : EReal) : EReal := ((9 / 10 : ℝ) : EReal) * (q * s) + ((1 / 10 : ℝ) : EReal) * g
/-- The new second moment. -/
def rV (q s g : EReal) : EReal :=
  ((999 / 1000 : ℝ) : EReal) * ((q * s) * (q * s)) + ((1 / 1000 : ℝ) : EReal) * (g * g)

theorem real_mul_add {c : ℝ} (hc : 0 ≤ c) (x y : EReal) :
    (c : EReal) * (x + y) = (c : EReal) * x + (c : EReal) * y :=
  EReal.left_distrib_of_nonneg_of_ne_top (EReal.coe_nonneg.2 hc) (EReal.coe_ne_top c) x y

/-- The new first moment is a tenth of the kernel's. -/
theorem rM_eq (q s g : EReal) : rM q s g = ((1 / 10 : ℝ) : EReal) * kM q s g := by
  unfold rM kM
  rw [real_mul_add (by norm_num)]
  congr 1
  rw [show ((9 / 10 : ℝ) : EReal) = ((1 / 10 : ℝ) : EReal) * ((9 : ℝ) : EReal) by
    rw [← EReal.coe_mul]; norm_num]
  ac_rfl

/-- The new second moment is a thousandth of the kernel's. -/
theorem rV_eq (q s g : EReal) : rV q s g = ((1 / 1000 : ℝ) : EReal) * kV q s g := by
  unfold rV kV kT
  rw [real_mul_add (by norm_num)]
  congr 1
  rw [show ((999 / 1000 : ℝ) : EReal)
      = ((1 / 1000 : ℝ) : EReal) * (((Real.sqrt 999 : ℝ) : EReal) * ((Real.sqrt 999 : ℝ) : EReal)) by
    rw [← EReal.coe_mul, ← EReal.coe_mul, Real.mul_self_sqrt (by norm_num)]; norm_num]
  ac_rfl

theorem mul_self_nonneg' (x : EReal) : 0 ≤ x * x := by
  induction x with
  | bot => simp
  | top => simp
  | coe r => exact_mod_cast mul_self_nonneg r

theorem kV_nonneg (q s g : EReal) : 0 ≤ kV q s g := add_nonneg (mul_self_nonneg' _) (mul_self_nonneg' _)

theorem div_coe (x : EReal) {r : ℝ} (hr : r ≠ 0) : Ideal.div x (r : EReal) = x * ((r⁻¹ : ℝ) : EReal) := by
  unfold Ideal.div
  rw [if_neg (by exact_mod_cast hr), EReal.coe_inv]

theorem div_top (x : EReal) : Ideal.div x ⊤ = 0 := by
  unfold Ideal.div
  rw [if_neg EReal.top_ne_zero]; simp

theorem sqrt_coe {r : ℝ} (hr : 0 ≤ r) : Ideal.sqrt (r : EReal) = ((Real.sqrt r : ℝ) : EReal) := by
  show (if r < 0 then (⊥ : EReal) else _) = _
  rw [if_neg (not_lt.2 hr)]

theorem rsqrt_coe {r : ℝ} (hr : 0 < r) : Ideal.rsqrt (r : EReal) = (((Real.sqrt r)⁻¹ : ℝ) : EReal) := by
  show (if r < 0 then (⊥ : EReal) else if r = 0 then ⊤ else _) = _
  rw [if_neg (not_lt.2 hr.le), if_neg hr.ne']

theorem rsqrt_zero : Ideal.rsqrt (0 : EReal) = ⊤ := by
  show (if (0 : ℝ) < 0 then (⊥ : EReal) else if (0 : ℝ) = 0 then ⊤ else _) = _
  simp

theorem sqrt_zero : Ideal.sqrt (0 : EReal) = 0 := by
  have := sqrt_coe (le_refl (0 : ℝ)); simpa using this

/-- A nonnegative extended real is zero, infinity or a positive real. -/
theorem nonneg_cases {v : EReal} (h : 0 ≤ v) : v = 0 ∨ v = ⊤ ∨ ∃ r : ℝ, 0 < r ∧ v = (r : EReal) := by
  induction v with
  | bot => exact absurd h (by simp)
  | top => exact .inr (.inl rfl)
  | coe r =>
    rcases (EReal.coe_nonneg.1 h).eq_or_lt with h | h
    · exact .inl (by rw [← h]; rfl)
    · exact .inr (.inr ⟨r, h, rfl⟩)

/-- One over the reciprocal root is the root. -/
theorem inv_rsqrt {v : EReal} (h : 0 ≤ v) : Ideal.div ((1 : ℝ) : EReal) (Ideal.rsqrt v) = Ideal.sqrt v := by
  rcases nonneg_cases h with rfl | rfl | ⟨r, hr, rfl⟩
  · rw [rsqrt_zero, div_top, sqrt_zero]
  · show Ideal.div _ 0 = ⊤
    unfold Ideal.div; simp
  · rw [rsqrt_coe hr, sqrt_coe hr.le, div_coe _ (by positivity), ← EReal.coe_mul]; simp

/-- The root of a nonnegative real multiple. -/
theorem sqrt_mul {c : ℝ} (hc : 0 < c) {v : EReal} (h : 0 ≤ v) :
    Ideal.sqrt ((c : EReal) * v) = ((Real.sqrt c : ℝ) : EReal) * Ideal.sqrt v := by
  rcases nonneg_cases h with rfl | rfl | ⟨r, hr, rfl⟩
  · rw [mul_zero, sqrt_zero, mul_zero]
  · rw [EReal.coe_mul_top_of_pos hc]
    show (⊤ : EReal) = _ * ⊤
    rw [EReal.coe_mul_top_of_pos (Real.sqrt_pos.2 hc)]
  · rw [← EReal.coe_mul, sqrt_coe (by positivity), sqrt_coe hr.le, Real.sqrt_mul hc.le, EReal.coe_mul]

/-- The update: the kernel folds every constant into two scalars; the mathematics divides step by step. -/
theorem upd_eq {b₁ b₂ e : ℝ} (h₁ : 0 < b₁) (h₂ : 0 < b₂) (he : 0 < e) (m : EReal) {v : EReal} (hv : 0 ≤ v) :
    (m * (Ideal.div ((-1 / 10000 : ℝ) : EReal) (b₁ : EReal) * Ideal.sqrt (Ideal.div (b₂ : EReal) ((1 / 1000 : ℝ) : EReal))))
        * Ideal.div ((1 : ℝ) : EReal) (Ideal.div ((1 : ℝ) : EReal) (Ideal.rsqrt v)
          + (e : EReal) * Ideal.sqrt (Ideal.div (b₂ : EReal) ((1 / 1000 : ℝ) : EReal)))
      = Ideal.div (((-1 / 1000 : ℝ) : EReal) * Ideal.div (((1 / 10 : ℝ) : EReal) * m) (b₁ : EReal))
          (Ideal.sqrt (Ideal.div (((1 / 1000 : ℝ) : EReal) * v) (b₂ : EReal)) + (e : EReal)) := by
  have hq : Ideal.sqrt (Ideal.div (b₂ : EReal) ((1 / 1000 : ℝ) : EReal)) = ((Real.sqrt (1000 * b₂) : ℝ) : EReal) := by
    rw [div_coe _ (by norm_num), ← EReal.coe_mul, sqrt_coe (by positivity)]; congr 2; ring
  have hq0 : 0 < Real.sqrt (1000 * b₂) := Real.sqrt_pos.2 (by positivity)
  have hd : Ideal.sqrt (Ideal.div (((1 / 1000 : ℝ) : EReal) * v) (b₂ : EReal))
      = (((Real.sqrt (1000 * b₂))⁻¹ : ℝ) : EReal) * Ideal.sqrt v := by
    rw [div_coe _ h₂.ne', mul_comm, ← mul_assoc, ← EReal.coe_mul, sqrt_mul (by positivity) hv]
    congr 2
    rw [← Real.sqrt_inv]; congr 1; field_simp
  rw [inv_rsqrt hv, hq, hd, div_coe _ h₁.ne', div_coe _ h₁.ne']
  rw [← EReal.coe_mul, ← EReal.coe_mul, ← EReal.coe_mul]
  generalize Real.sqrt (1000 * b₂) = q at hq0 ⊢
  have top_case : ∀ x : EReal, x * Ideal.div ((1 : ℝ) : EReal) ⊤ = 0 := fun x => by rw [div_top, mul_zero]
  have real_case : ∀ s : ℝ, 0 ≤ s →
      m * (((-1 / 10000 * b₁⁻¹ * q : ℝ) : ℝ) : EReal) * Ideal.div ((1 : ℝ) : EReal) ((s : EReal) + ((e * q : ℝ) : EReal))
        = Ideal.div (((-1 / 1000 : ℝ) : EReal) * (((1 / 10 : ℝ) : EReal) * m * ((b₁⁻¹ : ℝ) : EReal)))
          (((q⁻¹ : ℝ) : EReal) * (s : EReal) + (e : EReal)) := fun s hs => by
    have hp : 0 < s + e * q := by positivity
    have hp' : 0 < q⁻¹ * s + e := by positivity
    rw [← EReal.coe_add, ← EReal.coe_mul, ← EReal.coe_add, div_coe _ hp.ne', div_coe _ hp'.ne', ← EReal.coe_mul, mul_assoc,
      ← EReal.coe_mul,
      show ((-1 / 1000 : ℝ) : EReal) * (((1 / 10 : ℝ) : EReal) * m * ((b₁⁻¹ : ℝ) : EReal)) * (((q⁻¹ * s + e)⁻¹ : ℝ) : EReal)
        = m * (((-1 / 1000 : ℝ) : EReal) * ((1 / 10 : ℝ) : EReal) * ((b₁⁻¹ : ℝ) : EReal) * (((q⁻¹ * s + e)⁻¹ : ℝ) : EReal)) by
          ac_rfl,
      ← EReal.coe_mul, ← EReal.coe_mul, ← EReal.coe_mul]
    congr 2
    have : q⁻¹ * s + e = (s + e * q) / q := by field_simp
    rw [this]; field_simp; norm_num
  rcases nonneg_cases hv with rfl | rfl | ⟨r, hr, rfl⟩
  · rw [sqrt_zero]; exact real_case 0 le_rfl
  · rw [show Ideal.sqrt ⊤ = ⊤ from rfl, EReal.top_add_coe, EReal.coe_mul_top_of_pos (inv_pos.2 hq0), EReal.top_add_coe,
      div_top, div_top, mul_zero]
  · rw [sqrt_coe hr.le]; exact real_case _ (Real.sqrt_nonneg r)

end Cert.Adam

end
-- ==== Proof.Blocks.lean ====
module

public import proofs.«01_k».proof.Proof.Scalars

@[expose] public section

noncomputable section

/-! # The arithmetic of one block of lanes: the new codes and the new scale -/

namespace Cert.Adam

open Idealize.ShloMosaic

variable {ι : Type} [Fintype ι]

/-- The magnitude. -/
def mag (x : EReal) : EReal := max x (-x)
/-- The largest of a block, from minus infinity; -/
def top (f : ι → EReal) : EReal := Finset.univ.fold max ⊥ f
/-- the least of a block, from infinity. -/
def bot (f : ι → EReal) : EReal := Finset.univ.fold min ⊤ f
/-- Rounding to a code. -/
def toCode (x : EReal) : BitVec 8 :=
  Ideal.fptosi 8 (min ((127 : ℝ) : EReal) (max ((-127 : ℝ) : EReal) (Ideal.liftRound Ideal.roundHalfEven x)))
/-- The scale of a block whose largest magnitude is `a`: of a block of zeros it is one. -/
def scaleOf (a : EReal) : EReal := Ideal.div (if a = 0 then ((127 : ℝ) : EReal) else a) ((127 : ℝ) : EReal)

theorem mag_nonneg (x : EReal) : 0 ≤ mag x := by
  unfold mag
  rcases le_total 0 x with h | h
  · exact le_max_of_le_left h
  · exact le_max_of_le_right (EReal.le_neg_of_le_neg (by simpa using h))

theorem mag_of_nonneg {x : EReal} (h : 0 ≤ x) : mag x = x := by
  unfold mag
  refine max_eq_left (le_trans (EReal.neg_le_of_neg_le (by simpa using h)) h)

theorem mul_le_mul_real {c : ℝ} (hc : 0 < c) {x y : EReal} (h : x ≤ y) : (c : EReal) * x ≤ (c : EReal) * y :=
  mul_le_mul_of_nonneg_left h (EReal.coe_nonneg.2 hc.le)

theorem mul_max {c : ℝ} (hc : 0 < c) (x y : EReal) : (c : EReal) * max x y = max ((c : EReal) * x) ((c : EReal) * y) :=
  Monotone.map_max (f := fun z : EReal => (c : EReal) * z) fun _ _ h => mul_le_mul_real hc h

theorem mag_mul {c : ℝ} (hc : 0 < c) (x : EReal) : mag ((c : EReal) * x) = (c : EReal) * mag x := by
  unfold mag; rw [mul_max hc, mul_comm _ (-x), EReal.neg_mul, mul_comm x]

/-- The largest of a block is a bound; -/
theorem le_top (f : ι → EReal) (i : ι) : f i ≤ top f := Finset.le_sup (f := f) (Finset.mem_univ i)
/-- attained; -/
theorem top_mem [Nonempty ι] (f : ι → EReal) : ∃ i, top f = f i := by
  obtain ⟨i, -, hi⟩ := Finset.exists_max_image (Finset.univ : Finset ι) f Finset.univ_nonempty
  exact ⟨i, le_antisymm (Finset.sup_le fun j hj => hi j hj) (le_top f i)⟩
/-- and so is the least. -/
theorem bot_le (f : ι → EReal) (i : ι) : bot f ≤ f i := Finset.inf_le (f := f) (Finset.mem_univ i)

/-- The largest, at the largest of what a monotone function is of. -/
theorem top_of_max (f : ι → EReal) (i : ι) (h : ∀ j, f j ≤ f i) : top f = f i :=
  le_antisymm (Finset.sup_le fun j _ => h j) (le_top f i)
theorem bot_of_min (f : ι → EReal) (i : ι) (h : ∀ j, f i ≤ f j) : bot f = f i :=
  le_antisymm (bot_le f i) (Finset.le_inf fun j _ => h j)

theorem top_mul [Nonempty ι] {c : ℝ} (hc : 0 < c) (f : ι → EReal) : top (fun i => (c : EReal) * f i) = (c : EReal) * top f := by
  obtain ⟨i, hi⟩ := top_mem f
  rw [hi]
  exact top_of_max _ i fun j => mul_le_mul_real hc (hi ▸ le_top f j)

theorem mul_real_eq_zero {c : ℝ} (hc : 0 < c) (a : EReal) : (c : EReal) * a = 0 ↔ a = 0 := by
  rw [mul_eq_zero]; exact or_iff_right (by exact_mod_cast hc.ne')

theorem mul_real_top {c : ℝ} (hc : 0 < c) : (c : EReal) * ⊤ = ⊤ := EReal.coe_mul_top_of_pos hc

/-- The new scale: the kernel divides first and sees to a block of zeros afterwards. -/
theorem scale_eq (a : EReal) :
    (if a = 0 then ((1 : ℝ) : EReal) else Ideal.div a ((127 : ℝ) : EReal)) = scaleOf a := by
  unfold scaleOf
  split_ifs
  · rw [div_coe _ (by norm_num), ← EReal.coe_mul]; norm_num
  · rfl

theorem zero_of_mag {x a : EReal} (h : mag x ≤ a) (ha : a = 0) : x = 0 := by
  subst ha
  refine le_antisymm ((le_max_left _ _).trans h) ?_
  have := (le_max_right x (-x)).trans h
  simpa using EReal.neg_le_of_neg_le (a := x) (b := 0) (by simpa using this)

theorem real_of_mag {x : EReal} {r : ℝ} (h : mag x ≤ (r : EReal)) : ∃ y : ℝ, x = (y : EReal) := by
  induction x with
  | bot => exact absurd h (by simp [mag])
  | top => exact absurd h (by simp [mag])
  | coe y => exact ⟨y, rfl⟩

/-- The code of the first moment: the kernel multiplies by the reciprocal of its block's scale. -/
theorem code_m {c : ℝ} (hc : 0 < c) (m a : EReal) (ha : mag m ≤ a) :
    m * (if a = 0 then 0 else Ideal.div ((127 : ℝ) : EReal) a) = Ideal.div ((c : EReal) * m) (scaleOf ((c : EReal) * a)) := by
  unfold scaleOf
  simp only [mul_real_eq_zero hc]
  rcases nonneg_cases ((mag_nonneg m).trans ha) with rfl | rfl | ⟨r, hr, rfl⟩
  · rw [zero_of_mag ha rfl, if_pos rfl, if_pos rfl, mul_zero, mul_zero, div_coe _ (by norm_num), ← EReal.coe_mul,
      div_coe _ (by norm_num), zero_mul]
  · rw [if_neg EReal.top_ne_zero, if_neg EReal.top_ne_zero, mul_real_top hc, div_top, mul_zero, div_coe ⊤ (by norm_num),
      mul_comm ⊤, mul_real_top (by norm_num), div_top]
  · obtain ⟨y, rfl⟩ := real_of_mag ha
    rw [if_neg (by exact_mod_cast hr.ne'), if_neg (by exact_mod_cast hr.ne'), div_coe _ hr.ne', ← EReal.coe_mul, ← EReal.coe_mul,
      ← EReal.coe_mul, ← EReal.coe_mul, div_coe _ (by norm_num), ← EReal.coe_mul, div_coe _ (by positivity), ← EReal.coe_mul]
    congr 1; field_simp

theorem sqrt_mono {u v : EReal} (hu : 0 ≤ u) (h : u ≤ v) : Ideal.sqrt u ≤ Ideal.sqrt v := by
  rcases nonneg_cases hu with rfl | rfl | ⟨r, hr, rfl⟩
  · rcases nonneg_cases h with rfl | rfl | ⟨s, hs, rfl⟩
    · exact le_rfl
    · exact le_top'
    · rw [sqrt_zero, sqrt_coe hs.le]; exact EReal.coe_nonneg.2 (Real.sqrt_nonneg _)
  · rw [top_le_iff.1 h]
  · rcases nonneg_cases (hu.trans h) with rfl | rfl | ⟨s, hs, rfl⟩
    · exact absurd h (not_le.2 (by exact_mod_cast hr))
    · exact le_top'
    · rw [sqrt_coe hr.le, sqrt_coe hs.le]
      exact EReal.coe_le_coe_iff.2 (Real.sqrt_le_sqrt (EReal.coe_le_coe_iff.1 h))
where le_top' {x : EReal} : x ≤ ⊤ := _root_.le_top

theorem rsqrt_anti {u v : EReal} (hu : 0 ≤ u) (h : u ≤ v) : Ideal.rsqrt v ≤ Ideal.rsqrt u := by
  rcases nonneg_cases hu with rfl | rfl | ⟨r, hr, rfl⟩
  · rw [rsqrt_zero]; exact _root_.le_top
  · rw [top_le_iff.1 h]
  · rcases nonneg_cases (hu.trans h) with rfl | rfl | ⟨s, hs, rfl⟩
    · exact absurd h (not_le.2 (by exact_mod_cast hr))
    · rw [rsqrt_coe hr]; exact EReal.coe_nonneg.2 (by positivity)
    · rw [rsqrt_coe hr, rsqrt_coe hs]
      refine EReal.coe_le_coe_iff.2 ?_
      exact inv_anti₀ (Real.sqrt_pos.2 hr) (Real.sqrt_le_sqrt (EReal.coe_le_coe_iff.1 h))

theorem sqrt_nonneg (v : EReal) (hv : 0 ≤ v) : 0 ≤ Ideal.sqrt v := by
  have := sqrt_mono le_rfl hv; rwa [sqrt_zero] at this

/-- The code of the second moment's root: the kernel multiplies by 127 and by the least reciprocal root. -/
theorem code_s {c : ℝ} (hc : 0 < c) (v V : EReal) (hv : 0 ≤ v) (h : v ≤ V) :
    Ideal.div ((1 : ℝ) : EReal) (Ideal.rsqrt v)
        * (if Ideal.rsqrt V = ⊤ then 0 else ((127 : ℝ) : EReal) * Ideal.rsqrt V)
      = Ideal.div ((c : EReal) * Ideal.sqrt v) (scaleOf ((c : EReal) * Ideal.sqrt V)) := by
  rw [inv_rsqrt hv]
  unfold scaleOf
  simp only [mul_real_eq_zero hc]
  rcases nonneg_cases (hv.trans h) with rfl | rfl | ⟨r, hr, rfl⟩
  · rw [le_antisymm h hv, rsqrt_zero, sqrt_zero, if_pos rfl, if_pos rfl, mul_zero, mul_zero, div_coe _ (by norm_num), ← EReal.coe_mul,
      div_coe _ (by norm_num), zero_mul]
  · rw [show Ideal.rsqrt ⊤ = 0 from rfl, show Ideal.sqrt ⊤ = ⊤ from rfl, if_neg EReal.zero_ne_top, if_neg EReal.top_ne_zero, mul_zero,
      mul_zero, mul_real_top hc, div_coe ⊤ (by norm_num), mul_comm ⊤, mul_real_top (by norm_num), div_top]
  · have hq := Real.sqrt_pos.2 hr
    obtain ⟨y, hy⟩ : ∃ y : ℝ, Ideal.sqrt v = (y : EReal) := by
      rcases nonneg_cases hv with rfl | rfl | ⟨u, hu, rfl⟩
      · exact ⟨0, sqrt_zero⟩
      · exact absurd h (by simp)
      · exact ⟨_, sqrt_coe hu.le⟩
    rw [hy, rsqrt_coe hr, sqrt_coe hr.le, if_neg (EReal.coe_ne_top _), if_neg (by exact_mod_cast hq.ne'), ← EReal.coe_mul, ← EReal.coe_mul,
      ← EReal.coe_mul, ← EReal.coe_mul, div_coe _ (by norm_num), ← EReal.coe_mul, div_coe _ (by positivity), ← EReal.coe_mul]
    congr 1; field_simp

/-- What the kernel divides into its new scale is the largest root. -/
theorem div_rsqrt {c : ℝ} (hc : 0 < c) {V : EReal} (hV : 0 ≤ V) :
    Ideal.div (c : EReal) (Ideal.rsqrt V) = (c : EReal) * Ideal.sqrt V := by
  rcases nonneg_cases hV with rfl | rfl | ⟨r, hr, rfl⟩
  · rw [rsqrt_zero, div_top, sqrt_zero, mul_zero]
  · rw [show Ideal.sqrt ⊤ = ⊤ from rfl, mul_real_top hc]
    show Ideal.div _ 0 = ⊤
    unfold Ideal.div
    rw [if_pos rfl, if_pos (by exact_mod_cast hc)]
  · rw [rsqrt_coe hr, sqrt_coe hr.le, div_coe _ (by positivity), inv_inv]

/-! ## The block's results -/

section Block
variable [Nonempty ι]

/-- The new code of the first moment, both ways; `qs` the old codes, `s` the old scale, `g` the gradient. -/
theorem m_code (q g : ι → EReal) (s : EReal) (l : ι) :
    toCode (kM (q l) s (g l) * (if top (fun k => mag (kM (q k) s (g k))) = 0 then 0
        else Ideal.div ((127 : ℝ) : EReal) (top fun k => mag (kM (q k) s (g k)))))
      = toCode (Ideal.div (rM (q l) s (g l)) (scaleOf (top fun k => mag (rM (q k) s (g k))))) := by
  simp only [rM_eq, mag_mul (show (0 : ℝ) < 1 / 10 by norm_num)]
  rw [top_mul (show (0 : ℝ) < 1 / 10 by norm_num), code_m (show (0 : ℝ) < 1 / 10 by norm_num) _ _ (le_top (fun k => mag (kM (q k) s (g k))) l)]

/-- The new scale of the first moment, both ways. -/
theorem m_scale (q g : ι → EReal) (s : EReal) :
    (if (top fun k => mag (kM (q k) s (g k))) * ((1 / 10 : ℝ) : EReal) = 0 then ((1 : ℝ) : EReal)
        else Ideal.div ((top fun k => mag (kM (q k) s (g k))) * ((1 / 10 : ℝ) : EReal)) ((127 : ℝ) : EReal))
      = scaleOf (top fun k => mag (rM (q k) s (g k))) := by
  rw [scale_eq]
  simp only [rM_eq, mag_mul (show (0 : ℝ) < 1 / 10 by norm_num)]
  rw [top_mul (show (0 : ℝ) < 1 / 10 by norm_num), mul_comm]

theorem rV_sqrt (q s g : EReal) :
    Ideal.sqrt (rV q s g) = ((Real.sqrt (1 / 1000) : ℝ) : EReal) * Ideal.sqrt (kV q s g) := by
  rw [rV_eq, sqrt_mul (by norm_num) (kV_nonneg _ _ _)]

theorem mag_rV_sqrt (q s g : EReal) :
    mag (Ideal.sqrt (rV q s g)) = ((Real.sqrt (1 / 1000) : ℝ) : EReal) * Ideal.sqrt (kV q s g) := by
  rw [rV_sqrt, mag_of_nonneg (mul_nonneg (EReal.coe_nonneg.2 (Real.sqrt_nonneg _)) (sqrt_nonneg _ (kV_nonneg _ _ _)))]

/-- The lane of the largest second moment has the least reciprocal root and the largest root. -/
theorem extremes (q g : ι → EReal) (s : EReal) : ∃ V : EReal, 0 ≤ V ∧ (∀ l, kV (q l) s (g l) ≤ V)
    ∧ bot (fun k => Ideal.rsqrt (kV (q k) s (g k))) = Ideal.rsqrt V
    ∧ top (fun k => mag (Ideal.sqrt (rV (q k) s (g k)))) = ((Real.sqrt (1 / 1000) : ℝ) : EReal) * Ideal.sqrt V := by
  obtain ⟨i, -, hi⟩ := Finset.exists_max_image (Finset.univ : Finset ι) (fun k => kV (q k) s (g k)) Finset.univ_nonempty
  have hm : ∀ l, kV (q l) s (g l) ≤ kV (q i) s (g i) := fun l => hi l (Finset.mem_univ l)
  refine ⟨_, kV_nonneg (q i) s (g i), hm, ?_, ?_⟩
  · exact bot_of_min (fun k => Ideal.rsqrt (kV (q k) s (g k))) i fun j => rsqrt_anti (kV_nonneg _ _ _) (hm j)
  · simp only [mag_rV_sqrt]
    exact top_of_max (fun k => ((Real.sqrt (1 / 1000) : ℝ) : EReal) * Ideal.sqrt (kV (q k) s (g k))) i fun j =>
      mul_le_mul_real (Real.sqrt_pos.2 (by norm_num)) (sqrt_mono (kV_nonneg _ _ _) (hm j))

/-- The new code of the second moment's root, both ways. -/
theorem s_code (q g : ι → EReal) (s : EReal) (l : ι) :
    toCode (Ideal.div ((1 : ℝ) : EReal) (Ideal.rsqrt (kV (q l) s (g l)))
        * (if bot (fun k => Ideal.rsqrt (kV (q k) s (g k))) = ⊤ then 0
          else ((127 : ℝ) : EReal) * bot (fun k => Ideal.rsqrt (kV (q k) s (g k)))))
      = toCode (Ideal.div (Ideal.sqrt (rV (q l) s (g l))) (scaleOf (top fun k => mag (Ideal.sqrt (rV (q k) s (g k)))))) := by
  obtain ⟨V, hV, hm, hb, ht⟩ := extremes q g s
  rw [hb, ht, rV_sqrt, code_s (Real.sqrt_pos.2 (show (0 : ℝ) < 1 / 1000 by norm_num)) _ _ (kV_nonneg _ _ _) (hm l)]

/-- The new scale of the second moment's root, both ways. -/
theorem s_scale (q g : ι → EReal) (s : EReal) :
    (if Ideal.div ((Real.sqrt (1 / 1000) : ℝ) : EReal) (bot fun k => Ideal.rsqrt (kV (q k) s (g k))) = 0 then ((1 : ℝ) : EReal)
        else Ideal.div (Ideal.div ((Real.sqrt (1 / 1000) : ℝ) : EReal) (bot fun k => Ideal.rsqrt (kV (q k) s (g k)))) ((127 : ℝ) : EReal))
      = scaleOf (top fun k => mag (Ideal.sqrt (rV (q k) s (g k)))) := by
  obtain ⟨V, hV, hm, hb, ht⟩ := extremes q g s
  rw [scale_eq, hb, ht, div_rsqrt (Real.sqrt_pos.2 (show (0 : ℝ) < 1 / 1000 by norm_num)) hV]

/-- The update of one element, both ways. -/
theorem update {b₁ b₂ e : ℝ} (h₁ : 0 < b₁) (h₂ : 0 < b₂) (he : 0 < e) (q q' s s' g : EReal) :
    (kM q s g * (Ideal.div ((-1 / 10000 : ℝ) : EReal) (b₁ : EReal) * Ideal.sqrt (Ideal.div (b₂ : EReal) ((1 / 1000 : ℝ) : EReal))))
        * Ideal.div ((1 : ℝ) : EReal) (Ideal.div ((1 : ℝ) : EReal) (Ideal.rsqrt (kV q' s' g))
          + (e : EReal) * Ideal.sqrt (Ideal.div (b₂ : EReal) ((1 / 1000 : ℝ) : EReal)))
      = Ideal.div (((-1 / 1000 : ℝ) : EReal) * Ideal.div (rM q s g) (b₁ : EReal))
          (Ideal.sqrt (Ideal.div (rV q' s' g) (b₂ : EReal)) + (e : EReal)) := by
  rw [rM_eq, rV_eq]; exact upd_eq h₁ h₂ he _ (kV_nonneg _ _ _)

end Block

end Cert.Adam

end
-- ==== Proof.Lanes.lean ====
module

public import proofs.«01_k».proof.Proof.Blocks
public import Idealize.ShloMosaic.PureOps.Ideal
public import Idealize.ShloMosaic.Lib.IdealHost

@[expose] public section

set_option maxRecDepth 16384

noncomputable section

/-! # Blocks of lanes, codes and constants -/

namespace Cert.Adam

open Idealize.ShloMosaic

/-- The column of lane `l` of block `j`. -/
def lane (j : Fin 148) (l : Fin 128) : Fin 18944 := ⟨j.val * 128 + l.val, by omega⟩

theorem lane_surj (n : Fin 18944) : n = lane ⟨n.val / 128, by omega⟩ ⟨n.val % 128, by omega⟩ :=
  Fin.ext (by show n.val = n.val / 128 * 128 + n.val % 128; omega)

/-- A code as a number. -/
def num (q : BitVec 8) : EReal := FloatOps.sitofp (F := Ideal) .f32 q

theorem of127 : Ideal.ofBits .f32 0x42FE0000#32 = ((127 : ℝ) : EReal) := by
  simp [Ideal.ofBits, Ideal.ieee, -EReal.coe_mul]; norm_num
theorem ofm127 : Ideal.ofBits .f32 0xC2FE0000#32 = ((-127 : ℝ) : EReal) := by
  simp [Ideal.ofBits, Ideal.ieee, -EReal.coe_mul]; norm_num
theorem ofmInf : Ideal.ofBits .f32 0xFF800000#32 = ⊥ := by
  simp [Ideal.ofBits, Ideal.ieee]
theorem ofInf : Ideal.ofBits .f32 0x7F800000#32 = ⊤ := by
  simp [Ideal.ofBits, Ideal.ieee]

/-- The small number under the update's quotient. -/
def eps : EReal := Ideal.ofBits .f32 0x322BCC77#32

theorem eps_pos : ∃ e : ℝ, 0 < e ∧ eps = (e : EReal) := by
  refine ⟨11258999 / 1125899906842624, by norm_num, ?_⟩
  unfold eps
  simp [Ideal.ofBits, Ideal.ieee, -EReal.coe_mul]; norm_num

/-- The two decay rates as the host code has them. -/
theorem of_b1 : Ideal.ofBits .f32 0x3F666666#32 = ((15099494 / 16777216 : ℝ) : EReal) := by
  simp [Ideal.ofBits, Ideal.ieee, -EReal.coe_mul]; norm_num
theorem of_b2 : Ideal.ofBits .f32 0x3F7FBE77#32 = ((16760439 / 16777216 : ℝ) : EReal) := by
  simp [Ideal.ofBits, Ideal.ieee, -EReal.coe_mul]; norm_num

/-- A bias correction at a positive step is a positive number. -/
theorem bias_pos {w : BitVec 32} {b : ℝ} (hw : Ideal.ofBits .f32 w = (b : EReal)) (h0 : 0 < b) (h1 : b < 1) (t : BitVec 32) (ht : 1 ≤ t.toInt) :
    ∃ r : ℝ, 0 < r ∧ Ideal.ofBits .f32 0x3F800000#32 - Ideal.pow (Ideal.ofBits .f32 w) (FloatOps.sitofp (F := Ideal) .f32 t) = (r : EReal) := by
  have hs : FloatOps.sitofp (F := Ideal) .f32 t = (((t.toInt : ℝ)) : EReal) := rfl
  have hp : Ideal.pow ((b : ℝ) : EReal) (((t.toInt : ℝ)) : EReal) = ((Real.rpow b (t.toInt : ℝ) : ℝ) : EReal) := rfl
  refine ⟨1 - Real.rpow b (t.toInt : ℝ), ?_, ?_⟩
  · have : Real.rpow b (t.toInt : ℝ) < 1 := Real.rpow_lt_one h0.le h1 (by exact_mod_cast (by omega : 0 < t.toInt))
    linarith
  · rw [hw, hs, hp, Ideal.ofBits_one_f32, EReal.coe_sub, EReal.coe_one]

end Cert.Adam

end
-- ==== Proof.KerElem.lean ====
/-
  The tiles that a point leaves, entry by entry over the extended reals.
-/
module

public import proofs.«01_k».proof.Proof.IdealOut
public import proofs.«01_k».proof.Proof.Lanes
public import Idealize.ShloMosaic.Lib.Pointwise
public import Idealize.ShloMosaic.PureOps.Ideal

@[expose] public section

set_option maxRecDepth 16384

noncomputable section

namespace Cert.KernelIdeal.Body

open Cert.KernelIdeal Cert.KernelIdeal.Gen
open Idealize.ShloMosaic
open Cert.Adam

theorem ix_eq {m n : ℕ} (p : Fin m) (q : Fin n) : ix p q = ix2 p q := ix_eta _ p q rfl rfl

/-! ## A block's values -/

theorem bc_at (a : FVec Ideal S32x1 .f32) (p : Fin 32) (l : Fin 128) :
    broadcastTo S32x128 a broadcasts_S32x1_S32x128 (ix p l) = a (ix p (0 : Fin 1)) :=
  congrArg a (funext fun q => Fin.ext (by fin_cases q <;> rfl))

theorem one_f32 : Ideal.ofBits .f32 0x3F800000#32 = ((1 : ℝ) : EReal) := by
  rw [Ideal.ofBits_one_f32]; rfl

theorem mV_at (g : FVec Ideal S32x128 .f32) (q : IVec S32x128 8) (cm : FVec Ideal S32x1 .f32) (p : Fin 32) (l : Fin 128) :
    mV g q cm (ix p l) = num (q (ix p l)) * cm (ix p (0 : Fin 1)) + g (ix p l) := by
  rw [← bc_at cm p l]; rfl

theorem rsV_at (g : FVec Ideal S32x128 .f32) (q : IVec S32x128 8) (cs : FVec Ideal S32x1 .f32) (p : Fin 32) (l : Fin 128) :
    rsV g q cs (ix p l) = Ideal.rsqrt ((num (q (ix p l)) * cs (ix p (0 : Fin 1))) * (num (q (ix p l)) * cs (ix p (0 : Fin 1)))
      + g (ix p l) * g (ix p l)) := by
  rw [← bc_at cs p l]; rfl

theorem invV_at (x : FVec Ideal S32x128 .f32) (i : S32x128.Idx) : invV x i = Ideal.div ((1 : ℝ) : EReal) (x i) := by
  rw [← one_f32]; rfl

theorem updV_at (cu ep : EReal) (m s : FVec Ideal S32x128 .f32) (i : S32x128.Idx) :
    updV (F := Ideal) cu ep m s i = (m i * cu) * Ideal.div ((1 : ℝ) : EReal) (s i + ep) := by
  rw [← one_f32]; rfl

theorem wnV_at (w : FVec Ideal S32x128 .bf16) (u : FVec Ideal S32x128 .f32) (i : S32x128.Idx) : wnV w u i = (w i : EReal) + u i := rfl

theorem sc_at (v : FVec Ideal S32 .f32) (p : Fin 32) : shapeCast S32x1 v shapeCasts_S32_S32x1 (ix p (0 : Fin 1)) = v (ix1 p) := by
  rw [ix_eq]
  pointwise []

theorem amaxV_at (m : FVec Ideal S32x128 .f32) (p : Fin 32) : amaxV m (ix p (0 : Fin 1)) = top fun l : Fin 128 => mag (m (ix p l)) := by
  unfold amaxV
  rw [sc_at]
  refine (multiReduction_maximumf_eq_fold _ _ _ _ _ _).trans ?_
  refine (Shape.Reduces.fold_fiber_r2_a1 _ _ _ _ _).trans ?_
  show Finset.univ.fold max (Ideal.ofBits .f32 0xFF800000#32) _ = _
  rw [ofmInf]
  simp only [ix_eq]
  rfl

theorem rminV_at (x : FVec Ideal S32x128 .f32) (p : Fin 32) : rminV x (ix p (0 : Fin 1)) = bot fun l : Fin 128 => x (ix p l) := by
  unfold rminV
  rw [sc_at]
  refine (multiReduction_minimumf_eq_fold _ _ _ _ _ _).trans ?_
  refine (Shape.Reduces.fold_fiber_r2_a1 _ _ _ _ _).trans ?_
  show Finset.univ.fold min (Ideal.ofBits .f32 0x7F800000#32) _ = _
  rw [ofInf]
  simp only [ix_eq]
  rfl

theorem codeV_at (x : FVec Ideal S32x128 .f32) (i : S32x128.Idx) : codeV x i = toCode (x i) := by
  unfold toCode
  rw [← of127, ← ofm127]; rfl

theorem sel_at (a x y z : EReal) :
    Scalar.select (FloatOps.cmpf (F := Ideal) (φ := .f32) .oeq a z) x y = if a = z then x else y := by
  by_cases h : a = z
  · rw [if_pos h]; subst h; simp [Scalar.select, FloatOps.cmpf, Ideal.cmp]
  · rw [if_neg h]; simp [Scalar.select, FloatOps.cmpf, Ideal.cmp, h]

theorem mcV_at (m : FVec Ideal S32x128 .f32) (p : Fin 32) (l : Fin 128) :
    mcV m (ix p l) = toCode (m (ix p l) * (if amaxV m (ix p (0 : Fin 1)) = 0 then 0 else Ideal.div ((127 : ℝ) : EReal) (amaxV m (ix p (0 : Fin 1))))) := by
  unfold mcV
  rw [codeV_at, ← of127, ← Ideal.ofBits_zero_f32, ← sel_at]
  rfl

theorem scV_at (x : FVec Ideal S32x128 .f32) (p : Fin 32) (l : Fin 128) :
    scV x (ix p l) = toCode (Ideal.div ((1 : ℝ) : EReal) (x (ix p l))
      * (if rminV x (ix p (0 : Fin 1)) = ⊤ then 0 else ((127 : ℝ) : EReal) * rminV x (ix p (0 : Fin 1)))) := by
  unfold scV
  rw [codeV_at, ← of127, ← Ideal.ofBits_zero_f32, ← ofInf, ← sel_at, ← invV_at]
  rfl

theorem newM_at {s : Shape} (x : FVec Ideal s .f32) (i : s.Idx) :
    newM x i = if x i * ((1 / 10 : ℝ) : EReal) = 0 then ((1 : ℝ) : EReal) else Ideal.div (x i * ((1 / 10 : ℝ) : EReal)) ((127 : ℝ) : EReal) := by
  rw [← of127, ← one_f32, ← Ideal.ofBits_zero_f32, ← sel_at]; rfl

theorem newS_at {s : Shape} (x : FVec Ideal s .f32) (i : s.Idx) :
    newS x i = if Ideal.div ((Real.sqrt (1 / 1000) : ℝ) : EReal) (x i) = 0 then ((1 : ℝ) : EReal)
      else Ideal.div (Ideal.div ((Real.sqrt (1 / 1000) : ℝ) : EReal) (x i)) ((127 : ℝ) : EReal) := by
  rw [← of127, ← one_f32, ← Ideal.ofBits_zero_f32, ← sel_at]; rfl

/-! ## The region's values, at a row and a column of the arrays -/

/-- The row `p` of chunk `r` of tile row `d`. -/
def row (d : Fin 7) (r : Fin 16) (p : Fin 32) : Fin 3584 := ⟨512 * d.val + 32 * r.val + p.val, by omega⟩

/-- The gradient at a row and a column: a sum over the tokens. -/
def gK (I : In Ideal) (P : Fin 3584) (n : Fin 18944) : EReal := ∑ t : Fin 1536, (I.xt (ix P t) : EReal) * I.dy (ix t n)

theorem gI_at (I : In Ideal) (d : Fin 7) (n : Fin 37) (a b : Fin 512) :
    gI I d n (ix a b) = gK I (⟨512 * d.val + a.val, by omega⟩) (⟨512 * n.val + b.val, by omega⟩) := by
  unfold gI
  rw [ix_eq]
  generalize hx : xB I.xt d = x
  generalize hy : yB I.dy n = y
  pointwise []
  subst hx hy
  simp only [← ix_eq]
  rfl

variable (I : In Ideal) (d : Fin 7) (n : Fin 37) (r : Fin 16) (b : Fin 4) (p : Fin 32) (l : Fin 128)

theorem blk_at {e : EltTy} (a : Vec Ideal S3584x18944 e) :
    blkA r b (tB a d n) (ix p l) = a (ix2 (row d r p) (lane (col n b) l)) := by
  obtain ⟨h0, h1⟩ := bo_eq r b
  rw [← ix_eq]
  refine congrArg a (funext fun q => Fin.ext ?_)
  fin_cases q
  · show 512 * d.val + (bo r b 0 + 1 * p.val) = 512 * d.val + 32 * r.val + p.val; omega
  · show 512 * n.val + (bo r b 1 + 1 * l.val) = (4 * n.val + b.val) * 128 + l.val; omega

theorem blk_g : blkA r b (gI I d n) (ix p l) = gK I (row d r p) (lane (col n b) l) := by
  obtain ⟨h0, h1⟩ := bo_eq r b
  have e : blkA r b (gI I d n) (ix p l) = gI I d n (ix (⟨32 * r.val + p.val, by omega⟩ : Fin 512) (⟨128 * b.val + l.val, by omega⟩ : Fin 512)) := by
    refine congrArg (gI I d n) (funext fun q => Fin.ext ?_)
    fin_cases q
    · show bo r b 0 + 1 * p.val = 32 * r.val + p.val; omega
    · show bo r b 1 + 1 * l.val = 128 * b.val + l.val; omega
  rw [e, gI_at]
  congr 1
  · refine Fin.ext ?_; show 512 * d.val + (32 * r.val + p.val) = 512 * d.val + 32 * r.val + p.val; omega
  · refine Fin.ext ?_; show 512 * n.val + (128 * b.val + l.val) = (4 * n.val + b.val) * 128 + l.val; omega

theorem scl_at (k : EReal) (a : Vec Ideal S3584x148 .f32) (j : Fin 148) :
    colOf (scaled (F := Ideal) k (sB a d)) r j (ix p (0 : Fin 1)) = (a (ix2 (row d r p) j) : EReal) * k := by
  rw [← ix_eq]
  refine congrArg (fun e : EReal => e * k) (congrArg a (funext fun q => Fin.ext ?_))
  fin_cases q
  · show 512 * d.val + (32 * r.val + p.val) = 512 * d.val + 32 * r.val + p.val; omega
  · rfl

theorem kM_val : Body.kM (F := Ideal) = ((9 : ℝ) : EReal) := rfl
theorem kS_val : Body.kS (F := Ideal) = ((Real.sqrt 999 : ℝ) : EReal) := rfl

theorem mI_at : mI I d n r b (ix p l)
    = Adam.kM (num (I.mq (ix2 (row d r p) (lane (col n b) l)))) (I.ms (ix2 (row d r p) (col n b))) (gK I (row d r p) (lane (col n b) l)) := by
  unfold mI
  rw [mV_at, blk_at, blk_g, scl_at, kM_val]; rfl

theorem rI_at : rI I d n r b (ix p l)
    = Ideal.rsqrt (Adam.kV (num (I.sq (ix2 (row d r p) (lane (col n b) l)))) (I.ss (ix2 (row d r p) (col n b))) (gK I (row d r p) (lane (col n b) l))) := by
  unfold rI
  rw [rsV_at, blk_at, blk_g, scl_at, kS_val]; rfl

/-- The constants of the bias corrections. -/
theorem cu_val (v3 v4 : EReal) : cuOf (F := Ideal) v3 v4
    = Ideal.div ((-1 / 10000 : ℝ) : EReal) v3 * Ideal.sqrt (Ideal.div v4 ((1 / 1000 : ℝ) : EReal)) := rfl
theorem ep_val (v4 : EReal) : epOf (F := Ideal) v4 = eps * Ideal.sqrt (Ideal.div v4 ((1 / 1000 : ℝ) : EReal)) := rfl

/-- What the kernel makes of one element and of one block, at row `P`, block `j`, lane `l`. -/
def kMo (I : In Ideal) (P : Fin 3584) (j : Fin 148) (l : Fin 128) : EReal :=
  Adam.kM (num (I.mq (ix2 P (lane j l)))) (I.ms (ix2 P j)) (gK I P (lane j l))
def kVo (I : In Ideal) (P : Fin 3584) (j : Fin 148) (l : Fin 128) : EReal :=
  Adam.kV (num (I.sq (ix2 P (lane j l)))) (I.ss (ix2 P j)) (gK I P (lane j l))
def kUp (I : In Ideal) (P : Fin 3584) (j : Fin 148) (l : Fin 128) : EReal :=
  (kMo I P j l * (Ideal.div ((-1 / 10000 : ℝ) : EReal) (I.cst word0) * Ideal.sqrt (Ideal.div (I.cst word1) ((1 / 1000 : ℝ) : EReal))))
    * Ideal.div ((1 : ℝ) : EReal) (Ideal.div ((1 : ℝ) : EReal) (Ideal.rsqrt (kVo I P j l))
      + eps * Ideal.sqrt (Ideal.div (I.cst word1) ((1 / 1000 : ℝ) : EReal)))
def kTop (I : In Ideal) (P : Fin 3584) (j : Fin 148) : EReal := top fun l : Fin 128 => mag (kMo I P j l)
def kBot (I : In Ideal) (P : Fin 3584) (j : Fin 148) : EReal := bot fun l : Fin 128 => Ideal.rsqrt (kVo I P j l)

theorem uI_at : uI I d n r b (ix p l) = kUp I (row d r p) (col n b) l := by
  unfold uI
  rw [updV_at, mI_at, invV_at, rI_at, cu_val, ep_val]; rfl

theorem aI_at : amaxV (mI I d n r b) (ix p (0 : Fin 1)) = kTop I (row d r p) (col n b) := by
  rw [amaxV_at]
  unfold kTop
  refine congrArg top (funext fun l => ?_)
  rw [mI_at]; rfl

theorem bI_at : rminV (rI I d n r b) (ix p (0 : Fin 1)) = kBot I (row d r p) (col n b) := by
  rw [rminV_at]
  unfold kBot
  refine congrArg bot (funext fun l => ?_)
  rw [rI_at]; rfl

/-! ## The tiles -/

section
variable (y : S512x512.Idx) (P : Fin 3584) (j : Fin 148) (hP : P.val = 512 * d.val + (y 0).val) (hL : (lane j l).val = 512 * n.val + (y 1).val)
include hP hL

theorem place : P = row d (rowOf y) (⟨(y 0).val % 32, Nat.mod_lt _ (by decide)⟩ : Fin 32) ∧ j = col n (blkOf y) ∧ l = (⟨(y 1).val % 128, Nat.mod_lt _ (by decide)⟩ : Fin 128) := by
  have h0 : (y 0).val < 512 := (y 0).isLt
  have h1 : (y 1).val < 512 := (y 1).isLt
  have hL' : j.val * 128 + l.val = 512 * n.val + (y 1).val := hL
  refine ⟨Fin.ext ?_, Fin.ext ?_, Fin.ext ?_⟩
  · show P.val = 512 * d.val + 32 * ((y 0).val / 32) + (y 0).val % 32; omega
  · show j.val = 4 * n.val + (y 1).val / 128; omega
  · show l.val = (y 1).val % 128; omega

theorem uO_at : uO I d n y = kUp I P j l := by
  obtain ⟨rfl, rfl, rfl⟩ := place d n l y P j hP hL
  exact uI_at I d n _ _ _ _

theorem wO_at : wO I d n y = (I.w (ix2 P (lane j l)) : EReal) + kUp I P j l := by
  obtain ⟨rfl, rfl, rfl⟩ := place d n l y P j hP hL
  refine (wnV_at _ _ _).trans ?_
  exact congrArg₂ (fun a b : EReal => a + b) (blk_at d n _ _ _ _ _) (uI_at I d n _ _ _ _)

theorem mO_at : mO I d n y = toCode (kMo I P j l * (if kTop I P j = 0 then 0 else Ideal.div ((127 : ℝ) : EReal) (kTop I P j))) := by
  obtain ⟨rfl, rfl, rfl⟩ := place d n l y P j hP hL
  refine (mcV_at _ _ _).trans ?_
  rw [aI_at, mI_at]; rfl

theorem sO_at : sO I d n y = toCode (Ideal.div ((1 : ℝ) : EReal) (Ideal.rsqrt (kVo I P j l))
    * (if kBot I P j = ⊤ then 0 else ((127 : ℝ) : EReal) * kBot I P j)) := by
  obtain ⟨rfl, rfl, rfl⟩ := place d n l y P j hP hL
  refine (scV_at _ _ _).trans ?_
  rw [bI_at, rI_at]; rfl
end

section
variable (z : S512x148.Idx) (P : Fin 3584) (j : Fin 148) (hP : P.val = 512 * d.val + (z 0).val) (hj : j.val = (z 1).val)
include hP hj

theorem splace : P = row d (chunkOf z) (⟨(z 0).val % 32, Nat.mod_lt _ (by decide)⟩ : Fin 32) ∧ j = col (tileOf z) (sblkOf z) := by
  have h0 : (z 0).val < 512 := (z 0).isLt
  refine ⟨Fin.ext ?_, Fin.ext ?_⟩
  · show P.val = 512 * d.val + 32 * ((z 0).val / 32) + (z 0).val % 32; omega
  · show j.val = 4 * ((z 1).val / 4) + (z 1).val % 4; omega

theorem aO_at : aO I d z = kTop I P j := by
  obtain ⟨rfl, rfl⟩ := splace d z P j hP hj
  exact aI_at I d _ _ _ _

theorem rO_at : rO I d z = kBot I P j := by
  obtain ⟨rfl, rfl⟩ := splace d z P j hP hj
  exact bI_at I d _ _ _ _

theorem msO_at : msO I d z = if kTop I P j * ((1 / 10 : ℝ) : EReal) = 0 then ((1 : ℝ) : EReal)
    else Ideal.div (kTop I P j * ((1 / 10 : ℝ) : EReal)) ((127 : ℝ) : EReal) := by
  unfold msO
  rw [newM_at, aO_at I d z P j hP hj]

theorem ssO_at : ssO I d z = if Ideal.div ((Real.sqrt (1 / 1000) : ℝ) : EReal) (kBot I P j) = 0 then ((1 : ℝ) : EReal)
    else Ideal.div (Ideal.div ((Real.sqrt (1 / 1000) : ℝ) : EReal) (kBot I P j)) ((127 : ℝ) : EReal) := by
  unfold ssO
  rw [newS_at, rO_at I d z P j hP hj]
end

end Cert.KernelIdeal.Body

end
-- ==== Proof.Words.lean ====
module

public import proofs.«01_k».proof.Proof.Lanes
public import Idealize.ShloMosaic.Lib.Pointwise

@[expose] public section

noncomputable section

/-! # The two words that divide the moments -/

namespace Cert.Adam

open Idealize.ShloMosaic

abbrev T0 : Shape := ⟨0, ![]⟩
abbrev T1 : Shape := ⟨1, ![1]⟩
abbrev T2 : Shape := ⟨1, ![2]⟩

/-- The bias correction of a decay, at a step. -/
def bias (w : BitVec 32) (t : BitVec 32) : EReal :=
  Ideal.ofBits .f32 0x3F800000#32 - Ideal.pow (Ideal.ofBits .f32 w) (FloatOps.sitofp (F := Ideal) .f32 t)

theorem bias_at (w : BitVec 32) (a : IVec T0 32) (q : T0.Idx) :
    subf (constant (F := Ideal) T0 .f32 0x3F800000#32) (Host.powf (constant T0 .f32 w) (sitofp (F := Ideal) .f32 a)) q = bias w (a fun i => i.elim0) := by
  rw [show q = fun i => i.elim0 from funext fun i => i.elim0]
  rfl

theorem cat_0 (a b : FVec Ideal T1 .f32) (h : Shape.Concatenates [T1, T1] T2 0) :
    concatenate (α := EReal) T2 0 [⟨T1, a⟩, ⟨T1, b⟩] h (ix1 (0 : Fin 2)) = a (ix1 (0 : Fin 1)) := by
  pointwise []

theorem cat_1 (a b : FVec Ideal T1 .f32) (h : Shape.Concatenates [T1, T1] T2 0) :
    concatenate (α := EReal) T2 0 [⟨T1, a⟩, ⟨T1, b⟩] h (ix1 (1 : Fin 2)) = b (ix1 (0 : Fin 1)) := by
  pointwise []

end Cert.Adam

end
-- ==== Proof.KerRun.lean ====
/-
  What the kernel's results hold, entry by entry, and what the main region reads, of the arguments.
-/
module

public import proofs.«01_k».proof.Proof.KerElem
public import proofs.«01_k».proof.Proof.Words
public import proofs.«01_k».proof.Proof.IdealLaunch
public import Idealize.ShloMosaic.Lib.Pipeline.ValueKit
public import Idealize.ShloMosaic.Lib.Claim

@[expose] public section

set_option maxRecDepth 16384

noncomputable section

namespace Cert.KernelIdeal.Body

open Cert.KernelIdeal Cert.KernelIdeal.Gen
open Idealize.ShloMosaic
open Idealize.ShloMosaic.TcCoe
open Idealize.ShloMosaic.Pipeline (Dat)
open Cert.Adam

/-! ## The final arrays -/

/-- The point of a tile. -/
def pt (P : Fin 3584) (n : Fin 18944) : Fin cfg1.N := ⟨37 * (P.val / 512) + n.val / 512, by
  rw [show cfg1.N = 259 from rfl]; omega⟩
/-- The last point of a tile row. -/
def lp (P : Fin 3584) : Fin cfg1.N := ⟨37 * (P.val / 512) + 36, by
  rw [show cfg1.N = 259 from rfl]; omega⟩

theorem pt_rw (P : Fin 3584) (n : Fin 18944) : (rw1 (pt P n)).val = P.val / 512 := by
  rw [rw1_val]; show (37 * (P.val / 512) + n.val / 512) / 37 = _; omega
theorem pt_cl (P : Fin 3584) (n : Fin 18944) : (cl1 (pt P n)).val = n.val / 512 := by
  rw [cl1_val]; show (37 * (P.val / 512) + n.val / 512) % 37 = _; omega
theorem lp_rw (P : Fin 3584) : (rw1 (lp P)).val = P.val / 512 := by
  rw [rw1_val]; show (37 * (P.val / 512) + 36) / 37 = _; omega
theorem lp_cl (P : Fin 3584) : (lp P).val % 37 = 36 := by
  show (37 * (P.val / 512) + 36) % 37 = _; omega

theorem pt_inj {t t' : Fin cfg1.N} (hr : (rw1 t).val = (rw1 t').val) (hc : (cl1 t).val = (cl1 t').val) : t = t' := by
  rw [rw1_val, rw1_val] at hr
  rw [cl1_val, cl1_val] at hc
  exact Fin.ext (by omega)

/-- Where an entry lies in its tile; -/
def ty (P : Fin 3584) (n : Fin 18944) : S512x512.Idx := ix2 (⟨P.val % 512, Nat.mod_lt _ (by decide)⟩ : Fin 512) (⟨n.val % 512, Nat.mod_lt _ (by decide)⟩ : Fin 512)
/-- in the scales of its rows. -/
def tz (P : Fin 3584) (j : Fin 148) : S512x148.Idx := ix2 (⟨P.val % 512, Nat.mod_lt _ (by decide)⟩ : Fin 512) j

variable (V : Valuation τ sig (Elt Ideal)) (c : Dev nD) (P : Fin 3584) (j : Fin 148) (l : Fin 128)

theorem disj_8 : ∀ t t' : Fin cfg1.N, (cfg1.win 8).flush t = true → (cfg1.win 8).flush t' = true → t ≠ t' →
    Disjoint ((cfg1.win 8).blk t).view.set ((cfg1.win 8).blk t').view.set :=
  Pipeline.Window.hdisj_of_index_inj _ fun t t' _ _ h => by
    obtain ⟨-, -, -, ⟨h0, h1⟩, -⟩ := tile_index t
    obtain ⟨-, -, -, ⟨k0, k1⟩, -⟩ := tile_index t'
    exact pt_inj (by rw [← h0, ← k0]; exact congrFun h 0) (by rw [← h1, ← k1]; exact congrFun h 1)

theorem arr_8 (n : Fin 18944) : (dat1 V c).arrAt 8 cfg1.N (ix2 P n) = wO (inOf V) (rw1 (pt P n)) (cl1 (pt P n)) (ty P n) := by
  have e : ((cfg1.win 8).blk (pt P n)).view.emb (ty P n) = ix2 P n := funext fun a => Fin.ext (by
    obtain ⟨-, -, -, ⟨h0, h1⟩, -⟩ := tile_index (pt P n)
    rw [pt_rw] at h0
    rw [pt_cl] at h1
    fin_cases a
    · show (((cfg1.win 8).blk (pt P n)).view.emb (ty P n) 0).val = P.val
      have : (ty P n 0).val = P.val % 512 := rfl
      blk_simp [h0]; try omega
    · show (((cfg1.win 8).blk (pt P n)).view.emb (ty P n) 1).val = n.val
      have : (ty P n 1).val = n.val % 512 := rfl
      blk_simp [h1]; try omega)
  refine (congrArg ((dat1 V c).arrAt 8 cfg1.N) e.symm).trans ?_
  refine ((dat1 V c).arrAt_emb_eq_flushed 8 disj_8 (pt P n) (flush1_8 _) (ty P n)).trans ?_
  rfl

theorem disj_9 : ∀ t t' : Fin cfg1.N, (cfg1.win 9).flush t = true → (cfg1.win 9).flush t' = true → t ≠ t' →
    Disjoint ((cfg1.win 9).blk t).view.set ((cfg1.win 9).blk t').view.set :=
  Pipeline.Window.hdisj_of_index_inj _ fun t t' _ _ h => by
    obtain ⟨-, -, -, -, ⟨h0, h1⟩, -⟩ := tile_index t
    obtain ⟨-, -, -, -, ⟨k0, k1⟩, -⟩ := tile_index t'
    exact pt_inj (by rw [← h0, ← k0]; exact congrFun h 0) (by rw [← h1, ← k1]; exact congrFun h 1)

theorem arr_9 (n : Fin 18944) : (dat1 V c).arrAt 9 cfg1.N (ix2 P n) = uO (inOf V) (rw1 (pt P n)) (cl1 (pt P n)) (ty P n) := by
  have e : ((cfg1.win 9).blk (pt P n)).view.emb (ty P n) = ix2 P n := funext fun a => Fin.ext (by
    obtain ⟨-, -, -, -, ⟨h0, h1⟩, -⟩ := tile_index (pt P n)
    rw [pt_rw] at h0
    rw [pt_cl] at h1
    fin_cases a
    · show (((cfg1.win 9).blk (pt P n)).view.emb (ty P n) 0).val = P.val
      have : (ty P n 0).val = P.val % 512 := rfl
      blk_simp [h0]; try omega
    · show (((cfg1.win 9).blk (pt P n)).view.emb (ty P n) 1).val = n.val
      have : (ty P n 1).val = n.val % 512 := rfl
      blk_simp [h1]; try omega)
  refine (congrArg ((dat1 V c).arrAt 9 cfg1.N) e.symm).trans ?_
  refine ((dat1 V c).arrAt_emb_eq_flushed 9 disj_9 (pt P n) (flush1_9 _) (ty P n)).trans ?_
  rfl

theorem disj_10 : ∀ t t' : Fin cfg1.N, (cfg1.win 10).flush t = true → (cfg1.win 10).flush t' = true → t ≠ t' →
    Disjoint ((cfg1.win 10).blk t).view.set ((cfg1.win 10).blk t').view.set :=
  Pipeline.Window.hdisj_of_index_inj _ fun t t' _ _ h => by
    obtain ⟨-, -, -, -, -, ⟨h0, h1⟩, -⟩ := tile_index t
    obtain ⟨-, -, -, -, -, ⟨k0, k1⟩, -⟩ := tile_index t'
    exact pt_inj (by rw [← h0, ← k0]; exact congrFun h 0) (by rw [← h1, ← k1]; exact congrFun h 1)

theorem arr_10 (n : Fin 18944) : (dat1 V c).arrAt 10 cfg1.N (ix2 P n) = mO (inOf V) (rw1 (pt P n)) (cl1 (pt P n)) (ty P n) := by
  have e : ((cfg1.win 10).blk (pt P n)).view.emb (ty P n) = ix2 P n := funext fun a => Fin.ext (by
    obtain ⟨-, -, -, -, -, ⟨h0, h1⟩, -⟩ := tile_index (pt P n)
    rw [pt_rw] at h0
    rw [pt_cl] at h1
    fin_cases a
    · show (((cfg1.win 10).blk (pt P n)).view.emb (ty P n) 0).val = P.val
      have : (ty P n 0).val = P.val % 512 := rfl
      blk_simp [h0]; try omega
    · show (((cfg1.win 10).blk (pt P n)).view.emb (ty P n) 1).val = n.val
      have : (ty P n 1).val = n.val % 512 := rfl
      blk_simp [h1]; try omega)
  refine (congrArg ((dat1 V c).arrAt 10 cfg1.N) e.symm).trans ?_
  refine ((dat1 V c).arrAt_emb_eq_flushed 10 disj_10 (pt P n) (flush1_10 _) (ty P n)).trans ?_
  rfl

theorem disj_12 : ∀ t t' : Fin cfg1.N, (cfg1.win 12).flush t = true → (cfg1.win 12).flush t' = true → t ≠ t' →
    Disjoint ((cfg1.win 12).blk t).view.set ((cfg1.win 12).blk t').view.set :=
  Pipeline.Window.hdisj_of_index_inj _ fun t t' _ _ h => by
    obtain ⟨-, -, -, -, -, -, ⟨h0, h1⟩⟩ := tile_index t
    obtain ⟨-, -, -, -, -, -, ⟨k0, k1⟩⟩ := tile_index t'
    exact pt_inj (by rw [← h0, ← k0]; exact congrFun h 0) (by rw [← h1, ← k1]; exact congrFun h 1)

theorem arr_12 (n : Fin 18944) : (dat1 V c).arrAt 12 cfg1.N (ix2 P n) = sO (inOf V) (rw1 (pt P n)) (cl1 (pt P n)) (ty P n) := by
  have e : ((cfg1.win 12).blk (pt P n)).view.emb (ty P n) = ix2 P n := funext fun a => Fin.ext (by
    obtain ⟨-, -, -, -, -, -, ⟨h0, h1⟩⟩ := tile_index (pt P n)
    rw [pt_rw] at h0
    rw [pt_cl] at h1
    fin_cases a
    · show (((cfg1.win 12).blk (pt P n)).view.emb (ty P n) 0).val = P.val
      have : (ty P n 0).val = P.val % 512 := rfl
      blk_simp [h0]; try omega
    · show (((cfg1.win 12).blk (pt P n)).view.emb (ty P n) 1).val = n.val
      have : (ty P n 1).val = n.val % 512 := rfl
      blk_simp [h1]; try omega)
  refine (congrArg ((dat1 V c).arrAt 12 cfg1.N) e.symm).trans ?_
  refine ((dat1 V c).arrAt_emb_eq_flushed 12 disj_12 (pt P n) (flush1_12 _) (ty P n)).trans ?_
  rfl

theorem disj_11 : ∀ t t' : Fin cfg1.N, (cfg1.win 11).flush t = true → (cfg1.win 11).flush t' = true → t ≠ t' →
    Disjoint ((cfg1.win 11).blk t).view.set ((cfg1.win 11).blk t').view.set :=
  Pipeline.Window.hdisj_of_index_inj _ fun t t' f f' h => by
    obtain ⟨-, -, -, ⟨h0, h1⟩, -⟩ := rows_index t
    obtain ⟨-, -, -, ⟨k0, k1⟩, -⟩ := rows_index t'
    exact pt_inj (by rw [← h0, ← k0]; exact congrFun h 0) (by rw [cl1_val, cl1_val, (flush1_11 t).mp f, (flush1_11 t').mp f'])

theorem arr_11 : (dat1 V c).arrAt 11 cfg1.N (ix2 P j) = msO (inOf V) (rw1 (lp P)) (tz P j) := by
  have e : ((cfg1.win 11).blk (lp P)).view.emb (tz P j) = ix2 P j := funext fun a => Fin.ext (by
    obtain ⟨-, -, -, ⟨h0, h1⟩, -⟩ := rows_index (lp P)
    rw [lp_rw] at h0
    fin_cases a
    · show (((cfg1.win 11).blk (lp P)).view.emb (tz P j) 0).val = P.val
      have : (tz P j 0).val = P.val % 512 := rfl
      blk_simp [h0]; try omega
    · show (((cfg1.win 11).blk (lp P)).view.emb (tz P j) 1).val = j.val
      have : (tz P j 1).val = j.val := rfl
      blk_simp [h1]; try omega)
  refine (congrArg ((dat1 V c).arrAt 11 cfg1.N) e.symm).trans ?_
  refine ((dat1 V c).arrAt_emb_eq_flushed 11 disj_11 (lp P) ((flush1_11 _).mpr (lp_cl P)) (tz P j)).trans ?_
  rfl

theorem disj_13 : ∀ t t' : Fin cfg1.N, (cfg1.win 13).flush t = true → (cfg1.win 13).flush t' = true → t ≠ t' →
    Disjoint ((cfg1.win 13).blk t).view.set ((cfg1.win 13).blk t').view.set :=
  Pipeline.Window.hdisj_of_index_inj _ fun t t' f f' h => by
    obtain ⟨-, -, -, -, ⟨h0, h1⟩⟩ := rows_index t
    obtain ⟨-, -, -, -, ⟨k0, k1⟩⟩ := rows_index t'
    exact pt_inj (by rw [← h0, ← k0]; exact congrFun h 0) (by rw [cl1_val, cl1_val, (flush1_13 t).mp f, (flush1_13 t').mp f'])

theorem arr_13 : (dat1 V c).arrAt 13 cfg1.N (ix2 P j) = ssO (inOf V) (rw1 (lp P)) (tz P j) := by
  have e : ((cfg1.win 13).blk (lp P)).view.emb (tz P j) = ix2 P j := funext fun a => Fin.ext (by
    obtain ⟨-, -, -, -, ⟨h0, h1⟩⟩ := rows_index (lp P)
    rw [lp_rw] at h0
    fin_cases a
    · show (((cfg1.win 13).blk (lp P)).view.emb (tz P j) 0).val = P.val
      have : (tz P j 0).val = P.val % 512 := rfl
      blk_simp [h0]; try omega
    · show (((cfg1.win 13).blk (lp P)).view.emb (tz P j) 1).val = j.val
      have : (tz P j 1).val = j.val := rfl
      blk_simp [h1]; try omega)
  refine (congrArg ((dat1 V c).arrAt 13 cfg1.N) e.symm).trans ?_
  refine ((dat1 V c).arrAt_emb_eq_flushed 13 disj_13 (lp P) ((flush1_13 _).mpr (lp_cl P)) (tz P j)).trans ?_
  rfl

/-! ## The results, of what the main region reads -/

theorem ty_0 (n : Fin 18944) : P.val = 512 * (rw1 (pt P n)).val + (ty P n 0).val := by
  rw [pt_rw]; show P.val = 512 * (P.val / 512) + P.val % 512; omega
theorem ty_1 (n : Fin 18944) : n.val = 512 * (cl1 (pt P n)).val + (ty P n 1).val := by
  rw [pt_cl]; show n.val = 512 * (n.val / 512) + n.val % 512; omega
theorem tz_0 : P.val = 512 * (rw1 (lp P)).val + (tz P j 0).val := by
  rw [lp_rw]; show P.val = 512 * (P.val / 512) + P.val % 512; omega

variable (m : (ℓ : Loc nD τ sig) → Buf (Elt Ideal) ℓ)

/-- What the main region reads. -/
abbrev I : In Ideal := inOf (VM m c)

theorem res_0 : (V4 m (outs m) c main_v15_0 : Vec Ideal S3584x18944 .bf16) (ix2 P (lane j l)) = ((I c m).w (ix2 P (lane j l)) : EReal) + kUp (I c m) P j l := by
  rw [← after1_eq m c main_v15_0]
  exact (congrFun (Pipeline.afterRegion_arr (dat1 (VM m c) c) (VM m c) launch1.win.arr_inj 8) (ix2 P (lane j l))).trans
    ((arr_8 (VM m c) c P (lane j l)).trans (wO_at (I c m) _ _ l _ P j (ty_0 P _) (ty_1 P _)))

theorem res_1 : (V4 m (outs m) c main_v15_1 : Vec Ideal S3584x18944 .f32) (ix2 P (lane j l)) = kUp (I c m) P j l := by
  rw [← after1_eq m c main_v15_1]
  exact (congrFun (Pipeline.afterRegion_arr (dat1 (VM m c) c) (VM m c) launch1.win.arr_inj 9) (ix2 P (lane j l))).trans
    ((arr_9 (VM m c) c P (lane j l)).trans (uO_at (I c m) _ _ l _ P j (ty_0 P _) (ty_1 P _)))

theorem res_2 : (V4 m (outs m) c main_v15_2 : Vec Ideal S3584x18944 .i8) (ix2 P (lane j l))
    = toCode (kMo (I c m) P j l * (if kTop (I c m) P j = 0 then 0 else Ideal.div ((127 : ℝ) : EReal) (kTop (I c m) P j))) := by
  rw [← after1_eq m c main_v15_2]
  exact (congrFun (Pipeline.afterRegion_arr (dat1 (VM m c) c) (VM m c) launch1.win.arr_inj 10) (ix2 P (lane j l))).trans
    ((arr_10 (VM m c) c P (lane j l)).trans (mO_at (I c m) _ _ l _ P j (ty_0 P _) (ty_1 P _)))

theorem res_3 : (V4 m (outs m) c main_v15_3 : Vec Ideal S3584x148 .f32) (ix2 P j)
    = if kTop (I c m) P j * ((1 / 10 : ℝ) : EReal) = 0 then ((1 : ℝ) : EReal) else Ideal.div (kTop (I c m) P j * ((1 / 10 : ℝ) : EReal)) ((127 : ℝ) : EReal) := by
  rw [← after1_eq m c main_v15_3]
  exact (congrFun (Pipeline.afterRegion_arr (dat1 (VM m c) c) (VM m c) launch1.win.arr_inj 11) (ix2 P j)).trans
    ((arr_11 (VM m c) c P j).trans (msO_at (I c m) _ _ P j (tz_0 P j) rfl))

theorem res_4 : (V4 m (outs m) c main_v15_4 : Vec Ideal S3584x18944 .i8) (ix2 P (lane j l))
    = toCode (Ideal.div ((1 : ℝ) : EReal) (Ideal.rsqrt (kVo (I c m) P j l))
      * (if kBot (I c m) P j = ⊤ then 0 else ((127 : ℝ) : EReal) * kBot (I c m) P j)) := by
  rw [← after1_eq m c main_v15_4]
  exact (congrFun (Pipeline.afterRegion_arr (dat1 (VM m c) c) (VM m c) launch1.win.arr_inj 12) (ix2 P (lane j l))).trans
    ((arr_12 (VM m c) c P (lane j l)).trans (sO_at (I c m) _ _ l _ P j (ty_0 P _) (ty_1 P _)))

theorem res_5 : (V4 m (outs m) c main_v15_5 : Vec Ideal S3584x148 .f32) (ix2 P j)
    = if Ideal.div ((Real.sqrt (1 / 1000) : ℝ) : EReal) (kBot (I c m) P j) = 0 then ((1 : ℝ) : EReal)
      else Ideal.div (Ideal.div ((Real.sqrt (1 / 1000) : ℝ) : EReal) (kBot (I c m) P j)) ((127 : ℝ) : EReal) := by
  rw [← after1_eq m c main_v15_5]
  exact (congrFun (Pipeline.afterRegion_arr (dat1 (VM m c) c) (VM m c) launch1.win.arr_inj 13) (ix2 P j)).trans
    ((arr_13 (VM m c) c P j).trans (ssO_at (I c m) _ _ P j (tz_0 P j) rfl))

end Cert.KernelIdeal.Body

end
-- ==== Proof.KerHost.lean ====
/-
  What the main region reads, of the arguments.
-/
module

public import proofs.«01_k».proof.Proof.KerElem
public import proofs.«01_k».proof.Proof.Words
public import proofs.«01_k».proof.Proof.IdealLaunch
public import Idealize.ShloMosaic.Lib.Pipeline.ValueKit
public import Idealize.ShloMosaic.Lib.Claim

@[expose] public section

set_option maxRecDepth 16384

noncomputable section

namespace Cert.KernelIdeal.Body

open Cert.KernelIdeal Cert.KernelIdeal.Gen
open Idealize.ShloMosaic
open Idealize.ShloMosaic.TcCoe
open Idealize.ShloMosaic.Pipeline (Dat)
open Cert.Adam

variable (m : (ℓ : Loc nD τ sig) → Buf (Elt Ideal) ℓ) (c : Dev nD)

/-! ## The prepared activations -/

theorem rw0_val : ∀ t : Fin cfg0.N, (rw0 t).val = t.val := by decide +kernel

theorem disj0_3 : ∀ t t' : Fin cfg0.N, (cfg0.win 3).flush t = true → (cfg0.win 3).flush t' = true → t ≠ t' →
    Disjoint ((cfg0.win 3).blk t).view.set ((cfg0.win 3).blk t').view.set :=
  Pipeline.Window.hdisj_of_index_inj _ fun t t' _ _ h => by
    obtain ⟨-, -, -, ⟨h0, h1⟩⟩ := index0 t
    obtain ⟨-, -, -, ⟨k0, k1⟩⟩ := index0 t'
    refine Fin.ext ?_
    rw [← rw0_val, ← rw0_val, ← h0, ← k0]; exact congrFun h 0

theorem arr0_3 (V : Valuation τ sig (Elt Ideal)) (P : Fin 3584) (t : Fin 1536) : (dat0 V c).arrAt 3 cfg0.N (ix2 P t) = xOf V (ix P t) := by
  let q : Fin cfg0.N := ⟨P.val / 512, by rw [show cfg0.N = 7 from rfl]; omega⟩
  have hq : (rw0 q).val = P.val / 512 := rw0_val q
  let y : S512x1536.Idx := ix2 (⟨P.val % 512, Nat.mod_lt _ (by decide)⟩ : Fin 512) t
  have e : ((cfg0.win 3).blk q).view.emb y = ix2 P t := funext fun a => Fin.ext (by
    obtain ⟨-, -, -, ⟨h0, h1⟩⟩ := index0 q
    rw [hq] at h0
    fin_cases a
    · show (((cfg0.win 3).blk q).view.emb y 0).val = P.val
      have : (y 0).val = P.val % 512 := rfl
      blk_simp [h0]; try omega
    · show (((cfg0.win 3).blk q).view.emb y 1).val = t.val
      have : (y 1).val = t.val := rfl
      blk_simp [h1]; try omega)
  refine (congrArg ((dat0 V c).arrAt 3 cfg0.N) e.symm).trans ?_
  refine ((dat0 V c).arrAt_emb_eq_flushed 3 disj0_3 q (flush0_3 _) y).trans ?_
  refine (show _ = xB (xOf V) (rw0 q) y from rfl).trans ?_
  unfold xB
  refine congrArg (xOf V) (funext fun a => Fin.ext ?_)
  fin_cases a
  · show 512 * (rw0 q).val + P.val % 512 = P.val
    rw [hq]; omega
  · rfl

/-! ## What the host operations leave -/

theorem V1_v0 : (V1 m c main_v0 : Vec Ideal S1536x3584 .fp8e4m3) = shapeCast S1536x3584 (m ((c : Thread nD τ).loc main_arg0) : Vec Ideal S6x256x3584 .fp8e4m3) shapeCasts_S6x256x3584_S1536x3584 := by
  unfold V1
  after_results
  rfl
theorem V1_v2 : (V1 m c main_v2 : Vec Ideal S1x1536 .bf16) = shapeCast S1x1536 (m ((c : Thread nD τ).loc main_arg1) : Vec Ideal S6x256 .f32) shapeCasts_S6x256_S1x1536 := by
  unfold V1
  after_results
  rfl
theorem V1_v4 : (V1 m c main_v4 : Vec Ideal S1x1536 .bf16) = shapeCast S1x1536 (m ((c : Thread nD τ).loc main_arg3) : Vec Ideal S6x256 .f32) shapeCasts_S6x256_S1x1536 := by
  unfold V1
  after_results
  rfl

/-- An argument at the second host stretch. -/
theorem V2_arg (r : Ref sig .tc) (h1 : r ∉ ([main_v5] : List (Ref sig .tc))) (h2 : r ∉ hostOps0_W) :
    V2 m (outs m) c r = m ((c : Thread nD τ).loc r) :=
  (V2_of m (outs m) c r h1).trans ((V1_of m c r h2).trans rfl)

theorem VM_v14 : (VM m c main_v14 : Vec Ideal S1536x18944 .fp8e5m2)
    = shapeCast S1536x18944 (m ((c : Thread nD τ).loc main_arg2) : Vec Ideal S6x256x18944 .fp8e5m2) shapeCasts_S6x256x18944_S1536x18944 := by
  unfold VM V3
  have h := V2_arg m c main_arg2 (by decide) (by decide)
  generalize V2 m (outs m) c = W at h ⊢
  after_results
  rw [h]
  rfl

theorem VM_v13 : (VM m c main_v13 : Vec Ideal S2 .f32)
    = concatenate (α := EReal) S2 0 [⟨S1, fun _ => bias 0x3F666666#32 (m ((c : Thread nD τ).loc main_arg9) (fun a => a.elim0))⟩,
        ⟨S1, fun _ => bias 0x3F7FBE77#32 (m ((c : Thread nD τ).loc main_arg9) (fun a => a.elim0))⟩] Gen.concatenates_S1_S1_S2_d0 := by
  unfold VM V3
  have h := V2_arg m c main_arg9 (by decide) (by decide)
  generalize V2 m (outs m) c = W at h ⊢
  after_results
  rw [h]
  exact congrArg₂ (fun a b : FVec Ideal S1 .f32 => concatenate (α := EReal) S2 0 [⟨S1, a⟩, ⟨S1, b⟩] Gen.concatenates_S1_S1_S2_d0)
    (funext fun i => bias_at _ _ _) (funext fun i => bias_at _ _ _)

theorem VM_arg (r : Ref sig .tc) (h0 : r ∉ hostOps1_W) (h1 : r ∉ ([main_v5] : List (Ref sig .tc))) (h2 : r ∉ hostOps0_W) :
    VM m c r = m ((c : Thread nD τ).loc r) :=
  (V3_of m (outs m) c r h0).trans (V2_arg m c r h1 h2)

/-! ## What the main region reads -/

theorem I_word0 : (inOf (VM m c)).cst word0 = bias 0x3F666666#32 (m ((c : Thread nD τ).loc main_arg9) (fun a => a.elim0)) := by
  rw [show word0 = ix1 (0 : Fin 2) from funext fun a => Fin.ext (by fin_cases a; rfl)]
  show (VM m c main_v13 : Vec Ideal S2 .f32) (ix1 (0 : Fin 2)) = _
  rw [VM_v13]
  exact cat_0 _ _ _

theorem I_word1 : (inOf (VM m c)).cst word1 = bias 0x3F7FBE77#32 (m ((c : Thread nD τ).loc main_arg9) (fun a => a.elim0)) := by
  rw [show word1 = ix1 (1 : Fin 2) from funext fun a => Fin.ext (by fin_cases a; rfl)]
  show (VM m c main_v13 : Vec Ideal S2 .f32) (ix1 (1 : Fin 2)) = _
  rw [VM_v13]
  exact cat_1 _ _ _

theorem I_w : (inOf (VM m c)).w = m ((c : Thread nD τ).loc main_arg4) := VM_arg m c main_arg4 (by decide) (by decide) (by decide)
theorem I_mq : (inOf (VM m c)).mq = m ((c : Thread nD τ).loc main_arg5) := VM_arg m c main_arg5 (by decide) (by decide) (by decide)
theorem I_ms : (inOf (VM m c)).ms = m ((c : Thread nD τ).loc main_arg6) := VM_arg m c main_arg6 (by decide) (by decide) (by decide)
theorem I_sq : (inOf (VM m c)).sq = m ((c : Thread nD τ).loc main_arg7) := VM_arg m c main_arg7 (by decide) (by decide) (by decide)
theorem I_ss : (inOf (VM m c)).ss = m ((c : Thread nD τ).loc main_arg8) := VM_arg m c main_arg8 (by decide) (by decide) (by decide)

variable (P : Fin 3584) (t : Fin 1536) (n : Fin 18944)

theorem y_at (y : Vec Ideal S6x256x18944 .fp8e5m2) : shapeCast S1536x18944 y shapeCasts_S6x256x18944_S1536x18944 (ix2 t n)
    = y (ix3 (⟨t.val / 256, by omega⟩ : Fin 6) (⟨t.val % 256, by omega⟩ : Fin 256) n) := by
  refine shapeCast_apply y _ _ _ ?_
  rw [Shape.rowMajor_val_three, Shape.rowMajor_val_two]
  show (t.val / 256 * 256 + t.val % 256) * 18944 + n.val = t.val * 18944 + n.val
  rw [show t.val / 256 * 256 + t.val % 256 = t.val by omega]

theorem I_dy (y : Vec Ideal S6x256x18944 .fp8e5m2) (hy : m ((c : Thread nD τ).loc main_arg2) = y) :
    (inOf (VM m c)).dy (ix t n) = y (ix3 (⟨t.val / 256, by omega⟩ : Fin 6) (⟨t.val % 256, by omega⟩ : Fin 256) n) := by
  rw [ix_eq, ← y_at t n y, ← hy, ← VM_v14]
  rfl

theorem x_at (x : Vec Ideal S6x256x3584 .fp8e4m3) : shapeCast S1536x3584 x shapeCasts_S6x256x3584_S1536x3584 (ix t P)
    = x (ix3 ⟨t.val / 256, by omega⟩ ⟨t.val % 256, by omega⟩ P) := by
  rw [ix_eq]
  pointwise []

theorem s_at (x : Vec Ideal S6x256 .f32) : shapeCast S1x1536 x shapeCasts_S6x256_S1x1536 (ix (0 : Fin 1) t)
    = x (ix2 ⟨t.val / 256, by omega⟩ ⟨t.val % 256, by omega⟩) := by
  rw [ix_eq]
  pointwise []

theorem I_xt (x : Vec Ideal S6x256x3584 .fp8e4m3) (xs ys : Vec Ideal S6x256 .f32) (hx : m ((c : Thread nD τ).loc main_arg0) = x)
    (hxs : m ((c : Thread nD τ).loc main_arg1) = xs) (hys : m ((c : Thread nD τ).loc main_arg3) = ys) :
    ((inOf (VM m c)).xt (ix P t) : EReal)
      = (x (ix3 ⟨t.val / 256, by omega⟩ ⟨t.val % 256, by omega⟩ P) * xs (ix2 ⟨t.val / 256, by omega⟩ ⟨t.val % 256, by omega⟩))
        * ys (ix2 ⟨t.val / 256, by omega⟩ ⟨t.val % 256, by omega⟩) := by
  have h : (inOf (VM m c)).xt = V2 m (outs m) c main_v5 := V3_of m (outs m) c main_v5 (by decide)
  rw [h, ← after0_eq m c main_v5, ix_eq]
  refine (congrFun (Pipeline.afterRegion_arr (dat0 (V1 m c) c) (V1 m c) launch0.win.arr_inj 3) (ix2 P t)).trans ?_
  refine (arr0_3 c (V1 m c) P t).trans ?_
  unfold xOf
  rw [V1_v0, V1_v2, V1_v4, hx, hxs, hys, ← x_at P t x, ← s_at t xs, ← s_at t ys]
  rfl

end Cert.KernelIdeal.Body

end
-- ==== Proof.RefTerms.lean ====
module

public import proofs.«01_k».proof.Proof.Gen.ReferenceIdeal.Frame
public import Idealize.ShloMosaic.Lib.Pipeline.Value
public import Idealize.ShloMosaic.Lib.Tactic

@[expose] public section

set_option maxRecDepth 16384

noncomputable section

/-! # The reference's run, read as values -/

namespace Cert.ReferenceIdeal.Ref

open Cert.ReferenceIdeal Cert.ReferenceIdeal.Facts₀
open Idealize.ShloMosaic Idealize.ShloMosaic.TcCoe

variable {F : FTy → Type} [FloatOps F] [Named F]

/-- The gradient, of the activations' codes and scales and the output gradient's. -/
def gT (x : Vec F S6x256x3584 .fp8e4m3) (xs : Vec F S6x256 .f32) (y : Vec F S6x256x18944 .fp8e5m2) (ys : Vec F S6x256 .f32) :
    FVec F S3584x148x128 .f32 :=
  shapeCast S3584x148x128
    (matmul dot_S1536x3584_S1536x18944_S3584x18944_0_0_1_1_n_n none
      (shapeCast S1536x3584 (mulf (extf .bf16 (x : FVec F S6x256x3584 .fp8e4m3) bitsLt_fp8e4m3_bf16)
        (broadcastTo S6x256x3584 (shapeCast S6x256x1 (truncf .bf16 (xs : FVec F S6x256 .f32) bitsLt_bf16_f32) shapeCasts_S6x256_S6x256x1)
          broadcasts_S6x256x1_S6x256x3584)) shapeCasts_S6x256x3584_S1536x3584)
      (shapeCast S1536x18944 (mulf (extf .bf16 (y : FVec F S6x256x18944 .fp8e5m2) bitsLt_fp8e5m2_bf16)
        (broadcastTo S6x256x18944 (shapeCast S6x256x1 (truncf .bf16 (ys : FVec F S6x256 .f32) bitsLt_bf16_f32) shapeCasts_S6x256_S6x256x1)
          broadcasts_S6x256x1_S6x256x18944)) shapeCasts_S6x256x18944_S1536x18944)
      (constant S3584x18944 .f32 0x00000000#32)) shapeCasts_S3584x18944_S3584x148x128

/-- Codes times their blocks' scales. -/
def oldT (q : Vec F S3584x18944 .i8) (s : Vec F S3584x148 .f32) : FVec F S3584x148x128 .f32 :=
  mulf (sitofp .f32 (shapeCast S3584x148x128 (q : IVec S3584x18944 8) shapeCasts_S3584x18944_S3584x148x128))
    (broadcastTo S3584x148x128 (shapeCast S3584x148x1 (s : FVec F S3584x148 .f32) shapeCasts_S3584x148_S3584x148x1)
      broadcasts_S3584x148x1_S3584x148x128)

/-- The new first moment; -/
def mT (g : FVec F S3584x148x128 .f32) (q : Vec F S3584x18944 .i8) (s : Vec F S3584x148 .f32) : FVec F S3584x148x128 .f32 :=
  addf (mulf (broadcast S3584x148x128 (Named.named κ "b1" 0x3F666666#32)) (oldT q s))
    (mulf (broadcast S3584x148x128 (Named.named κ "c1" 0x3DCCCCCD#32)) g)

/-- the new second moment. -/
def vT (g : FVec F S3584x148x128 .f32) (q : Vec F S3584x18944 .i8) (s : Vec F S3584x148 .f32) : FVec F S3584x148x128 .f32 :=
  addf (mulf (broadcast S3584x148x128 (Named.named κ "b2" 0x3F7FBE77#32)) (mulf (oldT q s) (oldT q s)))
    (mulf (broadcast S3584x148x128 (Named.named κ "c2" 0x3A83126F#32)) (mulf g g))

/-- The two words of the constants. -/
def word0 : (S2 : Shape).Idx := fun _ => ⟨0, by decide +revert⟩
def word1 : (S2 : Shape).Idx := fun _ => ⟨1, by decide +revert⟩

/-- The update. -/
def uT (b : Vec F S2 .f32) (m v : FVec F S3584x148x128 .f32) : FVec F S3584x18944 .f32 :=
  shapeCast S3584x18944
    (divf (mulf (broadcast S3584x148x128 (Named.named κ "minus_lr" 0xBA83126F#32)) (divf m (broadcast S3584x148x128 (b word0 : F .f32))))
      (addf (sqrt (divf v (broadcast S3584x148x128 (b word1 : F .f32)))) (broadcast S3584x148x128 (Scalar.ofBits .f32 0x322BCC77#32))))
    shapeCasts_S3584x148x128_S3584x18944

/-- The new weights. -/
def wT (w : Vec F S3584x18944 .bf16) (u : FVec F S3584x18944 .f32) : FVec F S3584x18944 .bf16 :=
  truncf .bf16 (addf (extf .f32 (w : FVec F S3584x18944 .bf16) bitsLt_bf16_f32) u) bitsLt_bf16_f32

/-- The scales of blocks of lanes. -/
def scaleT (v : FVec F S3584x148x128 .f32) : FVec F S3584x148 .f32 :=
  let a : FVec F S3584x148 .f32 := multiReduction .maximumf [2] S3584x148 (absf v) 0xFF800000#32 reduces_S3584x148x128_S3584x148 (.inl rfl) rfl
  divf (select (cmpf .oeq a (broadcast S3584x148 (Scalar.ofBits (F := F) .f32 0x00000000#32)))
    (broadcast S3584x148 (Scalar.ofBits (F := F) .f32 0x42FE0000#32)) a) (broadcast S3584x148 (Scalar.ofBits (F := F) .f32 0x42FE0000#32))

/-- The codes of blocks of lanes. -/
def codeT (v : FVec F S3584x148x128 .f32) : IVec S3584x18944 8 :=
  shapeCast S3584x18944
    (fptosi 8 (minimumf (broadcast S3584x148x128 (Scalar.ofBits (F := F) .f32 0x42FE0000#32))
      (maximumf (broadcast S3584x148x128 (Scalar.ofBits (F := F) .f32 0xC2FE0000#32))
        (roundeven (divf v (broadcastTo S3584x148x128 (shapeCast S3584x148x1 (scaleT v) shapeCasts_S3584x148_S3584x148x1)
          broadcasts_S3584x148x1_S3584x148x128))))))
    shapeCasts_S3584x148x128_S3584x18944

/-! ## The run -/

open Cert.ReferenceIdeal.Gen

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem word0_ld (x : Vec F S2 .f32) : View.ld x (Rect.unit ![0] ![1] Gen.inb_S2_S1_0) (Shape.Idx.first (Gen.numel1_S1.symm ▸ Nat.one_pos)) = x word0 := by
  exact congrArg x (funext fun a => by fin_cases a; rfl)

theorem word1_ld (x : Vec F S2 .f32) : View.ld x (Rect.unit ![1] ![1] Gen.inb_S2_S1_1) (Shape.Idx.first (Gen.numel1_S1.symm ▸ Nat.one_pos)) = x word1 := by
  exact congrArg x (funext fun a => by fin_cases a; rfl)

variable (c : Dev nD)
  (a0 : Memref sig .tc .smem S2 .f32) (h0 : a0.IsWhole)
  (a1 : Memref sig .tc .vmem S6x256x3584 .fp8e4m3) (h1 : a1.IsWhole)
  (a2 : Memref sig .tc .vmem S6x256 .f32) (h2 : a2.IsWhole)
  (a3 : Memref sig .tc .vmem S6x256x18944 .fp8e5m2) (h3 : a3.IsWhole)
  (a4 : Memref sig .tc .vmem S6x256 .f32) (h4 : a4.IsWhole)
  (a5 : Memref sig .tc .vmem S3584x18944 .bf16) (h5 : a5.IsWhole)
  (a6 : Memref sig .tc .vmem S3584x18944 .i8) (h6 : a6.IsWhole)
  (a7 : Memref sig .tc .vmem S3584x148 .f32) (h7 : a7.IsWhole)
  (a8 : Memref sig .tc .vmem S3584x18944 .i8) (h8 : a8.IsWhole)
  (a9 : Memref sig .tc .vmem S3584x148 .f32) (h9 : a9.IsWhole)
  (a10 : Memref sig .tc .vmem S3584x18944 .bf16) (h10 : a10.IsWhole)
  (a11 : Memref sig .tc .vmem S3584x18944 .f32) (h11 : a11.IsWhole)
  (a12 : Memref sig .tc .vmem S3584x18944 .i8) (h12 : a12.IsWhole)
  (a13 : Memref sig .tc .vmem S3584x148 .f32) (h13 : a13.IsWhole)
  (a14 : Memref sig .tc .vmem S3584x18944 .i8) (h14 : a14.IsWhole)
  (a15 : Memref sig .tc .vmem S3584x148 .f32) (h15 : a15.IsWhole)
  (x0 : Vec F S2 .f32)
  (x1 : Vec F S6x256x3584 .fp8e4m3)
  (x2 : Vec F S6x256 .f32)
  (x3 : Vec F S6x256x18944 .fp8e5m2)
  (x4 : Vec F S6x256 .f32)
  (x5 : Vec F S3584x18944 .bf16)
  (x6 : Vec F S3584x18944 .i8)
  (x7 : Vec F S3584x148 .f32)
  (x8 : Vec F S3584x18944 .i8)
  (x9 : Vec F S3584x148 .f32)

/-- What the run leaves in output 10. -/
theorem out_10 : out0_A_10 c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 = wT x5 (uT x0 (mT (gT x1 x2 x3 x4) x6 x7) (vT (gT x1 x2 x3 x4) x8 x9)) := by
  unfold out0_A_10
  rw [View.read_writes_eq_canon _ _ _ (cover0_A_10 c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9)]
  unfold kernelRun0_A
  dsimp only
  sl_unfold_words
  rw [View.canon_unit_zero hz2]
  simp only [View.readAt_eq_ld, h0.read_unread, h1.read_unread, h2.read_unread, h3.read_unread, h4.read_unread, h5.read_unread, h6.read_unread, h7.read_unread, h8.read_unread, h9.read_unread,
    View.ld_unit_zero (S := S3584x18944) hz2, View.ld_unit_zero (S := S3584x148) hz2, View.ld_unit_zero (S := S6x256) hz2,
    View.ld_unit_zero (S := S6x256x3584) hz3, View.ld_unit_zero (S := S6x256x18944) hz3]
  rw [word0_ld, word1_ld]
  rfl

/-- What the run leaves in output 11. -/
theorem out_11 : out0_A_11 c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 = (uT x0 (mT (gT x1 x2 x3 x4) x6 x7) (vT (gT x1 x2 x3 x4) x8 x9)) := by
  unfold out0_A_11
  rw [View.read_writes_eq_canon _ _ _ (cover0_A_11 c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9)]
  unfold kernelRun0_A
  dsimp only
  sl_unfold_words
  rw [View.canon_unit_zero hz2]
  simp only [View.readAt_eq_ld, h0.read_unread, h1.read_unread, h2.read_unread, h3.read_unread, h4.read_unread, h5.read_unread, h6.read_unread, h7.read_unread, h8.read_unread, h9.read_unread,
    View.ld_unit_zero (S := S3584x18944) hz2, View.ld_unit_zero (S := S3584x148) hz2, View.ld_unit_zero (S := S6x256) hz2,
    View.ld_unit_zero (S := S6x256x3584) hz3, View.ld_unit_zero (S := S6x256x18944) hz3]
  rw [word0_ld, word1_ld]
  rfl

/-- What the run leaves in output 12. -/
theorem out_12 : out0_A_12 c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 = codeT (mT (gT x1 x2 x3 x4) x6 x7) := by
  unfold out0_A_12
  rw [View.read_writes_eq_canon _ _ _ (cover0_A_12 c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9)]
  unfold kernelRun0_A
  dsimp only
  sl_unfold_words
  rw [View.canon_unit_zero hz2]
  simp only [View.readAt_eq_ld, h0.read_unread, h1.read_unread, h2.read_unread, h3.read_unread, h4.read_unread, h5.read_unread, h6.read_unread, h7.read_unread, h8.read_unread, h9.read_unread,
    View.ld_unit_zero (S := S3584x18944) hz2, View.ld_unit_zero (S := S3584x148) hz2, View.ld_unit_zero (S := S6x256) hz2,
    View.ld_unit_zero (S := S6x256x3584) hz3, View.ld_unit_zero (S := S6x256x18944) hz3]
  skip
  rfl

/-- What the run leaves in output 13. -/
theorem out_13 : out0_A_13 c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 = scaleT (mT (gT x1 x2 x3 x4) x6 x7) := by
  unfold out0_A_13
  rw [View.read_writes_eq_canon _ _ _ (cover0_A_13 c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9)]
  unfold kernelRun0_A
  dsimp only
  sl_unfold_words
  rw [View.canon_unit_zero hz2]
  simp only [View.readAt_eq_ld, h0.read_unread, h1.read_unread, h2.read_unread, h3.read_unread, h4.read_unread, h5.read_unread, h6.read_unread, h7.read_unread, h8.read_unread, h9.read_unread,
    View.ld_unit_zero (S := S3584x18944) hz2, View.ld_unit_zero (S := S3584x148) hz2, View.ld_unit_zero (S := S6x256) hz2,
    View.ld_unit_zero (S := S6x256x3584) hz3, View.ld_unit_zero (S := S6x256x18944) hz3]
  skip
  rfl

/-- What the run leaves in output 14. -/
theorem out_14 : out0_A_14 c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 = codeT (sqrt (vT (gT x1 x2 x3 x4) x8 x9)) := by
  unfold out0_A_14
  rw [View.read_writes_eq_canon _ _ _ (cover0_A_14 c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9)]
  unfold kernelRun0_A
  dsimp only
  sl_unfold_words
  rw [View.canon_unit_zero hz2]
  simp only [View.readAt_eq_ld, h0.read_unread, h1.read_unread, h2.read_unread, h3.read_unread, h4.read_unread, h5.read_unread, h6.read_unread, h7.read_unread, h8.read_unread, h9.read_unread,
    View.ld_unit_zero (S := S3584x18944) hz2, View.ld_unit_zero (S := S3584x148) hz2, View.ld_unit_zero (S := S6x256) hz2,
    View.ld_unit_zero (S := S6x256x3584) hz3, View.ld_unit_zero (S := S6x256x18944) hz3]
  skip
  rfl

/-- What the run leaves in output 15. -/
theorem out_15 : out0_A_15 c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 = scaleT (sqrt (vT (gT x1 x2 x3 x4) x8 x9)) := by
  unfold out0_A_15
  rw [View.read_writes_eq_canon _ _ _ (cover0_A_15 c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9)]
  unfold kernelRun0_A
  dsimp only
  sl_unfold_words
  rw [View.canon_unit_zero hz2]
  simp only [View.readAt_eq_ld, h0.read_unread, h1.read_unread, h2.read_unread, h3.read_unread, h4.read_unread, h5.read_unread, h6.read_unread, h7.read_unread, h8.read_unread, h9.read_unread,
    View.ld_unit_zero (S := S3584x18944) hz2, View.ld_unit_zero (S := S3584x148) hz2, View.ld_unit_zero (S := S6x256) hz2,
    View.ld_unit_zero (S := S6x256x3584) hz3, View.ld_unit_zero (S := S6x256x18944) hz3]
  skip
  rfl

end Cert.ReferenceIdeal.Ref

end
-- ==== Proof.RefElem.lean ====
module

public import proofs.«01_k».proof.Proof.RefTerms
public import proofs.«01_k».proof.Proof.Lanes
public import Idealize.ShloMosaic.Lib.Pointwise
public import Idealize.ShloMosaic.PureOps.Ideal

@[expose] public section

set_option maxRecDepth 16384

noncomputable section

/-! # The reference's values, entry by entry, over the extended reals -/

namespace Cert.ReferenceIdeal.Ref

open Cert.ReferenceIdeal Cert.ReferenceIdeal.Facts₀
open Idealize.ShloMosaic Idealize.ShloMosaic.TcCoe
open Cert.Adam

/-- The gradient at a row and a column: a sum over the tokens. -/
def gE (x : Vec Ideal S6x256x3584 .fp8e4m3) (xs : Vec Ideal S6x256 .f32) (y : Vec Ideal S6x256x18944 .fp8e5m2) (ys : Vec Ideal S6x256 .f32)
    (P : Fin 3584) (n : Fin 18944) : EReal :=
  ∑ t : Fin 1536, x (ix3 ⟨t.val / 256, by omega⟩ ⟨t.val % 256, by omega⟩ P) * xs (ix2 ⟨t.val / 256, by omega⟩ ⟨t.val % 256, by omega⟩)
    * (y (ix3 ⟨t.val / 256, by omega⟩ ⟨t.val % 256, by omega⟩ n) * ys (ix2 ⟨t.val / 256, by omega⟩ ⟨t.val % 256, by omega⟩))

theorem gT_apply (x : Vec Ideal S6x256x3584 .fp8e4m3) (xs : Vec Ideal S6x256 .f32) (y : Vec Ideal S6x256x18944 .fp8e5m2) (ys : Vec Ideal S6x256 .f32)
    (P : Fin 3584) (j : Fin 148) (l : Fin 128) : gT x xs y ys (ix3 P j l) = gE x xs y ys P (lane j l) := by
  pointwise [gT]
  rfl

theorem named_b1 : Named.named (F := Ideal) (φ := .f32) κ "b1" 0x3F666666#32 = ((9 / 10 : ℝ) : EReal) := rfl
theorem named_c1 : Named.named (F := Ideal) (φ := .f32) κ "c1" 0x3DCCCCCD#32 = ((1 / 10 : ℝ) : EReal) := rfl
theorem named_b2 : Named.named (F := Ideal) (φ := .f32) κ "b2" 0x3F7FBE77#32 = ((999 / 1000 : ℝ) : EReal) := rfl
theorem named_c2 : Named.named (F := Ideal) (φ := .f32) κ "c2" 0x3A83126F#32 = ((1 / 1000 : ℝ) : EReal) := rfl
theorem named_lr : Named.named (F := Ideal) (φ := .f32) κ "minus_lr" 0xBA83126F#32 = ((-1 / 1000 : ℝ) : EReal) := rfl

theorem mT_apply (g : FVec Ideal S3584x148x128 .f32) (q : Vec Ideal S3584x18944 .i8) (s : Vec Ideal S3584x148 .f32)
    (P : Fin 3584) (j : Fin 148) (l : Fin 128) :
    mT g q s (ix3 P j l) = rM (num (q (ix2 P (lane j l)))) (s (ix2 P j)) (g (ix3 P j l)) := by
  pointwise [mT, oldT]
  rw [named_b1, named_c1]; rfl

theorem vT_apply (g : FVec Ideal S3584x148x128 .f32) (q : Vec Ideal S3584x18944 .i8) (s : Vec Ideal S3584x148 .f32)
    (P : Fin 3584) (j : Fin 148) (l : Fin 128) :
    vT g q s (ix3 P j l) = rV (num (q (ix2 P (lane j l)))) (s (ix2 P j)) (g (ix3 P j l)) := by
  pointwise [vT, oldT]
  rw [named_b2, named_c2]; rfl

/-- The largest magnitude of a block. -/
def topT (v : FVec Ideal S3584x148x128 .f32) : FVec Ideal S3584x148 .f32 :=
  multiReduction .maximumf [2] S3584x148 (absf v) 0xFF800000#32 reduces_S3584x148x128_S3584x148 (.inl rfl) rfl

theorem topT_apply (v : FVec Ideal S3584x148x128 .f32) (P : Fin 3584) (j : Fin 148) :
    topT v (ix2 P j) = top fun l : Fin 128 => mag (v (ix3 P j l)) := by
  unfold topT
  refine (multiReduction_maximumf_eq_fold _ _ _ _ _ _).trans ?_
  refine (Shape.Reduces.fold_fiber_r3_a2 _ _ _ _ _).trans ?_
  show Finset.univ.fold max (Ideal.ofBits .f32 0xFF800000#32) _ = _
  rw [ofmInf]
  rfl

theorem sel_at (a x y z : EReal) :
    Scalar.select (FloatOps.cmpf (F := Ideal) (φ := .f32) .oeq a z) x y = if a = z then x else y := by
  by_cases h : a = z
  · rw [if_pos h]; subst h; simp [Scalar.select, FloatOps.cmpf, Ideal.cmp]
  · rw [if_neg h]; simp [Scalar.select, FloatOps.cmpf, Ideal.cmp, h]

/-- The scale of a block, of the largest magnitude of the block. -/
theorem scaleT_of {s : Shape} (a : FVec Ideal s .f32) (i : s.Idx) :
    divf (select (cmpf .oeq a (broadcast s (Scalar.ofBits (F := Ideal) .f32 0x00000000#32)))
      (broadcast s (Scalar.ofBits (F := Ideal) .f32 0x42FE0000#32)) a) (broadcast s (Scalar.ofBits (F := Ideal) .f32 0x42FE0000#32)) i = scaleOf (a i) := by
  unfold scaleOf
  rw [← of127, ← Ideal.ofBits_zero_f32, ← sel_at]
  rfl

theorem scaleT_apply (v : FVec Ideal S3584x148x128 .f32) (P : Fin 3584) (j : Fin 148) :
    scaleT v (ix2 P j) = scaleOf (top fun l : Fin 128 => mag (v (ix3 P j l))) := by
  rw [← topT_apply]
  exact scaleT_of (topT v) (ix2 P j)

theorem codeT_lane (v : FVec Ideal S3584x148x128 .f32) (P : Fin 3584) (n : Fin 18944) :
    codeT v (ix2 P n) = toCode (Ideal.div (v (ix3 P ⟨n.val / 128, by omega⟩ ⟨n.val % 128, by omega⟩)) (scaleT v (ix2 P ⟨n.val / 128, by omega⟩))) := by
  unfold codeT
  generalize scaleT v = sc
  pointwise []
  rw [of127, ofm127]; rfl

theorem lane_div (j : Fin 148) (l : Fin 128) (h : (lane j l).val / 128 < 148) : (⟨(lane j l).val / 128, h⟩ : Fin 148) = j :=
  Fin.ext (by show (j.val * 128 + l.val) / 128 = j.val; omega)
theorem lane_mod (j : Fin 148) (l : Fin 128) (h : (lane j l).val % 128 < 128) : (⟨(lane j l).val % 128, h⟩ : Fin 128) = l :=
  Fin.ext (by show (j.val * 128 + l.val) % 128 = l.val; omega)

theorem codeT_apply (v : FVec Ideal S3584x148x128 .f32) (P : Fin 3584) (j : Fin 148) (l : Fin 128) :
    codeT v (ix2 P (lane j l)) = toCode (Ideal.div (v (ix3 P j l)) (scaleT v (ix2 P j))) := by
  rw [codeT_lane, lane_div, lane_mod]

theorem uT_lane (b : Vec Ideal S2 .f32) (m v : FVec Ideal S3584x148x128 .f32) (P : Fin 3584) (n : Fin 18944) :
    uT b m v (ix2 P n) = Ideal.div (((-1 / 1000 : ℝ) : EReal) * Ideal.div (m (ix3 P ⟨n.val / 128, by omega⟩ ⟨n.val % 128, by omega⟩)) (b word0))
      (Ideal.sqrt (Ideal.div (v (ix3 P ⟨n.val / 128, by omega⟩ ⟨n.val % 128, by omega⟩)) (b word1)) + eps) := by
  pointwise [uT]
  rw [named_lr]; rfl

theorem uT_apply (b : Vec Ideal S2 .f32) (m v : FVec Ideal S3584x148x128 .f32) (P : Fin 3584) (j : Fin 148) (l : Fin 128) :
    uT b m v (ix2 P (lane j l)) = Ideal.div (((-1 / 1000 : ℝ) : EReal) * Ideal.div (m (ix3 P j l)) (b word0))
      (Ideal.sqrt (Ideal.div (v (ix3 P j l)) (b word1)) + eps) := by
  rw [uT_lane, lane_div, lane_mod]

theorem wT_apply (w : Vec Ideal S3584x18944 .bf16) (u : FVec Ideal S3584x18944 .f32) (i : S3584x18944.Idx) :
    wT w u i = (w i : EReal) + u i := rfl

theorem sqrt_apply (v : FVec Ideal S3584x148x128 .f32) (i : S3584x148x128.Idx) : sqrt v i = Ideal.sqrt (v i) := rfl

end Cert.ReferenceIdeal.Ref

end
-- ==== Proof.RefRun.lean ====
module

public import proofs.«01_k».proof.Proof.RefElem
public import proofs.«01_k».proof.Proof.Words
public import proofs.«01_k».proof.Proof.Gen.ReferenceIdeal.Value
public import Idealize.ShloMosaic.Lib.Pipeline.ValueKit
public import Idealize.ShloMosaic.Lib.Claim

@[expose] public section

set_option maxRecDepth 16384

noncomputable section

/-! # What the reference's results hold, of its arguments -/

namespace Cert.ReferenceIdeal.Ref

open Cert.ReferenceIdeal Cert.ReferenceIdeal.Gen Cert.ReferenceIdeal.Facts₀
open Idealize.ShloMosaic Idealize.ShloMosaic.TcCoe
open Idealize.ShloMosaic.Pipeline (Dat)
open Cert.Adam

variable {F : FTy → Type} [FloatOps F] [Named F]
variable (m : (ℓ : Loc nD τ sig) → Buf (Elt F) ℓ) (c : Dev nD)

/-- The one point. -/
def t₀ : Fin cfg0.N := ⟨0, by decide⟩

theorem at0 : (∀ a, win0_0.index t₀ a = 0) ∧ (∀ a, win0_1.index t₀ a = 0) ∧ (∀ a, win0_2.index t₀ a = 0) ∧ (∀ a, win0_3.index t₀ a = 0)
    ∧ (∀ a, win0_4.index t₀ a = 0) ∧ (∀ a, win0_5.index t₀ a = 0) ∧ (∀ a, win0_6.index t₀ a = 0) ∧ (∀ a, win0_7.index t₀ a = 0)
    ∧ (∀ a, win0_8.index t₀ a = 0) ∧ (∀ a, win0_9.index t₀ a = 0) ∧ (∀ a, win0_10.index t₀ a = 0) ∧ (∀ a, win0_11.index t₀ a = 0)
    ∧ (∀ a, win0_12.index t₀ a = 0) ∧ (∀ a, win0_13.index t₀ a = 0) ∧ (∀ a, win0_14.index t₀ a = 0) ∧ (∀ a, win0_15.index t₀ a = 0) := by
  decide +kernel

theorem blk_0 : iblk m c 0 t₀ = V m c main_v7 := by
  unfold iblk
  funext y
  refine congrArg (V m c main_v7) (funext fun a => Fin.ext ?_)
  obtain ⟨h, -⟩ := at0
  show (((cfg0.win 0).blk t₀).view.emb y a).val = (y a).val
  blk_simp [h a]

theorem blk_1 : iblk m c 1 t₀ = V m c main_arg0 := by
  unfold iblk
  funext y
  refine congrArg (V m c main_arg0) (funext fun a => Fin.ext ?_)
  obtain ⟨-, h, -⟩ := at0
  show (((cfg0.win 1).blk t₀).view.emb y a).val = (y a).val
  blk_simp [h a]

theorem blk_2 : iblk m c 2 t₀ = V m c main_arg1 := by
  unfold iblk
  funext y
  refine congrArg (V m c main_arg1) (funext fun a => Fin.ext ?_)
  obtain ⟨-, -, h, -⟩ := at0
  show (((cfg0.win 2).blk t₀).view.emb y a).val = (y a).val
  blk_simp [h a]

theorem blk_3 : iblk m c 3 t₀ = V m c main_arg2 := by
  unfold iblk
  funext y
  refine congrArg (V m c main_arg2) (funext fun a => Fin.ext ?_)
  obtain ⟨-, -, -, h, -⟩ := at0
  show (((cfg0.win 3).blk t₀).view.emb y a).val = (y a).val
  blk_simp [h a]

theorem blk_4 : iblk m c 4 t₀ = V m c main_arg3 := by
  unfold iblk
  funext y
  refine congrArg (V m c main_arg3) (funext fun a => Fin.ext ?_)
  obtain ⟨-, -, -, -, h, -⟩ := at0
  show (((cfg0.win 4).blk t₀).view.emb y a).val = (y a).val
  blk_simp [h a]

theorem blk_5 : iblk m c 5 t₀ = V m c main_arg4 := by
  unfold iblk
  funext y
  refine congrArg (V m c main_arg4) (funext fun a => Fin.ext ?_)
  obtain ⟨-, -, -, -, -, h, -⟩ := at0
  show (((cfg0.win 5).blk t₀).view.emb y a).val = (y a).val
  blk_simp [h a]

theorem blk_6 : iblk m c 6 t₀ = V m c main_arg5 := by
  unfold iblk
  funext y
  refine congrArg (V m c main_arg5) (funext fun a => Fin.ext ?_)
  obtain ⟨-, -, -, -, -, -, h, -⟩ := at0
  show (((cfg0.win 6).blk t₀).view.emb y a).val = (y a).val
  blk_simp [h a]

theorem blk_7 : iblk m c 7 t₀ = V m c main_arg6 := by
  unfold iblk
  funext y
  refine congrArg (V m c main_arg6) (funext fun a => Fin.ext ?_)
  obtain ⟨-, -, -, -, -, -, -, h, -⟩ := at0
  show (((cfg0.win 7).blk t₀).view.emb y a).val = (y a).val
  blk_simp [h a]

theorem blk_8 : iblk m c 8 t₀ = V m c main_arg7 := by
  unfold iblk
  funext y
  refine congrArg (V m c main_arg7) (funext fun a => Fin.ext ?_)
  obtain ⟨-, -, -, -, -, -, -, -, h, -⟩ := at0
  show (((cfg0.win 8).blk t₀).view.emb y a).val = (y a).val
  blk_simp [h a]

theorem blk_9 : iblk m c 9 t₀ = V m c main_arg8 := by
  unfold iblk
  funext y
  refine congrArg (V m c main_arg8) (funext fun a => Fin.ext ?_)
  obtain ⟨-, -, -, -, -, -, -, -, -, h, -⟩ := at0
  show (((cfg0.win 9).blk t₀).view.emb y a).val = (y a).val
  blk_simp [h a]

/-- The gradient, -/
def gR : FVec F S3584x148x128 .f32 := gT (m ((c : Thread nD τ).loc main_arg0)) (m ((c : Thread nD τ).loc main_arg1)) (m ((c : Thread nD τ).loc main_arg2)) (m ((c : Thread nD τ).loc main_arg3))
/-- the new first moment -/
def mR : FVec F S3584x148x128 .f32 := mT (gR m c) (m ((c : Thread nD τ).loc main_arg5)) (m ((c : Thread nD τ).loc main_arg6))
/-- and the new second moment, of the arguments. -/
def vR : FVec F S3584x148x128 .f32 := vT (gR m c) (m ((c : Thread nD τ).loc main_arg7)) (m ((c : Thread nD τ).loc main_arg8))
/-- The two words that divide the moments. -/
def bR : Vec F S2 .f32 := V m c main_v7

theorem fin_10 : (dats m 0 c).arrAt 10 cfg0.N = wT (m ((c : Thread nD τ).loc main_arg4)) (uT (bR m c) (mR m c) (vR m c)) := by
  funext y
  have e : ((cfg0.win 10).blk t₀).view.emb y = y := funext fun a => Fin.ext (by
    obtain ⟨-, -, -, -, -, -, -, -, -, -, h, -⟩ := at0
    show (((cfg0.win 10).blk t₀).view.emb y a).val = (y a).val
    blk_simp [h a])
  refine (congrArg ((dats m 0 c).arrAt 10 cfg0.N) e.symm).trans ?_
  refine ((dats m 0 c).arrAt_emb_eq_flushed 10 Value.disjoint10 t₀ (by decide +kernel) y).trans ?_
  rw [Value.flushed10_A, out_10]
  simp only [blk_0, blk_1, blk_2, blk_3, blk_4, blk_5, blk_6, blk_7, blk_8, blk_9, V_main_arg0, V_main_arg1, V_main_arg2, V_main_arg3,
    V_main_arg4, V_main_arg5, V_main_arg6, V_main_arg7, V_main_arg8]
  rfl

theorem fin_11 : (dats m 0 c).arrAt 11 cfg0.N = uT (bR m c) (mR m c) (vR m c) := by
  funext y
  have e : ((cfg0.win 11).blk t₀).view.emb y = y := funext fun a => Fin.ext (by
    obtain ⟨-, -, -, -, -, -, -, -, -, -, -, h, -⟩ := at0
    show (((cfg0.win 11).blk t₀).view.emb y a).val = (y a).val
    blk_simp [h a])
  refine (congrArg ((dats m 0 c).arrAt 11 cfg0.N) e.symm).trans ?_
  refine ((dats m 0 c).arrAt_emb_eq_flushed 11 Value.disjoint11 t₀ (by decide +kernel) y).trans ?_
  rw [Value.flushed11_A, out_11]
  simp only [blk_0, blk_1, blk_2, blk_3, blk_4, blk_5, blk_6, blk_7, blk_8, blk_9, V_main_arg0, V_main_arg1, V_main_arg2, V_main_arg3,
    V_main_arg4, V_main_arg5, V_main_arg6, V_main_arg7, V_main_arg8]
  rfl

theorem fin_12 : (dats m 0 c).arrAt 12 cfg0.N = codeT (mR m c) := by
  funext y
  have e : ((cfg0.win 12).blk t₀).view.emb y = y := funext fun a => Fin.ext (by
    obtain ⟨-, -, -, -, -, -, -, -, -, -, -, -, h, -⟩ := at0
    show (((cfg0.win 12).blk t₀).view.emb y a).val = (y a).val
    blk_simp [h a])
  refine (congrArg ((dats m 0 c).arrAt 12 cfg0.N) e.symm).trans ?_
  refine ((dats m 0 c).arrAt_emb_eq_flushed 12 Value.disjoint12 t₀ (by decide +kernel) y).trans ?_
  rw [Value.flushed12_A, out_12]
  simp only [blk_0, blk_1, blk_2, blk_3, blk_4, blk_5, blk_6, blk_7, blk_8, blk_9, V_main_arg0, V_main_arg1, V_main_arg2, V_main_arg3,
    V_main_arg4, V_main_arg5, V_main_arg6, V_main_arg7, V_main_arg8]
  rfl

theorem fin_13 : (dats m 0 c).arrAt 13 cfg0.N = scaleT (mR m c) := by
  funext y
  have e : ((cfg0.win 13).blk t₀).view.emb y = y := funext fun a => Fin.ext (by
    obtain ⟨-, -, -, -, -, -, -, -, -, -, -, -, -, h, -⟩ := at0
    show (((cfg0.win 13).blk t₀).view.emb y a).val = (y a).val
    blk_simp [h a])
  refine (congrArg ((dats m 0 c).arrAt 13 cfg0.N) e.symm).trans ?_
  refine ((dats m 0 c).arrAt_emb_eq_flushed 13 Value.disjoint13 t₀ (by decide +kernel) y).trans ?_
  rw [Value.flushed13_A, out_13]
  simp only [blk_0, blk_1, blk_2, blk_3, blk_4, blk_5, blk_6, blk_7, blk_8, blk_9, V_main_arg0, V_main_arg1, V_main_arg2, V_main_arg3,
    V_main_arg4, V_main_arg5, V_main_arg6, V_main_arg7, V_main_arg8]
  rfl

theorem fin_14 : (dats m 0 c).arrAt 14 cfg0.N = codeT (sqrt (vR m c)) := by
  funext y
  have e : ((cfg0.win 14).blk t₀).view.emb y = y := funext fun a => Fin.ext (by
    obtain ⟨-, -, -, -, -, -, -, -, -, -, -, -, -, -, h, -⟩ := at0
    show (((cfg0.win 14).blk t₀).view.emb y a).val = (y a).val
    blk_simp [h a])
  refine (congrArg ((dats m 0 c).arrAt 14 cfg0.N) e.symm).trans ?_
  refine ((dats m 0 c).arrAt_emb_eq_flushed 14 Value.disjoint14 t₀ (by decide +kernel) y).trans ?_
  rw [Value.flushed14_A, out_14]
  simp only [blk_0, blk_1, blk_2, blk_3, blk_4, blk_5, blk_6, blk_7, blk_8, blk_9, V_main_arg0, V_main_arg1, V_main_arg2, V_main_arg3,
    V_main_arg4, V_main_arg5, V_main_arg6, V_main_arg7, V_main_arg8]
  rfl

theorem fin_15 : (dats m 0 c).arrAt 15 cfg0.N = scaleT (sqrt (vR m c)) := by
  funext y
  have e : ((cfg0.win 15).blk t₀).view.emb y = y := funext fun a => Fin.ext (by
    obtain ⟨-, -, -, -, -, -, -, -, -, -, -, -, -, -, -, h⟩ := at0
    show (((cfg0.win 15).blk t₀).view.emb y a).val = (y a).val
    blk_simp [h a])
  refine (congrArg ((dats m 0 c).arrAt 15 cfg0.N) e.symm).trans ?_
  refine ((dats m 0 c).arrAt_emb_eq_flushed 15 Value.disjoint15 t₀ (by decide +kernel) y).trans ?_
  rw [Value.flushed15_A, out_15]
  simp only [blk_0, blk_1, blk_2, blk_3, blk_4, blk_5, blk_6, blk_7, blk_8, blk_9, V_main_arg0, V_main_arg1, V_main_arg2, V_main_arg3,
    V_main_arg4, V_main_arg5, V_main_arg6, V_main_arg7, V_main_arg8]
  rfl

theorem b_eq (m : (ℓ : Loc nD τ sig) → Buf (Elt Ideal) ℓ) (c : Dev nD) : bR m c
    = concatenate (α := EReal) S2 0 [⟨S1, fun _ => bias 0x3F666666#32 (m ((c : Thread nD τ).loc main_arg9) (fun a => a.elim0))⟩,
        ⟨S1, fun _ => bias 0x3F7FBE77#32 (m ((c : Thread nD τ).loc main_arg9) (fun a => a.elim0))⟩] Gen.concatenates_S1_S1_S2_d0 := by
  unfold bR V
  after_results
  refine congrArg₂ (fun a b : FVec Ideal S1 .f32 => concatenate (α := EReal) S2 0 [⟨S1, a⟩, ⟨S1, b⟩] Gen.concatenates_S1_S1_S2_d0)
    (funext fun i => ?_) (funext fun i => ?_)
  · exact bias_at _ _ _
  · exact bias_at _ _ _

theorem b_word0 (m : (ℓ : Loc nD τ sig) → Buf (Elt Ideal) ℓ) (c : Dev nD) :
    bR m c word0 = bias 0x3F666666#32 (m ((c : Thread nD τ).loc main_arg9) (fun a => a.elim0)) := by
  rw [show word0 = ix1 (0 : Fin 2) from funext fun a => Fin.ext (by fin_cases a; rfl), b_eq]
  exact cat_0 _ _ _

theorem b_word1 (m : (ℓ : Loc nD τ sig) → Buf (Elt Ideal) ℓ) (c : Dev nD) :
    bR m c word1 = bias 0x3F7FBE77#32 (m ((c : Thread nD τ).loc main_arg9) (fun a => a.elim0)) := by
  rw [show word1 = ix1 (1 : Fin 2) from funext fun a => Fin.ext (by fin_cases a; rfl), b_eq]
  exact cat_1 _ _ _

end Cert.ReferenceIdeal.Ref

end
-- ==== Proof.Algebraic.lean ====
module

public import proofs.«01_k».proof.Defs
public import proofs.«01_k».proof.Proof.Blocks
public import proofs.«01_k».proof.Proof.KerRun
public import proofs.«01_k».proof.Proof.KerHost
public import proofs.«01_k».proof.Proof.RefRun

@[expose] public section

set_option maxRecDepth 16384

noncomputable section

/-! # The kernel's six results are the reference's, over the extended reals -/

namespace Cert.Algebra

open Idealize.ShloMosaic Idealize.ShloMosaic.TcCoe Idealize.SL.Sem
open Cert.Adam
open Cert.KernelIdeal.Gen (V4)
open Cert.KernelIdeal.Body (outs VM inOf gK kMo kVo kUp kTop kBot)
open Cert.ReferenceIdeal.Ref (gE gT mT vT uT wT codeT scaleT gR mR vR bR)

abbrev MemK := (ℓ : Loc Cert.KernelIdeal.nD Cert.KernelIdeal.τ Cert.KernelIdeal.sig) → Buf (Elt Ideal) ℓ
abbrev MemR := (ℓ : Loc Cert.ReferenceIdeal.nD Cert.ReferenceIdeal.τ Cert.ReferenceIdeal.sig) → Buf (Elt Ideal) ℓ

/-- The two programs start from the same arguments on a core. -/
structure Same (m : MemK) (m' : MemR) (c : Dev Cert.KernelIdeal.nD) : Prop where
  a0 : m' ((c : Thread Cert.ReferenceIdeal.nD Cert.ReferenceIdeal.τ).loc Cert.ReferenceIdeal.main_arg0) = m ((c : Thread Cert.KernelIdeal.nD Cert.KernelIdeal.τ).loc Cert.KernelIdeal.main_arg0)
  a1 : m' ((c : Thread Cert.ReferenceIdeal.nD Cert.ReferenceIdeal.τ).loc Cert.ReferenceIdeal.main_arg1) = m ((c : Thread Cert.KernelIdeal.nD Cert.KernelIdeal.τ).loc Cert.KernelIdeal.main_arg1)
  a2 : m' ((c : Thread Cert.ReferenceIdeal.nD Cert.ReferenceIdeal.τ).loc Cert.ReferenceIdeal.main_arg2) = m ((c : Thread Cert.KernelIdeal.nD Cert.KernelIdeal.τ).loc Cert.KernelIdeal.main_arg2)
  a3 : m' ((c : Thread Cert.ReferenceIdeal.nD Cert.ReferenceIdeal.τ).loc Cert.ReferenceIdeal.main_arg3) = m ((c : Thread Cert.KernelIdeal.nD Cert.KernelIdeal.τ).loc Cert.KernelIdeal.main_arg3)
  a4 : m' ((c : Thread Cert.ReferenceIdeal.nD Cert.ReferenceIdeal.τ).loc Cert.ReferenceIdeal.main_arg4) = m ((c : Thread Cert.KernelIdeal.nD Cert.KernelIdeal.τ).loc Cert.KernelIdeal.main_arg4)
  a5 : m' ((c : Thread Cert.ReferenceIdeal.nD Cert.ReferenceIdeal.τ).loc Cert.ReferenceIdeal.main_arg5) = m ((c : Thread Cert.KernelIdeal.nD Cert.KernelIdeal.τ).loc Cert.KernelIdeal.main_arg5)
  a6 : m' ((c : Thread Cert.ReferenceIdeal.nD Cert.ReferenceIdeal.τ).loc Cert.ReferenceIdeal.main_arg6) = m ((c : Thread Cert.KernelIdeal.nD Cert.KernelIdeal.τ).loc Cert.KernelIdeal.main_arg6)
  a7 : m' ((c : Thread Cert.ReferenceIdeal.nD Cert.ReferenceIdeal.τ).loc Cert.ReferenceIdeal.main_arg7) = m ((c : Thread Cert.KernelIdeal.nD Cert.KernelIdeal.τ).loc Cert.KernelIdeal.main_arg7)
  a8 : m' ((c : Thread Cert.ReferenceIdeal.nD Cert.ReferenceIdeal.τ).loc Cert.ReferenceIdeal.main_arg8) = m ((c : Thread Cert.KernelIdeal.nD Cert.KernelIdeal.τ).loc Cert.KernelIdeal.main_arg8)
  a9 : m' ((c : Thread Cert.ReferenceIdeal.nD Cert.ReferenceIdeal.τ).loc Cert.ReferenceIdeal.main_arg9) = m ((c : Thread Cert.KernelIdeal.nD Cert.KernelIdeal.τ).loc Cert.KernelIdeal.main_arg9)

variable {m : MemK} {m' : MemR} {c : Dev Cert.KernelIdeal.nD} (h : Same m m' c)
include h

/-- The two gradients are one sum: the kernel scales the activations by both scales, the reference each side by its own. -/
theorem grad (P : Fin 3584) (j : Fin 148) (l : Fin 128) : gK (inOf (VM m c)) P (lane j l) = gR m' c (ix3 P j l) := by
  show _ = gT (F := Ideal) _ _ _ _ (ix3 P j l)
  rw [Cert.ReferenceIdeal.Ref.gT_apply]
  unfold gK gE
  refine Finset.sum_congr rfl fun t _ => ?_
  rw [Cert.KernelIdeal.Body.I_xt m c P t _ _ _ h.a0.symm h.a1.symm h.a3.symm, Cert.KernelIdeal.Body.I_dy m c t (lane j l) _ h.a2.symm]
  ac_rfl

theorem mom (P : Fin 3584) (j : Fin 148) (l : Fin 128) : mR m' c (ix3 P j l)
    = rM (num ((inOf (VM m c)).mq (ix2 P (lane j l)))) ((inOf (VM m c)).ms (ix2 P j)) (gK (inOf (VM m c)) P (lane j l)) := by
  rw [Cert.KernelIdeal.Body.I_mq, Cert.KernelIdeal.Body.I_ms, grad h, ← h.a5, ← h.a6]
  exact Cert.ReferenceIdeal.Ref.mT_apply _ _ _ P j l

theorem var (P : Fin 3584) (j : Fin 148) (l : Fin 128) : vR m' c (ix3 P j l)
    = rV (num ((inOf (VM m c)).sq (ix2 P (lane j l)))) ((inOf (VM m c)).ss (ix2 P j)) (gK (inOf (VM m c)) P (lane j l)) := by
  rw [Cert.KernelIdeal.Body.I_sq, Cert.KernelIdeal.Body.I_ss, grad h, ← h.a7, ← h.a8]
  exact Cert.ReferenceIdeal.Ref.vT_apply _ _ _ P j l

/-! ## The codes and the scales -/

theorem eq_3 : (V4 m (outs m) c Cert.KernelIdeal.main_v15_3 : Vec Ideal Cert.KernelIdeal.S3584x148 .f32) = scaleT (mR m' c) := by
  funext i
  obtain ⟨P, j, rfl⟩ : ∃ (P : Fin 3584) (j : Fin 148), i = ix2 P j := ⟨i 0, i 1, eq_ix2 i⟩
  refine (Cert.KernelIdeal.Body.res_3 c P j m).trans ?_
  refine Eq.trans ?_ (Cert.ReferenceIdeal.Ref.scaleT_apply (mR m' c) P j).symm
  simp only [mom h]
  exact m_scale (fun l => num ((inOf (VM m c)).mq (ix2 P (lane j l)))) (fun l => gK (inOf (VM m c)) P (lane j l)) _

theorem eq_5 : (V4 m (outs m) c Cert.KernelIdeal.main_v15_5 : Vec Ideal Cert.KernelIdeal.S3584x148 .f32) = scaleT (sqrt (vR m' c)) := by
  funext i
  obtain ⟨P, j, rfl⟩ : ∃ (P : Fin 3584) (j : Fin 148), i = ix2 P j := ⟨i 0, i 1, eq_ix2 i⟩
  refine (Cert.KernelIdeal.Body.res_5 c P j m).trans ?_
  refine Eq.trans ?_ (Cert.ReferenceIdeal.Ref.scaleT_apply (sqrt (vR m' c)) P j).symm
  simp only [Cert.ReferenceIdeal.Ref.sqrt_apply, var h]
  exact s_scale (fun l => num ((inOf (VM m c)).sq (ix2 P (lane j l)))) (fun l => gK (inOf (VM m c)) P (lane j l)) _

theorem eq_2 : (V4 m (outs m) c Cert.KernelIdeal.main_v15_2 : Vec Ideal Cert.KernelIdeal.S3584x18944 .i8) = codeT (mR m' c) := by
  funext i
  obtain ⟨P, n, rfl⟩ : ∃ (P : Fin 3584) (n : Fin 18944), i = ix2 P n := ⟨i 0, i 1, eq_ix2 i⟩
  obtain ⟨j, l, rfl⟩ : ∃ (j : Fin 148) (l : Fin 128), n = lane j l := ⟨_, _, lane_surj n⟩
  refine (Cert.KernelIdeal.Body.res_2 c P j l m).trans ?_
  refine Eq.trans ?_ (Cert.ReferenceIdeal.Ref.codeT_apply (mR m' c) P j l).symm
  rw [Cert.ReferenceIdeal.Ref.scaleT_apply]
  simp only [mom h]
  exact m_code (fun l => num ((inOf (VM m c)).mq (ix2 P (lane j l)))) (fun l => gK (inOf (VM m c)) P (lane j l)) _ l

theorem eq_4 : (V4 m (outs m) c Cert.KernelIdeal.main_v15_4 : Vec Ideal Cert.KernelIdeal.S3584x18944 .i8) = codeT (sqrt (vR m' c)) := by
  funext i
  obtain ⟨P, n, rfl⟩ : ∃ (P : Fin 3584) (n : Fin 18944), i = ix2 P n := ⟨i 0, i 1, eq_ix2 i⟩
  obtain ⟨j, l, rfl⟩ : ∃ (j : Fin 148) (l : Fin 128), n = lane j l := ⟨_, _, lane_surj n⟩
  refine (Cert.KernelIdeal.Body.res_4 c P j l m).trans ?_
  refine Eq.trans ?_ (Cert.ReferenceIdeal.Ref.codeT_apply (sqrt (vR m' c)) P j l).symm
  rw [Cert.ReferenceIdeal.Ref.scaleT_apply]
  simp only [Cert.ReferenceIdeal.Ref.sqrt_apply, var h]
  exact s_code (fun l => num ((inOf (VM m c)).sq (ix2 P (lane j l)))) (fun l => gK (inOf (VM m c)) P (lane j l)) _ l

/-! ## The update and the weights -/

variable (hs : 1 ≤ (m ((c : Thread Cert.KernelIdeal.nD Cert.KernelIdeal.τ).loc Cert.KernelIdeal.main_arg9) (fun a => a.elim0) : BitVec 32).toInt)
include hs

theorem upd (P : Fin 3584) (j : Fin 148) (l : Fin 128) : kUp (inOf (VM m c)) P j l = uT (bR m' c) (mR m' c) (vR m' c) (ix2 P (lane j l)) := by
  refine Eq.trans ?_ (Cert.ReferenceIdeal.Ref.uT_apply (bR m' c) (mR m' c) (vR m' c) P j l).symm
  obtain ⟨b₁, p₁, e₁⟩ := bias_pos of_b1 (by norm_num) (by norm_num) _ hs
  obtain ⟨b₂, p₂, e₂⟩ := bias_pos of_b2 (by norm_num) (by norm_num) _ hs
  obtain ⟨e, pe, ee⟩ := eps_pos
  have k₁ : (inOf (VM m c)).cst Cert.KernelIdeal.Body.word0 = (b₁ : EReal) := (Cert.KernelIdeal.Body.I_word0 m c).trans e₁
  have k₂ : (inOf (VM m c)).cst Cert.KernelIdeal.Body.word1 = (b₂ : EReal) := (Cert.KernelIdeal.Body.I_word1 m c).trans e₂
  have r₁ : bR m' c Cert.ReferenceIdeal.Ref.word0 = (b₁ : EReal) := (Cert.ReferenceIdeal.Ref.b_word0 m' c).trans
    ((congrArg (fun a : IVec T0 32 => bias 0x3F666666#32 (a fun i => i.elim0)) h.a9).trans e₁)
  have r₂ : bR m' c Cert.ReferenceIdeal.Ref.word1 = (b₂ : EReal) := (Cert.ReferenceIdeal.Ref.b_word1 m' c).trans
    ((congrArg (fun a : IVec T0 32 => bias 0x3F7FBE77#32 (a fun i => i.elim0)) h.a9).trans e₂)
  rw [mom h, var h, r₁, r₂]
  unfold kUp
  rw [k₁, k₂, ee]
  exact update p₁ p₂ pe _ _ _ _ _

theorem eq_1 : (V4 m (outs m) c Cert.KernelIdeal.main_v15_1 : Vec Ideal Cert.KernelIdeal.S3584x18944 .f32) = uT (bR m' c) (mR m' c) (vR m' c) := by
  funext i
  obtain ⟨P, n, rfl⟩ : ∃ (P : Fin 3584) (n : Fin 18944), i = ix2 P n := ⟨i 0, i 1, eq_ix2 i⟩
  obtain ⟨j, l, rfl⟩ : ∃ (j : Fin 148) (l : Fin 128), n = lane j l := ⟨_, _, lane_surj n⟩
  exact (Cert.KernelIdeal.Body.res_1 c P j l m).trans (upd h hs P j l)

theorem eq_0 : (V4 m (outs m) c Cert.KernelIdeal.main_v15_0 : Vec Ideal Cert.KernelIdeal.S3584x18944 .bf16)
    = wT (m' ((c : Thread Cert.ReferenceIdeal.nD Cert.ReferenceIdeal.τ).loc Cert.ReferenceIdeal.main_arg4)) (uT (bR m' c) (mR m' c) (vR m' c)) := by
  funext i
  obtain ⟨P, n, rfl⟩ : ∃ (P : Fin 3584) (n : Fin 18944), i = ix2 P n := ⟨i 0, i 1, eq_ix2 i⟩
  obtain ⟨j, l, rfl⟩ : ∃ (j : Fin 148) (l : Fin 128), n = lane j l := ⟨_, _, lane_surj n⟩
  refine (Cert.KernelIdeal.Body.res_0 c P j l m).trans ?_
  rw [upd h hs P j l, Cert.KernelIdeal.Body.I_w, ← h.a4]
  rfl

omit h hs in
/-- A step that the precondition admits is at least one. -/
theorem step_pos [Cert.Pre_step_is_positive.Facts] (hp : Cert.Pre_KernelIdeal_step_is_positive m) (c : Dev Cert.KernelIdeal.nD) :
    1 ≤ (m ((c : Thread Cert.KernelIdeal.nD Cert.KernelIdeal.τ).loc Cert.KernelIdeal.main_arg9) (fun a => a.elim0) : BitVec 32).toInt := by
  have h0 : Scalar.cmpi .sge (m ((c : Thread Cert.KernelIdeal.nD Cert.KernelIdeal.τ).loc Cert.KernelIdeal.main_arg9) (fun a => a.elim0) : BitVec 32) 1#32 = 1#1 :=
    congrFun (hp c) (fun a => a.elim0)
  generalize (m ((c : Thread Cert.KernelIdeal.nD Cert.KernelIdeal.τ).loc Cert.KernelIdeal.main_arg9) (fun a => a.elim0) : BitVec 32) = t at h0 ⊢
  by_contra hn
  rw [show Scalar.cmpi .sge t 1#32 = 0#1 by
    simp only [Scalar.cmpi, IntOp.cmpi, BitVec.sle]
    rw [show (1#32).toInt = 1 from rfl, decide_eq_false hn]
    rfl] at h0
  exact absurd h0 (by decide)

end Cert.Algebra

end
-- ==== Proof.lean ====
module

public import proofs.«01_k».proof.Defs
public import proofs.«01_k».proof.Proof.Frames
public import proofs.«01_k».proof.Proof.RefValue
public import proofs.«01_k».proof.Proof.Algebraic
public import proofs.«01_k».proof.Proof.Gen.ReferenceIdeal.Frame

@[expose] public section

noncomputable section

namespace Cert.Proof

open Idealize.ShloMosaic Idealize.ShloMosaic.TcCoe Idealize.SL.Sem

/-- Each constant named in the idealized kernel stands, at bit patterns, for the printed literal. -/
theorem preserves : Cert.preserves_Kernel_KernelIdeal :=
  ⟨IdealRules.named_const.statement Cert.KernelIdeal.κ "b1_over_c1" .f32 0x41100000#32 ((9 : ℝ) : EReal) rfl,
   IdealRules.named_const.statement Cert.KernelIdeal.κ "sqrt_b2_over_c2" .f32 0x41FCDB0F#32 ((Real.sqrt 999 : ℝ) : EReal) rfl,
   IdealRules.named_const.statement Cert.KernelIdeal.κ "c2" .f32 0x3A83126F#32 ((1 / 1000 : ℝ) : EReal) rfl,
   IdealRules.named_const.statement Cert.KernelIdeal.κ "minus_lr_c1" .f32 0xB8D1B717#32 ((-1 / 10000 : ℝ) : EReal) rfl,
   IdealRules.named_const.statement Cert.KernelIdeal.κ "c1" .f32 0x3DCCCCCD#32 ((1 / 10 : ℝ) : EReal) rfl,
   IdealRules.named_const.statement Cert.KernelIdeal.κ "sqrt_c2" .f32 0x3D0186E2#32 ((Real.sqrt (1 / 1000) : ℝ) : EReal) rfl⟩

/-- Over the extended reals, from the same arguments with a step of at least one, the kernel's six results are the reference's. -/
theorem algebraic [Cert.Pre_step_is_positive.Facts] :
    Cert.algebraic_KernelIdeal_ReferenceIdeal_pre_step_is_positive := by
  intro m g m' g' hp ha
  have same : ∀ c : Dev Cert.KernelIdeal.nD, Cert.Algebra.Same m m' c := fun c => by
    obtain ⟨a0, a1, a2, a3, a4, a5, a6, a7, a8, a9⟩ := ha c
    exact ⟨a0, a1, a2, a3, a4, a5, a6, a7, a8, a9⟩
  have pos := Cert.Algebra.step_pos hp
  refine ⟨fun c => Cert.KernelIdeal.Gen.V4 m (Cert.KernelIdeal.Body.outs m) c Cert.KernelIdeal.main_v15_0, fun c => Cert.KernelIdeal.Gen.V4 m (Cert.KernelIdeal.Body.outs m) c Cert.KernelIdeal.main_v15_1,
    fun c => Cert.KernelIdeal.Gen.V4 m (Cert.KernelIdeal.Body.outs m) c Cert.KernelIdeal.main_v15_2, fun c => Cert.KernelIdeal.Gen.V4 m (Cert.KernelIdeal.Body.outs m) c Cert.KernelIdeal.main_v15_3,
    fun c => Cert.KernelIdeal.Gen.V4 m (Cert.KernelIdeal.Body.outs m) c Cert.KernelIdeal.main_v15_4, fun c => Cert.KernelIdeal.Gen.V4 m (Cert.KernelIdeal.Body.outs m) c Cert.KernelIdeal.main_v15_5, ?_, ?_⟩
  · refine (θ_run _ _ _).mono (fun _ h c => ⟨h.1 c Cert.KernelIdeal.main_v15_0 (by simp), h.1 c Cert.KernelIdeal.main_v15_1 (by simp), h.1 c Cert.KernelIdeal.main_v15_2 (by simp), h.1 c Cert.KernelIdeal.main_v15_3 (by simp), h.1 c Cert.KernelIdeal.main_v15_4 (by simp), h.1 c Cert.KernelIdeal.main_v15_5 (by simp),
      (h.1 c Cert.KernelIdeal.main_arg0 (by simp)).trans (Cert.KernelIdeal.Gen.V4_main_arg0 m (Cert.KernelIdeal.Body.outs m) c),
      (h.1 c Cert.KernelIdeal.main_arg1 (by simp)).trans (Cert.KernelIdeal.Gen.V4_main_arg1 m (Cert.KernelIdeal.Body.outs m) c),
      (h.1 c Cert.KernelIdeal.main_arg2 (by simp)).trans (Cert.KernelIdeal.Gen.V4_main_arg2 m (Cert.KernelIdeal.Body.outs m) c),
      (h.1 c Cert.KernelIdeal.main_arg3 (by simp)).trans (Cert.KernelIdeal.Gen.V4_main_arg3 m (Cert.KernelIdeal.Body.outs m) c),
      (h.1 c Cert.KernelIdeal.main_arg4 (by simp)).trans (Cert.KernelIdeal.Gen.V4_main_arg4 m (Cert.KernelIdeal.Body.outs m) c),
      (h.1 c Cert.KernelIdeal.main_arg5 (by simp)).trans (Cert.KernelIdeal.Gen.V4_main_arg5 m (Cert.KernelIdeal.Body.outs m) c),
      (h.1 c Cert.KernelIdeal.main_arg6 (by simp)).trans (Cert.KernelIdeal.Gen.V4_main_arg6 m (Cert.KernelIdeal.Body.outs m) c),
      (h.1 c Cert.KernelIdeal.main_arg7 (by simp)).trans (Cert.KernelIdeal.Gen.V4_main_arg7 m (Cert.KernelIdeal.Body.outs m) c),
      (h.1 c Cert.KernelIdeal.main_arg8 (by simp)).trans (Cert.KernelIdeal.Gen.V4_main_arg8 m (Cert.KernelIdeal.Body.outs m) c),
      (h.1 c Cert.KernelIdeal.main_arg9 (by simp)).trans (Cert.KernelIdeal.Gen.V4_main_arg9 m (Cert.KernelIdeal.Body.outs m) c)⟩)
      (Cert.KernelIdeal.Body.run_all m g)
  · refine (θ_run _ _ _).mono (fun _ h c => ?_) (Cert.ReferenceIdeal.Value.run_blocks m' g')
    obtain ⟨p0, p1, p2, p3, p4, p5, rest⟩ := h c
    exact ⟨(p0).trans ((Cert.ReferenceIdeal.Ref.fin_10 m' c).trans (Cert.Algebra.eq_0 (same c) (pos c)).symm),
      (p1).trans ((Cert.ReferenceIdeal.Ref.fin_11 m' c).trans (Cert.Algebra.eq_1 (same c) (pos c)).symm),
      (p2).trans ((Cert.ReferenceIdeal.Ref.fin_12 m' c).trans (Cert.Algebra.eq_2 (same c)).symm),
      (p3).trans ((Cert.ReferenceIdeal.Ref.fin_13 m' c).trans (Cert.Algebra.eq_3 (same c)).symm),
      (p4).trans ((Cert.ReferenceIdeal.Ref.fin_14 m' c).trans (Cert.Algebra.eq_4 (same c)).symm),
      (p5).trans ((Cert.ReferenceIdeal.Ref.fin_15 m' c).trans (Cert.Algebra.eq_5 (same c)).symm), rest⟩

/-- The certificate's claim. -/
theorem claim : Cert.Claim :=
  ⟨Cert.Kernel.Gen.facts, Cert.KernelIdeal.Gen.facts, Cert.ReferenceIdeal.Gen.facts, ⟨⟩,
   fun m g _ => frame_Kernel m g, fun m g _ => frame_KernelIdeal m g, fun m g _ => frame_KernelIdeal m g,
   fun m g _ => Cert.ReferenceIdeal.Gen.frame m g, fun m g _ => Cert.ReferenceIdeal.Gen.frame m g, preserves,
   @algebraic ⟨⟩⟩

end Cert.Proof

end
